-- ==== Defs.lean ====
def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossRefIdeal (m : (ℓ : Loc Cert.OutLossRefIdeal.nD Cert.OutLossRefIdeal.τ Cert.OutLossRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite [hPre_finite : Cert.Pre_finite.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).1 = (fun _ => 1#1)
    ∧ (Cert.Pre_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.1 = (fun _ => 1#1)
    ∧ (Cert.Pre_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.1 = (fun _ => 1#1)
    ∧ (Cert.Pre_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.1 = (fun _ => 1#1)
    ∧ (Cert.Pre_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.2 = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_finite [hPre_finite : Cert.Pre_finite.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).1 = (fun _ => 1#1)
    ∧ (Cert.Pre_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).2.1 = (fun _ => 1#1)
    ∧ (Cert.Pre_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).2.2.1 = (fun _ => 1#1)
    ∧ (Cert.Pre_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).2.2.2.1 = (fun _ => 1#1)
    ∧ (Cert.Pre_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).2.2.2.2 = (fun _ => 1#1)

def Pre_InprojDx (m : (ℓ : Loc Cert.InprojDx.nD Cert.InprojDx.τ Cert.InprojDx.sig) → Buf (Elt Bits) ℓ) : Prop :=
  True

def Pre_InprojDxIdeal (m : (ℓ : Loc Cert.InprojDxIdeal.nD Cert.InprojDxIdeal.τ Cert.InprojDxIdeal.sig) → Buf (Elt Ideal) ℓ) : Prop :=
  True

def Pre_InprojDxRefIdeal (m : (ℓ : Loc Cert.InprojDxRefIdeal.nD Cert.InprojDxRefIdeal.τ Cert.InprojDxRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_qk [hPre_finite_qk : Cert.Pre_finite_qk.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_qk [hPre_finite_qk : Cert.Pre_finite_qk.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2 = (fun _ => 1#1)

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojFwdRefIdeal (m : (ℓ : Loc Cert.InprojFwdRefIdeal.nD Cert.InprojFwdRefIdeal.τ Cert.InprojFwdRefIdeal.sig) → Buf (Elt Ideal) ℓ) : Prop :=
  True

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4)
      ∧ r.2.mem ((c.tc : Thread Cert.OutLoss.nD Cert.OutLoss.τ).loc Cert.OutLoss.main_arg5) = m ((c.tc : Thread Cert.OutLoss.nD Cert.OutLoss.τ).loc Cert.OutLoss.main_arg5)
      ∧ r.2.mem ((c.tc : Thread Cert.OutLoss.nD Cert.OutLoss.τ).loc Cert.OutLoss.main_arg6) = m ((c.tc : Thread Cert.OutLoss.nD Cert.OutLoss.τ).loc Cert.OutLoss.main_arg6)
      ∧ r.2.mem ((c.tc : Thread Cert.OutLoss.nD Cert.OutLoss.τ).loc Cert.OutLoss.main_arg7) = m ((c.tc : Thread Cert.OutLoss.nD Cert.OutLoss.τ).loc Cert.OutLoss.main_arg7))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
      ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5)
      ∧ r.2.mem ((c.tc : Thread Cert.OutLossIdeal.nD Cert.OutLossIdeal.τ).loc Cert.OutLossIdeal.main_arg6) = m ((c.tc : Thread Cert.OutLossIdeal.nD Cert.OutLossIdeal.τ).loc Cert.OutLossIdeal.main_arg6)
      ∧ r.2.mem ((c.tc : Thread Cert.OutLossIdeal.nD Cert.OutLossIdeal.τ).loc Cert.OutLossIdeal.main_arg7) = m ((c.tc : Thread Cert.OutLossIdeal.nD Cert.OutLossIdeal.τ).loc Cert.OutLossIdeal.main_arg7))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4)
      ∧ r.2.mem ((c.tc : Thread Cert.OutLossRefIdeal.nD Cert.OutLossRefIdeal.τ).loc Cert.OutLossRefIdeal.main_arg5) = m ((c.tc : Thread Cert.OutLossRefIdeal.nD Cert.OutLossRefIdeal.τ).loc Cert.OutLossRefIdeal.main_arg5)
      ∧ r.2.mem ((c.tc : Thread Cert.OutLossRefIdeal.nD Cert.OutLossRefIdeal.τ).loc Cert.OutLossRefIdeal.main_arg6) = m ((c.tc : Thread Cert.OutLossRefIdeal.nD Cert.OutLossRefIdeal.τ).loc Cert.OutLossRefIdeal.main_arg6)
      ∧ r.2.mem ((c.tc : Thread Cert.OutLossRefIdeal.nD Cert.OutLossRefIdeal.τ).loc Cert.OutLossRefIdeal.main_arg7) = m ((c.tc : Thread Cert.OutLossRefIdeal.nD Cert.OutLossRefIdeal.τ).loc Cert.OutLossRefIdeal.main_arg7))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdIdeal_pre_finite [hOutBwdIdeal : Cert.OutBwdIdeal.Facts] [hPre_finite : Cert.Pre_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_OutBwdRefIdeal_pre_finite [hOutBwdRefIdeal : Cert.OutBwdRefIdeal.Facts] [hPre_finite : Cert.Pre_finite.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_finite m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_InprojDx [hInprojDx : Cert.InprojDx.Facts] : Prop :=
  ∀ (m : (ℓ : Loc Cert.InprojDx.nD Cert.InprojDx.τ Cert.InprojDx.sig) → Buf (Elt Bits) ℓ) (g : Dev Cert.InprojDx.nD → PrngReg), Pre_InprojDx m →
    θ_run (Cert.InprojDx.defs (F := Bits)) (onTc (τ := Cert.InprojDx.τ) (Cert.InprojDx.main (F := Bits))) ⟨m, fun _ => 0, g⟩ (fun r => (∀ c : Dev Cert.InprojDx.nD,
      r.2.mem ((c.tc : Thread Cert.InprojDx.nD Cert.InprojDx.τ).loc Cert.InprojDx.main_arg0) = m ((c.tc : Thread Cert.InprojDx.nD Cert.InprojDx.τ).loc Cert.InprojDx.main_arg0)
      ∧ r.2.mem ((c.tc : Thread Cert.InprojDx.nD Cert.InprojDx.τ).loc Cert.InprojDx.main_arg1) = m ((c.tc : Thread Cert.InprojDx.nD Cert.InprojDx.τ).loc Cert.InprojDx.main_arg1)
      ∧ r.2.mem ((c.tc : Thread Cert.InprojDx.nD Cert.InprojDx.τ).loc Cert.InprojDx.main_arg2) = m ((c.tc : Thread Cert.InprojDx.nD Cert.InprojDx.τ).loc Cert.InprojDx.main_arg2)
      ∧ r.2.mem ((c.tc : Thread Cert.InprojDx.nD Cert.InprojDx.τ).loc Cert.InprojDx.main_arg3) = m ((c.tc : Thread Cert.InprojDx.nD Cert.InprojDx.τ).loc Cert.InprojDx.main_arg3)
      ∧ r.2.mem ((c.tc : Thread Cert.InprojDx.nD Cert.InprojDx.τ).loc Cert.InprojDx.main_arg4) = m ((c.tc : Thread Cert.InprojDx.nD Cert.InprojDx.τ).loc Cert.InprojDx.main_arg4))
      ∧ r.2.sem = fun _ => 0)

def quiescent_InprojDxIdeal [hInprojDxIdeal : Cert.InprojDxIdeal.Facts] : Prop :=
  ∀ (m : (ℓ : Loc Cert.InprojDxIdeal.nD Cert.InprojDxIdeal.τ Cert.InprojDxIdeal.sig) → Buf (Elt Ideal) ℓ) (g : Dev Cert.InprojDxIdeal.nD → PrngReg), Pre_InprojDxIdeal m →
    θ_run (Cert.InprojDxIdeal.defs (F := Ideal)) (onTc (τ := Cert.InprojDxIdeal.τ) (Cert.InprojDxIdeal.main (F := Ideal))) ⟨m, fun _ => 0, g⟩ (fun r => (∀ c : Dev Cert.InprojDxIdeal.nD,
      r.2.mem ((c.tc : Thread Cert.InprojDxIdeal.nD Cert.InprojDxIdeal.τ).loc Cert.InprojDxIdeal.main_arg0) = m ((c.tc : Thread Cert.InprojDxIdeal.nD Cert.InprojDxIdeal.τ).loc Cert.InprojDxIdeal.main_arg0)
      ∧ r.2.mem ((c.tc : Thread Cert.InprojDxIdeal.nD Cert.InprojDxIdeal.τ).loc Cert.InprojDxIdeal.main_arg1) = m ((c.tc : Thread Cert.InprojDxIdeal.nD Cert.InprojDxIdeal.τ).loc Cert.InprojDxIdeal.main_arg1)
      ∧ r.2.mem ((c.tc : Thread Cert.InprojDxIdeal.nD Cert.InprojDxIdeal.τ).loc Cert.InprojDxIdeal.main_arg2) = m ((c.tc : Thread Cert.InprojDxIdeal.nD Cert.InprojDxIdeal.τ).loc Cert.InprojDxIdeal.main_arg2)
      ∧ r.2.mem ((c.tc : Thread Cert.InprojDxIdeal.nD Cert.InprojDxIdeal.τ).loc Cert.InprojDxIdeal.main_arg3) = m ((c.tc : Thread Cert.InprojDxIdeal.nD Cert.InprojDxIdeal.τ).loc Cert.InprojDxIdeal.main_arg3)
      ∧ r.2.mem ((c.tc : Thread Cert.InprojDxIdeal.nD Cert.InprojDxIdeal.τ).loc Cert.InprojDxIdeal.main_arg4) = m ((c.tc : Thread Cert.InprojDxIdeal.nD Cert.InprojDxIdeal.τ).loc Cert.InprojDxIdeal.main_arg4))
      ∧ r.2.sem = fun _ => 0)

def quiescent_InprojDxRefIdeal [hInprojDxRefIdeal : Cert.InprojDxRefIdeal.Facts] : Prop :=
  ∀ (m : (ℓ : Loc Cert.InprojDxRefIdeal.nD Cert.InprojDxRefIdeal.τ Cert.InprojDxRefIdeal.sig) → Buf (Elt Ideal) ℓ) (g : Dev Cert.InprojDxRefIdeal.nD → PrngReg), Pre_InprojDxRefIdeal m →
    θ_run (Cert.InprojDxRefIdeal.defs (F := Ideal)) (onTc (τ := Cert.InprojDxRefIdeal.τ) (Cert.InprojDxRefIdeal.main (F := Ideal))) ⟨m, fun _ => 0, g⟩ (fun r => (∀ c : Dev Cert.InprojDxRefIdeal.nD,
      r.2.mem ((c.tc : Thread Cert.InprojDxRefIdeal.nD Cert.InprojDxRefIdeal.τ).loc Cert.InprojDxRefIdeal.main_arg0) = m ((c.tc : Thread Cert.InprojDxRefIdeal.nD Cert.InprojDxRefIdeal.τ).loc Cert.InprojDxRefIdeal.main_arg0)
      ∧ r.2.mem ((c.tc : Thread Cert.InprojDxRefIdeal.nD Cert.InprojDxRefIdeal.τ).loc Cert.InprojDxRefIdeal.main_arg1) = m ((c.tc : Thread Cert.InprojDxRefIdeal.nD Cert.InprojDxRefIdeal.τ).loc Cert.InprojDxRefIdeal.main_arg1)
      ∧ r.2.mem ((c.tc : Thread Cert.InprojDxRefIdeal.nD Cert.InprojDxRefIdeal.τ).loc Cert.InprojDxRefIdeal.main_arg2) = m ((c.tc : Thread Cert.InprojDxRefIdeal.nD Cert.InprojDxRefIdeal.τ).loc Cert.InprojDxRefIdeal.main_arg2)
      ∧ r.2.mem ((c.tc : Thread Cert.InprojDxRefIdeal.nD Cert.InprojDxRefIdeal.τ).loc Cert.InprojDxRefIdeal.main_arg3) = m ((c.tc : Thread Cert.InprojDxRefIdeal.nD Cert.InprojDxRefIdeal.τ).loc Cert.InprojDxRefIdeal.main_arg3)
      ∧ r.2.mem ((c.tc : Thread Cert.InprojDxRefIdeal.nD Cert.InprojDxRefIdeal.τ).loc Cert.InprojDxRefIdeal.main_arg4) = m ((c.tc : Thread Cert.InprojDxRefIdeal.nD Cert.InprojDxRefIdeal.τ).loc Cert.InprojDxRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_qk [hAttnFwdIdeal : Cert.AttnFwdIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_qk m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_qk [hAttnFwdRefIdeal : Cert.AttnFwdRefIdeal.Facts] [hPre_finite_qk : Cert.Pre_finite_qk.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_qk m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5)
      ∧ r.2.mem ((c.tc : Thread Cert.OutFwd.nD Cert.OutFwd.τ).loc Cert.OutFwd.main_arg6) = m ((c.tc : Thread Cert.OutFwd.nD Cert.OutFwd.τ).loc Cert.OutFwd.main_arg6))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5)
      ∧ r.2.mem ((c.tc : Thread Cert.OutFwdRefIdeal.nD Cert.OutFwdRefIdeal.τ).loc Cert.OutFwdRefIdeal.main_arg6) = m ((c.tc : Thread Cert.OutFwdRefIdeal.nD Cert.OutFwdRefIdeal.τ).loc Cert.OutFwdRefIdeal.main_arg6))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ r.2.sem = fun _ => 0)

def quiescent_InprojFwdRefIdeal [hInprojFwdRefIdeal : Cert.InprojFwdRefIdeal.Facts] : Prop :=
  ∀ (m : (ℓ : Loc Cert.InprojFwdRefIdeal.nD Cert.InprojFwdRefIdeal.τ Cert.InprojFwdRefIdeal.sig) → Buf (Elt Ideal) ℓ) (g : Dev Cert.InprojFwdRefIdeal.nD → PrngReg), Pre_InprojFwdRefIdeal m →
    θ_run (Cert.InprojFwdRefIdeal.defs (F := Ideal)) (onTc (τ := Cert.InprojFwdRefIdeal.τ) (Cert.InprojFwdRefIdeal.main (F := Ideal))) ⟨m, fun _ => 0, g⟩ (fun r => (∀ c : Dev Cert.InprojFwdRefIdeal.nD,
      r.2.mem ((c.tc : Thread Cert.InprojFwdRefIdeal.nD Cert.InprojFwdRefIdeal.τ).loc Cert.InprojFwdRefIdeal.main_arg0) = m ((c.tc : Thread Cert.InprojFwdRefIdeal.nD Cert.InprojFwdRefIdeal.τ).loc Cert.InprojFwdRefIdeal.main_arg0)
      ∧ r.2.mem ((c.tc : Thread Cert.InprojFwdRefIdeal.nD Cert.InprojFwdRefIdeal.τ).loc Cert.InprojFwdRefIdeal.main_arg1) = m ((c.tc : Thread Cert.InprojFwdRefIdeal.nD Cert.InprojFwdRefIdeal.τ).loc Cert.InprojFwdRefIdeal.main_arg1)
      ∧ r.2.mem ((c.tc : Thread Cert.InprojFwdRefIdeal.nD Cert.InprojFwdRefIdeal.τ).loc Cert.InprojFwdRefIdeal.main_arg2) = m ((c.tc : Thread Cert.InprojFwdRefIdeal.nD Cert.InprojFwdRefIdeal.τ).loc Cert.InprojFwdRefIdeal.main_arg2))
      ∧ r.2.sem = fun _ => 0)

def preserves_OutLoss_OutLossIdeal : Prop :=
  True

def algebraic_OutLossIdeal_OutLossRefIdeal [hOutLossIdeal : Cert.OutLossIdeal.Facts] [hOutLossRefIdeal : Cert.OutLossRefIdeal.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)
      ∧ m' ((c.tc : Thread Cert.OutLossRefIdeal.nD Cert.OutLossRefIdeal.τ).loc Cert.OutLossRefIdeal.main_arg5) = m ((c.tc : Thread Cert.OutLossIdeal.nD Cert.OutLossIdeal.τ).loc Cert.OutLossIdeal.main_arg5)
      ∧ m' ((c.tc : Thread Cert.OutLossRefIdeal.nD Cert.OutLossRefIdeal.τ).loc Cert.OutLossRefIdeal.main_arg6) = m ((c.tc : Thread Cert.OutLossIdeal.nD Cert.OutLossIdeal.τ).loc Cert.OutLossIdeal.main_arg6)
      ∧ m' ((c.tc : Thread Cert.OutLossRefIdeal.nD Cert.OutLossRefIdeal.τ).loc Cert.OutLossRefIdeal.main_arg7) = m ((c.tc : Thread Cert.OutLossIdeal.nD Cert.OutLossIdeal.τ).loc Cert.OutLossIdeal.main_arg7)) →
    ∃ (v0 : (c : Dev Cert.OutLossIdeal.nD) → Buf (Elt Ideal) ((c.tc : Thread Cert.OutLossIdeal.nD Cert.OutLossIdeal.τ).loc Cert.OutLossIdeal.main_v6_1)) (v1 : (c : Dev Cert.OutLossIdeal.nD) → Buf (Elt Ideal) ((c.tc : Thread Cert.OutLossIdeal.nD Cert.OutLossIdeal.τ).loc Cert.OutLossIdeal.main_v6_0)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v6_1) = v0 c
          ∧ r.2.mem ((c.tc : Thread Cert.OutLossIdeal.nD Cert.OutLossIdeal.τ).loc Cert.OutLossIdeal.main_v6_0) = v1 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
          ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5)
          ∧ r.2.mem ((c.tc : Thread Cert.OutLossIdeal.nD Cert.OutLossIdeal.τ).loc Cert.OutLossIdeal.main_arg6) = m ((c.tc : Thread Cert.OutLossIdeal.nD Cert.OutLossIdeal.τ).loc Cert.OutLossIdeal.main_arg6)
          ∧ r.2.mem ((c.tc : Thread Cert.OutLossIdeal.nD Cert.OutLossIdeal.τ).loc Cert.OutLossIdeal.main_arg7) = m ((c.tc : Thread Cert.OutLossIdeal.nD Cert.OutLossIdeal.τ).loc Cert.OutLossIdeal.main_arg7))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v33) = v0 c
          ∧ r.2.mem ((c.tc : Thread Cert.OutLossRefIdeal.nD Cert.OutLossRefIdeal.τ).loc Cert.OutLossRefIdeal.main_v32) = v1 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4)
          ∧ r.2.mem ((c.tc : Thread Cert.OutLossRefIdeal.nD Cert.OutLossRefIdeal.τ).loc Cert.OutLossRefIdeal.main_arg5) = m' ((c.tc : Thread Cert.OutLossRefIdeal.nD Cert.OutLossRefIdeal.τ).loc Cert.OutLossRefIdeal.main_arg5)
          ∧ r.2.mem ((c.tc : Thread Cert.OutLossRefIdeal.nD Cert.OutLossRefIdeal.τ).loc Cert.OutLossRefIdeal.main_arg6) = m' ((c.tc : Thread Cert.OutLossRefIdeal.nD Cert.OutLossRefIdeal.τ).loc Cert.OutLossRefIdeal.main_arg6)
          ∧ r.2.mem ((c.tc : Thread Cert.OutLossRefIdeal.nD Cert.OutLossRefIdeal.τ).loc Cert.OutLossRefIdeal.main_arg7) = m' ((c.tc : Thread Cert.OutLossRefIdeal.nD Cert.OutLossRefIdeal.τ).loc Cert.OutLossRefIdeal.main_arg7))

def preserves_OutBwd_OutBwdIdeal : Prop :=
  True

def algebraic_OutBwdIdeal_OutBwdRefIdeal_pre_finite [hOutBwdIdeal : Cert.OutBwdIdeal.Facts] [hOutBwdRefIdeal : Cert.OutBwdRefIdeal.Facts] [hPre_finite : Cert.Pre_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_finite m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)
      ∧ m' ((c.tc : Thread Cert.OutBwdRefIdeal.nD Cert.OutBwdRefIdeal.τ).loc Cert.OutBwdRefIdeal.main_arg6) = m ((c.tc : Thread Cert.OutBwdIdeal.nD Cert.OutBwdIdeal.τ).loc Cert.OutBwdIdeal.main_arg6)) →
    ∃ (v0 : (c : Dev Cert.OutBwdIdeal.nD) → Buf (Elt Ideal) ((c.tc : Thread Cert.OutBwdIdeal.nD Cert.OutBwdIdeal.τ).loc Cert.OutBwdIdeal.main_v6_0)) (v1 : (c : Dev Cert.OutBwdIdeal.nD) → Buf (Elt Ideal) ((c.tc : Thread Cert.OutBwdIdeal.nD Cert.OutBwdIdeal.τ).loc Cert.OutBwdIdeal.main_v6_1)) (v2 : (c : Dev Cert.OutBwdIdeal.nD) → Buf (Elt Ideal) ((c.tc : Thread Cert.OutBwdIdeal.nD Cert.OutBwdIdeal.τ).loc Cert.OutBwdIdeal.main_v6_2)) (v3 : (c : Dev Cert.OutBwdIdeal.nD) → Buf (Elt Ideal) ((c.tc : Thread Cert.OutBwdIdeal.nD Cert.OutBwdIdeal.τ).loc Cert.OutBwdIdeal.main_v6_3)) (v4 : (c : Dev Cert.OutBwdIdeal.nD) → Buf (Elt Ideal) ((c.tc : Thread Cert.OutBwdIdeal.nD Cert.OutBwdIdeal.τ).loc Cert.OutBwdIdeal.main_v6_4)) (v5 : (c : Dev Cert.OutBwdIdeal.nD) → Buf (Elt Ideal) ((c.tc : Thread Cert.OutBwdIdeal.nD Cert.OutBwdIdeal.τ).loc Cert.OutBwdIdeal.main_v6_5)) (v6 : (c : Dev Cert.OutBwdIdeal.nD) → Buf (Elt Ideal) ((c.tc : Thread Cert.OutBwdIdeal.nD Cert.OutBwdIdeal.τ).loc Cert.OutBwdIdeal.main_v6_6)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v6_0) = v0 c
          ∧ r.2.mem ((c.tc : Thread Cert.OutBwdIdeal.nD Cert.OutBwdIdeal.τ).loc Cert.OutBwdIdeal.main_v6_1) = v1 c
          ∧ r.2.mem ((c.tc : Thread Cert.OutBwdIdeal.nD Cert.OutBwdIdeal.τ).loc Cert.OutBwdIdeal.main_v6_2) = v2 c
          ∧ r.2.mem ((c.tc : Thread Cert.OutBwdIdeal.nD Cert.OutBwdIdeal.τ).loc Cert.OutBwdIdeal.main_v6_3) = v3 c
          ∧ r.2.mem ((c.tc : Thread Cert.OutBwdIdeal.nD Cert.OutBwdIdeal.τ).loc Cert.OutBwdIdeal.main_v6_4) = v4 c
          ∧ r.2.mem ((c.tc : Thread Cert.OutBwdIdeal.nD Cert.OutBwdIdeal.τ).loc Cert.OutBwdIdeal.main_v6_5) = v5 c
          ∧ r.2.mem ((c.tc : Thread Cert.OutBwdIdeal.nD Cert.OutBwdIdeal.τ).loc Cert.OutBwdIdeal.main_v6_6) = v6 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
          ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v55) = v0 c
          ∧ r.2.mem ((c.tc : Thread Cert.OutBwdRefIdeal.nD Cert.OutBwdRefIdeal.τ).loc Cert.OutBwdRefIdeal.main_v54) = v1 c
          ∧ r.2.mem ((c.tc : Thread Cert.OutBwdRefIdeal.nD Cert.OutBwdRefIdeal.τ).loc Cert.OutBwdRefIdeal.main_v56) = v2 c
          ∧ r.2.mem ((c.tc : Thread Cert.OutBwdRefIdeal.nD Cert.OutBwdRefIdeal.τ).loc Cert.OutBwdRefIdeal.main_v57) = v3 c
          ∧ r.2.mem ((c.tc : Thread Cert.OutBwdRefIdeal.nD Cert.OutBwdRefIdeal.τ).loc Cert.OutBwdRefIdeal.main_v58) = v4 c
          ∧ r.2.mem ((c.tc : Thread Cert.OutBwdRefIdeal.nD Cert.OutBwdRefIdeal.τ).loc Cert.OutBwdRefIdeal.main_v23) = v5 c
          ∧ r.2.mem ((c.tc : Thread Cert.OutBwdRefIdeal.nD Cert.OutBwdRefIdeal.τ).loc Cert.OutBwdRefIdeal.main_v59) = v6 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5)
          ∧ r.2.mem ((c.tc : Thread Cert.OutBwdRefIdeal.nD Cert.OutBwdRefIdeal.τ).loc Cert.OutBwdRefIdeal.main_arg6) = m' ((c.tc : Thread Cert.OutBwdRefIdeal.nD Cert.OutBwdRefIdeal.τ).loc Cert.OutBwdRefIdeal.main_arg6))

def preserves_InprojDx_InprojDxIdeal : Prop :=
  True

def algebraic_InprojDxIdeal_InprojDxRefIdeal [hInprojDxIdeal : Cert.InprojDxIdeal.Facts] [hInprojDxRefIdeal : Cert.InprojDxRefIdeal.Facts] : Prop :=
  ∀ (m : (ℓ : Loc Cert.InprojDxIdeal.nD Cert.InprojDxIdeal.τ Cert.InprojDxIdeal.sig) → Buf (Elt Ideal) ℓ) (g : Dev Cert.InprojDxIdeal.nD → PrngReg)
    (m' : (ℓ : Loc Cert.InprojDxRefIdeal.nD Cert.InprojDxRefIdeal.τ Cert.InprojDxRefIdeal.sig) → Buf (Elt Ideal) ℓ) (g' : Dev Cert.InprojDxRefIdeal.nD → PrngReg), Pre_InprojDxIdeal m →
    (∀ c : Dev Cert.InprojDxIdeal.nD,
      m' ((c.tc : Thread Cert.InprojDxRefIdeal.nD Cert.InprojDxRefIdeal.τ).loc Cert.InprojDxRefIdeal.main_arg0) = m ((c.tc : Thread Cert.InprojDxIdeal.nD Cert.InprojDxIdeal.τ).loc Cert.InprojDxIdeal.main_arg0)
      ∧ m' ((c.tc : Thread Cert.InprojDxRefIdeal.nD Cert.InprojDxRefIdeal.τ).loc Cert.InprojDxRefIdeal.main_arg1) = m ((c.tc : Thread Cert.InprojDxIdeal.nD Cert.InprojDxIdeal.τ).loc Cert.InprojDxIdeal.main_arg1)
      ∧ m' ((c.tc : Thread Cert.InprojDxRefIdeal.nD Cert.InprojDxRefIdeal.τ).loc Cert.InprojDxRefIdeal.main_arg2) = m ((c.tc : Thread Cert.InprojDxIdeal.nD Cert.InprojDxIdeal.τ).loc Cert.InprojDxIdeal.main_arg2)
      ∧ m' ((c.tc : Thread Cert.InprojDxRefIdeal.nD Cert.InprojDxRefIdeal.τ).loc Cert.InprojDxRefIdeal.main_arg3) = m ((c.tc : Thread Cert.InprojDxIdeal.nD Cert.InprojDxIdeal.τ).loc Cert.InprojDxIdeal.main_arg3)
      ∧ m' ((c.tc : Thread Cert.InprojDxRefIdeal.nD Cert.InprojDxRefIdeal.τ).loc Cert.InprojDxRefIdeal.main_arg4) = m ((c.tc : Thread Cert.InprojDxIdeal.nD Cert.InprojDxIdeal.τ).loc Cert.InprojDxIdeal.main_arg4)) →
    ∃ (v0 : (c : Dev Cert.InprojDxIdeal.nD) → Buf (Elt Ideal) ((c.tc : Thread Cert.InprojDxIdeal.nD Cert.InprojDxIdeal.τ).loc Cert.InprojDxIdeal.main_v41_0)) (v1 : (c : Dev Cert.InprojDxIdeal.nD) → Buf (Elt Ideal) ((c.tc : Thread Cert.InprojDxIdeal.nD Cert.InprojDxIdeal.τ).loc Cert.InprojDxIdeal.main_v41_1)),
      θ_run (Cert.InprojDxIdeal.defs (F := Ideal)) (onTc (τ := Cert.InprojDxIdeal.τ) (Cert.InprojDxIdeal.main (F := Ideal))) ⟨m, fun _ => 0, g⟩ (fun r => ∀ c : Dev Cert.InprojDxIdeal.nD,
          r.2.mem ((c.tc : Thread Cert.InprojDxIdeal.nD Cert.InprojDxIdeal.τ).loc Cert.InprojDxIdeal.main_v41_0) = v0 c
          ∧ r.2.mem ((c.tc : Thread Cert.InprojDxIdeal.nD Cert.InprojDxIdeal.τ).loc Cert.InprojDxIdeal.main_v41_1) = v1 c
          ∧ r.2.mem ((c.tc : Thread Cert.InprojDxIdeal.nD Cert.InprojDxIdeal.τ).loc Cert.InprojDxIdeal.main_arg0) = m ((c.tc : Thread Cert.InprojDxIdeal.nD Cert.InprojDxIdeal.τ).loc Cert.InprojDxIdeal.main_arg0)
          ∧ r.2.mem ((c.tc : Thread Cert.InprojDxIdeal.nD Cert.InprojDxIdeal.τ).loc Cert.InprojDxIdeal.main_arg1) = m ((c.tc : Thread Cert.InprojDxIdeal.nD Cert.InprojDxIdeal.τ).loc Cert.InprojDxIdeal.main_arg1)
          ∧ r.2.mem ((c.tc : Thread Cert.InprojDxIdeal.nD Cert.InprojDxIdeal.τ).loc Cert.InprojDxIdeal.main_arg2) = m ((c.tc : Thread Cert.InprojDxIdeal.nD Cert.InprojDxIdeal.τ).loc Cert.InprojDxIdeal.main_arg2)
          ∧ r.2.mem ((c.tc : Thread Cert.InprojDxIdeal.nD Cert.InprojDxIdeal.τ).loc Cert.InprojDxIdeal.main_arg3) = m ((c.tc : Thread Cert.InprojDxIdeal.nD Cert.InprojDxIdeal.τ).loc Cert.InprojDxIdeal.main_arg3)
          ∧ r.2.mem ((c.tc : Thread Cert.InprojDxIdeal.nD Cert.InprojDxIdeal.τ).loc Cert.InprojDxIdeal.main_arg4) = m ((c.tc : Thread Cert.InprojDxIdeal.nD Cert.InprojDxIdeal.τ).loc Cert.InprojDxIdeal.main_arg4))
      ∧ θ_run (Cert.InprojDxRefIdeal.defs (F := Ideal)) (onTc (τ := Cert.InprojDxRefIdeal.τ) (Cert.InprojDxRefIdeal.main (F := Ideal))) ⟨m', fun _ => 0, g'⟩ (fun r => ∀ c : Dev Cert.InprojDxRefIdeal.nD,
          r.2.mem ((c.tc : Thread Cert.InprojDxRefIdeal.nD Cert.InprojDxRefIdeal.τ).loc Cert.InprojDxRefIdeal.main_v38) = v0 c
          ∧ r.2.mem ((c.tc : Thread Cert.InprojDxRefIdeal.nD Cert.InprojDxRefIdeal.τ).loc Cert.InprojDxRefIdeal.main_v39) = v1 c
          ∧ r.2.mem ((c.tc : Thread Cert.InprojDxRefIdeal.nD Cert.InprojDxRefIdeal.τ).loc Cert.InprojDxRefIdeal.main_arg0) = m' ((c.tc : Thread Cert.InprojDxRefIdeal.nD Cert.InprojDxRefIdeal.τ).loc Cert.InprojDxRefIdeal.main_arg0)
          ∧ r.2.mem ((c.tc : Thread Cert.InprojDxRefIdeal.nD Cert.InprojDxRefIdeal.τ).loc Cert.InprojDxRefIdeal.main_arg1) = m' ((c.tc : Thread Cert.InprojDxRefIdeal.nD Cert.InprojDxRefIdeal.τ).loc Cert.InprojDxRefIdeal.main_arg1)
          ∧ r.2.mem ((c.tc : Thread Cert.InprojDxRefIdeal.nD Cert.InprojDxRefIdeal.τ).loc Cert.InprojDxRefIdeal.main_arg2) = m' ((c.tc : Thread Cert.InprojDxRefIdeal.nD Cert.InprojDxRefIdeal.τ).loc Cert.InprojDxRefIdeal.main_arg2)
          ∧ r.2.mem ((c.tc : Thread Cert.InprojDxRefIdeal.nD Cert.InprojDxRefIdeal.τ).loc Cert.InprojDxRefIdeal.main_arg3) = m' ((c.tc : Thread Cert.InprojDxRefIdeal.nD Cert.InprojDxRefIdeal.τ).loc Cert.InprojDxRefIdeal.main_arg3)
          ∧ r.2.mem ((c.tc : Thread Cert.InprojDxRefIdeal.nD Cert.InprojDxRefIdeal.τ).loc Cert.InprojDxRefIdeal.main_arg4) = m' ((c.tc : Thread Cert.InprojDxRefIdeal.nD Cert.InprojDxRefIdeal.τ).loc Cert.InprojDxRefIdeal.main_arg4))

def preserves_AttnBwd_AttnBwdIdeal : Prop :=
  True

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v110)) (v1 : (c : Dev Cert.AttnBwdIdeal.nD) → Buf (Elt Ideal) ((c.tc : Thread Cert.AttnBwdIdeal.nD Cert.AttnBwdIdeal.τ).loc Cert.AttnBwdIdeal.main_v114)) (v2 : (c : Dev Cert.AttnBwdIdeal.nD) → Buf (Elt Ideal) ((c.tc : Thread Cert.AttnBwdIdeal.nD Cert.AttnBwdIdeal.τ).loc Cert.AttnBwdIdeal.main_v104)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v110) = v0 c
          ∧ r.2.mem ((c.tc : Thread Cert.AttnBwdIdeal.nD Cert.AttnBwdIdeal.τ).loc Cert.AttnBwdIdeal.main_v114) = v1 c
          ∧ r.2.mem ((c.tc : Thread Cert.AttnBwdIdeal.nD Cert.AttnBwdIdeal.τ).loc Cert.AttnBwdIdeal.main_v104) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v64) = v0 c
          ∧ r.2.mem ((c.tc : Thread Cert.AttnBwdRefIdeal.nD Cert.AttnBwdRefIdeal.τ).loc Cert.AttnBwdRefIdeal.main_v62) = v1 c
          ∧ r.2.mem ((c.tc : Thread Cert.AttnBwdRefIdeal.nD Cert.AttnBwdRefIdeal.τ).loc Cert.AttnBwdRefIdeal.main_v45) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_AttnFwd_AttnFwdIdeal : Prop :=
  IdealRules.named_const.Statement Cert.AttnFwdIdeal.κ "mask" .f32 0xF149F2CA#32 ⊥

def algebraic_AttnFwdIdeal_AttnFwdRefIdeal_pre_finite_qk [hAttnFwdIdeal : Cert.AttnFwdIdeal.Facts] [hAttnFwdRefIdeal : Cert.AttnFwdRefIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_qk m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v38_0)) (v1 : (c : Dev Cert.AttnFwdIdeal.nD) → Buf (Elt Ideal) ((c.tc : Thread Cert.AttnFwdIdeal.nD Cert.AttnFwdIdeal.τ).loc Cert.AttnFwdIdeal.main_v41)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v38_0) = v0 c
          ∧ r.2.mem ((c.tc : Thread Cert.AttnFwdIdeal.nD Cert.AttnFwdIdeal.τ).loc Cert.AttnFwdIdeal.main_v41) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v34) = v0 c
          ∧ r.2.mem ((c.tc : Thread Cert.AttnFwdRefIdeal.nD Cert.AttnFwdRefIdeal.τ).loc Cert.AttnFwdRefIdeal.main_v41) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)
      ∧ m' ((c.tc : Thread Cert.OutFwdRefIdeal.nD Cert.OutFwdRefIdeal.τ).loc Cert.OutFwdRefIdeal.main_arg6) = m ((c.tc : Thread Cert.OutFwdIdeal.nD Cert.OutFwdIdeal.τ).loc Cert.OutFwdIdeal.main_arg6)) →
    ∃ (v0 : (c : Dev Cert.OutFwdIdeal.nD) → Buf (Elt Ideal) ((c.tc : Thread Cert.OutFwdIdeal.nD Cert.OutFwdIdeal.τ).loc Cert.OutFwdIdeal.main_v6)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v6) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
          ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v17) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5)
          ∧ r.2.mem ((c.tc : Thread Cert.OutFwdRefIdeal.nD Cert.OutFwdRefIdeal.τ).loc Cert.OutFwdRefIdeal.main_arg6) = m' ((c.tc : Thread Cert.OutFwdRefIdeal.nD Cert.OutFwdRefIdeal.τ).loc Cert.OutFwdRefIdeal.main_arg6))

def preserves_InprojFwd_InprojFwdIdeal : Prop :=
  True

def algebraic_InprojFwdIdeal_InprojFwdRefIdeal [hInprojFwdIdeal : Cert.InprojFwdIdeal.Facts] [hInprojFwdRefIdeal : Cert.InprojFwdRefIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojFwdRefIdeal.nD Cert.InprojFwdRefIdeal.τ Cert.InprojFwdRefIdeal.sig) → Buf (Elt Ideal) ℓ) (g' : Dev Cert.InprojFwdRefIdeal.nD → PrngReg), Pre_InprojFwdIdeal m →
    (∀ c : Dev Cert.InprojFwdIdeal.nD,
      m' ((c.tc : Thread Cert.InprojFwdRefIdeal.nD Cert.InprojFwdRefIdeal.τ).loc Cert.InprojFwdRefIdeal.main_arg0) = m ((c.tc : Thread Cert.InprojFwdIdeal.nD Cert.InprojFwdIdeal.τ).loc Cert.InprojFwdIdeal.main_arg0)
      ∧ m' ((c.tc : Thread Cert.InprojFwdRefIdeal.nD Cert.InprojFwdRefIdeal.τ).loc Cert.InprojFwdRefIdeal.main_arg1) = m ((c.tc : Thread Cert.InprojFwdIdeal.nD Cert.InprojFwdIdeal.τ).loc Cert.InprojFwdIdeal.main_arg1)
      ∧ m' ((c.tc : Thread Cert.InprojFwdRefIdeal.nD Cert.InprojFwdRefIdeal.τ).loc Cert.InprojFwdRefIdeal.main_arg2) = m ((c.tc : Thread Cert.InprojFwdIdeal.nD Cert.InprojFwdIdeal.τ).loc Cert.InprojFwdIdeal.main_arg2)) →
    ∃ (v0 : (c : Dev Cert.InprojFwdIdeal.nD) → Buf (Elt Ideal) ((c.tc : Thread Cert.InprojFwdIdeal.nD Cert.InprojFwdIdeal.τ).loc Cert.InprojFwdIdeal.main_v33_0)) (v1 : (c : Dev Cert.InprojFwdIdeal.nD) → Buf (Elt Ideal) ((c.tc : Thread Cert.InprojFwdIdeal.nD Cert.InprojFwdIdeal.τ).loc Cert.InprojFwdIdeal.main_v33_1)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v33_0) = v0 c
          ∧ r.2.mem ((c.tc : Thread Cert.InprojFwdIdeal.nD Cert.InprojFwdIdeal.τ).loc Cert.InprojFwdIdeal.main_v33_1) = v1 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2))
      ∧ θ_run (Cert.InprojFwdRefIdeal.defs (F := Ideal)) (onTc (τ := Cert.InprojFwdRefIdeal.τ) (Cert.InprojFwdRefIdeal.main (F := Ideal))) ⟨m', fun _ => 0, g'⟩ (fun r => ∀ c : Dev Cert.InprojFwdRefIdeal.nD,
          r.2.mem ((c.tc : Thread Cert.InprojFwdRefIdeal.nD Cert.InprojFwdRefIdeal.τ).loc Cert.InprojFwdRefIdeal.main_v21) = v0 c
          ∧ r.2.mem ((c.tc : Thread Cert.InprojFwdRefIdeal.nD Cert.InprojFwdRefIdeal.τ).loc Cert.InprojFwdRefIdeal.main_v35) = v1 c
          ∧ r.2.mem ((c.tc : Thread Cert.InprojFwdRefIdeal.nD Cert.InprojFwdRefIdeal.τ).loc Cert.InprojFwdRefIdeal.main_arg0) = m' ((c.tc : Thread Cert.InprojFwdRefIdeal.nD Cert.InprojFwdRefIdeal.τ).loc Cert.InprojFwdRefIdeal.main_arg0)
          ∧ r.2.mem ((c.tc : Thread Cert.InprojFwdRefIdeal.nD Cert.InprojFwdRefIdeal.τ).loc Cert.InprojFwdRefIdeal.main_arg1) = m' ((c.tc : Thread Cert.InprojFwdRefIdeal.nD Cert.InprojFwdRefIdeal.τ).loc Cert.InprojFwdRefIdeal.main_arg1)
          ∧ r.2.mem ((c.tc : Thread Cert.InprojFwdRefIdeal.nD Cert.InprojFwdRefIdeal.τ).loc Cert.InprojFwdRefIdeal.main_arg2) = m' ((c.tc : Thread Cert.InprojFwdRefIdeal.nD Cert.InprojFwdRefIdeal.τ).loc Cert.InprojFwdRefIdeal.main_arg2))

def Claim : Prop :=
  ∃ (hOutLoss : Cert.OutLoss.Facts) (hOutLossIdeal : Cert.OutLossIdeal.Facts) (hOutLossRefIdeal : Cert.OutLossRefIdeal.Facts) (hOutBwd : Cert.OutBwd.Facts) (hOutBwdIdeal : Cert.OutBwdIdeal.Facts) (hOutBwdRefIdeal : Cert.OutBwdRefIdeal.Facts) (hInprojDx : Cert.InprojDx.Facts) (hInprojDxIdeal : Cert.InprojDxIdeal.Facts) (hInprojDxRefIdeal : Cert.InprojDxRefIdeal.Facts) (hAttnBwd : Cert.AttnBwd.Facts) (hAttnBwdIdeal : Cert.AttnBwdIdeal.Facts) (hAttnBwdRefIdeal : Cert.AttnBwdRefIdeal.Facts) (hAttnFwd : Cert.AttnFwd.Facts) (hAttnFwdIdeal : Cert.AttnFwdIdeal.Facts) (hAttnFwdRefIdeal : Cert.AttnFwdRefIdeal.Facts) (hOutFwd : Cert.OutFwd.Facts) (hOutFwdIdeal : Cert.OutFwdIdeal.Facts) (hOutFwdRefIdeal : Cert.OutFwdRefIdeal.Facts) (hInprojFwd : Cert.InprojFwd.Facts) (hInprojFwdIdeal : Cert.InprojFwdIdeal.Facts) (hInprojFwdRefIdeal : Cert.InprojFwdRefIdeal.Facts) (hPre_finite : Cert.Pre_finite.Facts) (hPre_finite_attn : Cert.Pre_finite_attn.Facts) (hPre_finite_qk : Cert.Pre_finite_qk.Facts),
    quiescent_OutLoss (hOutLoss := hOutLoss)
    ∧ quiescent_OutLossIdeal (hOutLossIdeal := hOutLossIdeal)
    ∧ quiescent_OutLossRefIdeal (hOutLossRefIdeal := hOutLossRefIdeal)
    ∧ quiescent_OutBwd (hOutBwd := hOutBwd)
    ∧ quiescent_OutBwdIdeal (hOutBwdIdeal := hOutBwdIdeal)
    ∧ quiescent_OutBwdIdeal_pre_finite (hOutBwdIdeal := hOutBwdIdeal) (hPre_finite := hPre_finite)
    ∧ quiescent_OutBwdRefIdeal (hOutBwdRefIdeal := hOutBwdRefIdeal)
    ∧ quiescent_OutBwdRefIdeal_pre_finite (hOutBwdRefIdeal := hOutBwdRefIdeal) (hPre_finite := hPre_finite)
    ∧ quiescent_InprojDx (hInprojDx := hInprojDx)
    ∧ quiescent_InprojDxIdeal (hInprojDxIdeal := hInprojDxIdeal)
    ∧ quiescent_InprojDxRefIdeal (hInprojDxRefIdeal := hInprojDxRefIdeal)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_AttnFwd (hAttnFwd := hAttnFwd)
    ∧ quiescent_AttnFwdIdeal (hAttnFwdIdeal := hAttnFwdIdeal)
    ∧ quiescent_AttnFwdIdeal_pre_finite_qk (hAttnFwdIdeal := hAttnFwdIdeal) (hPre_finite_qk := hPre_finite_qk)
    ∧ quiescent_AttnFwdRefIdeal (hAttnFwdRefIdeal := hAttnFwdRefIdeal)
    ∧ quiescent_AttnFwdRefIdeal_pre_finite_qk (hAttnFwdRefIdeal := hAttnFwdRefIdeal) (hPre_finite_qk := hPre_finite_qk)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_InprojFwd (hInprojFwd := hInprojFwd)
    ∧ quiescent_InprojFwdIdeal (hInprojFwdIdeal := hInprojFwdIdeal)
    ∧ quiescent_InprojFwdRefIdeal (hInprojFwdRefIdeal := hInprojFwdRefIdeal)
    ∧ preserves_OutLoss_OutLossIdeal
    ∧ algebraic_OutLossIdeal_OutLossRefIdeal (hOutLossIdeal := hOutLossIdeal) (hOutLossRefIdeal := hOutLossRefIdeal)
    ∧ preserves_OutBwd_OutBwdIdeal
    ∧ algebraic_OutBwdIdeal_OutBwdRefIdeal_pre_finite (hOutBwdIdeal := hOutBwdIdeal) (hOutBwdRefIdeal := hOutBwdRefIdeal) (hPre_finite := hPre_finite)
    ∧ preserves_InprojDx_InprojDxIdeal
    ∧ algebraic_InprojDxIdeal_InprojDxRefIdeal (hInprojDxIdeal := hInprojDxIdeal) (hInprojDxRefIdeal := hInprojDxRefIdeal)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_AttnFwd_AttnFwdIdeal
    ∧ algebraic_AttnFwdIdeal_AttnFwdRefIdeal_pre_finite_qk (hAttnFwdIdeal := hAttnFwdIdeal) (hAttnFwdRefIdeal := hAttnFwdRefIdeal) (hPre_finite_qk := hPre_finite_qk)
    ∧ preserves_OutFwd_OutFwdIdeal
    ∧ algebraic_OutFwdIdeal_OutFwdRefIdeal (hOutFwdIdeal := hOutFwdIdeal) (hOutFwdRefIdeal := hOutFwdRefIdeal)
    ∧ preserves_InprojFwd_InprojFwdIdeal
    ∧ algebraic_InprojFwdIdeal_InprojFwdRefIdeal (hInprojFwdIdeal := hInprojFwdIdeal) (hInprojFwdRefIdeal := hInprojFwdRefIdeal)
-- ==== Pre_finite.lean ====
abbrev S8192x1024 : Shape := ⟨2, ![8192, 1024]⟩
abbrev S8192x512 : Shape := ⟨2, ![8192, 512]⟩
abbrev S8192x256 : Shape := ⟨2, ![8192, 256]⟩
abbrev S512 : Shape := ⟨1, ![512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S512 : S_.BroadcastsInDim S512 (![] : Fin 0 → Fin S512.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x512 .f32) (main_arg2 : FVec F S8192x512 .f32) (main_arg3 : FVec F S8192x256 .f32) (main_arg4 : FVec F S8192x256 .f32) (main_arg5 : FVec F S512 .f32) (main_arg6 : FVec F S1024x1024 .f32) : IVec S8192x1024 1 × IVec S8192x512 1 × IVec S8192x512 1 × IVec S512 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S512 .f32 := Host.absf main_arg5
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S1024x1024 .f32 := Host.absf main_arg6
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  (main_v2, main_v5, main_v8, main_v11, main_v14)
-- ==== Pre_finite_attn.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)
  bcast_S_S8192x512 : S_.BroadcastsInDim S8192x512 (![] : Fin 0 → Fin S8192x512.rank)

variable [Facts]

def fn {F : FTy → Type} [FloatOps F] (main_arg0 : FVec F S8192x8x96 .f32) (main_arg1 : FVec F S8192x8x96 .f32) (main_arg2 : FVec F S8192x8x64 .f32) (main_arg3 : FVec F S8192x512 .f32) : IVec S8192x8x96 1 × IVec S8192x8x96 1 × IVec S8192x8x64 1 × IVec S8192x512 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== Pre_finite_qk.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)

variable [Facts]

def fn {F : FTy → Type} [FloatOps F] (main_arg0 : FVec F S8192x8x96 .f32) (main_arg1 : FVec F S8192x8x96 .f32) (main_arg2 : FVec F S8192x8x64 .f32) : IVec S8192x8x96 1 × IVec S8192x8x96 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  (main_v2, main_v5)
-- ==== OutLoss.lean ====
abbrev S8192x1024 : Shape := ⟨2, ![8192, 1024]⟩
abbrev S8192x512 : Shape := ⟨2, ![8192, 512]⟩
abbrev S8192x256 : Shape := ⟨2, ![8192, 256]⟩
abbrev S512 : Shape := ⟨1, ![512]⟩
abbrev S1024x1024 : Shape := ⟨2, ![1024, 1024]⟩
abbrev S_ : Shape := ⟨0, ![]⟩
abbrev S8192x3200 : Shape := ⟨2, ![8192, 3200]⟩
abbrev S1x512 : Shape := ⟨2, ![1, 512]⟩
abbrev S1x128 : Shape := ⟨2, ![1, 128]⟩
abbrev S512x1024 : Shape := ⟨2, ![512, 1024]⟩
abbrev S512x512 : Shape := ⟨2, ![512, 512]⟩
abbrev S512x256 : Shape := ⟨2, ![512, 256]⟩
abbrev S1x1024 : Shape := ⟨2, ![1, 1024]⟩
abbrev S512x1 : Shape := ⟨2, ![512, 1]⟩
abbrev S256x1024 : Shape := ⟨2, ![256, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 18
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S512, .f32⟩
  | .hbm, ⟨6, _⟩ => ⟨S1024x1024, .f32⟩
  | .hbm, ⟨7, _⟩ => ⟨S8192x1024, .f32⟩
  | .hbm, ⟨8, _⟩ => ⟨S_, .i32⟩
  | .hbm, ⟨9, _⟩ => ⟨S_, .f32⟩
  | .hbm, ⟨10, _⟩ => ⟨S8192x3200, .f32⟩
  | .hbm, ⟨11, _⟩ => ⟨S8192x3200, .bf16⟩
  | .hbm, ⟨12, _⟩ => ⟨S8192x256, .bf16⟩
  | .hbm, ⟨13, _⟩ => ⟨S8192x256, .bf16⟩
  | .hbm, ⟨14, _⟩ => ⟨S1x512, .f32⟩
  | .hbm, ⟨15, _⟩ => ⟨S1024x1024, .bf16⟩
  | .hbm, ⟨16, _⟩ => ⟨S8192x1024, .f32⟩
  | .hbm, ⟨17, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1x512, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x128, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v55 : BitVec 1 := Scalar.cmpi .eq arg0 c15_i32
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutLossRefIdeal.lean ====
abbrev S8192x1024 : Shape := ⟨2, ![8192, 1024]⟩
abbrev S8192x512 : Shape := ⟨2, ![8192, 512]⟩
abbrev S8192x256 : Shape := ⟨2, ![8192, 256]⟩
abbrev S512 : Shape := ⟨1, ![512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S512, .f32⟩
  | .hbm, ⟨6, _⟩ => ⟨S1024x1024, .f32⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x512, .f32⟩
  | .hbm, ⟨30, _⟩ => ⟨S8192x512, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_cst_7 : Ref sig .tc := ⟨.hbm, 51, rfl⟩
abbrev main_cst_8 : Ref sig .tc := ⟨.hbm, 52, rfl⟩
abbrev main_v27 : Ref sig .tc := ⟨.hbm, 53, rfl⟩
abbrev main_v28 : Ref sig .tc := ⟨.hbm, 54, rfl⟩
abbrev main_cst_9 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩

abbrev nD : Nat := 1
abbrev τ : Topo := Topo.v7x

variable {F : FTy → Type} [FloatOps F]
-- ==== OutBwd.lean ====
abbrev S8192x1024 : Shape := ⟨2, ![8192, 1024]⟩
abbrev S8192x512 : Shape := ⟨2, ![8192, 512]⟩
abbrev S8192x256 : Shape := ⟨2, ![8192, 256]⟩
abbrev S512 : Shape := ⟨1, ![512]⟩
abbrev S1024x1024 : Shape := ⟨2, ![1024, 1024]⟩
abbrev S_ : Shape := ⟨0, ![]⟩
abbrev S8192x3200 : Shape := ⟨2, ![8192, 3200]⟩
abbrev S1x512 : Shape := ⟨2, ![1, 512]⟩
abbrev S8x8192 : Shape := ⟨2, ![8, 8192]⟩
abbrev S512x1024 : Shape := ⟨2, ![512, 1024]⟩
abbrev S512x512 : Shape := ⟨2, ![512, 512]⟩
abbrev S512x256 : Shape := ⟨2, ![512, 256]⟩
abbrev S8x512 : Shape := ⟨2, ![8, 512]⟩
abbrev S256x1024 : Shape := ⟨2, ![256, 1024]⟩
abbrev S512x1 : Shape := ⟨2, ![512, 1]⟩

abbrev nBuf : Space → Nat
  | .hbm => 22
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S512, .f32⟩
  | .hbm, ⟨6, _⟩ => ⟨S1024x1024, .f32⟩
  | .hbm, ⟨7, _⟩ => ⟨S_, .i32⟩
  | .hbm, ⟨8, _⟩ => ⟨S_, .f32⟩
  | .hbm, ⟨9, _⟩ => ⟨S8192x3200, .f32⟩
  | .hbm, ⟨10, _⟩ => ⟨S8192x3200, .bf16⟩
  | .hbm, ⟨11, _⟩ => ⟨S8192x256, .bf16⟩
  | .hbm, ⟨12, _⟩ => ⟨S8192x256, .bf16⟩
  | .hbm, ⟨13, _⟩ => ⟨S1x512, .f32⟩
  | .hbm, ⟨14, _⟩ => ⟨S1024x1024, .bf16⟩
  | .hbm, ⟨15, _⟩ => ⟨S8192x512, .bf16⟩
  | .hbm, ⟨16, _⟩ => ⟨S8x8192, .f32⟩
  | .hbm, ⟨17, _⟩ => ⟨S8192x512, .bf16⟩
  | .hbm, ⟨18, _⟩ => ⟨S8192x256, .bf16⟩
  | .hbm, ⟨19, _⟩ => ⟨S8192x256, .bf16⟩
  | .hbm, ⟨20, _⟩ => ⟨S1024x1024, .f32⟩
  | .hbm, ⟨21, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1x512, .f32⟩
  | .local _ .vmem, ⟨11, _⟩ => ⟨S1024x1024, .bf16⟩
  | .local _ .vmem, ⟨12, _⟩ => ⟨S512x512, .bf16⟩
  | .local _ .vmem, ⟨13, _⟩ => ⟨S512x512, .bf16⟩
  | .local _ .vmem, ⟨14, _⟩ => ⟨S8x512, .f32⟩
  | .local _ .vmem, ⟨15, _⟩ => ⟨S8x512, .f32⟩
  | .local _ .vmem, ⟨16, _⟩ => ⟨S512x512, .bf16⟩
  | .local _ .vmem, ⟨17, _⟩ => ⟨S512x512, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S1024x1024, .f32⟩
  | .local _ .vmem, ⟨23, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutBwdRefIdeal.lean ====
abbrev S8192x1024 : Shape := ⟨2, ![8192, 1024]⟩
abbrev S8192x512 : Shape := ⟨2, ![8192, 512]⟩
abbrev S8192x256 : Shape := ⟨2, ![8192, 256]⟩
abbrev S512 : Shape := ⟨1, ![512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x8x64 : Shape := ⟨3, ![8192, 8, 64]⟩
abbrev S8192x8 : Shape := ⟨2, ![8192, 8]⟩
abbrev S8x8192 : Shape := ⟨2, ![8, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S512, .f32⟩
  | .hbm, ⟨6, _⟩ => ⟨S1024x1024, .f32⟩
  | .hbm, ⟨7, _⟩ => ⟨S_, .f32⟩
  | .hbm, ⟨8, _⟩ => ⟨S8192x1024, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x512, .f32⟩
  | .hbm, ⟨39, _⟩ => ⟨S8192x512, .f32⟩
  | .hbm, ⟨40, _⟩ => ⟨S1x512, .f32⟩
  | .hbm, ⟨41, _⟩ => ⟨S8192x512, .f32⟩
  | .hbm, ⟨42, _⟩ => ⟨S8192x512, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024x1024, .f32⟩
  | .hbm, ⟨47, _⟩ => ⟨S1024x1024, .f32⟩
  | .hbm, ⟨48, _⟩ => ⟨S8192x1024, .f32⟩
  | .hbm, ⟨49, _⟩ => ⟨S8192x256, .f32⟩
  | .hbm, ⟨50, _⟩ => ⟨S8192x512, .f32⟩
  | .hbm, ⟨51, _⟩ => ⟨S8192x256, .f32⟩
  | .hbm, ⟨52, _⟩ => ⟨S8192x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S512, .f32⟩
  | .hbm, ⟨60, _⟩ => ⟨S8192x512, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x512, .f32⟩
  | .hbm, ⟨65, _⟩ => ⟨S8192x512, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S8192x8x64, .f32⟩
  | .hbm, ⟨85, _⟩ => ⟨S_, .f32⟩
  | .hbm, ⟨86, _⟩ => ⟨S8192x8, .f32⟩
  | .hbm, ⟨87, _⟩ => ⟨S8x8192, .f32⟩
  | .hbm, ⟨88, _⟩ => ⟨S8192x512, .bf16⟩
  | .hbm, ⟨89, _⟩ => ⟨S8192x512, .bf16⟩
  | .hbm, ⟨90, _⟩ => ⟨S8192x256, .bf16⟩
  | .hbm, ⟨91, _⟩ => ⟨S8192x256, .bf16⟩
  | .hbm, ⟨92, _⟩ => ⟨S1x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v1_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v1_1 : Ref sig .tc := ⟨.hbm, 20, rfl⟩
abbrev main_v1_0 : Ref sig .tc := ⟨.hbm, 21, rfl⟩
abbrev main_v2 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_cst_1 : Ref sig .tc := ⟨.hbm, 27, rfl⟩
abbrev main_v6 : Ref sig .tc := ⟨.hbm, 28, rfl⟩
abbrev main_v7 : Ref sig .tc := ⟨.hbm, 29, rfl⟩
abbrev main_cst_2 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_3 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩

abbrev nD : Nat := 1
abbrev τ : Topo := Topo.v7x

variable {F : FTy → Type} [FloatOps F]
-- ==== InprojDx.lean ====
abbrev S8192x1024 : Shape := ⟨2, ![8192, 1024]⟩
abbrev S1024 : Shape := ⟨1, ![1024]⟩
abbrev S1024x3104 : Shape := ⟨2, ![1024, 3104]⟩
abbrev S8192x3104 : Shape := ⟨2, ![8192, 3104]⟩
abbrev S1024x776 : Shape := ⟨2, ![1024, 776]⟩
abbrev S1x1024x776 : Shape := ⟨3, ![1, 1024, 776]⟩
abbrev S4x1024x776 : Shape := ⟨3, ![4, 1024, 776]⟩
abbrev S1x1024 : Shape := ⟨2, ![1, 1024]⟩
abbrev S1024x504 : Shape := ⟨2, ![1024, 504]⟩
abbrev S1024x8 : Shape := ⟨2, ![1024, 8]⟩
abbrev S1024x240 : Shape := ⟨2, ![1024, 240]⟩
abbrev S_ : Shape := ⟨0, ![]⟩
abbrev S1024x64 : Shape := ⟨2, ![1024, 64]⟩
abbrev S1024x32 : Shape := ⟨2, ![1024, 32]⟩
abbrev S1024x768 : Shape := ⟨2, ![1024, 768]⟩
abbrev S1024x3200 : Shape := ⟨2, ![1024, 3200]⟩
abbrev S8192x512 : Shape := ⟨2, ![8192, 512]⟩
abbrev S8192x1792 : Shape := ⟨2, ![8192, 1792]⟩
abbrev S8192x64 : Shape := ⟨2, ![8192, 64]⟩
abbrev S8192x32 : Shape := ⟨2, ![8192, 32]⟩
abbrev S8192x768 : Shape := ⟨2, ![8192, 768]⟩
abbrev S8192x2688 : Shape := ⟨2, ![8192, 2688]⟩
abbrev S512x1024 : Shape := ⟨2, ![512, 1024]⟩
abbrev S512x512 : Shape := ⟨2, ![512, 512]⟩
abbrev S512x2688 : Shape := ⟨2, ![512, 2688]⟩
abbrev S1024x512 : Shape := ⟨2, ![1024, 512]⟩
abbrev S1024x2688 : Shape := ⟨2, ![1024, 2688]⟩
abbrev S512 : Shape := ⟨1, ![512]⟩
abbrev S512x1 : Shape := ⟨2, ![512, 1]⟩

abbrev nBuf : Space → Nat
  | .hbm => 52
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3104, .f32⟩
  | .hbm, ⟨3, _⟩ => ⟨S8192x3104, .f32⟩
  | .hbm, ⟨4, _⟩ => ⟨S8192x1024, .f32⟩
  | .hbm, ⟨5, _⟩ => ⟨S1024x3104, .bf16⟩
  | .hbm, ⟨6, _⟩ => ⟨S1024x776, .bf16⟩
  | .hbm, ⟨7, _⟩ => ⟨S1024x776, .bf16⟩
  | .hbm, ⟨8, _⟩ => ⟨S1024x776, .bf16⟩
  | .hbm, ⟨9, _⟩ => ⟨S1024x776, .bf16⟩
  | .hbm, ⟨10, _⟩ => ⟨S1x1024x776, .bf16⟩
  | .hbm, ⟨11, _⟩ => ⟨S1x1024x776, .bf16⟩
  | .hbm, ⟨12, _⟩ => ⟨S1x1024x776, .bf16⟩
  | .hbm, ⟨13, _⟩ => ⟨S1x1024x776, .bf16⟩
  | .hbm, ⟨14, _⟩ => ⟨S4x1024x776, .bf16⟩
  | .hbm, ⟨15, _⟩ => ⟨S8192x3104, .bf16⟩
  | .hbm, ⟨16, _⟩ => ⟨S1x1024, .f32⟩
  | .hbm, ⟨17, _⟩ => ⟨S1x1024x776, .bf16⟩
  | .hbm, ⟨18, _⟩ => ⟨S1024x776, .bf16⟩
  | .hbm, ⟨19, _⟩ => ⟨S1024x504, .bf16⟩
  | .hbm, ⟨20, _⟩ => ⟨S1x1024x776, .bf16⟩
  | .hbm, ⟨21, _⟩ => ⟨S1024x776, .bf16⟩
  | .hbm, ⟨22, _⟩ => ⟨S1024x8, .bf16⟩
  | .hbm, ⟨23, _⟩ => ⟨S1x1024x776, .bf16⟩
  | .hbm, ⟨24, _⟩ => ⟨S1024x776, .bf16⟩
  | .hbm, ⟨25, _⟩ => ⟨S1x1024x776, .bf16⟩
  | .hbm, ⟨26, _⟩ => ⟨S1024x776, .bf16⟩
  | .hbm, ⟨27, _⟩ => ⟨S1x1024x776, .bf16⟩
  | .hbm, ⟨28, _⟩ => ⟨S1024x776, .bf16⟩
  | .hbm, ⟨29, _⟩ => ⟨S1024x240, .bf16⟩
  | .hbm, ⟨30, _⟩ => ⟨S_, .bf16⟩
  | .hbm, ⟨31, _⟩ => ⟨S1024x64, .bf16⟩
  | .hbm, ⟨32, _⟩ => ⟨S1x1024x776, .bf16⟩
  | .hbm, ⟨33, _⟩ => ⟨S1024x776, .bf16⟩
  | .hbm, ⟨34, _⟩ => ⟨S1024x32, .bf16⟩
  | .hbm, ⟨35, _⟩ => ⟨S_, .bf16⟩
  | .hbm, ⟨36, _⟩ => ⟨S1024x32, .bf16⟩
  | .hbm, ⟨37, _⟩ => ⟨S1x1024x776, .bf16⟩
  | .hbm, ⟨38, _⟩ => ⟨S1024x776, .bf16⟩
  | .hbm, ⟨39, _⟩ => ⟨S1024x768, .bf16⟩
  | .hbm, ⟨40, _⟩ => ⟨S1024x3200, .bf16⟩
  | .hbm, ⟨41, _⟩ => ⟨S8192x512, .bf16⟩
  | .hbm, ⟨42, _⟩ => ⟨S8192x1792, .bf16⟩
  | .hbm, ⟨43, _⟩ => ⟨S_, .bf16⟩
  | .hbm, ⟨44, _⟩ => ⟨S8192x64, .bf16⟩
  | .hbm, ⟨45, _⟩ => ⟨S8192x32, .bf16⟩
  | .hbm, ⟨46, _⟩ => ⟨S_, .bf16⟩
  | .hbm, ⟨47, _⟩ => ⟨S8192x32, .bf16⟩
  | .hbm, ⟨48, _⟩ => ⟨S8192x768, .bf16⟩
  | .hbm, ⟨49, _⟩ => ⟨S8192x2688, .bf16⟩
  | .hbm, ⟨50, _⟩ => ⟨S8192x1024, .f32⟩
  | .hbm, ⟨51, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x512, .bf16⟩
  | .local _ .vmem, ⟨5, _⟩ => ⟨S512x512, .bf16⟩
  | .local _ .vmem, ⟨6, _⟩ => ⟨S512x2688, .bf16⟩
  | .local _ .vmem, ⟨7, _⟩ => ⟨S512x2688, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41_0 : Ref sig .tc := ⟨.hbm, 50, rfl⟩
abbrev main_v41_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InprojDxRefIdeal.lean ====
abbrev S8192x1024 : Shape := ⟨2, ![8192, 1024]⟩
abbrev S1024 : Shape := ⟨1, ![1024]⟩
abbrev S1024x3104 : Shape := ⟨2, ![1024, 3104]⟩
abbrev S8192x3104 : Shape := ⟨2, ![8192, 3104]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3104, .f32⟩
  | .hbm, ⟨3, _⟩ => ⟨S8192x3104, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3104, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== AttnBwd.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x128 : Shape := ⟨3, ![8192, 8, 128]⟩
abbrev S8192x1024 : Shape := ⟨2, ![8192, 1024]⟩
abbrev S8192x64 : Shape := ⟨2, ![8192, 64]⟩
abbrev S8192x1x64 : Shape := ⟨3, ![8192, 1, 64]⟩
abbrev S8192x128 : Shape := ⟨2, ![8192, 128]⟩
abbrev S8x1x8192 : Shape := ⟨3, ![8, 1, 8192]⟩
abbrev S8192x256 : Shape := ⟨2, ![8192, 256]⟩
abbrev S2x1x8192 : Shape := ⟨3, ![2, 1, 8192]⟩
abbrev S512x256 : Shape := ⟨2, ![512, 256]⟩
abbrev S512x512 : Shape := ⟨2, ![512, 512]⟩
abbrev S512x128 : Shape := ⟨2, ![512, 128]⟩
abbrev S1x1x512 : Shape := ⟨3, ![1, 1, 512]⟩
abbrev S1x512 : Shape := ⟨2, ![1, 512]⟩

abbrev nBuf : Space → Nat
  | .hbm => 140
  | .vmem => 18
  | .smem => 0
  | _ => 0

abbrev hbmTy0_0 (i : Nat) : BufTy := match i % 128 with
  | 0 => ⟨S8192x8x96, .f32⟩
  | 1 => ⟨S8192x8x96, .f32⟩
  | 2 => ⟨S8192x8x64, .f32⟩
  | 3 => ⟨S8192x512, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S8x8192x8192, .f32⟩
  | 11 => ⟨S_, .f32⟩
  | 12 => ⟨S8x8192x8192, .f32⟩
  | 13 => ⟨S8x8192x8192, .f32⟩
  | 14 => ⟨S8192, .i32⟩
  | 15 => ⟨S1x8192, .i32⟩
  | 16 => ⟨S8192x1, .i32⟩
  | 17 => ⟨S8192x8192, .i32⟩
  | 18 => ⟨S8192x8192, .i32⟩
  | 19 => ⟨S8192x8192, .i1⟩
  | 20 => ⟨S_, .f32⟩
  | 21 => ⟨S_, .f32⟩
  | 22 => ⟨S8x8192x8192, .i1⟩
  | 23 => ⟨S8x8192x8192, .f32⟩
  | 24 => ⟨S8x8192x8192, .f32⟩
  | 25 => ⟨S_, .f32⟩
  | 26 => ⟨S8x8192, .f32⟩
  | 27 => ⟨S8x8192x1, .f32⟩
  | 28 => ⟨S8x8192x8192, .f32⟩
  | 29 => ⟨S8x8192x8192, .f32⟩
  | 30 => ⟨S8x8192x8192, .f32⟩
  | 31 => ⟨S_, .f32⟩
  | 32 => ⟨S8x8192, .f32⟩
  | 33 => ⟨S_, .f32⟩
  | 34 => ⟨S8x8192, .f32⟩
  | 35 => ⟨S_, .f32⟩
  | 36 => ⟨S8x8192, .f32⟩
  | 37 => ⟨S8x8192, .f32⟩
  | 38 => ⟨S8x8192x1, .f32⟩
  | 39 => ⟨S8x8192x8192, .f32⟩
  | 40 => ⟨S8x8192x8192, .f32⟩
  | 41 => ⟨S8x8192x8192, .f32⟩
  | 42 => ⟨S_, .f32⟩
  | 43 => ⟨S8x8192, .f32⟩
  | 44 => ⟨S8x8192x1, .f32⟩
  | 45 => ⟨S8x8192x8192, .f32⟩
  | 46 => ⟨S8x8192x8192, .f32⟩
  | 47 => ⟨S8x64x8192, .f32⟩
  | 48 => ⟨S8192x8x64, .f32⟩
  | 49 => ⟨S8x8192, .f32⟩
  | 50 => ⟨S8x8192, .f32⟩
  | 51 => ⟨S8x8192, .f32⟩
  | 52 => ⟨S8x8192, .f32⟩
  | 53 => ⟨S8192x8x64, .f32⟩
  | 54 => ⟨S8192x8x64, .f32⟩
  | 55 => ⟨S_, .f32⟩
  | 56 => ⟨S8192x8, .f32⟩
  | 57 => ⟨S8x8192, .f32⟩
  | 58 => ⟨S8192x8x96, .f32⟩
  | 59 => ⟨S8192x8x96, .f32⟩
  | 60 => ⟨S_, .i32⟩
  | 61 => ⟨S_, .f32⟩
  | 62 => ⟨S8192x8x128, .f32⟩
  | 63 => ⟨S8192x1024, .f32⟩
  | 64 => ⟨S8192x1024, .bf16⟩
  | 65 => ⟨S_, .i32⟩
  | 66 => ⟨S_, .f32⟩
  | 67 => ⟨S8192x8x128, .f32⟩
  | 68 => ⟨S8192x1024, .f32⟩
  | 69 => ⟨S8192x1024, .bf16⟩
  | 70 => ⟨S_, .f32⟩
  | 71 => ⟨S8192x64, .f32⟩
  | 72 => ⟨S8192x1x64, .f32⟩
  | 73 => ⟨S8192x64, .f32⟩
  | 74 => ⟨S8192x128, .f32⟩
  | 75 => ⟨S8192x1x64, .f32⟩
  | 76 => ⟨S8192x64, .f32⟩
  | 77 => ⟨S8192x128, .f32⟩
  | 78 => ⟨S8192x1x64, .f32⟩
  | 79 => ⟨S8192x64, .f32⟩
  | 80 => ⟨S8192x128, .f32⟩
  | 81 => ⟨S8192x1x64, .f32⟩
  | 82 => ⟨S8192x64, .f32⟩
  | 83 => ⟨S8192x128, .f32⟩
  | 84 => ⟨S8192x1x64, .f32⟩
  | 85 => ⟨S8192x64, .f32⟩
  | 86 => ⟨S8192x128, .f32⟩
  | 87 => ⟨S8192x1x64, .f32⟩
  | 88 => ⟨S8192x64, .f32⟩
  | 89 => ⟨S8192x128, .f32⟩
  | 90 => ⟨S8192x1x64, .f32⟩
  | 91 => ⟨S8192x64, .f32⟩
  | 92 => ⟨S8192x128, .f32⟩
  | 93 => ⟨S8192x1x64, .f32⟩
  | 94 => ⟨S8192x64, .f32⟩
  | 95 => ⟨S8192x128, .f32⟩
  | 96 => ⟨S8192x1024, .f32⟩
  | 97 => ⟨S8192x1024, .bf16⟩
  | 98 => ⟨S8192x512, .bf16⟩
  | 99 => ⟨S8x1x8192, .f32⟩
  | 100 => ⟨S8x1x8192, .f32⟩
  | 101 => ⟨S8192x1024, .f32⟩
  | 102 => ⟨S8192x1024, .f32⟩
  | 103 => ⟨S8192x1024, .f32⟩
  | 104 => ⟨S8192x8x128, .f32⟩
  | 105 => ⟨S8192x1x64, .f32⟩
  | 106 => ⟨S8192x64, .f32⟩
  | 107 => ⟨S8192x1x64, .f32⟩
  | 108 => ⟨S8192x64, .f32⟩
  | 109 => ⟨S8192x1x64, .f32⟩
  | 110 => ⟨S8192x64, .f32⟩
  | 111 => ⟨S8192x1x64, .f32⟩
  | 112 => ⟨S8192x64, .f32⟩
  | 113 => ⟨S8192x1x64, .f32⟩
  | 114 => ⟨S8192x64, .f32⟩
  | 115 => ⟨S8192x1x64, .f32⟩
  | 116 => ⟨S8192x64, .f32⟩
  | 117 => ⟨S8192x1x64, .f32⟩
  | 118 => ⟨S8192x64, .f32⟩
  | 119 => ⟨S8192x1x64, .f32⟩
  | 120 => ⟨S8192x64, .f32⟩
  | 121 => ⟨S8192x1x64, .f32⟩
  | 122 => ⟨S8192x1x64, .f32⟩
  | 123 => ⟨S8192x1x64, .f32⟩
  | 124 => ⟨S8192x1x64, .f32⟩
  | 125 => ⟨S8192x1x64, .f32⟩
  | 126 => ⟨S8192x1x64, .f32⟩
  | 127 => ⟨S8192x1x64, .f32⟩
  | _ => ⟨S8192x8x96, .f32⟩

abbrev hbmTy0_1 (i : Nat) : BufTy := match i % 128 with
  | 0 => ⟨S8192x1x64, .f32⟩
  | 1 => ⟨S8192x8x64, .f32⟩
  | 2 => ⟨S8192x1024, .f32⟩
  | 3 => ⟨S8192x1024, .f32⟩
  | 4 => ⟨S8192x8x128, .f32⟩
  | 5 => ⟨S8192x8x96, .f32⟩
  | 6 => ⟨S8192x8x96, .f32⟩
  | 7 => ⟨S8192x8x96, .f32⟩
  | 8 => ⟨S8192x1024, .f32⟩
  | 9 => ⟨S8192x1024, .f32⟩
  | 10 => ⟨S8192x8x128, .f32⟩
  | 11 => ⟨S8192x8x96, .f32⟩
  | _ => ⟨S8192x8x96, .f32⟩

abbrev hbmTy (i : Nat) : BufTy := match i / 128 with
  | 0 => hbmTy0_0 i
  | 1 => hbmTy0_1 i
  | _ => ⟨S8192x8x96, .f32⟩

abbrev bufTy : (tb : Table) → Fin (tcTables nBuf tb) → BufTy
  | .hbm, ⟨i, _⟩ => hbmTy i
  | .local _ .vmem, ⟨0, _⟩ => ⟨S8192x256, .bf16⟩
  | .local _ .vmem, ⟨1, _⟩ => ⟨S8192x256, .bf16⟩
  | .local _ .vmem, ⟨2, _⟩ => ⟨S8192x128, .bf16⟩
  | .local _ .vmem, ⟨3, _⟩ => ⟨S8192x128, .bf16⟩
  | .local _ .vmem, ⟨4, _⟩ => ⟨S2x1x8192, .f32⟩
  | .local _ .vmem, ⟨5, _⟩ => ⟨S2x1x8192, .f32⟩
  | .local _ .vmem, ⟨6, _⟩ => ⟨S2x1x8192, .f32⟩
  | .local _ .vmem, ⟨7, _⟩ => ⟨S2x1x8192, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S8192x256, .f32⟩
  | .local _ .vmem, ⟨13, _⟩ => ⟨S8192x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c : Ref sig .tc := ⟨.hbm, 60, rfl⟩
abbrev main_call1_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_call2_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78_0 : Ref sig .tc := ⟨.hbm, 101, rfl⟩
abbrev main_v78_1 : Ref sig .tc := ⟨.hbm, 102, rfl⟩
abbrev main_v78_2 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v14 : BitVec 32 := Scalar.muli arg1 c512_i32
  v14
def k0_off1 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v16 : Index := Scalar.indexCast v15
  let c0_7 : Index := 0#32
  ![v16.toNat, 0]
def k0_off2 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v19 : Index := Scalar.indexCast v15
  let c0_8 : Index := 0#32
  ![v19.toNat, 0]
def k0_off3 (i : grid0.Coords) : Fin 3 → Nat :=
  let c0_10 : Index := 0#32
  let c0_11 : Index := 0#32
  let arg1 : BitVec 32 := BitVec.ofNat 32 (i 1).val
  let c512_i32 : BitVec 32 := 512#32
  let v14 : BitVec 32 := Scalar.muli arg1 c512_i32
  let v15 : BitVec 32 := v14
  let v23 : Index := Scalar.indexCast v15
  ![0, 0, v23.toNat]
def k0_off4 (i : grid0.Coords) : Fin 2 → Nat :=
  let arg1 : BitVec 32 := BitVec.ofNat 32 (i 1).val
  let c512_i32 : BitVec 32 := 512#32
  let v14 : BitVec 32 := Scalar.muli arg1 c512_i32
  let v15 : BitVec 32 := v14
  let v52 : Index := Scalar.indexCast v15
  let c128_21 : Index := 128#32
  ![v52.toNat, 128]
def k0_off5 (i : grid0.Coords) : Fin 3 → Nat :=
  let c1 : Index := 1#32
  let c0_23 : Index := 0#32
  let arg1 : BitVec 32 := BitVec.ofNat 32 (i 1).val
  let c512_i32 : BitVec 32 := 512#32
  let v14 : BitVec 32 := Scalar.muli arg1 c512_i32
  let v15 : BitVec 32 := v14
  let v56 : Index := Scalar.indexCast v15
  ![1, 0, v56.toNat]
@[reducible] def k0_t1_loop (i : grid0.Coords) : Scf.Loop 32 :=
  let arg1 : BitVec 32 := BitVec.ofNat 32 (i 1).val
  let c1_i32 : BitVec 32 := 1#32
  let v85 : BitVec 32 := Scalar.addi arg1 c1_i32
  let c16_i32 : BitVec 32 := 16#32
  let v86 : BitVec 32 := Scalar.subi c16_i32 v85
  let c1_i32_33 : BitVec 32 := 1#32
  let v88 : BitVec 32 := Scalar.divsi v86 c1_i32_33
  let v89 : BitVec 32 := Scalar.muli v88 c1_i32_33
  let v90 : BitVec 32 := Scalar.addi v85 v89
  let c1_i32_34 : BitVec 32 := 1#32
  ⟨v85, v90, c1_i32_34⟩
def k0_mult2 (i : grid0.Coords) (k0_t1 : Fin (k0_t1_loop i).trips) : BitVec 32 :=
  let arg1 : BitVec 32 := BitVec.ofNat 32 (i 1).val
  let c1_i32 : BitVec 32 := 1#32
  let v85 : BitVec 32 := Scalar.addi arg1 c1_i32
  let c1_i32_34 : BitVec 32 := 1#32
  let arg11 : BitVec 32 := Scf.iv v85 c1_i32_34 k0_t1
  let c512_i32_44 : BitVec 32 := 512#32
  let v97 : BitVec 32 := Scalar.muli arg11 c512_i32_44
  v97
def k0_off6 (i : grid0.Coords) (k0_t1 : Fin (k0_t1_loop i).trips) : Fin 2 → Nat :=
  let arg1 : BitVec 32 := BitVec.ofNat 32 (i 1).val
  let c1_i32 : BitVec 32 := 1#32
  let v85 : BitVec 32 := Scalar.addi arg1 c1_i32
  let c1_i32_34 : BitVec 32 := 1#32
  let arg11 : BitVec 32 := Scf.iv v85 c1_i32_34 k0_t1
  let c512_i32_44 : BitVec 32 := 512#32
  let v97 : BitVec 32 := Scalar.muli arg11 c512_i32_44
  let v98 : BitVec 32 := v97
  let v99 : Index := Scalar.indexCast v98
  let c0_45 : Index := 0#32
  ![v99.toNat, 0]
def k0_off7 (i : grid0.Coords) (k0_t1 : Fin (k0_t1_loop i).trips) : Fin 2 → Nat :=
  let arg1 : BitVec 32 := BitVec.ofNat 32 (i 1).val
  let c1_i32 : BitVec 32 := 1#32
  let v85 : BitVec 32 := Scalar.addi arg1 c1_i32
  let c1_i32_34 : BitVec 32 := 1#32
  let arg11 : BitVec 32 := Scf.iv v85 c1_i32_34 k0_t1
  let c512_i32_44 : BitVec 32 := 512#32
  let v97 : BitVec 32 := Scalar.muli arg11 c512_i32_44
  let v98 : BitVec 32 := v97
  let v102 : Index := Scalar.indexCast v98
  let c0_46 : Index := 0#32
  ![v102.toNat, 0]
def k0_off8 (i : grid0.Coords) (k0_t1 : Fin (k0_t1_loop i).trips) : Fin 3 → Nat :=
  let c0_48 : Index := 0#32
  let c0_49 : Index := 0#32
  let arg1 : BitVec 32 := BitVec.ofNat 32 (i 1).val
  let c1_i32 : BitVec 32 := 1#32
  let v85 : BitVec 32 := Scalar.addi arg1 c1_i32
  let c1_i32_34 : BitVec 32 := 1#32
  let arg11 : BitVec 32 := Scf.iv v85 c1_i32_34 k0_t1
  let c512_i32_44 : BitVec 32 := 512#32
  let v97 : BitVec 32 := Scalar.muli arg11 c512_i32_44
  let v98 : BitVec 32 := v97
  let v106 : Index := Scalar.indexCast v98
  ![0, 0, v106.toNat]
def k0_off9 (i : grid0.Coords) (k0_t1 : Fin (k0_t1_loop i).trips) : Fin 2 → Nat :=
  let arg1 : BitVec 32 := BitVec.ofNat 32 (i 1).val
  let c1_i32 : BitVec 32 := 1#32
  let v85 : BitVec 32 := Scalar.addi arg1 c1_i32
  let c1_i32_34 : BitVec 32 := 1#32
  let arg11 : BitVec 32 := Scf.iv v85 c1_i32_34 k0_t1
  let c512_i32_44 : BitVec 32 := 512#32
  let v97 : BitVec 32 := Scalar.muli arg11 c512_i32_44
  let v98 : BitVec 32 := v97
  let v132 : Index := Scalar.indexCast v98
  let c128_58 : Index := 128#32
  ![v132.toNat, 128]
def k0_off10 (i : grid0.Coords) (k0_t1 : Fin (k0_t1_loop i).trips) : Fin 3 → Nat :=
  let c1_60 : Index := 1#32
  let c0_61 : Index := 0#32
  let arg1 : BitVec 32 := BitVec.ofNat 32 (i 1).val
  let c1_i32 : BitVec 32 := 1#32
  let v85 : BitVec 32 := Scalar.addi arg1 c1_i32
  let c1_i32_34 : BitVec 32 := 1#32
  let arg11 : BitVec 32 := Scf.iv v85 c1_i32_34 k0_t1
  let c512_i32_44 : BitVec 32 := 512#32
  let v97 : BitVec 32 := Scalar.muli arg11 c512_i32_44
  let v98 : BitVec 32 := v97
  let v136 : Index := Scalar.indexCast v98
  ![1, 0, v136.toNat]
@[reducible] def k0_t2_loop (i : grid0.Coords) : Scf.Loop 32 :=
  let arg1 : BitVec 32 := BitVec.ofNat 32 (i 1).val
  let c1_i32 : BitVec 32 := 1#32
  let v85 : BitVec 32 := Scalar.addi arg1 c1_i32
  let c16_i32 : BitVec 32 := 16#32
  let v86 : BitVec 32 := Scalar.subi c16_i32 v85
  let c1_i32_33 : BitVec 32 := 1#32
  let v88 : BitVec 32 := Scalar.divsi v86 c1_i32_33
  let v89 : BitVec 32 := Scalar.muli v88 c1_i32_33
  let v90 : BitVec 32 := Scalar.addi v85 v89
  let v87 : BitVec 32 := Scalar.addi v85 v86
  let c1_i32_35 : BitVec 32 := 1#32
  ⟨v90, v87, c1_i32_35⟩
def k0_mult3 (i : grid0.Coords) (k0_t2 : Fin (k0_t2_loop i).trips) : BitVec 32 :=
  let arg1 : BitVec 32 := BitVec.ofNat 32 (i 1).val
  let c1_i32 : BitVec 32 := 1#32
  let v85 : BitVec 32 := Scalar.addi arg1 c1_i32
  let c16_i32 : BitVec 32 := 16#32
  let v86 : BitVec 32 := Scalar.subi c16_i32 v85
  let c1_i32_33 : BitVec 32 := 1#32
  let v88 : BitVec 32 := Scalar.divsi v86 c1_i32_33
  let v89 : BitVec 32 := Scalar.muli v88 c1_i32_33
  let v90 : BitVec 32 := Scalar.addi v85 v89
  let c1_i32_35 : BitVec 32 := 1#32
  let arg11 : BitVec 32 := Scf.iv v90 c1_i32_35 k0_t2
  let c512_i32_44 : BitVec 32 := 512#32
  let v97 : BitVec 32 := Scalar.muli arg11 c512_i32_44
  v97
def k0_off11 (i : grid0.Coords) (k0_t2 : Fin (k0_t2_loop i).trips) : Fin 2 → Nat :=
  let arg1 : BitVec 32 := BitVec.ofNat 32 (i 1).val
  let c1_i32 : BitVec 32 := 1#32
  let v85 : BitVec 32 := Scalar.addi arg1 c1_i32
  let c16_i32 : BitVec 32 := 16#32
  let v86 : BitVec 32 := Scalar.subi c16_i32 v85
  let c1_i32_33 : BitVec 32 := 1#32
  let v88 : BitVec 32 := Scalar.divsi v86 c1_i32_33
  let v89 : BitVec 32 := Scalar.muli v88 c1_i32_33
  let v90 : BitVec 32 := Scalar.addi v85 v89
  let c1_i32_35 : BitVec 32 := 1#32
  let arg11 : BitVec 32 := Scf.iv v90 c1_i32_35 k0_t2
  let c512_i32_44 : BitVec 32 := 512#32
  let v97 : BitVec 32 := Scalar.muli arg11 c512_i32_44
  let v98 : BitVec 32 := v97
  let v99 : Index := Scalar.indexCast v98
  let c0_45 : Index := 0#32
  ![v99.toNat, 0]
def k0_off12 (i : grid0.Coords) (k0_t2 : Fin (k0_t2_loop i).trips) : Fin 2 → Nat :=
  let arg1 : BitVec 32 := BitVec.ofNat 32 (i 1).val
  let c1_i32 : BitVec 32 := 1#32
  let v85 : BitVec 32 := Scalar.addi arg1 c1_i32
  let c16_i32 : BitVec 32 := 16#32
  let v86 : BitVec 32 := Scalar.subi c16_i32 v85
  let c1_i32_33 : BitVec 32 := 1#32
  let v88 : BitVec 32 := Scalar.divsi v86 c1_i32_33
  let v89 : BitVec 32 := Scalar.muli v88 c1_i32_33
  let v90 : BitVec 32 := Scalar.addi v85 v89
  let c1_i32_35 : BitVec 32 := 1#32
  let arg11 : BitVec 32 := Scf.iv v90 c1_i32_35 k0_t2
  let c512_i32_44 : BitVec 32 := 512#32
  let v97 : BitVec 32 := Scalar.muli arg11 c512_i32_44
  let v98 : BitVec 32 := v97
  let v102 : Index := Scalar.indexCast v98
  let c0_46 : Index := 0#32
  ![v102.toNat, 0]
def k0_off13 (i : grid0.Coords) (k0_t2 : Fin (k0_t2_loop i).trips) : Fin 3 → Nat :=
  let c0_48 : Index := 0#32
  let c0_49 : Index := 0#32
  let arg1 : BitVec 32 := BitVec.ofNat 32 (i 1).val
  let c1_i32 : BitVec 32 := 1#32
  let v85 : BitVec 32 := Scalar.addi arg1 c1_i32
  let c16_i32 : BitVec 32 := 16#32
  let v86 : BitVec 32 := Scalar.subi c16_i32 v85
  let c1_i32_33 : BitVec 32 := 1#32
  let v88 : BitVec 32 := Scalar.divsi v86 c1_i32_33
  let v89 : BitVec 32 := Scalar.muli v88 c1_i32_33
  let v90 : BitVec 32 := Scalar.addi v85 v89
  let c1_i32_35 : BitVec 32 := 1#32
  let arg11 : BitVec 32 := Scf.iv v90 c1_i32_35 k0_t2
  let c512_i32_44 : BitVec 32 := 512#32
  let v97 : BitVec 32 := Scalar.muli arg11 c512_i32_44
  let v98 : BitVec 32 := v97
  let v106 : Index := Scalar.indexCast v98
  ![0, 0, v106.toNat]
def k0_off14 (i : grid0.Coords) (k0_t2 : Fin (k0_t2_loop i).trips) : Fin 2 → Nat :=
  let arg1 : BitVec 32 := BitVec.ofNat 32 (i 1).val
  let c1_i32 : BitVec 32 := 1#32
  let v85 : BitVec 32 := Scalar.addi arg1 c1_i32
  let c16_i32 : BitVec 32 := 16#32
  let v86 : BitVec 32 := Scalar.subi c16_i32 v85
  let c1_i32_33 : BitVec 32 := 1#32
  let v88 : BitVec 32 := Scalar.divsi v86 c1_i32_33
  let v89 : BitVec 32 := Scalar.muli v88 c1_i32_33
  let v90 : BitVec 32 := Scalar.addi v85 v89
  let c1_i32_35 : BitVec 32 := 1#32
  let arg11 : BitVec 32 := Scf.iv v90 c1_i32_35 k0_t2
  let c512_i32_44 : BitVec 32 := 512#32
  let v97 : BitVec 32 := Scalar.muli arg11 c512_i32_44
  let v98 : BitVec 32 := v97
  let v132 : Index := Scalar.indexCast v98
  let c128_58 : Index := 128#32
  ![v132.toNat, 128]
def k0_off15 (i : grid0.Coords) (k0_t2 : Fin (k0_t2_loop i).trips) : Fin 3 → Nat :=
  let c1_60 : Index := 1#32
  let c0_61 : Index := 0#32
  let arg1 : BitVec 32 := BitVec.ofNat 32 (i 1).val
  let c1_i32 : BitVec 32 := 1#32
  let v85 : BitVec 32 := Scalar.addi arg1 c1_i32
  let c16_i32 : BitVec 32 := 16#32
  let v86 : BitVec 32 := Scalar.subi c16_i32 v85
  let c1_i32_33 : BitVec 32 := 1#32
  let v88 : BitVec 32 := Scalar.divsi v86 c1_i32_33
  let v89 : BitVec 32 := Scalar.muli v88 c1_i32_33
  let v90 : BitVec 32 := Scalar.addi v85 v89
  let c1_i32_35 : BitVec 32 := 1#32
  let arg11 : BitVec 32 := Scf.iv v90 c1_i32_35 k0_t2
  let c512_i32_44 : BitVec 32 := 512#32
  let v97 : BitVec 32 := Scalar.muli arg11 c512_i32_44
  let v98 : BitVec 32 := v97
  let v136 : Index := Scalar.indexCast v98
  ![1, 0, v136.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnBwdRefIdeal.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩

abbrev nBuf : Space → Nat
  | .hbm => 91
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x64x8192, .f32⟩
  | .hbm, ⟨60, _⟩ => ⟨S8192x8x64, .f32⟩
  | .hbm, ⟨61, _⟩ => ⟨S8192x512, .f32⟩
  | .hbm, ⟨62, _⟩ => ⟨S8192x8x64, .f32⟩
  | .hbm, ⟨63, _⟩ => ⟨S8x64x8192, .f32⟩
  | .hbm, ⟨64, _⟩ => ⟨S8x8192x8192, .f32⟩
  | .hbm, ⟨65, _⟩ => ⟨S8x64x8192, .f32⟩
  | .hbm, ⟨66, _⟩ => ⟨S8192x8x64, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S8x8192x1, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x8192, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192x8192, .f32⟩
  | .hbm, ⟨86, _⟩ => ⟨S8x8192x8192, .f32⟩
  | .hbm, ⟨87, _⟩ => ⟨S8x8192x96, .f32⟩
  | .hbm, ⟨88, _⟩ => ⟨S8192x8x96, .f32⟩
  | .hbm, ⟨89, _⟩ => ⟨S8x8192x96, .f32⟩
  | .hbm, ⟨90, _⟩ => ⟨S8192x8x96, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== AttnFwd.lean ====
abbrev S8192x8x96 : Shape := ⟨3, ![8192, 8, 96]⟩
abbrev S8192x8x64 : Shape := ⟨3, ![8192, 8, 64]⟩
abbrev S_ : Shape := ⟨0, ![]⟩
abbrev S8192x8x128 : Shape := ⟨3, ![8192, 8, 128]⟩
abbrev S8192x1024 : Shape := ⟨2, ![8192, 1024]⟩
abbrev S8192x64 : Shape := ⟨2, ![8192, 64]⟩
abbrev S8192x1x64 : Shape := ⟨3, ![8192, 1, 64]⟩
abbrev S8192x128 : Shape := ⟨2, ![8192, 128]⟩
abbrev S8192x512 : Shape := ⟨2, ![8192, 512]⟩
abbrev S8x1x8192 : Shape := ⟨3, ![8, 1, 8192]⟩
abbrev S512x256 : Shape := ⟨2, ![512, 256]⟩
abbrev S8192x256 : Shape := ⟨2, ![8192, 256]⟩
abbrev S512x128 : Shape := ⟨2, ![512, 128]⟩
abbrev S2x1x512 : Shape := ⟨3, ![2, 1, 512]⟩
abbrev S2x512x512 : Shape := ⟨3, ![2, 512, 512]⟩
abbrev S64x512 : Shape := ⟨2, ![64, 512]⟩
abbrev S1x512 : Shape := ⟨2, ![1, 512]⟩
abbrev S128x512 : Shape := ⟨2, ![128, 512]⟩
abbrev S512x512 : Shape := ⟨2, ![512, 512]⟩
abbrev S8x512 : Shape := ⟨2, ![8, 512]⟩
abbrev S8x8x512 : Shape := ⟨3, ![8, 8, 512]⟩
abbrev S512 : Shape := ⟨1, ![512]⟩
abbrev S1x64x512 : Shape := ⟨3, ![1, 64, 512]⟩
abbrev S1x512x512 : Shape := ⟨3, ![1, 512, 512]⟩
abbrev S1x1x512 : Shape := ⟨3, ![1, 1, 512]⟩
abbrev S8x8192 : Shape := ⟨2, ![8, 8192]⟩

abbrev nBuf : Space → Nat
  | .hbm => 54
  | .vmem => 11
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x8x96, .f32⟩
  | .hbm, ⟨10, _⟩ => ⟨S8192x8x96, .f32⟩
  | .hbm, ⟨11, _⟩ => ⟨S_, .i32⟩
  | .hbm, ⟨12, _⟩ => ⟨S_, .f32⟩
  | .hbm, ⟨13, _⟩ => ⟨S8192x8x128, .f32⟩
  | .hbm, ⟨14, _⟩ => ⟨S8192x1024, .f32⟩
  | .hbm, ⟨15, _⟩ => ⟨S8192x1024, .bf16⟩
  | .hbm, ⟨16, _⟩ => ⟨S_, .i32⟩
  | .hbm, ⟨17, _⟩ => ⟨S_, .f32⟩
  | .hbm, ⟨18, _⟩ => ⟨S8192x8x128, .f32⟩
  | .hbm, ⟨19, _⟩ => ⟨S8192x1024, .f32⟩
  | .hbm, ⟨20, _⟩ => ⟨S8192x1024, .bf16⟩
  | .hbm, ⟨21, _⟩ => ⟨S_, .f32⟩
  | .hbm, ⟨22, _⟩ => ⟨S8192x64, .f32⟩
  | .hbm, ⟨23, _⟩ => ⟨S8192x1x64, .f32⟩
  | .hbm, ⟨24, _⟩ => ⟨S8192x64, .f32⟩
  | .hbm, ⟨25, _⟩ => ⟨S8192x128, .f32⟩
  | .hbm, ⟨26, _⟩ => ⟨S8192x1x64, .f32⟩
  | .hbm, ⟨27, _⟩ => ⟨S8192x64, .f32⟩
  | .hbm, ⟨28, _⟩ => ⟨S8192x128, .f32⟩
  | .hbm, ⟨29, _⟩ => ⟨S8192x1x64, .f32⟩
  | .hbm, ⟨30, _⟩ => ⟨S8192x64, .f32⟩
  | .hbm, ⟨31, _⟩ => ⟨S8192x128, .f32⟩
  | .hbm, ⟨32, _⟩ => ⟨S8192x1x64, .f32⟩
  | .hbm, ⟨33, _⟩ => ⟨S8192x64, .f32⟩
  | .hbm, ⟨34, _⟩ => ⟨S8192x128, .f32⟩
  | .hbm, ⟨35, _⟩ => ⟨S8192x1x64, .f32⟩
  | .hbm, ⟨36, _⟩ => ⟨S8192x64, .f32⟩
  | .hbm, ⟨37, _⟩ => ⟨S8192x128, .f32⟩
  | .hbm, ⟨38, _⟩ => ⟨S8192x1x64, .f32⟩
  | .hbm, ⟨39, _⟩ => ⟨S8192x64, .f32⟩
  | .hbm, ⟨40, _⟩ => ⟨S8192x128, .f32⟩
  | .hbm, ⟨41, _⟩ => ⟨S8192x1x64, .f32⟩
  | .hbm, ⟨42, _⟩ => ⟨S8192x64, .f32⟩
  | .hbm, ⟨43, _⟩ => ⟨S8192x128, .f32⟩
  | .hbm, ⟨44, _⟩ => ⟨S8192x1x64, .f32⟩
  | .hbm, ⟨45, _⟩ => ⟨S8192x64, .f32⟩
  | .hbm, ⟨46, _⟩ => ⟨S8192x128, .f32⟩
  | .hbm, ⟨47, _⟩ => ⟨S8192x1024, .f32⟩
  | .hbm, ⟨48, _⟩ => ⟨S8192x1024, .bf16⟩
  | .hbm, ⟨49, _⟩ => ⟨S8192x512, .f32⟩
  | .hbm, ⟨50, _⟩ => ⟨S8x1x8192, .f32⟩
  | .hbm, ⟨51, _⟩ => ⟨S8x8192, .f32⟩
  | .hbm, ⟨52, _⟩ => ⟨S8x8192, .f32⟩
  | .hbm, ⟨53, _⟩ => ⟨S8x8192, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S512x128, .f32⟩
  | .local _ .vmem, ⟨7, _⟩ => ⟨S512x128, .f32⟩
  | .local _ .vmem, ⟨8, _⟩ => ⟨S2x1x512, .f32⟩
  | .local _ .vmem, ⟨9, _⟩ => ⟨S2x1x512, .f32⟩
  | .local _ .vmem, ⟨10, _⟩ => ⟨S2x512x512, .bf16⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_4 : BitVec 32 := 1#32
  ⟨c0_i32, v13, c1_i32_4⟩
def k0_mult1 (i : grid0.Coords) (k0_t1 : Fin (k0_t1_loop i).trips) : BitVec 32 :=
  let c0_i32 : BitVec 32 := 0#32
  let c1_i32_4 : BitVec 32 := 1#32
  let arg8 : BitVec 32 := Scf.iv c0_i32 c1_i32_4 k0_t1
  let c512_i32_137 : BitVec 32 := 512#32
  let v395 : BitVec 32 := Scalar.muli arg8 c512_i32_137
  v395
def k0_off1 (i : grid0.Coords) (k0_t1 : Fin (k0_t1_loop i).trips) : Fin 2 → Nat :=
  let c0_i32 : BitVec 32 := 0#32
  let c1_i32_4 : BitVec 32 := 1#32
  let arg8 : BitVec 32 := Scf.iv c0_i32 c1_i32_4 k0_t1
  let c512_i32_137 : BitVec 32 := 512#32
  let v395 : BitVec 32 := Scalar.muli arg8 c512_i32_137
  let v396 : BitVec 32 := v395
  let v397 : Index := Scalar.indexCast v396
  let c0_138 : Index := 0#32
  ![v397.toNat, 0]
def k0_off2 (i : grid0.Coords) (k0_t1 : Fin (k0_t1_loop i).trips) : Fin 2 → Nat :=
  let c0_i32 : BitVec 32 := 0#32
  let c1_i32_4 : BitVec 32 := 1#32
  let arg8 : BitVec 32 := Scf.iv c0_i32 c1_i32_4 k0_t1
  let c512_i32_137 : BitVec 32 := 512#32
  let v395 : BitVec 32 := Scalar.muli arg8 c512_i32_137
  let v396 : BitVec 32 := v395
  let v401 : Index := Scalar.indexCast v396
  let c128_140 : Index := 128#32
  ![v401.toNat, 128]
@[reducible] def k0_t2_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let v10 : BitVec 32 := Scalar.addi c0_i32 v9
  let c1_i32_5 : BitVec 32 := 1#32
  ⟨v13, v10, c1_i32_5⟩
def k0_mult2 (i : grid0.Coords) (k0_t2 : Fin (k0_t2_loop i).trips) : BitVec 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_5 : BitVec 32 := 1#32
  let arg8 : BitVec 32 := Scf.iv v13 c1_i32_5 k0_t2
  let c512_i32_137 : BitVec 32 := 512#32
  let v395 : BitVec 32 := Scalar.muli arg8 c512_i32_137
  v395
def k0_off3 (i : grid0.Coords) (k0_t2 : Fin (k0_t2_loop i).trips) : Fin 2 → Nat :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_5 : BitVec 32 := 1#32
  let arg8 : BitVec 32 := Scf.iv v13 c1_i32_5 k0_t2
  let c512_i32_137 : BitVec 32 := 512#32
  let v395 : BitVec 32 := Scalar.muli arg8 c512_i32_137
  let v396 : BitVec 32 := v395
  let v397 : Index := Scalar.indexCast v396
  let c0_138 : Index := 0#32
  ![v397.toNat, 0]
def k0_off4 (i : grid0.Coords) (k0_t2 : Fin (k0_t2_loop i).trips) : Fin 2 → Nat :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_5 : BitVec 32 := 1#32
  let arg8 : BitVec 32 := Scf.iv v13 c1_i32_5 k0_t2
  let c512_i32_137 : BitVec 32 := 512#32
  let v395 : BitVec 32 := Scalar.muli arg8 c512_i32_137
  let v396 : BitVec 32 := v395
  let v401 : Index := Scalar.indexCast v396
  let c128_140 : Index := 128#32
  ![v401.toNat, 128]
def k0_mult3 (i : grid0.Coords) : BitVec 32 :=
  let arg1 : BitVec 32 := BitVec.ofNat 32 (i 1).val
  let c512_i32 : BitVec 32 := 512#32
  let v16 : BitVec 32 := Scalar.muli arg1 c512_i32
  v16
def k0_off5 (i : grid0.Coords) : Fin 2 → Nat :=
  let arg1 : BitVec 32 := BitVec.ofNat 32 (i 1).val
  let c512_i32 : BitVec 32 := 512#32
  let v16 : BitVec 32 := Scalar.muli arg1 c512_i32
  let v17 : BitVec 32 := v16
  let v18 : Index := Scalar.indexCast v17
  let c0_6 : Index := 0#32
  ![v18.toNat, 0]
def k0_off6 (i : grid0.Coords) : Fin 2 → Nat :=
  let arg1 : BitVec 32 := BitVec.ofNat 32 (i 1).val
  let c512_i32 : BitVec 32 := 512#32
  let v16 : BitVec 32 := Scalar.muli arg1 c512_i32
  let v17 : BitVec 32 := v16
  let v22 : Index := Scalar.indexCast v17
  let c128_8 : Index := 128#32
  ![v22.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x512 : Shape := ⟨2, ![8192, 512]⟩

abbrev nBuf : Space → Nat
  | .hbm => 60
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8x8192x8192, .f32⟩
  | .hbm, ⟨4, _⟩ => ⟨S_, .f32⟩
  | .hbm, ⟨5, _⟩ => ⟨S8x8192x8192, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S8x8192x8192, .i1⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S8x8192x8192, .f32⟩
  | .hbm, ⟨21, _⟩ => ⟨S_, .f32⟩
  | .hbm, ⟨22, _⟩ => ⟨S8x8192x8192, .f32⟩
  | .hbm, ⟨23, _⟩ => ⟨S8x8192x8192, .f32⟩
  | .hbm, ⟨24, _⟩ => ⟨S8192, .i32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S8x8192x8192, .i1⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S_, .f32⟩
  | .hbm, ⟨38, _⟩ => ⟨S8x8192, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x64x8192, .f32⟩
  | .hbm, ⟨50, _⟩ => ⟨S8192x8x64, .f32⟩
  | .hbm, ⟨51, _⟩ => ⟨S8192x512, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S8x8192, .f32⟩
  | .hbm, ⟨58, _⟩ => ⟨S8x8192, .f32⟩
  | .hbm, ⟨59, _⟩ => ⟨S8x8192, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== OutFwd.lean ====
abbrev S8192x1024 : Shape := ⟨2, ![8192, 1024]⟩
abbrev S8192x512 : Shape := ⟨2, ![8192, 512]⟩
abbrev S8192x256 : Shape := ⟨2, ![8192, 256]⟩
abbrev S512 : Shape := ⟨1, ![512]⟩
abbrev S1024x1024 : Shape := ⟨2, ![1024, 1024]⟩
abbrev S_ : Shape := ⟨0, ![]⟩
abbrev S8192x3200 : Shape := ⟨2, ![8192, 3200]⟩
abbrev S1x512 : Shape := ⟨2, ![1, 512]⟩
abbrev S512x1024 : Shape := ⟨2, ![512, 1024]⟩
abbrev S512x512 : Shape := ⟨2, ![512, 512]⟩
abbrev S512x256 : Shape := ⟨2, ![512, 256]⟩
abbrev S512x1 : Shape := ⟨2, ![512, 1]⟩
abbrev S256x1024 : Shape := ⟨2, ![256, 1024]⟩

abbrev nBuf : Space → Nat
  | .hbm => 16
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S512, .f32⟩
  | .hbm, ⟨6, _⟩ => ⟨S1024x1024, .f32⟩
  | .hbm, ⟨7, _⟩ => ⟨S_, .i32⟩
  | .hbm, ⟨8, _⟩ => ⟨S_, .f32⟩
  | .hbm, ⟨9, _⟩ => ⟨S8192x3200, .f32⟩
  | .hbm, ⟨10, _⟩ => ⟨S8192x3200, .bf16⟩
  | .hbm, ⟨11, _⟩ => ⟨S8192x256, .bf16⟩
  | .hbm, ⟨12, _⟩ => ⟨S8192x256, .bf16⟩
  | .hbm, ⟨13, _⟩ => ⟨S1x512, .f32⟩
  | .hbm, ⟨14, _⟩ => ⟨S1024x1024, .bf16⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1x512, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutFwdRefIdeal.lean ====
abbrev S8192x1024 : Shape := ⟨2, ![8192, 1024]⟩
abbrev S8192x512 : Shape := ⟨2, ![8192, 512]⟩
abbrev S8192x256 : Shape := ⟨2, ![8192, 256]⟩
abbrev S512 : Shape := ⟨1, ![512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S512, .f32⟩
  | .hbm, ⟨6, _⟩ => ⟨S1024x1024, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x512, .f32⟩
  | .hbm, ⟨29, _⟩ => ⟨S8192x512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x1024, .f32⟩
  | .hbm, ⟨34, _⟩ => ⟨S8192x1024, .f32⟩
  | .hbm, ⟨35, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== InprojFwd.lean ====
abbrev S8192x1024 : Shape := ⟨2, ![8192, 1024]⟩
abbrev S1024 : Shape := ⟨1, ![1024]⟩
abbrev S1024x3104 : Shape := ⟨2, ![1024, 3104]⟩
abbrev S1024x776 : Shape := ⟨2, ![1024, 776]⟩
abbrev S1x1024x776 : Shape := ⟨3, ![1, 1024, 776]⟩
abbrev S4x1024x776 : Shape := ⟨3, ![4, 1024, 776]⟩
abbrev S1x1024 : Shape := ⟨2, ![1, 1024]⟩
abbrev S1024x504 : Shape := ⟨2, ![1024, 504]⟩
abbrev S1024x8 : Shape := ⟨2, ![1024, 8]⟩
abbrev S1024x240 : Shape := ⟨2, ![1024, 240]⟩
abbrev S_ : Shape := ⟨0, ![]⟩
abbrev S1024x64 : Shape := ⟨2, ![1024, 64]⟩
abbrev S1024x32 : Shape := ⟨2, ![1024, 32]⟩
abbrev S1024x768 : Shape := ⟨2, ![1024, 768]⟩
abbrev S1024x3200 : Shape := ⟨2, ![1024, 3200]⟩
abbrev S8192x3200 : Shape := ⟨2, ![8192, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩
abbrev S1024x640 : Shape := ⟨2, ![1024, 640]⟩
abbrev S512x640 : Shape := ⟨2, ![512, 640]⟩

abbrev nBuf : Space → Nat
  | .hbm => 40
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3104, .f32⟩
  | .hbm, ⟨3, _⟩ => ⟨S1024x3104, .bf16⟩
  | .hbm, ⟨4, _⟩ => ⟨S1024x776, .bf16⟩
  | .hbm, ⟨5, _⟩ => ⟨S1024x776, .bf16⟩
  | .hbm, ⟨6, _⟩ => ⟨S1024x776, .bf16⟩
  | .hbm, ⟨7, _⟩ => ⟨S1024x776, .bf16⟩
  | .hbm, ⟨8, _⟩ => ⟨S1x1024x776, .bf16⟩
  | .hbm, ⟨9, _⟩ => ⟨S1x1024x776, .bf16⟩
  | .hbm, ⟨10, _⟩ => ⟨S1x1024x776, .bf16⟩
  | .hbm, ⟨11, _⟩ => ⟨S1x1024x776, .bf16⟩
  | .hbm, ⟨12, _⟩ => ⟨S4x1024x776, .bf16⟩
  | .hbm, ⟨13, _⟩ => ⟨S1x1024, .f32⟩
  | .hbm, ⟨14, _⟩ => ⟨S1x1024x776, .bf16⟩
  | .hbm, ⟨15, _⟩ => ⟨S1024x776, .bf16⟩
  | .hbm, ⟨16, _⟩ => ⟨S1024x504, .bf16⟩
  | .hbm, ⟨17, _⟩ => ⟨S1x1024x776, .bf16⟩
  | .hbm, ⟨18, _⟩ => ⟨S1024x776, .bf16⟩
  | .hbm, ⟨19, _⟩ => ⟨S1024x8, .bf16⟩
  | .hbm, ⟨20, _⟩ => ⟨S1x1024x776, .bf16⟩
  | .hbm, ⟨21, _⟩ => ⟨S1024x776, .bf16⟩
  | .hbm, ⟨22, _⟩ => ⟨S1x1024x776, .bf16⟩
  | .hbm, ⟨23, _⟩ => ⟨S1024x776, .bf16⟩
  | .hbm, ⟨24, _⟩ => ⟨S1x1024x776, .bf16⟩
  | .hbm, ⟨25, _⟩ => ⟨S1024x776, .bf16⟩
  | .hbm, ⟨26, _⟩ => ⟨S1024x240, .bf16⟩
  | .hbm, ⟨27, _⟩ => ⟨S_, .bf16⟩
  | .hbm, ⟨28, _⟩ => ⟨S1024x64, .bf16⟩
  | .hbm, ⟨29, _⟩ => ⟨S1x1024x776, .bf16⟩
  | .hbm, ⟨30, _⟩ => ⟨S1024x776, .bf16⟩
  | .hbm, ⟨31, _⟩ => ⟨S1024x32, .bf16⟩
  | .hbm, ⟨32, _⟩ => ⟨S_, .bf16⟩
  | .hbm, ⟨33, _⟩ => ⟨S1024x32, .bf16⟩
  | .hbm, ⟨34, _⟩ => ⟨S1x1024x776, .bf16⟩
  | .hbm, ⟨35, _⟩ => ⟨S1024x776, .bf16⟩
  | .hbm, ⟨36, _⟩ => ⟨S1024x768, .bf16⟩
  | .hbm, ⟨37, _⟩ => ⟨S1024x3200, .bf16⟩
  | .hbm, ⟨38, _⟩ => ⟨S8192x3200, .bf16⟩
  | .hbm, ⟨39, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x3200, .bf16⟩
  | .local _ .vmem, ⟨5, _⟩ => ⟨S512x3200, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33_0 : Ref sig .tc := ⟨.hbm, 38, rfl⟩
abbrev main_v33_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojFwdRefIdeal.lean ====
abbrev S8192x1024 : Shape := ⟨2, ![8192, 1024]⟩
abbrev S1024 : Shape := ⟨1, ![1024]⟩
abbrev S1024x3104 : Shape := ⟨2, ![1024, 3104]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3104 : Shape := ⟨2, ![8192, 3104]⟩
abbrev S8192x512 : Shape := ⟨2, ![8192, 512]⟩
abbrev S8192x1792 : Shape := ⟨2, ![8192, 1792]⟩
abbrev S8192x64 : Shape := ⟨2, ![8192, 64]⟩
abbrev S8192x32 : Shape := ⟨2, ![8192, 32]⟩
abbrev S8192x768 : Shape := ⟨2, ![8192, 768]⟩
abbrev S8192x3200 : Shape := ⟨2, ![8192, 3200]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3104, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x3104, .f32⟩
  | .hbm, ⟨20, _⟩ => ⟨S8192x512, .f32⟩
  | .hbm, ⟨21, _⟩ => ⟨S8192x1792, .f32⟩
  | .hbm, ⟨22, _⟩ => ⟨S_, .f32⟩
  | .hbm, ⟨23, _⟩ => ⟨S8192x64, .f32⟩
  | .hbm, ⟨24, _⟩ => ⟨S8192x32, .f32⟩
  | .hbm, ⟨25, _⟩ => ⟨S_, .f32⟩
  | .hbm, ⟨26, _⟩ => ⟨S8192x32, .f32⟩
  | .hbm, ⟨27, _⟩ => ⟨S8192x768, .f32⟩
  | .hbm, ⟨28, _⟩ => ⟨S8192x3200, .f32⟩
  | .hbm, ⟨29, _⟩ => ⟨S8192x3200, .bf16⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.OutLossValue.lean ====
module

public import proofs.«01_k».proof.Defs
public import proofs.«01_k».proof.Proof.Gen.OutLossIdeal.Value
public import proofs.«01_k».proof.Proof.Gen.OutLossRefIdeal.Read
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutLossIdeal.Block

open Cert.OutLossIdeal Cert.OutLossIdeal.Gen
open Idealize.ShloMosaic.StableHlo

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![t.val, 0] ∧ win0_8.index t = ![t.val, 0] ∧ win0_9.index t = ![0, 0] :=
  (by decide +kernel : ∀ t : Fin grid0.N, _)

/-- Row `r` of grid point `t`'s block, as a row of the arrays. -/
abbrev row (t : Fin cfg0.N) (r : Fin 512) : Fin 8192 := ⟨512 * t.val + r, by have := lt_of_lt_of_eq t.isLt N_0; omega⟩

theorem blk_x (c : Dev nD) (t : Fin cfg0.N) (r : Fin 512) (k : Fin 1024) :
    iblk m c 0 t (ix2 r k) = m ((c : Thread nD τ).loc main_arg0) (ix2 (row t r) k) := by
  blk_point [iblk, V, idx t]

theorem blk_o (c : Dev nD) (t : Fin cfg0.N) (r : Fin 512) (k : Fin 512) :
    iblk m c 1 t (ix2 r k) = m ((c : Thread nD τ).loc main_arg1) (ix2 (row t r) k) := by
  blk_point [iblk, V, idx t]

/-- The gate's 512 columns, padded to the 3200 columns of the projection. -/
def zpad (Z : FVec Ideal S8192x512 .f32) : FVec Ideal S8192x3200 .bf16 :=
  truncf (F := Ideal) .bf16 (pad S8192x3200 ![0, 0] ![0, 2688] ![0, 0] Z (sitofp .f32 (constantI S_ 32 0#32)) pads_S8192x512_S8192x3200_000_026880 h_S_) bitsLt_bf16_f32

theorem zpad_low (Z : FVec Ideal S8192x512 .f32) (i : Fin 8192) (k : Fin 512) : zpad Z (ix2 i ⟨k, by omega⟩) = Z (ix2 i k) := by
  pointwise [zpad]

theorem V_z (c : Dev nD) : V m c main_v1 = zpad (m ((c : Thread nD τ).loc main_arg2)) := by
  unfold V
  simp only [hostOps0, hostOps0_1, hostOps0_2, List.flatten_cons, List.flatten_nil, List.append_nil, List.cons_append, List.nil_append, List.singleton_append]
  after_results_simp
  rfl

theorem blk_z (c : Dev nD) (t : Fin cfg0.N) (r : Fin 512) (k : Fin 512) :
    X0_2 m c t (ix2 r k) = m ((c : Thread nD τ).loc main_arg2) (ix2 (row t r) k) := by
  have e : X0_2 m c t (ix2 r k) = V m c main_v1 (ix2 (row t r) ⟨k, by omega⟩) := by
    unfold X0_2 Pipeline.Window.fill
    rw [dif_pos (moved0_2 t _)]
    blk_point [iblk, idx t]
  exact e.trans ((congrFun (V_z m c) _).trans (zpad_low _ _ k))

theorem blk_yc (c : Dev nD) (t : Fin cfg0.N) (r : Fin 512) (k : Fin 256) :
    iblk m c 3 t (ix2 r k) = m ((c : Thread nD τ).loc main_arg3) (ix2 (row t r) k) := by
  have e : iblk m c 3 t (ix2 r k) = V m c main_v2 (ix2 (row t r) k) := by blk_point [iblk, idx t]
  rw [e]
  unfold V
  simp only [hostOps0, hostOps0_1, hostOps0_2, List.flatten_cons, List.flatten_nil, List.append_nil, List.cons_append, List.nil_append, List.singleton_append]
  after_results_simp
  pointwise

theorem blk_ys (c : Dev nD) (t : Fin cfg0.N) (r : Fin 512) (k : Fin 256) :
    iblk m c 4 t (ix2 r k) = m ((c : Thread nD τ).loc main_arg4) (ix2 (row t r) k) := by
  have e : iblk m c 4 t (ix2 r k) = V m c main_v3 (ix2 (row t r) k) := by blk_point [iblk, idx t]
  rw [e]
  unfold V
  simp only [hostOps0, hostOps0_1, hostOps0_2, List.flatten_cons, List.flatten_nil, List.append_nil, List.cons_append, List.nil_append, List.singleton_append]
  after_results_simp
  pointwise

theorem blk_g (c : Dev nD) (t : Fin cfg0.N) (k : Fin 512) :
    iblk m c 5 t (ix2 0 k) = m ((c : Thread nD τ).loc main_arg5) (ix1 k) := by
  have e : iblk m c 5 t (ix2 0 k) = V m c main_v4 (ix2 0 k) := by blk_point [iblk, idx t]
  rw [e]
  unfold V
  simp only [hostOps0, hostOps0_1, hostOps0_2, List.flatten_cons, List.flatten_nil, List.append_nil, List.cons_append, List.nil_append, List.singleton_append]
  after_results_simp
  pointwise

theorem blk_w (c : Dev nD) (t : Fin cfg0.N) (a : Fin 1024) (k : Fin 1024) :
    iblk m c 6 t (ix2 a k) = m ((c : Thread nD τ).loc main_arg6) (ix2 a k) := by
  have e : iblk m c 6 t (ix2 a k) = V m c main_v5 (ix2 a k) := by blk_point [iblk, idx t]
  rw [e]
  unfold V
  simp only [hostOps0, hostOps0_1, hostOps0_2, List.flatten_cons, List.flatten_nil, List.append_nil, List.cons_append, List.nil_append, List.singleton_append]
  after_results_simp
  pointwise

theorem blk_t (c : Dev nD) (t : Fin cfg0.N) (r : Fin 512) (k : Fin 1024) :
    iblk m c 7 t (ix2 r k) = m ((c : Thread nD τ).loc main_arg7) (ix2 (row t r) k) := by
  blk_point [iblk, V, idx t]

/-- A sum over the 1024 columns by its three parts. -/
theorem sum_parts (f : Fin 1024 → EReal) : ∑ x : Fin 1024, f x
    = (∑ x : Fin 256, f ⟨x, by omega⟩) + (∑ x : Fin 512, f ⟨256 + x, by omega⟩) + ∑ x : Fin 256, f ⟨768 + x, by omega⟩ := by
  have h1 := Fin.sum_univ_add (a := 256) (b := 768) f
  have h2 := Fin.sum_univ_add (a := 512) (b := 256) fun x : Fin 768 => f (Fin.natAdd 256 x)
  rw [show (∑ x : Fin 1024, f x) = _ from h1, show (∑ x : Fin 768, f (Fin.natAdd 256 x)) = _ from h2, ← add_assoc]
  rfl

theorem cat_low (O Z : FVec Ideal S8192x512 .f32) (YC YS : FVec Ideal S8192x256 .f32) (G : FVec Ideal S512 .f32) (i : Fin 8192) (x : Fin 256) :
    Cert.OutLossRefIdeal.Read.val_main_v15 (F := Ideal) O Z YC YS G (ix2 i ⟨x, by omega⟩) = YC (ix2 i x) := by
  pointwise [Cert.OutLossRefIdeal.Read.val_main_v15]

theorem cat_mid (O Z : FVec Ideal S8192x512 .f32) (YC YS : FVec Ideal S8192x256 .f32) (G : FVec Ideal S512 .f32) (i : Fin 8192) (x : Fin 512) :
    Cert.OutLossRefIdeal.Read.val_main_v15 (F := Ideal) O Z YC YS G (ix2 i ⟨256 + x, by omega⟩) = Cert.OutLossRefIdeal.Read.val_main_v14 (F := Ideal) O Z G (ix2 i x) := by
  pointwise [Cert.OutLossRefIdeal.Read.val_main_v15]
  try rw [dif_neg (by omega), dif_pos (by omega)]
  try (congr 2; apply Fin.ext; show 256 + x.val - 256 = x.val; omega)

theorem cat_high (O Z : FVec Ideal S8192x512 .f32) (YC YS : FVec Ideal S8192x256 .f32) (G : FVec Ideal S512 .f32) (i : Fin 8192) (x : Fin 256) :
    Cert.OutLossRefIdeal.Read.val_main_v15 (F := Ideal) O Z YC YS G (ix2 i ⟨768 + x, by omega⟩) = YS (ix2 i x) := by
  pointwise [Cert.OutLossRefIdeal.Read.val_main_v15]
  rw [dif_neg (by omega), dif_neg (by omega)]
  congr 2; apply Fin.ext; show 768 + x.val - 256 - 512 = x.val; omega

/-- The gradient's factor: half of a 1024th, twice. -/
theorem grad_factor (a : EReal) : a * Ideal.ofBits FTy.f32 0x3A800000#32
    = Ideal.div (Ideal.ofBits FTy.f32 0x3F000000#32) (Ideal.ofBits FTy.f32 0x44800000#32) * (Ideal.ofBits FTy.f32 0x40000000#32 * a) := by
  have h1 : Ideal.ofBits FTy.f32 0x3A800000#32 = ((1 / 1024 : ℝ) : EReal) := by simp [Ideal.ofBits, Ideal.ieee, -EReal.coe_mul]; norm_num
  have h2 : Ideal.ofBits FTy.f32 0x3F000000#32 = ((1 / 2 : ℝ) : EReal) := by simp [Ideal.ofBits, Ideal.ieee, -EReal.coe_mul]; norm_num
  have h3 : Ideal.ofBits FTy.f32 0x44800000#32 = ((1024 : ℝ) : EReal) := by simp [Ideal.ofBits, Ideal.ieee, -EReal.coe_mul]; norm_num
  have h4 : Ideal.ofBits FTy.f32 0x40000000#32 = ((2 : ℝ) : EReal) := by simp [Ideal.ofBits, Ideal.ieee, -EReal.coe_mul]; norm_num
  rw [h1, h2, h3, h4, Ideal.div_coe (by norm_num), ← mul_assoc, ← EReal.coe_mul, ← EReal.coe_mul, mul_comm]
  congr 2; norm_num

/-- A finite factor that is at least zero may be taken out of a sum. -/
theorem sum_mul_const {n : ℕ} (f : Fin n → EReal) (a : ℝ) (ha : 0 ≤ a) : ∑ i, f i * (a : EReal) = (∑ i, f i) * (a : EReal) := by
  induction n with
  | zero => simp
  | succ n ih =>
    rw [Fin.sum_univ_castSucc, Fin.sum_univ_castSucc, ih, EReal.right_distrib_of_nonneg_of_ne_top (by exact_mod_cast ha) (EReal.coe_ne_top a)]

/-- The loss's factor taken out of the sum over the rows. -/
theorem loss_factor (f : Fin 8192 → Fin 1024 → EReal) :
    Ideal.ofBits FTy.f32 0x3A000000#32 * (∑ j, ∑ i, f i j)
      = Ideal.ofBits FTy.f32 0x3F000000#32 * ∑ i, Ideal.div (∑ j, f i j) (Ideal.ofBits FTy.f32 0x44800000#32) := by
  have h1 : Ideal.ofBits FTy.f32 0x3A000000#32 = ((1 / 2048 : ℝ) : EReal) := by simp [Ideal.ofBits, Ideal.ieee, -EReal.coe_mul]; norm_num
  have h2 : Ideal.ofBits FTy.f32 0x3F000000#32 = ((1 / 2 : ℝ) : EReal) := by simp [Ideal.ofBits, Ideal.ieee, -EReal.coe_mul]; norm_num
  have h3 : Ideal.ofBits FTy.f32 0x44800000#32 = ((1024 : ℝ) : EReal) := by simp [Ideal.ofBits, Ideal.ieee, -EReal.coe_mul]; norm_num
  rw [h1, h2, h3]
  simp only [Ideal.div_coe (show (1024 : ℝ) ≠ 0 by norm_num)]
  rw [sum_mul_const _ _ (by norm_num), Finset.sum_comm, mul_comm _ (((1 / 1024 : ℝ)) : EReal), ← mul_assoc, ← EReal.coe_mul]
  congr 2; norm_num

/-- One element of the error, from what the block reads. -/
theorem err_at (X : FVec Ideal S8192x1024 .f32) (O Z : FVec Ideal S8192x512 .f32) (YC YS : FVec Ideal S8192x256 .f32) (G : FVec Ideal S512 .f32)
    (W : FVec Ideal S1024x1024 .f32) (T : FVec Ideal S8192x1024 .f32)
    (v3 : Vec Ideal S512x512 .f32) (v4 : Vec Ideal S512x512 .bf16) (v7 : Vec Ideal S1x512 .f32) (v25 v42 : Vec Ideal S512x1024 .f32)
    (v26 v36 : Vec Ideal S512x256 .bf16) (v28 v38 : Vec Ideal S256x1024 .bf16) (v32 : Vec Ideal S512x1024 .bf16)
    (r : Fin 512) (i : Fin 8192) (j : Fin 1024) (h3 : ∀ k, v3 (ix2 r k) = O (ix2 i k)) (h4 : ∀ k, v4 (ix2 r k) = Z (ix2 i k))
    (h7 : ∀ k, v7 (ix2 0 k) = G (ix1 k)) (h25 : ∀ k, v25 (ix2 r k) = X (ix2 i k)) (h42 : ∀ k, v42 (ix2 r k) = T (ix2 i k))
    (h26 : ∀ k, v26 (ix2 r k) = YC (ix2 i k)) (h36 : ∀ k, v36 (ix2 r k) = YS (ix2 i k))
    (h28 : ∀ k, v28 (ix2 k j) = W (ix2 ⟨k, by omega⟩ j)) (h32 : ∀ k, v32 (ix2 k j) = W (ix2 ⟨256 + k, by omega⟩ j))
    (h38 : ∀ k, v38 (ix2 k j) = W (ix2 ⟨768 + k, by omega⟩ j)) :
    k0_pay1 (F := Ideal) (k0_pay6 v3 v4 v7 v25 v26 v28 v32) v36 v38 v42 (ix2 r j) = Cert.OutLossRefIdeal.Read.val_main_v18 (F := Ideal) X O Z YC YS G W T (ix2 i j) := by
  pointwise [k0_pay1, k0_pay6, Cert.OutLossRefIdeal.Read.val_main_v18, Cert.OutLossRefIdeal.Read.val_main_v17, Cert.OutLossRefIdeal.Read.val_main_v16]
  rw [sum_parts]
  simp only [cat_low, cat_mid, cat_high]
  pointwise [Cert.OutLossRefIdeal.Read.val_main_call0_v0, Cert.OutLossRefIdeal.Read.val_main_call0_v1,
    Cert.OutLossRefIdeal.Read.val_main_call0_cst, Cert.OutLossRefIdeal.Read.val_main_call0_v2,
    Cert.OutLossRefIdeal.Read.val_main_call0_v3, Cert.OutLossRefIdeal.Read.val_main_call0_cst_0,
    Cert.OutLossRefIdeal.Read.val_main_call0_v4, Cert.OutLossRefIdeal.Read.val_main_call0_v5,
    Cert.OutLossRefIdeal.Read.val_main_v0, Cert.OutLossRefIdeal.Read.val_main_v1,
    Cert.OutLossRefIdeal.Read.val_main_v2, Cert.OutLossRefIdeal.Read.val_main_cst,
    Cert.OutLossRefIdeal.Read.val_main_v3, Cert.OutLossRefIdeal.Read.val_main_v4,
    Cert.OutLossRefIdeal.Read.val_main_cst_0, Cert.OutLossRefIdeal.Read.val_main_v5,
    Cert.OutLossRefIdeal.Read.val_main_v6, Cert.OutLossRefIdeal.Read.val_main_cst_1,
    Cert.OutLossRefIdeal.Read.val_main_v7, Cert.OutLossRefIdeal.Read.val_main_v8,
    Cert.OutLossRefIdeal.Read.val_main_v9, Cert.OutLossRefIdeal.Read.val_main_v10,
    Cert.OutLossRefIdeal.Read.val_main_v11, Cert.OutLossRefIdeal.Read.val_main_v12,
    Cert.OutLossRefIdeal.Read.val_main_v13, Cert.OutLossRefIdeal.Read.val_main_v14]
  simp only [h3, h4, h7, h25, h42, h26, h36, h28, h32, h38, add_assoc, Ideal.logistic]

/-- The error at row `r` of a block. -/
theorem err_blk (c : Dev nD) (t : Fin cfg0.N) (r : Fin 512) (j : Fin 1024) :
    k0_pay1 (F := Ideal) (k0_pay6 (iblk m c 1 t) (X0_2 m c t) (iblk m c 5 t) (iblk m c 0 t) (iblk m c 3 t)
        (View.ld (iblk m c 6 t) (Rect.unit (s := S1024x1024) ![0, 0] ![256, 1024] inb_S1024x1024_S256x1024_0_0))
        (View.ld (iblk m c 6 t) (Rect.unit (s := S1024x1024) ![256, 0] ![512, 1024] inb_S1024x1024_S512x1024_256_0)))
      (iblk m c 4 t) (View.ld (iblk m c 6 t) (Rect.unit (s := S1024x1024) ![768, 0] ![256, 1024] inb_S1024x1024_S256x1024_768_0))
      (iblk m c 7 t) (ix2 r j)
    = Cert.OutLossRefIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t r) j) := by
  refine err_at _ _ _ _ _ _ _ _ _ _ _ _ _ _ _ _ _ _ r _ j (blk_o m c t r) (blk_z m c t r) (blk_g m c t) (blk_x m c t r) (blk_t m c t r)
    (blk_yc m c t r) (blk_ys m c t r) (fun k => ?_) (fun k => ?_) fun k => ?_
  all_goals
    pointwise
    exact blk_w m c t _ j

/-- The first result: the loss's gradient. -/
theorem final8 (c : Dev nD) : (dats m 0 c).arrAt 8 (cfgs 0).N = Cert.OutLossRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  have hp : ∀ (v35 : FVec Ideal S512x1024 .f32) (v36 : Vec Ideal S512x256 .bf16) (v38 : Vec Ideal S256x1024 .bf16) (v42 : Vec Ideal S512x1024 .f32) (r : Fin 512) (j : Fin 1024),
      k0_pay2 (F := Ideal) v35 v36 v38 v42 (ix2 r j) = k0_pay1 (F := Ideal) v35 v36 v38 v42 (ix2 r j) * Ideal.ofBits FTy.f32 0x3A800000#32 := by
    intro v35 v36 v38 v42 r j
    pointwise [k0_pay2]
  have key : ∀ (r : Fin 512) (j : Fin 1024), (outsAt0 m c t.val t.isLt).1 (ix2 r j)
      = Cert.OutLossRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t r) j) := by
    intro r j
    have hr : (outsAt0 m c t.val t.isLt).1 (ix2 r j) = Cert.OutLossRefIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t r) j) * Ideal.ofBits FTy.f32 0x3A800000#32 := by
      by_cases h : t.val % 16 = 0
      · rw [outsAt0_A m c t h (by omega)]; frame_out
        rw [hp]; exact congrArg (· * _) (err_blk m c t r j)
      · by_cases h' : t.val % 16 = 15
        · rw [outsAt0_C m c t h h']; frame_out
          rw [hp]; exact congrArg (· * _) (err_blk m c t r j)
        · rw [outsAt0_B m c t h h']; frame_out
          rw [hp]; exact congrArg (· * _) (err_blk m c t r j)
    rw [hr]
    pointwise [Cert.OutLossRefIdeal.Read.val_main_v32, Cert.OutLossRefIdeal.Read.val_main_v31, Cert.OutLossRefIdeal.Read.val_main_v30, Cert.OutLossRefIdeal.Read.val_main_v29, Cert.OutLossRefIdeal.Read.val_main_v28, Cert.OutLossRefIdeal.Read.val_main_v27, Cert.OutLossRefIdeal.Read.val_main_v21, Cert.OutLossRefIdeal.Read.val_main_v20, Cert.OutLossRefIdeal.Read.val_main_cst_2, Cert.OutLossRefIdeal.Read.val_main_cst_7, Cert.OutLossRefIdeal.Read.val_main_cst_8, Cert.OutLossRefIdeal.Read.val_main_cst_9]
    exact grad_factor _
  idx_vars y
  rw [key]
  blk_point [idx t]

/-- After the last point the carried row holds the sum of the squared errors over all rows. -/
theorem carried (c : Dev nD) (t : Fin cfg0.N) (h : t.val + 1 = cfg0.N) (j : Fin 1024) : (outsAt0 m c t.val t.isLt).2.2 (ix2 0 j)
      = ∑ i : Fin 8192, Cert.OutLossRefIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 i j) := by
  have hp : ∀ (v35 : FVec Ideal S512x1024 .f32) (v36 : Vec Ideal S512x256 .bf16) (v38 : Vec Ideal S256x1024 .bf16) (v42 : Vec Ideal S512x1024 .f32) (acc : Vec Ideal S1x1024 .f32) (j : Fin 1024),
      k0_pay3 (F := Ideal) v35 v36 v38 v42 acc (ix2 0 j) = acc (ix2 0 j) + ∑ r : Fin 512, k0_pay1 (F := Ideal) v35 v36 v38 v42 (ix2 r j) * k0_pay1 (F := Ideal) v35 v36 v38 v42 (ix2 r j) := by
    intro v35 v36 v38 v42 acc j
    pointwise [k0_pay3]
  have hz : ∀ j, k0_pay5 (F := Ideal) (ix2 0 j) = 0 := by
    intro j
    pointwise [k0_pay5]
  rw [Pipeline.eq_sum_fin_of_reset_step_apply_last (fun n h j => (outsAt0 m c n h).2.2 (ix2 0 j)) 16 (fun _ => 0)
    (fun t j => ∑ r : Fin 512, Cert.OutLossRefIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t r) j))
    (fun t h j => by
      rw [outsAt0_A m c t h (by omega)]; frame_out
      rw [hp, hz]
      refine congrArg₂ (· + ·) rfl (Finset.sum_congr rfl fun r _ => ?_)
      pointwise [Cert.OutLossRefIdeal.Read.val_main_v19]
      exact congrArg₂ (· * ·) (err_blk m c t r j) (err_blk m c t r j))
    (fun t h j => by
      by_cases h' : t.val % 16 = 15
      · rw [outsAt0_C m c t h h']; frame_out
        rw [hp]
        refine congrArg₂ (· + ·) (congrFun (read_unread_whole _ _ _) _) (Finset.sum_congr rfl fun r _ => ?_)
        pointwise [Cert.OutLossRefIdeal.Read.val_main_v19]
        exact congrArg₂ (· * ·) (err_blk m c t r j) (err_blk m c t r j)
      · rw [outsAt0_B m c t h h']; frame_out
        rw [hp]
        refine congrArg₂ (· + ·) (congrFun (read_unread_whole _ _ _) _) (Finset.sum_congr rfl fun r _ => ?_)
        pointwise [Cert.OutLossRefIdeal.Read.val_main_v19]
        exact congrArg₂ (· * ·) (err_blk m c t r j) (err_blk m c t r j))
    (le_of_eq N_0) t h j, zero_add]
  refine Fin.sum_mul_add_congr (f := fun i => Cert.OutLossRefIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 i j)) (fun t k hl => ?_) (by show 8192 = grid0.N * 512; rw [N_0])
  exact congrArg (fun i => Cert.OutLossRefIdeal.Read.val_main_v19 (F := Ideal) _ _ _ _ _ _ _ _ (ix2 i j)) (Fin.ext (by show 512 * t.val + k.val = t.val * 512 + k.val; omega))

/-- The second result: the loss. -/
theorem final9 (c : Dev nD) : (dats m 0 c).arrAt 9 (cfgs 0).N = Cert.OutLossRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 9 t0_15 (by decide +kernel) _ fun y => ?_
  blk_simp
  idx_vars y
  rw [after0_9]
  have hs := carried m c t0_15 (by decide +kernel)
  rw [outsAt0_C m c t0_15 (by decide) (by decide)] at hs ⊢
  revert hs
  frame_out
  intro hs
  pointwise [k0_pay4, Cert.OutLossRefIdeal.Read.val_main_v33, Cert.OutLossRefIdeal.Read.val_main_v26, Cert.OutLossRefIdeal.Read.val_main_v25, Cert.OutLossRefIdeal.Read.val_main_v24, Cert.OutLossRefIdeal.Read.val_main_v23, Cert.OutLossRefIdeal.Read.val_main_v22, Cert.OutLossRefIdeal.Read.val_main_cst_3, Cert.OutLossRefIdeal.Read.val_main_cst_4, Cert.OutLossRefIdeal.Read.val_main_cst_5, Cert.OutLossRefIdeal.Read.val_main_cst_6]
  simp only [hs, Finset.univ_unique, Finset.sum_singleton]
  exact loss_factor _
end Cert.OutLossIdeal.Block
end
-- ==== Proof.OutLoss.lean ====
module

public import proofs.«01_k».proof.Defs
public import proofs.«01_k».proof.Proof.Gen.OutLoss
public import proofs.«01_k».proof.Proof.Gen.OutLoss.Frame
public import proofs.«01_k».proof.Proof.Gen.OutLossIdeal
public import proofs.«01_k».proof.Proof.Gen.OutLossIdeal.Frame
public import proofs.«01_k».proof.Proof.Gen.OutLossIdeal.Value
public import proofs.«01_k».proof.Proof.Gen.OutLossRefIdeal
public import proofs.«01_k».proof.Proof.Gen.OutLossRefIdeal.Run
public import proofs.«01_k».proof.Proof.Gen.OutLossRefIdeal.Read
public import proofs.«01_k».proof.Proof.OutLossValue
public import Idealize.ShloMosaic.Lib.Claim

@[expose] public section

set_option maxRecDepth 16384

noncomputable section

/-!
The claims of the output projection with the loss: the frames, and that the kernel and the reference hold the same loss
and the same gradient of the loss on the extended reals.
-/

namespace Cert.Proof

open Idealize.ShloMosaic Idealize.SL.Sem

/-- The frame of `OutLoss`: its generated run. -/
theorem outLoss_frame : Cert.quiescent_OutLoss := fun m ρ _ => Cert.OutLoss.Gen.frame m ρ

/-- The frame of `OutLossIdeal`: its generated run. -/
theorem outLossIdeal_frame : Cert.quiescent_OutLossIdeal := fun m ρ _ => Cert.OutLossIdeal.Gen.frame m ρ

/-- The frame of the reference: no operation writes an argument, and the program declares no semaphore. -/
theorem outLossRefIdeal_frame : Cert.quiescent_OutLossRefIdeal := fun m ρ _ =>
  (θ_run Cert.OutLossRefIdeal.defs _ _).mono (fun r h => ⟨fun c => (h c).2.2,
      sem_eq_zero_of_no_sems (by decide) r.2⟩)
    (Cert.OutLossRefIdeal.Value.run (F := Ideal) m ρ)

/-- No operation is rewritten, so there is nothing to preserve. -/
theorem outLoss_preserves : Cert.preserves_OutLoss_OutLossIdeal := trivial

set_option maxHeartbeats 2000000 in
/-- Kernel and reference agree: the kernel's two arrays are the reference's two by `Block.final9` and `Block.final8`. -/
theorem outLoss_algebraic : Cert.algebraic_OutLossIdeal_OutLossRefIdeal := by
  pair_intro
  · run_from Cert.OutLossIdeal.Value.run_blocks m g
  · run_from Cert.OutLossRefIdeal.Value.run m' g'
    · exact (Cert.OutLossRefIdeal.Read.val_main_v33_eq m' c).trans (by
        obtain ⟨h0, h1, h2, h3, h4, h5, h6, h7⟩ := hagree c
        rw [h0, h1, h2, h3, h4, h5, h6, h7]
        exact (Cert.OutLossIdeal.Block.final9 m c).symm)
    · exact (Cert.OutLossRefIdeal.Read.val_main_v32_eq _ _ _ _ _ _ _ _).trans (by
        obtain ⟨-, h1, h2, h3, h4, h5, -, -⟩ := hagree c
        rw [h1, h2, h3, h4, h5]
        exact (Cert.OutLossIdeal.Block.final8 m c).symm)

end Cert.Proof

end
-- ==== Proof.Finite.lean ====
module

public import Idealize.ShloMosaic.Lib.Pipeline.ValueKit
public import Idealize.ShloMosaic.Lib.Pointwise

/-! Finite values among the extended reals: which operations keep them finite. -/

@[expose] public section

namespace Cert.Finite

open Idealize.ShloMosaic

/-- The value is a real number. -/
def Fin' (x : EReal) : Prop := ∃ r : ℝ, x = (r : EReal)

/-- The value is a real number that is at least zero. -/
def Nonneg (x : EReal) : Prop := ∃ r : ℝ, 0 ≤ r ∧ x = (r : EReal)

/-- The value is a real number above zero. -/
def Pos (x : EReal) : Prop := ∃ r : ℝ, 0 < r ∧ x = (r : EReal)

theorem Pos.fin {x : EReal} (h : Pos x) : Fin' x := h.elim fun r h => ⟨r, h.2⟩
theorem Pos.nonneg {x : EReal} (h : Pos x) : Nonneg x := h.elim fun r h => ⟨r, h.1.le, h.2⟩
theorem Nonneg.fin {x : EReal} (h : Nonneg x) : Fin' x := h.elim fun r h => ⟨r, h.2⟩

theorem add {x y : EReal} : Fin' x → Fin' y → Fin' (x + y)
  | ⟨a, ha⟩, ⟨b, hb⟩ => ⟨a + b, by rw [ha, hb, EReal.coe_add]⟩

theorem mul {x y : EReal} : Fin' x → Fin' y → Fin' (x * y)
  | ⟨a, ha⟩, ⟨b, hb⟩ => ⟨a * b, by rw [ha, hb, EReal.coe_mul]⟩

theorem sub {x y : EReal} : Fin' x → Fin' y → Fin' (x - y)
  | ⟨a, ha⟩, ⟨b, hb⟩ => ⟨a - b, by rw [ha, hb, EReal.coe_sub]⟩

theorem neg {x : EReal} : Fin' x → Fin' (-x)
  | ⟨a, ha⟩ => ⟨-a, by rw [ha, EReal.coe_neg]⟩

theorem zero : Fin' 0 := ⟨0, rfl⟩
theorem one : Fin' 1 := ⟨1, rfl⟩

/-- A finite value less itself is zero. -/
theorem sub_self {x : EReal} : Fin' x → x - x = 0
  | ⟨a, ha⟩ => by rw [ha, ← EReal.coe_sub, _root_.sub_self, EReal.coe_zero]

theorem sum {ι : Type*} (s : Finset ι) (f : ι → EReal) (h : ∀ i, Fin' (f i)) : Fin' (∑ i ∈ s, f i) :=
  Finset.sum_induction f Fin' (fun _ _ => add) zero fun i _ => h i

/-- A sum of finite values is the sum of the real numbers. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sq {x : EReal} : Fin' x → Nonneg (x * x)
  | ⟨a, ha⟩ => ⟨a * a, mul_self_nonneg a, by rw [ha, EReal.coe_mul]⟩

theorem Nonneg.sum {ι : Type*} (s : Finset ι) (f : ι → EReal) (h : ∀ i, Nonneg (f i)) : Nonneg (∑ i ∈ s, f i) :=
  Finset.sum_induction f Nonneg (fun _ _ ⟨a, ha, ea⟩ ⟨b, hb, eb⟩ => ⟨a + b, add_nonneg ha hb, by rw [ea, eb, EReal.coe_add]⟩)
    ⟨0, le_refl _, rfl⟩ fun i _ => h i

theorem Nonneg.add_pos {x y : EReal} : Nonneg x → Pos y → Pos (x + y)
  | ⟨a, ha, ea⟩, ⟨b, hb, eb⟩ => ⟨a + b, by positivity, by rw [ea, eb, EReal.coe_add]⟩

theorem Pos.add {x y : EReal} (hx : Pos x) (hy : Pos y) : Pos (x + y) := hx.nonneg.add_pos hy

theorem Pos.mul {x y : EReal} : Pos x → Pos y → Pos (x * y)
  | ⟨a, ha, ea⟩, ⟨b, hb, eb⟩ => ⟨a * b, by positivity, by rw [ea, eb, EReal.coe_mul]⟩

theorem div {x y : EReal} : Fin' x → Pos y → Fin' (Ideal.div x y)
  | ⟨a, ha⟩, ⟨b, hb, eb⟩ => ⟨a * (1 / b), by rw [ha, eb, Ideal.div_coe hb.ne', EReal.coe_mul]⟩

theorem Nonneg.div {x y : EReal} : Nonneg x → Pos y → Nonneg (Ideal.div x y)
  | ⟨a, h, ha⟩, ⟨b, hb, eb⟩ => ⟨a * (1 / b), by positivity, by rw [ha, eb, Ideal.div_coe hb.ne', EReal.coe_mul]⟩

theorem Pos.div {x y : EReal} : Pos x → Pos y → Pos (Ideal.div x y)
  | ⟨a, h, ha⟩, ⟨b, hb, eb⟩ => ⟨a * (1 / b), by positivity, by rw [ha, eb, Ideal.div_coe hb.ne', EReal.coe_mul]⟩

theorem exp {x : EReal} : Fin' x → Pos (Ideal.exp x)
  | ⟨a, ha⟩ => ⟨Real.exp a, Real.exp_pos a, by rw [ha]; rfl⟩

theorem Pos.one : Pos 1 := ⟨1, one_pos, rfl⟩

theorem logistic {x : EReal} (h : Fin' x) : Fin' (Ideal.logistic x) :=
  div Finite.one (Pos.one.add (exp (neg h)))

theorem rsqrt {x : EReal} : Pos x → Pos (Ideal.rsqrt x)
  | ⟨a, h, ha⟩ => ⟨(√a)⁻¹, by positivity, by rw [ha]; show (if a < 0 then _ else if a = 0 then _ else _) = _; rw [if_neg (not_lt.2 h.le), if_neg h.ne']⟩

/-- What the comparison of the magnitude with infinity says of a value. -/
theorem of_mask {x : Ideal .f32} (h : FloatOps.cmpf (F := Ideal) (φ := .f32) .olt (FloatOps.hostAbsf x) (Ideal.ofBits .f32 0x7F800000#32) = 1#1) : Fin' x := by
  have htop : Ideal.ofBits FTy.f32 0x7F800000#32 = ⊤ := by simp [Ideal.ofBits, Ideal.ieee]
  rw [htop] at h
  have h' : max x (-x) < (⊤ : EReal) := by
    by_contra hn
    have e : FloatOps.cmpf (F := Ideal) (φ := .f32) .olt (FloatOps.hostAbsf x) ⊤ = 0#1 := by
      show Ideal.cmp .olt (max x (-x)) ⊤ = 0#1
      show BitVec.ofBool (decide (max x (-x) < ⊤)) = 0#1
      rw [decide_eq_false hn]
      rfl
    rw [e] at h
    exact absurd h (by decide)
  revert h'
  induction x using EReal.rec with
  | bot => exact fun h' => absurd h' (by simp)
  | top => exact fun h' => absurd h' (by simp)
  | coe r => exact fun _ => ⟨r, rfl⟩

end Cert.Finite
end
-- ==== Proof.OutBwdValue.lean ====
module

public import proofs.«01_k».proof.Defs
public import proofs.«01_k».proof.Proof.Gen.OutBwdIdeal.Value
public import proofs.«01_k».proof.Proof.Gen.OutBwdRefIdeal.Read
public import proofs.«01_k».proof.Proof.Gen.Pre_finite
public import proofs.«01_k».proof.Proof.Finite
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutBwdIdeal.Block

open Cert.OutBwdIdeal Cert.OutBwdIdeal.Gen
open Idealize.ShloMosaic.StableHlo

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![t.val, 0] ∧ win0_8.index t = ![0, t.val] ∧ win0_9.index t = ![t.val, 0] ∧ win0_10.index t = ![t.val, 0] ∧ win0_11.index t = ![t.val, 0] ∧ win0_12.index t = ![0, 0] ∧ win0_13.index t = ![0, 0] :=
  (by decide +kernel : ∀ t : Fin grid0.N, _)

/-- Row `r` of grid point `t`'s block, as a row of the arrays. -/
abbrev row (t : Fin cfg0.N) (r : Fin 512) : Fin 8192 := ⟨512 * t.val + r, by have := lt_of_lt_of_eq t.isLt N_0; omega⟩

theorem blk_dy (c : Dev nD) (t : Fin cfg0.N) (r : Fin 512) (k : Fin 1024) :
    iblk m c 0 t (ix2 r k) = m ((c : Thread nD τ).loc main_arg0) (ix2 (row t r) k) := by
  blk_point [iblk, V, idx t]

theorem blk_o (c : Dev nD) (t : Fin cfg0.N) (r : Fin 512) (k : Fin 512) :
    iblk m c 1 t (ix2 r k) = m ((c : Thread nD τ).loc main_arg1) (ix2 (row t r) k) := by
  blk_point [iblk, V, idx t]

/-- The gate's 512 columns, padded to the 3200 columns of the projection. -/
def zpad (Z : FVec Ideal S8192x512 .f32) : FVec Ideal S8192x3200 .bf16 :=
  truncf (F := Ideal) .bf16 (pad S8192x3200 ![0, 0] ![0, 2688] ![0, 0] Z (sitofp .f32 (constantI S_ 32 0#32)) pads_S8192x512_S8192x3200_000_026880 h_S_) bitsLt_bf16_f32

theorem zpad_low (Z : FVec Ideal S8192x512 .f32) (i : Fin 8192) (k : Fin 512) : zpad Z (ix2 i ⟨k, by omega⟩) = Z (ix2 i k) := by
  pointwise [zpad]

theorem V_z (c : Dev nD) : V m c main_v1 = zpad (m ((c : Thread nD τ).loc main_arg2)) := by
  unfold V
  simp only [hostOps0, hostOps0_1, hostOps0_2, List.flatten_cons, List.flatten_nil, List.append_nil, List.cons_append, List.nil_append, List.singleton_append]
  after_results_simp
  rfl

theorem blk_z (c : Dev nD) (t : Fin cfg0.N) (r : Fin 512) (k : Fin 512) :
    X0_2 m c t (ix2 r k) = m ((c : Thread nD τ).loc main_arg2) (ix2 (row t r) k) := by
  have e : X0_2 m c t (ix2 r k) = V m c main_v1 (ix2 (row t r) ⟨k, by omega⟩) := by
    unfold X0_2 Pipeline.Window.fill
    rw [dif_pos (moved0_2 t _)]
    blk_point [iblk, idx t]
  exact e.trans ((congrFun (V_z m c) _).trans (zpad_low _ _ k))

theorem blk_yc (c : Dev nD) (t : Fin cfg0.N) (r : Fin 512) (k : Fin 256) :
    iblk m c 3 t (ix2 r k) = m ((c : Thread nD τ).loc main_arg3) (ix2 (row t r) k) := by
  have e : iblk m c 3 t (ix2 r k) = V m c main_v2 (ix2 (row t r) k) := by blk_point [iblk, idx t]
  rw [e]
  unfold V
  simp only [hostOps0, hostOps0_1, hostOps0_2, List.flatten_cons, List.flatten_nil, List.append_nil, List.cons_append, List.nil_append, List.singleton_append]
  after_results_simp
  pointwise

theorem blk_ys (c : Dev nD) (t : Fin cfg0.N) (r : Fin 512) (k : Fin 256) :
    iblk m c 4 t (ix2 r k) = m ((c : Thread nD τ).loc main_arg4) (ix2 (row t r) k) := by
  have e : iblk m c 4 t (ix2 r k) = V m c main_v3 (ix2 (row t r) k) := by blk_point [iblk, idx t]
  rw [e]
  unfold V
  simp only [hostOps0, hostOps0_1, hostOps0_2, List.flatten_cons, List.flatten_nil, List.append_nil, List.cons_append, List.nil_append, List.singleton_append]
  after_results_simp
  pointwise

theorem blk_g (c : Dev nD) (t : Fin cfg0.N) (k : Fin 512) :
    iblk m c 5 t (ix2 0 k) = m ((c : Thread nD τ).loc main_arg5) (ix1 k) := by
  have e : iblk m c 5 t (ix2 0 k) = V m c main_v4 (ix2 0 k) := by blk_point [iblk, idx t]
  rw [e]
  unfold V
  simp only [hostOps0, hostOps0_1, hostOps0_2, List.flatten_cons, List.flatten_nil, List.append_nil, List.cons_append, List.nil_append, List.singleton_append]
  after_results_simp
  pointwise

theorem blk_w (c : Dev nD) (t : Fin cfg0.N) (a : Fin 1024) (k : Fin 1024) :
    iblk m c 6 t (ix2 a k) = m ((c : Thread nD τ).loc main_arg6) (ix2 a k) := by
  have e : iblk m c 6 t (ix2 a k) = V m c main_v5 (ix2 a k) := by blk_point [iblk, idx t]
  rw [e]
  unfold V
  simp only [hostOps0, hostOps0_1, hostOps0_2, List.flatten_cons, List.flatten_nil, List.append_nil, List.cons_append, List.nil_append, List.singleton_append]
  after_results_simp
  pointwise

/-- A sum over the 1024 columns by its three parts. -/
theorem sum_parts (f : Fin 1024 → EReal) : ∑ x : Fin 1024, f x
    = (∑ x : Fin 256, f ⟨x, by omega⟩) + (∑ x : Fin 512, f ⟨256 + x, by omega⟩) + ∑ x : Fin 256, f ⟨768 + x, by omega⟩ := by
  have h1 := Fin.sum_univ_add (a := 256) (b := 768) f
  have h2 := Fin.sum_univ_add (a := 512) (b := 256) fun x : Fin 768 => f (Fin.natAdd 256 x)
  rw [show (∑ x : Fin 1024, f x) = _ from h1, show (∑ x : Fin 768, f (Fin.natAdd 256 x)) = _ from h2, ← add_assoc]
  rfl

theorem cat_low (O Z : FVec Ideal S8192x512 .f32) (YC YS : FVec Ideal S8192x256 .f32) (G : FVec Ideal S512 .f32) (i : Fin 8192) (x : Fin 256) :
    Cert.OutBwdRefIdeal.Read.val_main_v19 (F := Ideal) O Z YC YS G (ix2 i ⟨x, by omega⟩) = YC (ix2 i x) := by
  pointwise [Cert.OutBwdRefIdeal.Read.val_main_v19]

theorem cat_mid (O Z : FVec Ideal S8192x512 .f32) (YC YS : FVec Ideal S8192x256 .f32) (G : FVec Ideal S512 .f32) (i : Fin 8192) (x : Fin 512) :
    Cert.OutBwdRefIdeal.Read.val_main_v19 (F := Ideal) O Z YC YS G (ix2 i ⟨256 + x, by omega⟩) = Cert.OutBwdRefIdeal.Read.val_main_v18 (F := Ideal) O Z G (ix2 i x) := by
  pointwise [Cert.OutBwdRefIdeal.Read.val_main_v19]
  try rw [dif_neg (by omega), dif_pos (by omega)]
  try (congr 2; apply Fin.ext; show 256 + x.val - 256 = x.val; omega)

theorem cat_high (O Z : FVec Ideal S8192x512 .f32) (YC YS : FVec Ideal S8192x256 .f32) (G : FVec Ideal S512 .f32) (i : Fin 8192) (x : Fin 256) :
    Cert.OutBwdRefIdeal.Read.val_main_v19 (F := Ideal) O Z YC YS G (ix2 i ⟨768 + x, by omega⟩) = YS (ix2 i x) := by
  pointwise [Cert.OutBwdRefIdeal.Read.val_main_v19]
  rw [dif_neg (by omega), dif_neg (by omega)]
  congr 2; apply Fin.ext; show 768 + x.val - 256 - 512 = x.val; omega

/-- One element of the gradient of the gated attention output, from what the block reads. -/
theorem dy_at (v3 : Vec Ideal S512x1024 .f32) (v8 : Vec Ideal S512x1024 .bf16) (v14 : Vec Ideal S512x512 .f32) (v15 : Vec Ideal S512x512 .bf16) (v18 : Vec Ideal S1x512 .f32)
    (D : FVec Ideal S8192x1024 .f32) (O Z : FVec Ideal S8192x512 .f32) (G : FVec Ideal S512 .f32) (W : FVec Ideal S1024x1024 .f32)
    (r : Fin 512) (i : Fin 8192) (j : Fin 512) (h3 : ∀ k, v3 (ix2 r k) = D (ix2 i k)) (h8 : ∀ a k, v8 (ix2 a k) = W (ix2 ⟨256 + a, by omega⟩ k))
    (h14 : ∀ k, v14 (ix2 r k) = O (ix2 i k)) (h15 : ∀ k, v15 (ix2 r k) = Z (ix2 i k)) (h18 : ∀ k, v18 (ix2 0 k) = G (ix1 k)) :
    k0_pay20 (F := Ideal) (k0_pay6 v3 v8) (k0_pay9 v18) (k0_pay13 v14 v15) (k0_pay15 v14 v15) (k0_pay16 v14 v15) (ix2 r j) = Cert.OutBwdRefIdeal.Read.val_main_v47 (F := Ideal) D O Z G W (ix2 i j) := by
  pointwise [k0_pay6, k0_pay9, k0_pay12, k0_pay13, k0_pay15, k0_pay16, k0_pay14, k0_pay10, k0_pay8, k0_pay4, k0_pay20,
    Cert.OutBwdRefIdeal.Read.val_main_cst, Cert.OutBwdRefIdeal.Read.val_main_v0, Cert.OutBwdRefIdeal.Read.val_main_call0_v0, Cert.OutBwdRefIdeal.Read.val_main_call0_v1, Cert.OutBwdRefIdeal.Read.val_main_call0_cst, Cert.OutBwdRefIdeal.Read.val_main_call0_v2, Cert.OutBwdRefIdeal.Read.val_main_call0_v3, Cert.OutBwdRefIdeal.Read.val_main_call0_cst_0, Cert.OutBwdRefIdeal.Read.val_main_call0_v4, Cert.OutBwdRefIdeal.Read.val_main_v1_2, Cert.OutBwdRefIdeal.Read.val_main_call0_cst_1, Cert.OutBwdRefIdeal.Read.val_main_call0_v6, Cert.OutBwdRefIdeal.Read.val_main_call0_v7, Cert.OutBwdRefIdeal.Read.val_main_v1_1, Cert.OutBwdRefIdeal.Read.val_main_v1_0, Cert.OutBwdRefIdeal.Read.val_main_v2, Cert.OutBwdRefIdeal.Read.val_main_v3, Cert.OutBwdRefIdeal.Read.val_main_cst_0, Cert.OutBwdRefIdeal.Read.val_main_v4, Cert.OutBwdRefIdeal.Read.val_main_v5, Cert.OutBwdRefIdeal.Read.val_main_cst_1, Cert.OutBwdRefIdeal.Read.val_main_v6, Cert.OutBwdRefIdeal.Read.val_main_v7, Cert.OutBwdRefIdeal.Read.val_main_cst_2, Cert.OutBwdRefIdeal.Read.val_main_v8, Cert.OutBwdRefIdeal.Read.val_main_v9, Cert.OutBwdRefIdeal.Read.val_main_v10, Cert.OutBwdRefIdeal.Read.val_main_v11, Cert.OutBwdRefIdeal.Read.val_main_cst_3, Cert.OutBwdRefIdeal.Read.val_main_v12, Cert.OutBwdRefIdeal.Read.val_main_v13, Cert.OutBwdRefIdeal.Read.val_main_v14, Cert.OutBwdRefIdeal.Read.val_main_v15, Cert.OutBwdRefIdeal.Read.val_main_v16, Cert.OutBwdRefIdeal.Read.val_main_v17, Cert.OutBwdRefIdeal.Read.val_main_v20, Cert.OutBwdRefIdeal.Read.val_main_v21, Cert.OutBwdRefIdeal.Read.val_main_v22, Cert.OutBwdRefIdeal.Read.val_main_v23, Cert.OutBwdRefIdeal.Read.val_main_v24, Cert.OutBwdRefIdeal.Read.val_main_v25, Cert.OutBwdRefIdeal.Read.val_main_v26, Cert.OutBwdRefIdeal.Read.val_main_v27, Cert.OutBwdRefIdeal.Read.val_main_v28, Cert.OutBwdRefIdeal.Read.val_main_cst_4, Cert.OutBwdRefIdeal.Read.val_main_v29, Cert.OutBwdRefIdeal.Read.val_main_v30, Cert.OutBwdRefIdeal.Read.val_main_v31, Cert.OutBwdRefIdeal.Read.val_main_v32, Cert.OutBwdRefIdeal.Read.val_main_cst_5, Cert.OutBwdRefIdeal.Read.val_main_v33, Cert.OutBwdRefIdeal.Read.val_main_v34, Cert.OutBwdRefIdeal.Read.val_main_cst_6, Cert.OutBwdRefIdeal.Read.val_main_v35, Cert.OutBwdRefIdeal.Read.val_main_v36, Cert.OutBwdRefIdeal.Read.val_main_v37, Cert.OutBwdRefIdeal.Read.val_main_v38, Cert.OutBwdRefIdeal.Read.val_main_v39, Cert.OutBwdRefIdeal.Read.val_main_cst_7, Cert.OutBwdRefIdeal.Read.val_main_v40, Cert.OutBwdRefIdeal.Read.val_main_v41, Cert.OutBwdRefIdeal.Read.val_main_cst_8, Cert.OutBwdRefIdeal.Read.val_main_v42, Cert.OutBwdRefIdeal.Read.val_main_v43, Cert.OutBwdRefIdeal.Read.val_main_v44, Cert.OutBwdRefIdeal.Read.val_main_v45, Cert.OutBwdRefIdeal.Read.val_main_v46, Cert.OutBwdRefIdeal.Read.val_main_v47, Cert.OutBwdRefIdeal.Read.val_main_v48, Cert.OutBwdRefIdeal.Read.val_main_v49, Cert.OutBwdRefIdeal.Read.val_main_call1_v0, Cert.OutBwdRefIdeal.Read.val_main_call1_v1, Cert.OutBwdRefIdeal.Read.val_main_call1_v2, Cert.OutBwdRefIdeal.Read.val_main_v50, Cert.OutBwdRefIdeal.Read.val_main_v51, Cert.OutBwdRefIdeal.Read.val_main_v52, Cert.OutBwdRefIdeal.Read.val_main_cst_9, Cert.OutBwdRefIdeal.Read.val_main_v53, Cert.OutBwdRefIdeal.Read.val_main_v54, Cert.OutBwdRefIdeal.Read.val_main_v55, Cert.OutBwdRefIdeal.Read.val_main_v56, Cert.OutBwdRefIdeal.Read.val_main_v57, Cert.OutBwdRefIdeal.Read.val_main_v58, Cert.OutBwdRefIdeal.Read.val_main_v59]
  simp only [h3, h8, h14, h15, h18, Ideal.logistic]

/-- One element of the gradient of the attention's output. -/
theorem do_at (v3 : Vec Ideal S512x1024 .f32) (v8 : Vec Ideal S512x1024 .bf16) (v14 : Vec Ideal S512x512 .f32) (v15 : Vec Ideal S512x512 .bf16) (v18 : Vec Ideal S1x512 .f32)
    (D : FVec Ideal S8192x1024 .f32) (O Z : FVec Ideal S8192x512 .f32) (G : FVec Ideal S512 .f32) (W : FVec Ideal S1024x1024 .f32)
    (r : Fin 512) (i : Fin 8192) (j : Fin 512) (h3 : ∀ k, v3 (ix2 r k) = D (ix2 i k)) (h8 : ∀ a k, v8 (ix2 a k) = W (ix2 ⟨256 + a, by omega⟩ k))
    (h14 : ∀ k, v14 (ix2 r k) = O (ix2 i k)) (h15 : ∀ k, v15 (ix2 r k) = Z (ix2 i k)) (h18 : ∀ k, v18 (ix2 0 k) = G (ix1 k)) :
    k0_pay21 (F := Ideal) (k0_pay6 v3 v8) (k0_pay9 v18) (k0_pay12 v15) (k0_pay13 v14 v15) (k0_pay15 v14 v15) (k0_pay16 v14 v15) (ix2 r j) = Cert.OutBwdRefIdeal.Read.val_main_v49 (F := Ideal) D O Z G W (ix2 i j) := by
  pointwise [k0_pay21, Cert.OutBwdRefIdeal.Read.val_main_v49]
  refine congrArg₂ (fun a b : EReal => a * b) (dy_at v3 v8 v14 v15 v18 D O Z G W r i j h3 h8 h14 h15 h18) ?_
  pointwise [k0_pay12, k0_pay10, k0_pay8, Cert.OutBwdRefIdeal.Read.val_main_v1_0, Cert.OutBwdRefIdeal.Read.val_main_v1_2, Cert.OutBwdRefIdeal.Read.val_main_call0_v0, Cert.OutBwdRefIdeal.Read.val_main_call0_v1, Cert.OutBwdRefIdeal.Read.val_main_call0_cst, Cert.OutBwdRefIdeal.Read.val_main_call0_v2, Cert.OutBwdRefIdeal.Read.val_main_call0_v3, Cert.OutBwdRefIdeal.Read.val_main_call0_cst_0, Cert.OutBwdRefIdeal.Read.val_main_call0_v4, Cert.OutBwdRefIdeal.Read.val_main_call0_cst_1, Cert.OutBwdRefIdeal.Read.val_main_call0_v6, Cert.OutBwdRefIdeal.Read.val_main_call0_v7]
  simp only [h15, Ideal.logistic]

/-- One element of the gate's gradient. -/
theorem dz_at (v3 : Vec Ideal S512x1024 .f32) (v8 : Vec Ideal S512x1024 .bf16) (v14 : Vec Ideal S512x512 .f32) (v15 : Vec Ideal S512x512 .bf16) (v18 : Vec Ideal S1x512 .f32)
    (D : FVec Ideal S8192x1024 .f32) (O Z : FVec Ideal S8192x512 .f32) (G : FVec Ideal S512 .f32) (W : FVec Ideal S1024x1024 .f32)
    (r : Fin 512) (i : Fin 8192) (j : Fin 512) (h3 : ∀ k, v3 (ix2 r k) = D (ix2 i k)) (h8 : ∀ a k, v8 (ix2 a k) = W (ix2 ⟨256 + a, by omega⟩ k))
    (h14 : ∀ k, v14 (ix2 r k) = O (ix2 i k)) (h15 : ∀ k, v15 (ix2 r k) = Z (ix2 i k)) (h18 : ∀ k, v18 (ix2 0 k) = G (ix1 k)) :
    k0_pay23 (F := Ideal) (k0_pay6 v3 v8) v14 (k0_pay8 v15) (k0_pay9 v18) (k0_pay10 v15) (k0_pay11 v15) (k0_pay13 v14 v15) (k0_pay15 v14 v15) (k0_pay16 v14 v15) (ix2 r j) = Cert.OutBwdRefIdeal.Read.val_main_v56 (F := Ideal) D O Z G W (ix2 i j) := by
  pointwise [k0_pay23, Cert.OutBwdRefIdeal.Read.val_main_v56, Cert.OutBwdRefIdeal.Read.val_main_v50, Cert.OutBwdRefIdeal.Read.val_main_call1_v1, Cert.OutBwdRefIdeal.Read.val_main_call1_v2, Cert.OutBwdRefIdeal.Read.val_main_v48]
  rw [dy_at v3 v8 v14 v15 v18 D O Z G W r i j h3 h8 h14 h15 h18]
  pointwise [k0_pay10, k0_pay11, k0_pay8, Cert.OutBwdRefIdeal.Read.val_main_v48, Cert.OutBwdRefIdeal.Read.val_main_call1_v0, Cert.OutBwdRefIdeal.Read.val_main_v1_0, Cert.OutBwdRefIdeal.Read.val_main_v1_1, Cert.OutBwdRefIdeal.Read.val_main_v1_2, Cert.OutBwdRefIdeal.Read.val_main_call0_v0, Cert.OutBwdRefIdeal.Read.val_main_call0_v1, Cert.OutBwdRefIdeal.Read.val_main_call0_cst, Cert.OutBwdRefIdeal.Read.val_main_call0_v2, Cert.OutBwdRefIdeal.Read.val_main_call0_v3, Cert.OutBwdRefIdeal.Read.val_main_call0_cst_0, Cert.OutBwdRefIdeal.Read.val_main_call0_v4, Cert.OutBwdRefIdeal.Read.val_main_call0_cst_1, Cert.OutBwdRefIdeal.Read.val_main_call0_v6, Cert.OutBwdRefIdeal.Read.val_main_call0_v7]
  simp only [h14, h15, Ideal.logistic]

/-- The selection of a head's 64 columns, as numbers. -/
theorem sel_val (x : Fin 512) (h : Fin 8) :
    (Scalar.extui (IntOp.cmpi CmpIPredicate.eq
      (Scalar.select (IntOp.andi (IntOp.cmpi CmpIPredicate.ne
          (IntOp.subi (BitVec.setWidth 32 (IntOp.cmpi CmpIPredicate.sgt (BitVec.ofNat 32 x.val) 0#32)) (BitVec.setWidth 32 (IntOp.cmpi CmpIPredicate.slt (BitVec.ofNat 32 x.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32))
      (BitVec.ofNat 32 h.val)) : BitVec 32) = if x.val / 64 = h.val then 1#32 else 0#32 := by
  revert x h
  decide +kernel

/-- The selected columns' sum, for a product whose rounding leaves no remainder. -/
theorem delta_at (v100 v103 : FVec Ideal S512x512 .bf16) (p : Fin 512 → EReal) (h : Fin 8) (q : Fin 512) (h100 : ∀ x, v100 (ix2 q x) = p x) (h103 : ∀ x, v103 (ix2 q x) = 0) :
    k0_pay1 (F := Ideal) v100 v103 (iota .tc S8x512 32 [1] iota_S8x512_d1_w32) 64#32 k0_pay33 k0_pay34 (ix2 h q) = ∑ k : Fin 64, p ⟨h * 64 + k, by omega⟩ := by
  pointwise [k0_pay1, k0_pay33, k0_pay34]
  simp only [h100, h103, mul_zero, Finset.sum_const_zero, add_zero]
  refine (Finset.sum_congr rfl fun x _ => congrArg (· * p x) (congrArg (FloatOps.sitofp (F := Ideal) FTy.f32) (sel_val x h))).trans ?_
  have e0 : FloatOps.sitofp (F := Ideal) FTy.f32 (0#32) = (0 : EReal) := by show ((((0#32 : BitVec 32).toInt : ℤ) : ℝ) : EReal) = 0; simp
  have e1 : FloatOps.sitofp (F := Ideal) FTy.f32 (1#32) = (1 : EReal) := by show ((((1#32 : BitVec 32).toInt : ℤ) : ℝ) : EReal) = 1; simp
  have e : ∀ x : Fin 512, FloatOps.sitofp (F := Ideal) FTy.f32 (if x.val / 64 = h.val then 1#32 else 0#32) * p x = if x.val / 64 = h.val then p x else 0 := by
    intro x
    by_cases hx : x.val / 64 = h.val
    · rw [if_pos hx, if_pos hx, e1, one_mul]
    · rw [if_neg hx, if_neg hx, e0, zero_mul]
  refine (Finset.sum_congr rfl fun x _ => e x).trans ?_
  rw [← Finset.sum_filter]
  refine (Finset.sum_bij (fun (k : Fin 64) _ => (⟨h.val * 64 + k.val, by omega⟩ : Fin 512)) (fun k _ => ?_) (fun a _ b _ hab => ?_) (fun x hx => ?_) fun k _ => rfl).symm
  · rw [Finset.mem_filter]
    exact ⟨Finset.mem_univ _, by show (h.val * 64 + k.val) / 64 = h.val; omega⟩
  · have := congrArg Fin.val hab
    exact Fin.ext (by simpa using this)
  · have h' : x.val / 64 = h.val := (Finset.mem_filter.1 hx).2
    exact ⟨⟨x.val % 64, by omega⟩, Finset.mem_univ _, Fin.ext (by show h.val * 64 + x.val % 64 = x.val; omega)⟩

/-- One element of the normalised gated attention output. -/
theorem yn_at (v14 : Vec Ideal S512x512 .f32) (v15 : Vec Ideal S512x512 .bf16) (v18 : Vec Ideal S1x512 .f32) (O Z : FVec Ideal S8192x512 .f32) (G : FVec Ideal S512 .f32)
    (r : Fin 512) (i : Fin 8192) (j : Fin 512) (h14 : ∀ k, v14 (ix2 r k) = O (ix2 i k)) (h15 : ∀ k, v15 (ix2 r k) = Z (ix2 i k)) (h18 : ∀ k, v18 (ix2 0 k) = G (ix1 k)) :
    k0_pay18 (F := Ideal) (k0_pay9 v18) (k0_pay13 v14 v15) (k0_pay15 v14 v15) (ix2 r j) = Cert.OutBwdRefIdeal.Read.val_main_v18 (F := Ideal) O Z G (ix2 i j) := by
  pointwise [k0_pay17, k0_pay18, k0_pay9, k0_pay12, k0_pay13, k0_pay15, k0_pay14, k0_pay10, k0_pay8, Cert.OutBwdRefIdeal.Read.val_main_cst, Cert.OutBwdRefIdeal.Read.val_main_v0, Cert.OutBwdRefIdeal.Read.val_main_call0_v0, Cert.OutBwdRefIdeal.Read.val_main_call0_v1, Cert.OutBwdRefIdeal.Read.val_main_call0_cst, Cert.OutBwdRefIdeal.Read.val_main_call0_v2, Cert.OutBwdRefIdeal.Read.val_main_call0_v3, Cert.OutBwdRefIdeal.Read.val_main_call0_cst_0, Cert.OutBwdRefIdeal.Read.val_main_call0_v4, Cert.OutBwdRefIdeal.Read.val_main_v1_2, Cert.OutBwdRefIdeal.Read.val_main_call0_cst_1, Cert.OutBwdRefIdeal.Read.val_main_call0_v6, Cert.OutBwdRefIdeal.Read.val_main_call0_v7, Cert.OutBwdRefIdeal.Read.val_main_v1_1, Cert.OutBwdRefIdeal.Read.val_main_v1_0, Cert.OutBwdRefIdeal.Read.val_main_v2, Cert.OutBwdRefIdeal.Read.val_main_v3, Cert.OutBwdRefIdeal.Read.val_main_cst_0, Cert.OutBwdRefIdeal.Read.val_main_v4, Cert.OutBwdRefIdeal.Read.val_main_v5, Cert.OutBwdRefIdeal.Read.val_main_cst_1, Cert.OutBwdRefIdeal.Read.val_main_v6, Cert.OutBwdRefIdeal.Read.val_main_v7, Cert.OutBwdRefIdeal.Read.val_main_cst_2, Cert.OutBwdRefIdeal.Read.val_main_v8, Cert.OutBwdRefIdeal.Read.val_main_v9, Cert.OutBwdRefIdeal.Read.val_main_v10, Cert.OutBwdRefIdeal.Read.val_main_v11, Cert.OutBwdRefIdeal.Read.val_main_cst_3, Cert.OutBwdRefIdeal.Read.val_main_v12, Cert.OutBwdRefIdeal.Read.val_main_v13, Cert.OutBwdRefIdeal.Read.val_main_v14, Cert.OutBwdRefIdeal.Read.val_main_v15, Cert.OutBwdRefIdeal.Read.val_main_v16, Cert.OutBwdRefIdeal.Read.val_main_v17, Cert.OutBwdRefIdeal.Read.val_main_v20, Cert.OutBwdRefIdeal.Read.val_main_v21, Cert.OutBwdRefIdeal.Read.val_main_v22, Cert.OutBwdRefIdeal.Read.val_main_v23, Cert.OutBwdRefIdeal.Read.val_main_v24, Cert.OutBwdRefIdeal.Read.val_main_v25, Cert.OutBwdRefIdeal.Read.val_main_v26, Cert.OutBwdRefIdeal.Read.val_main_v27, Cert.OutBwdRefIdeal.Read.val_main_v28, Cert.OutBwdRefIdeal.Read.val_main_cst_4, Cert.OutBwdRefIdeal.Read.val_main_v29, Cert.OutBwdRefIdeal.Read.val_main_v30, Cert.OutBwdRefIdeal.Read.val_main_v31, Cert.OutBwdRefIdeal.Read.val_main_v32, Cert.OutBwdRefIdeal.Read.val_main_cst_5, Cert.OutBwdRefIdeal.Read.val_main_v33, Cert.OutBwdRefIdeal.Read.val_main_v34, Cert.OutBwdRefIdeal.Read.val_main_cst_6, Cert.OutBwdRefIdeal.Read.val_main_v35, Cert.OutBwdRefIdeal.Read.val_main_v36, Cert.OutBwdRefIdeal.Read.val_main_v37, Cert.OutBwdRefIdeal.Read.val_main_v38, Cert.OutBwdRefIdeal.Read.val_main_v39, Cert.OutBwdRefIdeal.Read.val_main_cst_7, Cert.OutBwdRefIdeal.Read.val_main_v40, Cert.OutBwdRefIdeal.Read.val_main_v41, Cert.OutBwdRefIdeal.Read.val_main_cst_8, Cert.OutBwdRefIdeal.Read.val_main_v42, Cert.OutBwdRefIdeal.Read.val_main_v43, Cert.OutBwdRefIdeal.Read.val_main_v44, Cert.OutBwdRefIdeal.Read.val_main_v45, Cert.OutBwdRefIdeal.Read.val_main_v46, Cert.OutBwdRefIdeal.Read.val_main_v47, Cert.OutBwdRefIdeal.Read.val_main_v48, Cert.OutBwdRefIdeal.Read.val_main_v49, Cert.OutBwdRefIdeal.Read.val_main_call1_v0, Cert.OutBwdRefIdeal.Read.val_main_call1_v1, Cert.OutBwdRefIdeal.Read.val_main_call1_v2, Cert.OutBwdRefIdeal.Read.val_main_v50, Cert.OutBwdRefIdeal.Read.val_main_v51, Cert.OutBwdRefIdeal.Read.val_main_v52, Cert.OutBwdRefIdeal.Read.val_main_cst_9, Cert.OutBwdRefIdeal.Read.val_main_v53, Cert.OutBwdRefIdeal.Read.val_main_v54, Cert.OutBwdRefIdeal.Read.val_main_v55, Cert.OutBwdRefIdeal.Read.val_main_v56, Cert.OutBwdRefIdeal.Read.val_main_v57, Cert.OutBwdRefIdeal.Read.val_main_v58, Cert.OutBwdRefIdeal.Read.val_main_v59, Cert.OutBwdRefIdeal.Read.val_main_v18]
  simp only [h14, h15, h18, Ideal.logistic]

/-- One block's part of the norm weight's gradient. -/
theorem dg_at (v3 : Vec Ideal S512x1024 .f32) (v8 : Vec Ideal S512x1024 .bf16) (v14 : Vec Ideal S512x512 .f32) (v15 : Vec Ideal S512x512 .bf16)
    (D : FVec Ideal S8192x1024 .f32) (O Z : FVec Ideal S8192x512 .f32) (W : FVec Ideal S1024x1024 .f32) (acc : Vec Ideal S1x512 .f32)
    (ρ : Fin 512 → Fin 8192) (j : Fin 512) (h3 : ∀ r k, v3 (ix2 r k) = D (ix2 (ρ r) k)) (h8 : ∀ a k, v8 (ix2 a k) = W (ix2 ⟨256 + a, by omega⟩ k))
    (h14 : ∀ r k, v14 (ix2 r k) = O (ix2 (ρ r) k)) (h15 : ∀ r k, v15 (ix2 r k) = Z (ix2 (ρ r) k)) :
    k0_pay26 (F := Ideal) (k0_pay19 (k0_pay6 v3 v8) (k0_pay13 v14 v15) (k0_pay15 v14 v15)) acc (ix2 0 j) = acc (ix2 0 j) + ∑ r, Cert.OutBwdRefIdeal.Read.val_main_v28 (F := Ideal) D O Z W (ix2 (ρ r) j) := by
  pointwise [k0_pay26, k0_pay19, k0_pay6, k0_pay17, k0_pay9, k0_pay12, k0_pay13, k0_pay15, k0_pay14, k0_pay10, k0_pay8, k0_pay4, Cert.OutBwdRefIdeal.Read.val_main_cst, Cert.OutBwdRefIdeal.Read.val_main_v0, Cert.OutBwdRefIdeal.Read.val_main_call0_v0, Cert.OutBwdRefIdeal.Read.val_main_call0_v1, Cert.OutBwdRefIdeal.Read.val_main_call0_cst, Cert.OutBwdRefIdeal.Read.val_main_call0_v2, Cert.OutBwdRefIdeal.Read.val_main_call0_v3, Cert.OutBwdRefIdeal.Read.val_main_call0_cst_0, Cert.OutBwdRefIdeal.Read.val_main_call0_v4, Cert.OutBwdRefIdeal.Read.val_main_v1_2, Cert.OutBwdRefIdeal.Read.val_main_call0_cst_1, Cert.OutBwdRefIdeal.Read.val_main_call0_v6, Cert.OutBwdRefIdeal.Read.val_main_call0_v7, Cert.OutBwdRefIdeal.Read.val_main_v1_1, Cert.OutBwdRefIdeal.Read.val_main_v1_0, Cert.OutBwdRefIdeal.Read.val_main_v2, Cert.OutBwdRefIdeal.Read.val_main_v3, Cert.OutBwdRefIdeal.Read.val_main_cst_0, Cert.OutBwdRefIdeal.Read.val_main_v4, Cert.OutBwdRefIdeal.Read.val_main_v5, Cert.OutBwdRefIdeal.Read.val_main_cst_1, Cert.OutBwdRefIdeal.Read.val_main_v6, Cert.OutBwdRefIdeal.Read.val_main_v7, Cert.OutBwdRefIdeal.Read.val_main_cst_2, Cert.OutBwdRefIdeal.Read.val_main_v8, Cert.OutBwdRefIdeal.Read.val_main_v9, Cert.OutBwdRefIdeal.Read.val_main_v10, Cert.OutBwdRefIdeal.Read.val_main_v11, Cert.OutBwdRefIdeal.Read.val_main_cst_3, Cert.OutBwdRefIdeal.Read.val_main_v12, Cert.OutBwdRefIdeal.Read.val_main_v13, Cert.OutBwdRefIdeal.Read.val_main_v14, Cert.OutBwdRefIdeal.Read.val_main_v15, Cert.OutBwdRefIdeal.Read.val_main_v16, Cert.OutBwdRefIdeal.Read.val_main_v17, Cert.OutBwdRefIdeal.Read.val_main_v20, Cert.OutBwdRefIdeal.Read.val_main_v21, Cert.OutBwdRefIdeal.Read.val_main_v22, Cert.OutBwdRefIdeal.Read.val_main_v23, Cert.OutBwdRefIdeal.Read.val_main_v24, Cert.OutBwdRefIdeal.Read.val_main_v25, Cert.OutBwdRefIdeal.Read.val_main_v26, Cert.OutBwdRefIdeal.Read.val_main_v27, Cert.OutBwdRefIdeal.Read.val_main_v28, Cert.OutBwdRefIdeal.Read.val_main_cst_4, Cert.OutBwdRefIdeal.Read.val_main_v29, Cert.OutBwdRefIdeal.Read.val_main_v30, Cert.OutBwdRefIdeal.Read.val_main_v31, Cert.OutBwdRefIdeal.Read.val_main_v32, Cert.OutBwdRefIdeal.Read.val_main_cst_5, Cert.OutBwdRefIdeal.Read.val_main_v33, Cert.OutBwdRefIdeal.Read.val_main_v34, Cert.OutBwdRefIdeal.Read.val_main_cst_6, Cert.OutBwdRefIdeal.Read.val_main_v35, Cert.OutBwdRefIdeal.Read.val_main_v36, Cert.OutBwdRefIdeal.Read.val_main_v37, Cert.OutBwdRefIdeal.Read.val_main_v38, Cert.OutBwdRefIdeal.Read.val_main_v39, Cert.OutBwdRefIdeal.Read.val_main_cst_7, Cert.OutBwdRefIdeal.Read.val_main_v40, Cert.OutBwdRefIdeal.Read.val_main_v41, Cert.OutBwdRefIdeal.Read.val_main_cst_8, Cert.OutBwdRefIdeal.Read.val_main_v42, Cert.OutBwdRefIdeal.Read.val_main_v43, Cert.OutBwdRefIdeal.Read.val_main_v44, Cert.OutBwdRefIdeal.Read.val_main_v45, Cert.OutBwdRefIdeal.Read.val_main_v46, Cert.OutBwdRefIdeal.Read.val_main_v47, Cert.OutBwdRefIdeal.Read.val_main_v48, Cert.OutBwdRefIdeal.Read.val_main_v49, Cert.OutBwdRefIdeal.Read.val_main_call1_v0, Cert.OutBwdRefIdeal.Read.val_main_call1_v1, Cert.OutBwdRefIdeal.Read.val_main_call1_v2, Cert.OutBwdRefIdeal.Read.val_main_v50, Cert.OutBwdRefIdeal.Read.val_main_v51, Cert.OutBwdRefIdeal.Read.val_main_v52, Cert.OutBwdRefIdeal.Read.val_main_cst_9, Cert.OutBwdRefIdeal.Read.val_main_v53, Cert.OutBwdRefIdeal.Read.val_main_v54, Cert.OutBwdRefIdeal.Read.val_main_v55, Cert.OutBwdRefIdeal.Read.val_main_v56, Cert.OutBwdRefIdeal.Read.val_main_v57, Cert.OutBwdRefIdeal.Read.val_main_v58, Cert.OutBwdRefIdeal.Read.val_main_v59]
  simp only [h3, h8, h14, h15, Ideal.logistic]

/-- The gradients of the two other branches, one element each. -/
theorem dyc_at (v3 : Vec Ideal S512x1024 .f32) (w : Vec Ideal S256x1024 .bf16) (D : FVec Ideal S8192x1024 .f32) (W : FVec Ideal S1024x1024 .f32)
    (r : Fin 512) (i : Fin 8192) (j : Fin 256) (h3 : ∀ k, v3 (ix2 r k) = D (ix2 i k)) (hw : ∀ a k, w (ix2 a k) = W (ix2 ⟨a, by omega⟩ k)) :
    k0_pay24 (F := Ideal) (k0_pay5 v3 w) (ix2 r j) = Cert.OutBwdRefIdeal.Read.val_main_v57 (F := Ideal) D W (ix2 i j) := by
  pointwise [k0_pay24, k0_pay5, k0_pay4, Cert.OutBwdRefIdeal.Read.val_main_v57, Cert.OutBwdRefIdeal.Read.val_main_v25, Cert.OutBwdRefIdeal.Read.val_main_v24, Cert.OutBwdRefIdeal.Read.val_main_v21, Cert.OutBwdRefIdeal.Read.val_main_v20]
  simp only [h3, hw]

theorem dys_at (v3 : Vec Ideal S512x1024 .f32) (w : Vec Ideal S256x1024 .bf16) (D : FVec Ideal S8192x1024 .f32) (W : FVec Ideal S1024x1024 .f32)
    (r : Fin 512) (i : Fin 8192) (j : Fin 256) (h3 : ∀ k, v3 (ix2 r k) = D (ix2 i k)) (hw : ∀ a k, w (ix2 a k) = W (ix2 ⟨768 + a, by omega⟩ k)) :
    k0_pay25 (F := Ideal) (k0_pay7 v3 w) (ix2 r j) = Cert.OutBwdRefIdeal.Read.val_main_v58 (F := Ideal) D W (ix2 i j) := by
  pointwise [k0_pay25, k0_pay7, k0_pay4, Cert.OutBwdRefIdeal.Read.val_main_v58, Cert.OutBwdRefIdeal.Read.val_main_v27, Cert.OutBwdRefIdeal.Read.val_main_v24, Cert.OutBwdRefIdeal.Read.val_main_v21, Cert.OutBwdRefIdeal.Read.val_main_v20]
  simp only [h3, hw]

/-- The product of the attention's output and its gradient is finite where the arrays are. -/
theorem prod_fin (D : FVec Ideal S8192x1024 .f32) (O Z : FVec Ideal S8192x512 .f32) (G : FVec Ideal S512 .f32) (W : FVec Ideal S1024x1024 .f32)
    (hD : ∀ i, Finite.Fin' (D i)) (hO : ∀ i, Finite.Fin' (O i)) (hZ : ∀ i, Finite.Fin' (Z i)) (hG : ∀ i, Finite.Fin' (G i)) (hW : ∀ i, Finite.Fin' (W i)) (i : Fin 8192) (j : Fin 512) :
    Finite.Fin' (Cert.OutBwdRefIdeal.Read.val_main_v51 (F := Ideal) D O Z G W (ix2 i j)) := by
  have c1 : Finite.Pos (Ideal.ofBits FTy.f32 1140850688#32) := ⟨512, by norm_num, by simp [Ideal.ofBits, Ideal.ieee, -EReal.coe_mul]; norm_num⟩
  have c2 : Finite.Pos (Ideal.ofBits FTy.f32 897988541#32) := by
    refine ⟨8796093 * 2 ^ (-43 : ℤ), by norm_num, by simp [Ideal.ofBits, Ideal.ieee, -EReal.coe_mul]⟩
  have c3 : Finite.Fin' (Ideal.ofBits FTy.f32 3204448256#32) := ⟨-(1/2), by simp [Ideal.ofBits, Ideal.ieee, -EReal.coe_mul]; norm_num⟩
  pointwise [Cert.OutBwdRefIdeal.Read.val_main_cst, Cert.OutBwdRefIdeal.Read.val_main_v0, Cert.OutBwdRefIdeal.Read.val_main_call0_v0, Cert.OutBwdRefIdeal.Read.val_main_call0_v1, Cert.OutBwdRefIdeal.Read.val_main_call0_cst, Cert.OutBwdRefIdeal.Read.val_main_call0_v2, Cert.OutBwdRefIdeal.Read.val_main_call0_v3, Cert.OutBwdRefIdeal.Read.val_main_call0_cst_0, Cert.OutBwdRefIdeal.Read.val_main_call0_v4, Cert.OutBwdRefIdeal.Read.val_main_v1_2, Cert.OutBwdRefIdeal.Read.val_main_call0_cst_1, Cert.OutBwdRefIdeal.Read.val_main_call0_v6, Cert.OutBwdRefIdeal.Read.val_main_call0_v7, Cert.OutBwdRefIdeal.Read.val_main_v1_1, Cert.OutBwdRefIdeal.Read.val_main_v1_0, Cert.OutBwdRefIdeal.Read.val_main_v2, Cert.OutBwdRefIdeal.Read.val_main_v3, Cert.OutBwdRefIdeal.Read.val_main_cst_0, Cert.OutBwdRefIdeal.Read.val_main_v4, Cert.OutBwdRefIdeal.Read.val_main_v5, Cert.OutBwdRefIdeal.Read.val_main_cst_1, Cert.OutBwdRefIdeal.Read.val_main_v6, Cert.OutBwdRefIdeal.Read.val_main_v7, Cert.OutBwdRefIdeal.Read.val_main_cst_2, Cert.OutBwdRefIdeal.Read.val_main_v8, Cert.OutBwdRefIdeal.Read.val_main_v9, Cert.OutBwdRefIdeal.Read.val_main_v10, Cert.OutBwdRefIdeal.Read.val_main_v11, Cert.OutBwdRefIdeal.Read.val_main_cst_3, Cert.OutBwdRefIdeal.Read.val_main_v12, Cert.OutBwdRefIdeal.Read.val_main_v13, Cert.OutBwdRefIdeal.Read.val_main_v14, Cert.OutBwdRefIdeal.Read.val_main_v15, Cert.OutBwdRefIdeal.Read.val_main_v16, Cert.OutBwdRefIdeal.Read.val_main_v17, Cert.OutBwdRefIdeal.Read.val_main_v20, Cert.OutBwdRefIdeal.Read.val_main_v21, Cert.OutBwdRefIdeal.Read.val_main_v22, Cert.OutBwdRefIdeal.Read.val_main_v23, Cert.OutBwdRefIdeal.Read.val_main_v24, Cert.OutBwdRefIdeal.Read.val_main_v25, Cert.OutBwdRefIdeal.Read.val_main_v26, Cert.OutBwdRefIdeal.Read.val_main_v27, Cert.OutBwdRefIdeal.Read.val_main_v28, Cert.OutBwdRefIdeal.Read.val_main_cst_4, Cert.OutBwdRefIdeal.Read.val_main_v29, Cert.OutBwdRefIdeal.Read.val_main_v30, Cert.OutBwdRefIdeal.Read.val_main_v31, Cert.OutBwdRefIdeal.Read.val_main_v32, Cert.OutBwdRefIdeal.Read.val_main_cst_5, Cert.OutBwdRefIdeal.Read.val_main_v33, Cert.OutBwdRefIdeal.Read.val_main_v34, Cert.OutBwdRefIdeal.Read.val_main_cst_6, Cert.OutBwdRefIdeal.Read.val_main_v35, Cert.OutBwdRefIdeal.Read.val_main_v36, Cert.OutBwdRefIdeal.Read.val_main_v37, Cert.OutBwdRefIdeal.Read.val_main_v38, Cert.OutBwdRefIdeal.Read.val_main_v39, Cert.OutBwdRefIdeal.Read.val_main_cst_7, Cert.OutBwdRefIdeal.Read.val_main_v40, Cert.OutBwdRefIdeal.Read.val_main_v41, Cert.OutBwdRefIdeal.Read.val_main_cst_8, Cert.OutBwdRefIdeal.Read.val_main_v42, Cert.OutBwdRefIdeal.Read.val_main_v43, Cert.OutBwdRefIdeal.Read.val_main_v44, Cert.OutBwdRefIdeal.Read.val_main_v45, Cert.OutBwdRefIdeal.Read.val_main_v46, Cert.OutBwdRefIdeal.Read.val_main_v47, Cert.OutBwdRefIdeal.Read.val_main_v48, Cert.OutBwdRefIdeal.Read.val_main_v49, Cert.OutBwdRefIdeal.Read.val_main_call1_v0, Cert.OutBwdRefIdeal.Read.val_main_call1_v1, Cert.OutBwdRefIdeal.Read.val_main_call1_v2, Cert.OutBwdRefIdeal.Read.val_main_v50, Cert.OutBwdRefIdeal.Read.val_main_v51, Cert.OutBwdRefIdeal.Read.val_main_v52, Cert.OutBwdRefIdeal.Read.val_main_cst_9, Cert.OutBwdRefIdeal.Read.val_main_v53, Cert.OutBwdRefIdeal.Read.val_main_v54, Cert.OutBwdRefIdeal.Read.val_main_v55, Cert.OutBwdRefIdeal.Read.val_main_v56, Cert.OutBwdRefIdeal.Read.val_main_v57, Cert.OutBwdRefIdeal.Read.val_main_v58, Cert.OutBwdRefIdeal.Read.val_main_v59]
  with_reducible
    repeat' first
    | exact c1 | exact c2 | exact c3 | exact hD _ | exact hO _ | exact hZ _ | exact hG _ | exact hW _ | exact Finite.one | exact Finite.Pos.one | exact Finite.zero
    | apply Finite.add | apply Finite.mul | apply Finite.sub | apply Finite.neg | (apply Finite.sum; intro _) | apply Finite.div
    | (apply Finite.Pos.fin; apply Finite.rsqrt) | apply Finite.Nonneg.add_pos | apply Finite.Nonneg.div | (apply Finite.Nonneg.sum; intro _) | apply Finite.sq
    | apply Finite.Pos.nonneg | apply Finite.exp

/-- The first result: the gradient of the attention's output. -/
theorem final7 (c : Dev nD) : (dats m 0 c).arrAt 7 (cfgs 0).N = Cert.OutBwdRefIdeal.Read.val_main_v55 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 7 _ (by decide +kernel) fun t _ y => ?_
  blk_simp
  rw [after0_7]
  have key : ∀ (r : Fin 512) (j : Fin 512), (outsAt0 m c t.val t.isLt).1 (ix2 r j) = Cert.OutBwdRefIdeal.Read.val_main_v55 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 (row t r) j) := by
    intro r j
    pointwise [Cert.OutBwdRefIdeal.Read.val_main_v55]
    by_cases h : t.val % 16 = 0
    · rw [outsAt0_A m c t h]; frame_out
      exact do_at _ _ _ _ _ _ _ _ _ _ r _ j (blk_dy m c t r) (fun a k => by pointwise; exact blk_w m c t _ k) (blk_o m c t r) (blk_z m c t r) (blk_g m c t)
    · rw [outsAt0_B m c t h]; frame_out
      exact do_at _ _ _ _ _ _ _ _ _ _ r _ j (blk_dy m c t r) (fun a k => by pointwise; exact blk_w m c t _ k) (blk_o m c t r) (blk_z m c t r) (blk_g m c t)
  idx_vars y
  rw [key]
  blk_point [idx t]

/-- The second result: each head's row sum of output times gradient. -/
theorem final8 (c : Dev nD) (hf : ∀ i j, Finite.Fin' (Cert.OutBwdRefIdeal.Read.val_main_v51 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 i j))) : (dats m 0 c).arrAt 8 (cfgs 0).N = Cert.OutBwdRefIdeal.Read.val_main_v54 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 8 _ (by decide +kernel) fun t _ y => ?_
  blk_simp
  rw [after0_8]
  have key : ∀ (h : Fin 8) (r : Fin 512), (outsAt0 m c t.val t.isLt).2.1 (ix2 h r) = Cert.OutBwdRefIdeal.Read.val_main_v54 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 h (row t r)) := by
    intro h r
    have hp : ∀ x, k0_pay30 (F := Ideal) (iblk m c 1 t) (k0_pay21 (k0_pay6 (iblk m c 0 t) (View.ld (iblk m c 6 t) (Rect.unit (s := S1024x1024) ![256, 0] ![512, 1024] inb_S1024x1024_S512x1024_256_0)))
        (k0_pay9 (iblk m c 5 t)) (k0_pay12 (X0_2 m c t)) (k0_pay13 (iblk m c 1 t) (X0_2 m c t)) (k0_pay15 (iblk m c 1 t) (X0_2 m c t)) (k0_pay16 (iblk m c 1 t) (X0_2 m c t))) (ix2 r x)
        = Cert.OutBwdRefIdeal.Read.val_main_v51 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 (row t r) x) := by
      intro x
      pointwise [k0_pay30, Cert.OutBwdRefIdeal.Read.val_main_v51]
      exact congrArg₂ (· * ·) (do_at _ _ _ _ _ _ _ _ _ _ r _ x (blk_dy m c t r) (fun a k => by pointwise; exact blk_w m c t _ k) (blk_o m c t r) (blk_z m c t r) (blk_g m c t)) (blk_o m c t r x)
    have hr : Cert.OutBwdRefIdeal.Read.val_main_v54 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 h (row t r)) = ∑ k : Fin 64, Cert.OutBwdRefIdeal.Read.val_main_v51 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 (row t r) ⟨h * 64 + k, by omega⟩) := by
      pointwise [Cert.OutBwdRefIdeal.Read.val_main_v54, Cert.OutBwdRefIdeal.Read.val_main_v53, Cert.OutBwdRefIdeal.Read.val_main_v52, Cert.OutBwdRefIdeal.Read.val_main_cst_9]
    have hv : ∀ (v14 : Vec Ideal S512x512 .f32) (v62 : FVec Ideal S512x512 .f32) (x : Fin 512), k0_pay31 (F := Ideal) v14 v62 (ix2 r x) = k0_pay30 (F := Ideal) v14 v62 (ix2 r x)
        ∧ k0_pay32 (F := Ideal) v14 v62 (ix2 r x) = k0_pay30 (F := Ideal) v14 v62 (ix2 r x) - k0_pay30 (F := Ideal) v14 v62 (ix2 r x) := by
      intro v14 v62 x
      constructor
      · pointwise [k0_pay31]
      · pointwise [k0_pay32, k0_pay31]
    rw [hr]
    by_cases h' : t.val % 16 = 0
    · rw [outsAt0_A m c t h']; frame_out
      refine delta_at _ _ (fun x => Cert.OutBwdRefIdeal.Read.val_main_v51 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 (row t r) x)) h r (fun x => (hv _ _ x).1.trans (hp x)) fun x => (hv _ _ x).2.trans ?_
      exact (congrArg₂ (· - ·) (hp x) (hp x)).trans (Finite.sub_self (hf _ _))
    · rw [outsAt0_B m c t h']; frame_out
      refine delta_at _ _ (fun x => Cert.OutBwdRefIdeal.Read.val_main_v51 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 (row t r) x)) h r (fun x => (hv _ _ x).1.trans (hp x)) fun x => (hv _ _ x).2.trans ?_
      exact (congrArg₂ (· - ·) (hp x) (hp x)).trans (Finite.sub_self (hf _ _))
  idx_vars y
  rw [key]
  blk_point [idx t]

/-- The third result: the gate's gradient. -/
theorem final9 (c : Dev nD) : (dats m 0 c).arrAt 9 (cfgs 0).N = Cert.OutBwdRefIdeal.Read.val_main_v56 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 9 _ (by decide +kernel) fun t _ y => ?_
  blk_simp
  rw [after0_9]
  have key : ∀ (r : Fin 512) (j : Fin 512), (outsAt0 m c t.val t.isLt).2.2.1 (ix2 r j) = Cert.OutBwdRefIdeal.Read.val_main_v56 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 (row t r) j) := by
    intro r j
    by_cases h : t.val % 16 = 0
    · rw [outsAt0_A m c t h]; frame_out
      exact dz_at _ _ _ _ _ _ _ _ _ _ r _ j (blk_dy m c t r) (fun a k => by pointwise; exact blk_w m c t _ k) (blk_o m c t r) (blk_z m c t r) (blk_g m c t)
    · rw [outsAt0_B m c t h]; frame_out
      exact dz_at _ _ _ _ _ _ _ _ _ _ r _ j (blk_dy m c t r) (fun a k => by pointwise; exact blk_w m c t _ k) (blk_o m c t r) (blk_z m c t r) (blk_g m c t)
  idx_vars y
  rw [key]
  blk_point [idx t]

/-- The fourth result: the gradient of the convolution branch. -/
theorem final10 (c : Dev nD) : (dats m 0 c).arrAt 10 (cfgs 0).N = Cert.OutBwdRefIdeal.Read.val_main_v57 (F := Ideal) (m ((c : Thread nD τ).loc main_arg0)) (m ((c : Thread nD τ).loc main_arg6)) := by
  refine (dats m 0 c).arrAt_eq_of_covers 10 _ (by decide +kernel) fun t _ y => ?_
  blk_simp
  rw [after0_10]
  have key : ∀ (r : Fin 512) (j : Fin 256), (outsAt0 m c t.val t.isLt).2.2.2.1 (ix2 r j) = Cert.OutBwdRefIdeal.Read.val_main_v57 (F := Ideal) (m ((c : Thread nD τ).loc main_arg0)) (m ((c : Thread nD τ).loc main_arg6)) (ix2 (row t r) j) := by
    intro r j
    by_cases h : t.val % 16 = 0
    · rw [outsAt0_A m c t h]; frame_out
      exact dyc_at _ _ _ _ r _ j (blk_dy m c t r) fun a k => by pointwise; exact blk_w m c t _ k
    · rw [outsAt0_B m c t h]; frame_out
      exact dyc_at _ _ _ _ r _ j (blk_dy m c t r) fun a k => by pointwise; exact blk_w m c t _ k
  idx_vars y
  rw [key]
  blk_point [idx t]

/-- The fifth result: the gradient of the spatial gate's branch. -/
theorem final11 (c : Dev nD) : (dats m 0 c).arrAt 11 (cfgs 0).N = Cert.OutBwdRefIdeal.Read.val_main_v58 (F := Ideal) (m ((c : Thread nD τ).loc main_arg0)) (m ((c : Thread nD τ).loc main_arg6)) := by
  refine (dats m 0 c).arrAt_eq_of_covers 11 _ (by decide +kernel) fun t _ y => ?_
  blk_simp
  rw [after0_11]
  have key : ∀ (r : Fin 512) (j : Fin 256), (outsAt0 m c t.val t.isLt).2.2.2.2.1 (ix2 r j) = Cert.OutBwdRefIdeal.Read.val_main_v58 (F := Ideal) (m ((c : Thread nD τ).loc main_arg0)) (m ((c : Thread nD τ).loc main_arg6)) (ix2 (row t r) j) := by
    intro r j
    by_cases h : t.val % 16 = 0
    · rw [outsAt0_A m c t h]; frame_out
      exact dys_at _ _ _ _ r _ j (blk_dy m c t r) fun a k => by pointwise; exact blk_w m c t _ k
    · rw [outsAt0_B m c t h]; frame_out
      exact dys_at _ _ _ _ r _ j (blk_dy m c t r) fun a k => by pointwise; exact blk_w m c t _ k
  idx_vars y
  rw [key]
  blk_point [idx t]

/-- The part of the output weight's gradient that one block adds. -/
def dwPart (c : Dev nD) (t : Fin cfg0.N) (y : S1024x1024.Idx) : EReal :=
  ∑ r : Fin 512, Cert.OutBwdRefIdeal.Read.val_main_v19 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) (y 0)) * (m ((c : Thread nD τ).loc main_arg0)) (ix2 (row t r) (y 1))

/-- The output gradient's block as the products read it. -/
theorem blk_dyb (c : Dev nD) (t : Fin cfg0.N) (r : Fin 512) (k : Fin 1024) :
    k0_pay4 (F := Ideal) (iblk m c 0 t) (ix2 r k) = (m ((c : Thread nD τ).loc main_arg0)) (ix2 (row t r) k) := by
  pointwise [k0_pay4]
  exact blk_dy m c t r k

theorem low_at (v4 : FVec Ideal S512x1024 .bf16) (acc : Vec Ideal S256x1024 .f32) (v : Vec Ideal S512x256 .bf16) (a : Fin 256) (b : Fin 1024) :
    k0_pay27 (F := Ideal) v4 acc v (ix2 a b) = acc (ix2 a b) + ∑ r : Fin 512, v (ix2 r a) * v4 (ix2 r b) := by
  pointwise [k0_pay27]

theorem mid_at (v4 : FVec Ideal S512x1024 .bf16) (v : FVec Ideal S512x512 .f32) (acc : Vec Ideal S512x1024 .f32) (a : Fin 512) (b : Fin 1024) :
    k0_pay28 (F := Ideal) v4 v acc (ix2 a b) = acc (ix2 a b) + ∑ r : Fin 512, v (ix2 r a) * v4 (ix2 r b) := by
  pointwise [k0_pay28]

theorem high_at (v4 : FVec Ideal S512x1024 .bf16) (acc : Vec Ideal S256x1024 .f32) (v : Vec Ideal S512x256 .bf16) (a : Fin 256) (b : Fin 1024) :
    k0_pay29 (F := Ideal) v4 acc v (ix2 a b) = acc (ix2 a b) + ∑ r : Fin 512, v (ix2 r a) * v4 (ix2 r b) := by
  pointwise [k0_pay29]

/-- A row of the three parts of the accumulated weight. -/
theorem emb_rows (o n : ℕ) (inb : ∀ a, (![o, 0] : Fin 2 → ℕ) a + (![n, 1024] : Fin 2 → ℕ) a ≤ S1024x1024.size a) (ho : o + n ≤ 1024) (a : Fin n) (b : Fin 1024) :
    (Rect.unit (s := S1024x1024) ![o, 0] ![n, 1024] inb).emb (ix2 a b) = ix2 ⟨o + a, by omega⟩ b :=
  funext fun k => Fin.ext (by match k with
    | ⟨0, _⟩ => show o + 1 * a.val = o + a.val; omega
    | ⟨1, _⟩ => show 0 + 1 * b.val = b.val; omega)

/-- The three row parts cover the weight. -/
theorem rows_mem (a b : Fin 1024) : ix2 a b ∈ (Rect.unit (s := S1024x1024) ![768, 0] ![256, 1024] inb_S1024x1024_S256x1024_768_0).set
    ∨ ix2 a b ∈ (Rect.unit (s := S1024x1024) ![256, 0] ![512, 1024] inb_S1024x1024_S512x1024_256_0).set
    ∨ ix2 a b ∈ (Rect.unit (s := S1024x1024) ![0, 0] ![256, 1024] inb_S1024x1024_S256x1024_0_0).set := by
  have hb := b.isLt
  have ha := a.isLt
  rcases (by omega : 768 ≤ a.val ∨ (256 ≤ a.val ∧ a.val < 768) ∨ a.val < 256) with h | h | h
  · exact .inl (Rect.mem_set_unit.mpr fun k => by match k with
      | ⟨0, _⟩ => show 768 ≤ a.val ∧ a.val < 768 + 256; omega
      | ⟨1, _⟩ => show 0 ≤ b.val ∧ b.val < 0 + 1024; omega)
  · exact .inr (.inl (Rect.mem_set_unit.mpr fun k => by match k with
      | ⟨0, _⟩ => show 256 ≤ a.val ∧ a.val < 256 + 512; omega
      | ⟨1, _⟩ => show 0 ≤ b.val ∧ b.val < 0 + 1024; omega))
  · exact .inr (.inr (Rect.mem_set_unit.mpr fun k => by match k with
      | ⟨0, _⟩ => show 0 ≤ a.val ∧ a.val < 0 + 256; omega
      | ⟨1, _⟩ => show 0 ≤ b.val ∧ b.val < 0 + 1024; omega))

/-- One later block's step of the weight's gradient. -/
theorem dw_B (c : Dev nD) (t : Fin cfg0.N) (h : t.val % 16 ≠ 0) (a b : Fin 1024) :
    (outsAt0 m c t.val t.isLt).2.2.2.2.2.1 (ix2 a b) = (outsAt0 m c (t.val - 1) (by omega)).2.2.2.2.2.1 (ix2 a b) + dwPart m c t (ix2 a b) := by
  rw [outsAt0_B m c t h]
  frame_out
  refine View.canon_append_of_piecesOf (fun y => (outsAt0 m c (t.val - 1) (by omega)).2.2.2.2.2.1 y + dwPart m c t y) [] (_ :: _ :: [_]) ⟨fun x => ?_, fun x => ?_, fun x => ?_, trivial⟩ (ix2 a b) ?_
  · idx_vars x
    rw [emb_rows 768 256 _ (by omega)]
    refine (high_at _ _ _ x0 x1).trans (congrArg₂ (· + ·) (by pointwise) (Finset.sum_congr rfl fun r _ => ?_))
    exact congrArg₂ (fun a b : EReal => a * b) ((blk_ys m c t r x0).trans (cat_high _ _ _ _ _ _ x0).symm) (blk_dyb m c t r x1)
  · idx_vars x
    rw [emb_rows 256 512 _ (by omega)]
    refine (mid_at _ _ _ x0 x1).trans (congrArg₂ (· + ·) (by pointwise) (Finset.sum_congr rfl fun r _ => ?_))
    exact congrArg₂ (fun a b : EReal => a * b) ((yn_at _ _ _ _ _ _ r _ x0 (blk_o m c t r) (blk_z m c t r) (blk_g m c t)).trans (cat_mid _ _ _ _ _ _ x0).symm) (blk_dyb m c t r x1)
  · idx_vars x
    rw [emb_rows 0 256 _ (by omega)]
    refine (low_at _ _ _ x0 x1).trans (congrArg₂ (· + ·) (by pointwise) (Finset.sum_congr rfl fun r _ => ?_))
    refine congrArg₂ (fun a b : EReal => a * b) ((blk_yc m c t r x0).trans ((cat_low (m ((c : Thread nD τ).loc main_arg1)) (m ((c : Thread nD τ).loc main_arg2)) (m ((c : Thread nD τ).loc main_arg3)) (m ((c : Thread nD τ).loc main_arg4)) (m ((c : Thread nD τ).loc main_arg5)) (row t r) x0).symm.trans ?_)) (blk_dyb m c t r x1)
    exact congrArg (fun k => Cert.OutBwdRefIdeal.Read.val_main_v19 (F := Ideal) _ _ _ _ _ (ix2 (row t r) k)) (Fin.ext (by show x0.val = 0 + x0.val; omega))
  · rcases rows_mem a b with h | h | h
    · exact ⟨_, List.mem_cons_self, h⟩
    · exact ⟨_, List.mem_cons_of_mem _ List.mem_cons_self, h⟩
    · exact ⟨_, List.mem_cons_of_mem _ (List.mem_cons_of_mem _ List.mem_cons_self), h⟩

/-- The first block's step of the weight's gradient, over zeros. -/
theorem dw_A (c : Dev nD) (t : Fin cfg0.N) (h : t.val % 16 = 0) (a b : Fin 1024) :
    (outsAt0 m c t.val t.isLt).2.2.2.2.2.1 (ix2 a b) = 0 + dwPart m c t (ix2 a b) := by
  have hz : ∀ y, k0_pay2 (F := Ideal) y = 0 := by
    intro y
    pointwise [k0_pay2]
  rw [outsAt0_A m c t h]
  frame_out
  simp only [View.readCov_skip _ _ _ _ (Rect.unit (s := S1024x1024) ![768, 0] ![256, 1024] inb_S1024x1024_S256x1024_768_0).toLoadRect (show LoadRect.disj (Rect.unit (s := S1024x1024) ![256, 0] ![512, 1024] inb_S1024x1024_S512x1024_256_0) _ = true by decide),
    View.readCov_skip _ _ _ _ (Rect.unit (s := S1024x1024) ![768, 0] ![256, 1024] inb_S1024x1024_S256x1024_768_0).toLoadRect (show LoadRect.disj (Rect.unit (s := S1024x1024) ![0, 0] ![256, 1024] inb_S1024x1024_S256x1024_0_0) _ = true by decide),
    View.readCov_skip _ _ _ _ (Rect.unit (s := S1024x1024) ![256, 0] ![512, 1024] inb_S1024x1024_S512x1024_256_0).toLoadRect (show LoadRect.disj (Rect.unit (s := S1024x1024) ![0, 0] ![256, 1024] inb_S1024x1024_S256x1024_0_0) _ = true by decide)]
  refine View.canon_append_of_piecesOf (Val := Elt Ideal) (s := S1024x1024) (e := EltTy.f32) (fun y => 0 + dwPart m c t y) [_] (_ :: _ :: [_]) ⟨fun x => ?_, fun x => ?_, fun x => ?_, trivial⟩ (ix2 a b) ?_
  · idx_vars x
    rw [emb_rows 768 256 _ (by omega), View.readCov_fill _ _ _ _ _ (by decide)]
    refine (high_at _ _ _ x0 x1).trans (congrArg₂ (· + ·) (hz _) (Finset.sum_congr rfl fun r _ => ?_))
    exact congrArg₂ (fun a b : EReal => a * b) ((blk_ys m c t r x0).trans (cat_high _ _ _ _ _ _ x0).symm) (blk_dyb m c t r x1)
  · idx_vars x
    rw [emb_rows 256 512 _ (by omega), View.readCov_fill _ _ _ _ _ (by decide)]
    refine (mid_at _ _ _ x0 x1).trans (congrArg₂ (· + ·) (hz _) (Finset.sum_congr rfl fun r _ => ?_))
    exact congrArg₂ (fun a b : EReal => a * b) ((yn_at _ _ _ _ _ _ r _ x0 (blk_o m c t r) (blk_z m c t r) (blk_g m c t)).trans (cat_mid _ _ _ _ _ _ x0).symm) (blk_dyb m c t r x1)
  · idx_vars x
    rw [emb_rows 0 256 _ (by omega), View.readCov_fill _ _ _ _ _ (by decide)]
    refine (low_at _ _ _ x0 x1).trans (congrArg₂ (· + ·) (hz _) (Finset.sum_congr rfl fun r _ => ?_))
    refine congrArg₂ (fun a b : EReal => a * b) ((blk_yc m c t r x0).trans ((cat_low (m ((c : Thread nD τ).loc main_arg1)) (m ((c : Thread nD τ).loc main_arg2)) (m ((c : Thread nD τ).loc main_arg3)) (m ((c : Thread nD τ).loc main_arg4)) (m ((c : Thread nD τ).loc main_arg5)) (row t r) x0).symm.trans ?_)) (blk_dyb m c t r x1)
    exact congrArg (fun k => Cert.OutBwdRefIdeal.Read.val_main_v19 (F := Ideal) _ _ _ _ _ (ix2 (row t r) k)) (Fin.ext (by show x0.val = 0 + x0.val; omega))
  · rcases rows_mem a b with h | h | h
    · exact ⟨_, List.mem_cons_self, h⟩
    · exact ⟨_, List.mem_cons_of_mem _ List.mem_cons_self, h⟩
    · exact ⟨_, List.mem_cons_of_mem _ (List.mem_cons_of_mem _ List.mem_cons_self), h⟩

/-- The sixth result: the output weight's gradient. -/
theorem final12 (c : Dev nD) : (dats m 0 c).arrAt 12 (cfgs 0).N = Cert.OutBwdRefIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 12 t0_15 (by decide +kernel) _ fun y => ?_
  blk_simp
  idx_vars y
  rw [after0_12, Pipeline.eq_sum_fin_of_reset_step_apply_last (fun n h j => (outsAt0 m c n h).2.2.2.2.2.1 (ix2 y0 j)) 16 (fun _ => 0) (fun t j => dwPart m c t (ix2 y0 j))
    (fun t h j => dw_A m c t h y0 j) (fun t h j => dw_B m c t h y0 j) (le_of_eq N_0) t0_15 rfl y1, zero_add]
  have hr : Cert.OutBwdRefIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 y0 y1)
      = ∑ i : Fin 8192, Cert.OutBwdRefIdeal.Read.val_main_v19 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (ix2 i y0) * (m ((c : Thread nD τ).loc main_arg0)) (ix2 i y1) := by
    pointwise [Cert.OutBwdRefIdeal.Read.val_main_v23, Cert.OutBwdRefIdeal.Read.val_main_v22, Cert.OutBwdRefIdeal.Read.val_main_v20]
    exact Finset.sum_congr rfl fun i _ => mul_comm _ _
  refine Eq.trans ?_ hr.symm
  refine Fin.sum_mul_add_congr (f := fun i => Cert.OutBwdRefIdeal.Read.val_main_v19 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (ix2 i y0) * (m ((c : Thread nD τ).loc main_arg0)) (ix2 i y1)) (fun t k hl => ?_) (by show 8192 = grid0.N * 512; rw [N_0])
  exact congrArg (fun i => Cert.OutBwdRefIdeal.Read.val_main_v19 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (ix2 i y0) * (m ((c : Thread nD τ).loc main_arg0)) (ix2 i y1)) (Fin.ext (by show 512 * t.val + k.val = t.val * 512 + k.val; omega))

/-- The seventh result: the norm weight's gradient. -/
theorem final13 (c : Dev nD) : (dats m 0 c).arrAt 13 (cfgs 0).N = Cert.OutBwdRefIdeal.Read.val_main_v59 (F := Ideal) (m ((c : Thread nD τ).loc main_arg0)) (m ((c : Thread nD τ).loc main_arg1)) (m ((c : Thread nD τ).loc main_arg2)) (m ((c : Thread nD τ).loc main_arg6)) := by
  have hz : ∀ j, k0_pay3 (F := Ideal) (ix2 0 j) = 0 := by
    intro j
    pointwise [k0_pay3]
  refine (dats m 0 c).arrAt_eq_of_after_last 13 t0_15 (by decide +kernel) _ fun y => ?_
  blk_simp
  idx_vars y
  obtain rfl : y0 = 0 := Subsingleton.elim _ _
  rw [after0_13, Pipeline.eq_sum_fin_of_reset_step_apply_last (fun n h j => (outsAt0 m c n h).2.2.2.2.2.2 (ix2 0 j)) 16 (fun _ => 0)
    (fun t j => ∑ r : Fin 512, Cert.OutBwdRefIdeal.Read.val_main_v28 (F := Ideal) (m ((c : Thread nD τ).loc main_arg0)) (m ((c : Thread nD τ).loc main_arg1)) (m ((c : Thread nD τ).loc main_arg2)) (m ((c : Thread nD τ).loc main_arg6)) (ix2 (row t r) j))
    (fun t h j => by
      rw [outsAt0_A m c t h]; frame_out
      refine (dg_at _ _ _ _ _ _ _ _ _ (row t) j (blk_dy m c t) (fun a k => by pointwise; exact blk_w m c t _ k) (blk_o m c t) (blk_z m c t)).trans ?_
      rw [hz])
    (fun t h j => by
      rw [outsAt0_B m c t h]; frame_out
      exact dg_at _ _ _ _ _ _ _ _ _ (row t) j (blk_dy m c t) (fun a k => by pointwise; exact blk_w m c t _ k) (blk_o m c t) (blk_z m c t))
    (le_of_eq N_0) t0_15 rfl y1, zero_add]
  have hr : Cert.OutBwdRefIdeal.Read.val_main_v59 (F := Ideal) (m ((c : Thread nD τ).loc main_arg0)) (m ((c : Thread nD τ).loc main_arg1)) (m ((c : Thread nD τ).loc main_arg2)) (m ((c : Thread nD τ).loc main_arg6)) (ix2 0 y1) = ∑ i : Fin 8192, Cert.OutBwdRefIdeal.Read.val_main_v28 (F := Ideal) (m ((c : Thread nD τ).loc main_arg0)) (m ((c : Thread nD τ).loc main_arg1)) (m ((c : Thread nD τ).loc main_arg2)) (m ((c : Thread nD τ).loc main_arg6)) (ix2 i y1) := by
    pointwise [Cert.OutBwdRefIdeal.Read.val_main_v59, Cert.OutBwdRefIdeal.Read.val_main_v33, Cert.OutBwdRefIdeal.Read.val_main_v30, Cert.OutBwdRefIdeal.Read.val_main_v29, Cert.OutBwdRefIdeal.Read.val_main_cst_4, Cert.OutBwdRefIdeal.Read.val_main_cst_5]
    simp only [Finset.univ_unique, Finset.sum_singleton]
  refine Eq.trans ?_ hr.symm
  refine Fin.sum_mul_add_congr (f := fun i => Cert.OutBwdRefIdeal.Read.val_main_v28 (F := Ideal) (m ((c : Thread nD τ).loc main_arg0)) (m ((c : Thread nD τ).loc main_arg1)) (m ((c : Thread nD τ).loc main_arg2)) (m ((c : Thread nD τ).loc main_arg6)) (ix2 i y1)) (fun t k hl => ?_) (by show 8192 = grid0.N * 512; rw [N_0])
  exact congrArg (fun i => Cert.OutBwdRefIdeal.Read.val_main_v28 (F := Ideal) (m ((c : Thread nD τ).loc main_arg0)) (m ((c : Thread nD τ).loc main_arg1)) (m ((c : Thread nD τ).loc main_arg2)) (m ((c : Thread nD τ).loc main_arg6)) (ix2 i y1)) (Fin.ext (by show 512 * t.val + k.val = t.val * 512 + k.val; omega))

/-- The precondition's masks, read as finiteness of the arrays' elements. -/
theorem finite_of_pre (h : Cert.Pre_OutBwdIdeal_finite m) (c : Dev nD) :
    (∀ i, Finite.Fin' ((m ((c : Thread nD τ).loc main_arg0)) i)) ∧ (∀ i, Finite.Fin' ((m ((c : Thread nD τ).loc main_arg1)) i)) ∧ (∀ i, Finite.Fin' ((m ((c : Thread nD τ).loc main_arg2)) i)) ∧ (∀ i, Finite.Fin' ((m ((c : Thread nD τ).loc main_arg5)) i)) ∧ (∀ i, Finite.Fin' ((m ((c : Thread nD τ).loc main_arg6)) i)) := by
  obtain ⟨h0, h1, h2, h5, h6⟩ := h c
  simp only [Cert.Pre_finite.fn] at h0 h1 h2 h5 h6
  exact ⟨fun i => Finite.of_mask (congrFun h0 i), fun i => Finite.of_mask (congrFun h1 i), fun i => Finite.of_mask (congrFun h2 i),
    fun i => Finite.of_mask (congrFun h5 i), fun i => Finite.of_mask (congrFun h6 i)⟩

/-- The second result under the precondition. -/
theorem final8_of_pre (h : Cert.Pre_OutBwdIdeal_finite m) (c : Dev nD) : (dats m 0 c).arrAt 8 (cfgs 0).N = Cert.OutBwdRefIdeal.Read.val_main_v54 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  obtain ⟨h0, h1, h2, h5, h6⟩ := finite_of_pre m h c
  exact final8 m c fun i j => prod_fin _ _ _ _ _ h0 h1 h2 h5 h6 i j
end Cert.OutBwdIdeal.Block
end
-- ==== Proof.OutBwd.lean ====
module

public import proofs.«01_k».proof.Defs
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutBwdRefIdeal
public import proofs.«01_k».proof.Proof.Gen.OutBwdRefIdeal.Run
public import proofs.«01_k».proof.Proof.Gen.OutBwdRefIdeal.Read
public import proofs.«01_k».proof.Proof.OutBwdValue
public import Idealize.ShloMosaic.Lib.Claim

@[expose] public section

set_option maxRecDepth 16384

noncomputable section

/-!
The claims of the backward pass of the output projection, the gate and the branch norm: the frames, and that the kernel and
the reference hold the same seven gradients on the extended reals where the arrays are finite.
-/

namespace Cert.Proof

open Idealize.ShloMosaic Idealize.SL.Sem

/-- The frame of `OutBwd`: its generated run. -/
theorem outBwd_frame : Cert.quiescent_OutBwd := fun m ρ _ => Cert.OutBwd.Gen.frame m ρ

/-- The frame of `OutBwdIdeal`: its generated run. -/
theorem outBwdIdeal_frame : Cert.quiescent_OutBwdIdeal := fun m ρ _ => Cert.OutBwdIdeal.Gen.frame m ρ

/-- The frame of the reference: no operation writes an argument, and the program declares no semaphore. -/
theorem outBwdRefIdeal_frame : Cert.quiescent_OutBwdRefIdeal := fun m ρ _ =>
  (θ_run Cert.OutBwdRefIdeal.defs _ _).mono (fun r h => ⟨fun c => (h c).2.2.2.2.2.2.2,
      sem_eq_zero_of_no_sems (by decide) r.2⟩)
    (Cert.OutBwdRefIdeal.Value.run (F := Ideal) m ρ)

/-- No operation is rewritten, so there is nothing to preserve. -/
theorem outBwd_preserves : Cert.preserves_OutBwd_OutBwdIdeal := trivial

/-- The frames again under the precondition, which they do not need. -/
theorem outBwdIdeal_frame_pre : Cert.quiescent_OutBwdIdeal_pre_finite := fun m ρ _ => Cert.OutBwdIdeal.Gen.frame m ρ

theorem outBwdRefIdeal_frame_pre : Cert.quiescent_OutBwdRefIdeal_pre_finite := fun m ρ _ => outBwdRefIdeal_frame m ρ trivial

set_option maxHeartbeats 2000000 in
/-- Kernel and reference agree: the kernel's seven arrays are the reference's by `Block.final7` to `Block.final13`. -/
theorem outBwd_algebraic : Cert.algebraic_OutBwdIdeal_OutBwdRefIdeal_pre_finite := by
  pair_intro
  · run_from Cert.OutBwdIdeal.Value.run_blocks m g
  · run_from Cert.OutBwdRefIdeal.Value.run m' g'
    · exact (Cert.OutBwdRefIdeal.Read.val_main_v55_eq m' c).trans (by
        obtain ⟨h0, h1, h2, -, -, h5, h6⟩ := hagree c
        rw [h0, h1, h2, h5, h6]
        exact (Cert.OutBwdIdeal.Block.final7 m c).symm)
    · exact (Cert.OutBwdRefIdeal.Read.val_main_v54_eq m' c).trans (by
        obtain ⟨h0, h1, h2, -, -, h5, h6⟩ := hagree c
        rw [h0, h1, h2, h5, h6]
        exact (Cert.OutBwdIdeal.Block.final8_of_pre m hpre c).symm)
    · exact (Cert.OutBwdRefIdeal.Read.val_main_v56_eq m' c).trans (by
        obtain ⟨h0, h1, h2, -, -, h5, h6⟩ := hagree c
        rw [h0, h1, h2, h5, h6]
        exact (Cert.OutBwdIdeal.Block.final9 m c).symm)
    · exact (Cert.OutBwdRefIdeal.Read.val_main_v57_eq _ _).trans (Cert.OutBwdIdeal.Block.final10 m c).symm
    · exact (Cert.OutBwdRefIdeal.Read.val_main_v58_eq _ _).trans (Cert.OutBwdIdeal.Block.final11 m c).symm
    · exact (Cert.OutBwdRefIdeal.Read.val_main_v23_eq _ _ _ _ _ _).trans (by
        obtain ⟨-, h1, h2, h3, h4, h5, -⟩ := hagree c
        rw [h1, h2, h3, h4, h5]
        exact (Cert.OutBwdIdeal.Block.final12 m c).symm)
    · exact (Cert.OutBwdRefIdeal.Read.val_main_v59_eq _ _ _ _).trans (Cert.OutBwdIdeal.Block.final13 m c).symm

end Cert.Proof

end
-- ==== Proof.InprojDxHost.lean ====
module

public import proofs.«01_k».proof.Defs
public import proofs.«01_k».proof.Proof.Gen.InprojDxIdeal.Value
public import proofs.«01_k».proof.Proof.Gen.InprojDxRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InprojDxIdeal.Block

open Cert.InprojDxIdeal Cert.InprojDxIdeal.Gen

variable (m : (ℓ : Loc nD τ sig) → Buf (Elt Ideal) ℓ)

open Idealize.ShloMosaic.StableHlo

/-- The four shards of the weight, stacked. -/
def shards (W : FVec Ideal S1024x3104 .f32) : FVec Ideal S4x1024x776 .bf16 :=
  concatenate S4x1024x776 0 [⟨S1x1024x776, broadcastInDim S1x1024x776 ![1, 2] bcast_S1024x776_S1x1024x776_1_2 (extractStridedSlice S1024x776 ![0, 0] (truncf .bf16 W bitsLt_bf16_f32) slices_S1024x3104_S1024x776_0_0)⟩,
    ⟨S1x1024x776, broadcastInDim S1x1024x776 ![1, 2] bcast_S1024x776_S1x1024x776_1_2 (extractStridedSlice S1024x776 ![0, 776] (truncf .bf16 W bitsLt_bf16_f32) slices_S1024x3104_S1024x776_0_776)⟩,
    ⟨S1x1024x776, broadcastInDim S1x1024x776 ![1, 2] bcast_S1024x776_S1x1024x776_1_2 (extractStridedSlice S1024x776 ![0, 1552] (truncf .bf16 W bitsLt_bf16_f32) slices_S1024x3104_S1024x776_0_1552)⟩,
    ⟨S1x1024x776, broadcastInDim S1x1024x776 ![1, 2] bcast_S1024x776_S1x1024x776_1_2 (extractStridedSlice S1024x776 ![0, 2328] (truncf .bf16 W bitsLt_bf16_f32) slices_S1024x3104_S1024x776_0_2328)⟩]
    concatenates_S1x1024x776_S1x1024x776_S1x1024x776_S1x1024x776_S4x1024x776_d0

/-- Column `k` of shard `s` is column `776 s + k` of the weight. -/
theorem shards_apply (W : FVec Ideal S1024x3104 .f32) (s : Fin 4) (a : Fin 1024) (k : Fin 776) :
    shards W (ix3 s a k) = W (ix2 a ⟨776 * s + k, by omega⟩) := by
  pointwise [shards]
  blk_point []

/-- Shard `s` of the stack, as a matrix. -/
def shard0 (Z : FVec Ideal S4x1024x776 .bf16) : FVec Ideal S1024x776 .bf16 :=
  shapeCast S1024x776 (extractStridedSlice S1x1024x776 ![0, 0, 0] Z slices_S4x1024x776_S1x1024x776_0_0_0) shapeCasts_S1x1024x776_S1024x776
def shard1 (Z : FVec Ideal S4x1024x776 .bf16) : FVec Ideal S1024x776 .bf16 :=
  shapeCast S1024x776 (extractStridedSlice S1x1024x776 ![1, 0, 0] Z slices_S4x1024x776_S1x1024x776_1_0_0) shapeCasts_S1x1024x776_S1024x776
def shard2 (Z : FVec Ideal S4x1024x776 .bf16) : FVec Ideal S1024x776 .bf16 :=
  shapeCast S1024x776 (extractStridedSlice S1x1024x776 ![2, 0, 0] Z slices_S4x1024x776_S1x1024x776_2_0_0) shapeCasts_S1x1024x776_S1024x776
def shard3 (Z : FVec Ideal S4x1024x776 .bf16) : FVec Ideal S1024x776 .bf16 :=
  shapeCast S1024x776 (extractStridedSlice S1x1024x776 ![3, 0, 0] Z slices_S4x1024x776_S1x1024x776_3_0_0) shapeCasts_S1x1024x776_S1024x776

/-- The weight as the kernel takes it: the shards' columns reordered, with zero columns between. -/
def wpad (Z : FVec Ideal S4x1024x776 .bf16) : FVec Ideal S1024x3200 .bf16 :=
  concatenate S1024x3200 1 [⟨S1024x504, extractStridedSlice S1024x504 ![0, 272] (shard2 Z) slices_S1024x776_S1024x504_0_272⟩,
    ⟨S1024x8, extractStridedSlice S1024x8 ![0, 0] (shard3 Z) slices_S1024x776_S1024x8_0_0⟩,
    ⟨S1024x776, shard0 Z⟩, ⟨S1024x776, shard1 Z⟩,
    ⟨S1024x240, extractStridedSlice S1024x240 ![0, 0] (shard2 Z) slices_S1024x776_S1024x240_0_0⟩,
    ⟨S1024x64, broadcastInDim S1024x64 ![] bcast_S_S1024x64 (constant S_ .bf16 0x0000#16)⟩,
    ⟨S1024x32, extractStridedSlice S1024x32 ![0, 240] (shard2 Z) slices_S1024x776_S1024x32_0_240⟩,
    ⟨S1024x32, broadcastInDim S1024x32 ![] bcast_S_S1024x32 (constant S_ .bf16 0x0000#16)⟩,
    ⟨S1024x768, extractStridedSlice S1024x768 ![0, 8] (shard3 Z) slices_S1024x776_S1024x768_0_8⟩]
    concatenates_S1024x504_S1024x8_S1024x776_S1024x776_S1024x240_S1024x64_S1024x32_S1024x32_S1024x768_S1024x3200_d1

/-- The cotangent without the gate's columns, with zero columns between. -/
def dpad (D : FVec Ideal S8192x3104 .f32) : FVec Ideal S8192x2688 .bf16 :=
  concatenate S8192x2688 1 [⟨S8192x1792, extractStridedSlice S8192x1792 ![0, 0] (truncf .bf16 D bitsLt_bf16_f32) slices_S8192x3104_S8192x1792_0_0⟩,
    ⟨S8192x64, broadcastInDim S8192x64 ![] bcast_S_S8192x64 (constant S_ .bf16 0x0000#16)⟩,
    ⟨S8192x32, extractStridedSlice S8192x32 ![0, 1792] (truncf .bf16 D bitsLt_bf16_f32) slices_S8192x3104_S8192x32_0_1792⟩,
    ⟨S8192x32, broadcastInDim S8192x32 ![] bcast_S_S8192x32 (constant S_ .bf16 0x0000#16)⟩,
    ⟨S8192x768, extractStridedSlice S8192x768 ![0, 2336] (truncf .bf16 D bitsLt_bf16_f32) slices_S8192x3104_S8192x768_0_2336⟩]
    concatenates_S8192x1792_S8192x64_S8192x32_S8192x32_S8192x768_S8192x2688_d1

theorem V_w (c : Dev nD) : V m c main_v33 = wpad (shards (m ((c : Thread nD τ).loc main_arg2))) := by
  unfold V
  after_results_simp
  rfl

theorem V_d (c : Dev nD) : V m c main_v40 = dpad (m ((c : Thread nD τ).loc main_arg3)) := by
  unfold V
  after_results_simp
  rfl

theorem V_z (c : Dev nD) : V m c main_v34 = (extractStridedSlice S8192x512 ![0, 1824] (truncf (F := Ideal) .bf16 (φ := .f32) (m ((c : Thread nD τ).loc main_arg3)) bitsLt_bf16_f32) slices_S8192x3104_S8192x512_0_1824 : FVec Ideal S8192x512 .bf16) := by
  unfold V
  after_results_simp

theorem V_g (c : Dev nD) : V m c main_v11 = shapeCast S1x1024 (m ((c : Thread nD τ).loc main_arg1) : FVec Ideal S1024 .f32) shapeCasts_S1024_S1x1024 := by
  unfold V
  after_results_simp
  rfl

theorem wpad_gate (W : FVec Ideal S1024x3104 .f32) (a : Fin 1024) (k : Fin 3200) (h : k.val < 512) :
    wpad (shards W) (ix2 a k) = W (ix2 a ⟨1824 + k, by omega⟩) := by
  pointwise [wpad, shard0, shard1, shard2, shard3, shards_apply]
  split_ifs <;> first | (exfalso; omega) | (refine congrArg W (congrArg (ix2 a) (Fin.ext ?_)); simp; try omega)

theorem wpad_low (W : FVec Ideal S1024x3104 .f32) (a : Fin 1024) (k : Fin 3200) (h : 512 ≤ k.val) (h' : k.val < 2304) :
    wpad (shards W) (ix2 a k) = W (ix2 a ⟨k - 512, by omega⟩) := by
  pointwise [wpad, shard0, shard1, shard2, shard3, shards_apply]
  split_ifs <;> first | (exfalso; omega) | (refine congrArg W (congrArg (ix2 a) (Fin.ext ?_)); simp; try omega)

theorem wpad_mid (W : FVec Ideal S1024x3104 .f32) (a : Fin 1024) (k : Fin 3200) (h : 2368 ≤ k.val) (h' : k.val < 2400) :
    wpad (shards W) (ix2 a k) = W (ix2 a ⟨k - 576, by omega⟩) := by
  pointwise [wpad, shard0, shard1, shard2, shard3, shards_apply]
  split_ifs <;> first | (exfalso; omega) | (refine congrArg W (congrArg (ix2 a) (Fin.ext ?_)); simp; try omega)

theorem wpad_high (W : FVec Ideal S1024x3104 .f32) (a : Fin 1024) (k : Fin 3200) (h : 2432 ≤ k.val) :
    wpad (shards W) (ix2 a k) = W (ix2 a ⟨k - 96, by omega⟩) := by
  pointwise [wpad, shard0, shard1, shard2, shard3, shards_apply]
  split_ifs <;> first | (exfalso; omega) | (refine congrArg W (congrArg (ix2 a) (Fin.ext ?_)); simp; try omega)

theorem dpad_low (D : FVec Ideal S8192x3104 .f32) (i : Fin 8192) (k : Fin 2688) (h : k.val < 1792) :
    dpad D (ix2 i k) = D (ix2 i ⟨k, by omega⟩) := by
  pointwise [dpad]
  split_ifs <;> first | (exfalso; omega) | rfl | (refine congrArg D (congrArg (ix2 i) (Fin.ext ?_)); simp; try omega)

theorem dpad_gap (D : FVec Ideal S8192x3104 .f32) (i : Fin 8192) (k : Fin 2688) (h : 1792 ≤ k.val) (h' : k.val < 1856) :
    dpad D (ix2 i k) = 0 := by
  pointwise [dpad]
  split_ifs <;> first | (exfalso; omega) | rfl | (refine congrArg D (congrArg (ix2 i) (Fin.ext ?_)); simp; try omega)

theorem dpad_mid (D : FVec Ideal S8192x3104 .f32) (i : Fin 8192) (k : Fin 2688) (h : 1856 ≤ k.val) (h' : k.val < 1888) :
    dpad D (ix2 i k) = D (ix2 i ⟨k - 64, by omega⟩) := by
  pointwise [dpad]
  split_ifs <;> first | (exfalso; omega) | rfl | (refine congrArg D (congrArg (ix2 i) (Fin.ext ?_)); simp; try omega)

theorem dpad_gap' (D : FVec Ideal S8192x3104 .f32) (i : Fin 8192) (k : Fin 2688) (h : 1888 ≤ k.val) (h' : k.val < 1920) :
    dpad D (ix2 i k) = 0 := by
  pointwise [dpad]
  split_ifs <;> first | (exfalso; omega) | rfl | (refine congrArg D (congrArg (ix2 i) (Fin.ext ?_)); simp; try omega)

theorem dpad_high (D : FVec Ideal S8192x3104 .f32) (i : Fin 8192) (k : Fin 2688) (h : 1920 ≤ k.val) :
    dpad D (ix2 i k) = D (ix2 i ⟨k + 416, by omega⟩) := by
  pointwise [dpad]
  split_ifs <;> first | (exfalso; omega) | rfl | (refine congrArg D (congrArg (ix2 i) (Fin.ext ?_)); simp; try omega)

theorem sum_window {n : ℕ} (off : ℕ) (g : ℕ → EReal) (F : Fin n → EReal) (h : ∀ k, F k = g (off + k)) :
    ∑ k, F k = ∑ x ∈ Finset.Ico off (off + n), g x := by
  rw [Finset.sum_Ico_eq_sum_range, Nat.add_sub_cancel_left, Finset.sum_range]
  exact Finset.sum_congr rfl fun k _ => h k

/-- The two products of the kernel together are the product over the weight's own columns. -/
theorem hsum (D : FVec Ideal S8192x3104 .f32) (W : FVec Ideal S1024x3104 .f32) (i : Fin 8192) (a : Fin 1024) :
    (∑ x : Fin 512, D (ix2 i ⟨1824 + x, by omega⟩) * wpad (shards W) (ix2 a ⟨x, by omega⟩))
      + ∑ x : Fin 2688, dpad D (ix2 i x) * wpad (shards W) (ix2 a ⟨512 + x, by omega⟩)
    = ∑ k : Fin 3104, D (ix2 i k) * W (ix2 a k) := by
  let g : ℕ → EReal := fun k => if h : k < 3104 then D (ix2 i ⟨k, h⟩) * W (ix2 a ⟨k, h⟩) else 0
  have hg : ∀ k (h : k < 3104), D (ix2 i ⟨k, h⟩) * W (ix2 a ⟨k, h⟩) = g k := fun k h => by
    show _ = dite _ _ _
    rw [dif_pos h]
  have e0 : ∑ k : Fin 3104, D (ix2 i k) * W (ix2 a k) = ∑ x ∈ Finset.Ico 0 3104, g x :=
    sum_window 0 g _ fun k => by rw [zero_add]; exact hg k k.isLt
  have e1 : ∑ x : Fin 512, D (ix2 i ⟨1824 + x, by omega⟩) * wpad (shards W) (ix2 a ⟨x, by omega⟩) = ∑ x ∈ Finset.Ico 1824 2336, g x :=
    sum_window 1824 g _ fun k => by rw [wpad_gate W a _ k.isLt]; exact hg _ _
  have e2 : ∑ x : Fin 2688, dpad D (ix2 i x) * wpad (shards W) (ix2 a ⟨512 + x, by omega⟩)
      = (∑ x ∈ Finset.Ico 0 1792, g x) + ((∑ x ∈ Finset.Ico 1792 1824, g x) + ∑ x ∈ Finset.Ico 2336 3104, g x) := by
    have s1 := Fin.sum_univ_add (a := 1792) (b := 896) fun x : Fin 2688 => dpad D (ix2 i x) * wpad (shards W) (ix2 a ⟨512 + x, by omega⟩)
    have s2 := Fin.sum_univ_add (a := 64) (b := 832) fun x : Fin 896 => dpad D (ix2 i ⟨1792 + x, by omega⟩) * wpad (shards W) (ix2 a ⟨512 + (1792 + x), by omega⟩)
    have s3 := Fin.sum_univ_add (a := 32) (b := 800) fun x : Fin 832 => dpad D (ix2 i ⟨1792 + (64 + x), by omega⟩) * wpad (shards W) (ix2 a ⟨512 + (1792 + (64 + x)), by omega⟩)
    have s4 := Fin.sum_univ_add (a := 32) (b := 768) fun x : Fin 800 => dpad D (ix2 i ⟨1792 + (64 + (32 + x)), by omega⟩) * wpad (shards W) (ix2 a ⟨512 + (1792 + (64 + (32 + x))), by omega⟩)
    refine s1.trans (congrArg₂ (· + ·) (sum_window 0 g _ fun k => ?_) (s2.trans ?_))
    · refine Eq.trans (congrArg₂ (· * ·) (dpad_low D i _ (by simp)) (wpad_low W a _ (by simp) (by simp; omega))) (Eq.trans ?_ (hg (0 + k) (by omega)))
      simp
    refine (congrArg₂ (· + ·) (Finset.sum_eq_zero fun k _ => ?_) (s3.trans ?_)).trans (zero_add _)
    · exact (congrArg (· * _) (dpad_gap D i _ (by simp) (by simp; omega))).trans (zero_mul _)
    refine congrArg₂ (· + ·) (sum_window 1792 g _ fun k => ?_) (s4.trans ((congrArg₂ (· + ·) (Finset.sum_eq_zero fun k _ => ?_) (sum_window 2336 g _ fun k => ?_)).trans (zero_add _)))
    · refine Eq.trans (congrArg₂ (· * ·) (dpad_mid D i _ (by simp; omega) (by simp; omega)) (wpad_mid W a _ (by simp; omega) (by simp; omega))) (Eq.trans ?_ (hg (1792 + k) (by omega)))
      blk_point [] <;> (simp only [Fin.val_natAdd, Fin.val_castAdd]; omega)
    · exact (congrArg (· * _) (dpad_gap' D i _ (by simp; omega) (by simp; omega))).trans (zero_mul _)
    · refine Eq.trans (congrArg₂ (· * ·) (dpad_high D i _ (by simp; omega)) (wpad_high W a _ (by simp; omega))) (Eq.trans ?_ (hg (2336 + k) (by omega)))
      blk_point [] <;> (simp only [Fin.val_natAdd, Fin.val_castAdd]; omega)
  rw [e0, e1, e2, ← Finset.sum_Ico_consecutive g (show 0 ≤ 1792 by omega) (show 1792 ≤ 3104 by omega),
    ← Finset.sum_Ico_consecutive g (show 1792 ≤ 1824 by omega) (show 1824 ≤ 3104 by omega),
    ← Finset.sum_Ico_consecutive g (show 1824 ≤ 2336 by omega) (show 2336 ≤ 3104 by omega)]
  abel

end Cert.InprojDxIdeal.Block
end
-- ==== Proof.InprojDxValue.lean ====
module

public import proofs.«01_k».proof.Defs
public import proofs.«01_k».proof.Proof.InprojDxHost
public import proofs.«01_k».proof.Proof.Gen.InprojDxRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InprojDxIdeal.Block

open Cert.InprojDxIdeal Cert.InprojDxIdeal.Gen

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![0, 0] :=
  (by decide +kernel : ∀ t : Fin grid0.N, _)

/-- Row `r` of grid point `t`'s block, as a row of the arrays. -/
abbrev row (t : Fin cfg0.N) (r : Fin 512) : Fin 8192 := ⟨512 * t.val + r, by have := lt_of_lt_of_eq t.isLt N_0; omega⟩

theorem blk_x (c : Dev nD) (t : Fin cfg0.N) (r : Fin 512) (k : Fin 1024) :
    iblk m c 0 t (ix2 r k) = m ((c : Thread nD τ).loc main_arg0) (ix2 (row t r) k) := by
  blk_point [iblk, V, idx t]

theorem blk_g (c : Dev nD) (t : Fin cfg0.N) (k : Fin 1024) :
    iblk m c 1 t (ix2 0 k) = m ((c : Thread nD τ).loc main_arg1) (ix1 k) := by
  have e : iblk m c 1 t (ix2 0 k) = V m c main_v11 (ix2 0 k) := by blk_point [iblk, idx t]
  refine e.trans ((congrFun (V_g m c) _).trans ?_)
  pointwise

theorem blk_w (c : Dev nD) (t : Fin cfg0.N) (a : Fin 1024) (k : Fin 3200) :
    iblk m c 2 t (ix2 a k) = wpad (shards (m ((c : Thread nD τ).loc main_arg2))) (ix2 a k) := by
  have e : iblk m c 2 t (ix2 a k) = V m c main_v33 (ix2 a k) := by blk_point [iblk, idx t]
  exact e.trans (congrFun (V_w m c) _)

theorem blk_z (c : Dev nD) (t : Fin cfg0.N) (r : Fin 512) (k : Fin 512) :
    iblk m c 3 t (ix2 r k) = m ((c : Thread nD τ).loc main_arg3) (ix2 (row t r) ⟨1824 + k, by omega⟩) := by
  have e : iblk m c 3 t (ix2 r k) = V m c main_v34 (ix2 (row t r) k) := by blk_point [iblk, idx t]
  refine e.trans ((congrFun (V_z m c) _).trans ?_)
  pointwise

theorem blk_d (c : Dev nD) (t : Fin cfg0.N) (r : Fin 512) (k : Fin 2688) :
    iblk m c 4 t (ix2 r k) = dpad (m ((c : Thread nD τ).loc main_arg3)) (ix2 (row t r) k) := by
  have e : iblk m c 4 t (ix2 r k) = V m c main_v40 (ix2 (row t r) k) := by blk_point [iblk, idx t]
  exact e.trans (congrFun (V_d m c) _)

theorem blk_o (c : Dev nD) (t : Fin cfg0.N) (r : Fin 512) (k : Fin 1024) :
    iblk m c 5 t (ix2 r k) = m ((c : Thread nD τ).loc main_arg4) (ix2 (row t r) k) := by
  blk_point [iblk, V, idx t]

/-- One element of the gradient of the norm's input, from what the block reads. -/
theorem dx_at (v14 v50 : Vec Ideal S512x1024 .f32) (v15 : Vec Ideal S1x1024 .f32) (v3 : Vec Ideal S512x512 .bf16)
    (v5 : Vec Ideal S1024x512 .bf16) (v8 : Vec Ideal S512x2688 .bf16) (v10 : Vec Ideal S1024x2688 .bf16)
    (X O : FVec Ideal S8192x1024 .f32) (G : FVec Ideal S1024 .f32) (W : FVec Ideal S1024x3104 .f32) (D : FVec Ideal S8192x3104 .f32)
    (r : Fin 512) (i : Fin 8192) (j : Fin 1024) (hx : ∀ k, v14 (ix2 r k) = X (ix2 i k)) (hg : ∀ k, v15 (ix2 0 k) = G (ix1 k))
    (ho : ∀ k, v50 (ix2 r k) = O (ix2 i k))
    (hh : ∀ a, (∑ x : Fin 512, v3 (ix2 r x) * v5 (ix2 a x)) + ∑ x : Fin 2688, v8 (ix2 r x) * v10 (ix2 a x) = ∑ k : Fin 3104, D (ix2 i k) * W (ix2 a k)) :
    k0_pay1 (F := Ideal) v14 (k0_pay6 v14) (k0_pay7 v14) (k0_pay9 v3 v5 v8 v10 v15) (k0_pay10 v3 v5 v8 v10 v14 v15) v50 (ix2 r j)
      = Cert.InprojDxRefIdeal.Read.val_main_v38 (F := Ideal) X G W D O (ix2 i j) := by
  pointwise [k0_pay1, k0_pay4, k0_pay5, k0_pay6, k0_pay7, k0_pay9, k0_pay10,
    Cert.InprojDxRefIdeal.Read.val_main_v0, Cert.InprojDxRefIdeal.Read.val_main_v1, Cert.InprojDxRefIdeal.Read.val_main_v2, Cert.InprojDxRefIdeal.Read.val_main_v3, Cert.InprojDxRefIdeal.Read.val_main_v4, Cert.InprojDxRefIdeal.Read.val_main_v5,
    Cert.InprojDxRefIdeal.Read.val_main_v6, Cert.InprojDxRefIdeal.Read.val_main_v7, Cert.InprojDxRefIdeal.Read.val_main_v8, Cert.InprojDxRefIdeal.Read.val_main_v9, Cert.InprojDxRefIdeal.Read.val_main_v10,
    Cert.InprojDxRefIdeal.Read.val_main_v11, Cert.InprojDxRefIdeal.Read.val_main_v12, Cert.InprojDxRefIdeal.Read.val_main_v13, Cert.InprojDxRefIdeal.Read.val_main_v14, Cert.InprojDxRefIdeal.Read.val_main_v15,
    Cert.InprojDxRefIdeal.Read.val_main_v16, Cert.InprojDxRefIdeal.Read.val_main_v17, Cert.InprojDxRefIdeal.Read.val_main_v18, Cert.InprojDxRefIdeal.Read.val_main_v19, Cert.InprojDxRefIdeal.Read.val_main_v20,
    Cert.InprojDxRefIdeal.Read.val_main_v21, Cert.InprojDxRefIdeal.Read.val_main_v22, Cert.InprojDxRefIdeal.Read.val_main_v23, Cert.InprojDxRefIdeal.Read.val_main_v24, Cert.InprojDxRefIdeal.Read.val_main_v25,
    Cert.InprojDxRefIdeal.Read.val_main_v26, Cert.InprojDxRefIdeal.Read.val_main_v27, Cert.InprojDxRefIdeal.Read.val_main_v28, Cert.InprojDxRefIdeal.Read.val_main_v29, Cert.InprojDxRefIdeal.Read.val_main_v30,
    Cert.InprojDxRefIdeal.Read.val_main_v31, Cert.InprojDxRefIdeal.Read.val_main_v32, Cert.InprojDxRefIdeal.Read.val_main_v33, Cert.InprojDxRefIdeal.Read.val_main_v34, Cert.InprojDxRefIdeal.Read.val_main_v35,
    Cert.InprojDxRefIdeal.Read.val_main_v36, Cert.InprojDxRefIdeal.Read.val_main_v37, Cert.InprojDxRefIdeal.Read.val_main_v38, Cert.InprojDxRefIdeal.Read.val_main_v39, Cert.InprojDxRefIdeal.Read.val_main_cst,
    Cert.InprojDxRefIdeal.Read.val_main_cst_0, Cert.InprojDxRefIdeal.Read.val_main_cst_1, Cert.InprojDxRefIdeal.Read.val_main_cst_2, Cert.InprojDxRefIdeal.Read.val_main_cst_3, Cert.InprojDxRefIdeal.Read.val_main_cst_4,
    Cert.InprojDxRefIdeal.Read.val_main_cst_5, Cert.InprojDxRefIdeal.Read.val_main_cst_6, Cert.InprojDxRefIdeal.Read.val_main_cst_7]
  simp only [hx, hg, ho, hh, add_assoc]

/-- One grid point's part of the gradient of the norm's weight. -/
theorem dg_at (v14 : Vec Ideal S512x1024 .f32) (acc : Vec Ideal S1x1024 .f32) (v3 : Vec Ideal S512x512 .bf16)
    (v5 : Vec Ideal S1024x512 .bf16) (v8 : Vec Ideal S512x2688 .bf16) (v10 : Vec Ideal S1024x2688 .bf16)
    (X : FVec Ideal S8192x1024 .f32) (W : FVec Ideal S1024x3104 .f32) (D : FVec Ideal S8192x3104 .f32)
    (ri : Fin 512 → Fin 8192) (j : Fin 1024) (hx : ∀ r k, v14 (ix2 r k) = X (ix2 (ri r) k))
    (hh : ∀ r a, (∑ x : Fin 512, v3 (ix2 r x) * v5 (ix2 a x)) + ∑ x : Fin 2688, v8 (ix2 r x) * v10 (ix2 a x) = ∑ k : Fin 3104, D (ix2 (ri r) k) * W (ix2 a k)) :
    k0_pay2 (F := Ideal) (k0_pay8 v3 v5 v8 v10 v14) acc (ix2 0 j)
      = acc (ix2 0 j) + ∑ r : Fin 512, Cert.InprojDxRefIdeal.Read.val_main_v18 (F := Ideal) X W D (ix2 (ri r) j) := by
  pointwise [k0_pay2, k0_pay8, k0_pay4, k0_pay5, k0_pay6,
    Cert.InprojDxRefIdeal.Read.val_main_v0, Cert.InprojDxRefIdeal.Read.val_main_v1, Cert.InprojDxRefIdeal.Read.val_main_v2, Cert.InprojDxRefIdeal.Read.val_main_v3, Cert.InprojDxRefIdeal.Read.val_main_v4, Cert.InprojDxRefIdeal.Read.val_main_v5,
    Cert.InprojDxRefIdeal.Read.val_main_v6, Cert.InprojDxRefIdeal.Read.val_main_v7, Cert.InprojDxRefIdeal.Read.val_main_v8, Cert.InprojDxRefIdeal.Read.val_main_v9, Cert.InprojDxRefIdeal.Read.val_main_v10,
    Cert.InprojDxRefIdeal.Read.val_main_v11, Cert.InprojDxRefIdeal.Read.val_main_v12, Cert.InprojDxRefIdeal.Read.val_main_v13, Cert.InprojDxRefIdeal.Read.val_main_v14, Cert.InprojDxRefIdeal.Read.val_main_v15,
    Cert.InprojDxRefIdeal.Read.val_main_v16, Cert.InprojDxRefIdeal.Read.val_main_v17, Cert.InprojDxRefIdeal.Read.val_main_v18, Cert.InprojDxRefIdeal.Read.val_main_v19, Cert.InprojDxRefIdeal.Read.val_main_v20,
    Cert.InprojDxRefIdeal.Read.val_main_v21, Cert.InprojDxRefIdeal.Read.val_main_v22, Cert.InprojDxRefIdeal.Read.val_main_v23, Cert.InprojDxRefIdeal.Read.val_main_v24, Cert.InprojDxRefIdeal.Read.val_main_v25,
    Cert.InprojDxRefIdeal.Read.val_main_v26, Cert.InprojDxRefIdeal.Read.val_main_v27, Cert.InprojDxRefIdeal.Read.val_main_v28, Cert.InprojDxRefIdeal.Read.val_main_v29, Cert.InprojDxRefIdeal.Read.val_main_v30,
    Cert.InprojDxRefIdeal.Read.val_main_v31, Cert.InprojDxRefIdeal.Read.val_main_v32, Cert.InprojDxRefIdeal.Read.val_main_v33, Cert.InprojDxRefIdeal.Read.val_main_v34, Cert.InprojDxRefIdeal.Read.val_main_v35,
    Cert.InprojDxRefIdeal.Read.val_main_v36, Cert.InprojDxRefIdeal.Read.val_main_v37, Cert.InprojDxRefIdeal.Read.val_main_v38, Cert.InprojDxRefIdeal.Read.val_main_v39, Cert.InprojDxRefIdeal.Read.val_main_cst,
    Cert.InprojDxRefIdeal.Read.val_main_cst_0, Cert.InprojDxRefIdeal.Read.val_main_cst_1, Cert.InprojDxRefIdeal.Read.val_main_cst_2, Cert.InprojDxRefIdeal.Read.val_main_cst_3, Cert.InprojDxRefIdeal.Read.val_main_cst_4,
    Cert.InprojDxRefIdeal.Read.val_main_cst_5, Cert.InprojDxRefIdeal.Read.val_main_cst_6, Cert.InprojDxRefIdeal.Read.val_main_cst_7]
  simp only [hx, hh]

theorem zero_at (j : Fin 1024) : k0_pay3 (F := Ideal) (ix2 0 j) = 0 := by pointwise [k0_pay3]

theorem ref_dg (X : FVec Ideal S8192x1024 .f32) (W : FVec Ideal S1024x3104 .f32) (D : FVec Ideal S8192x3104 .f32) (j : Fin 1024) :
    Cert.InprojDxRefIdeal.Read.val_main_v39 (F := Ideal) X W D (ix2 0 j) = ∑ i : Fin 8192, Cert.InprojDxRefIdeal.Read.val_main_v18 (F := Ideal) X W D (ix2 i j) := by
  pointwise [Cert.InprojDxRefIdeal.Read.val_main_v39, Cert.InprojDxRefIdeal.Read.val_main_v23, Cert.InprojDxRefIdeal.Read.val_main_v20, Cert.InprojDxRefIdeal.Read.val_main_v19, Cert.InprojDxRefIdeal.Read.val_main_cst_3, Cert.InprojDxRefIdeal.Read.val_main_cst_4]
  simp

/-- The two products of a block's row are the product of the array's row with the weight. -/
theorem hblk (c : Dev nD) (t : Fin cfg0.N) (r : Fin 512) (a : Fin 1024) (v3 : Vec Ideal S512x512 .bf16) (v8 : Vec Ideal S512x2688 .bf16) (w : Vec Ideal S1024x3200 .bf16)
    (D : FVec Ideal S8192x3104 .f32) (W : FVec Ideal S1024x3104 .f32)
    (hD : D = m ((c : Thread nD τ).loc main_arg3)) (hW : W = m ((c : Thread nD τ).loc main_arg2)) (h3 : v3 = iblk m c 3 t) (h8 : v8 = iblk m c 4 t) (hw : w = iblk m c 2 t) :
    (∑ x : Fin 512, v3 (ix2 r x) * View.ld w (Rect.unit (s := S1024x3200) ![0, 0] ![1024, 512] inb_S1024x3200_S1024x512_0_0) (ix2 a x))
      + ∑ x : Fin 2688, v8 (ix2 r x) * View.ld w (Rect.unit (s := S1024x3200) ![0, 512] ![1024, 2688] inb_S1024x3200_S1024x2688_0_512) (ix2 a x)
    = ∑ k : Fin 3104, D (ix2 (row t r) k) * W (ix2 a k) := by
  pointwise
  subst h3 h8 hw hD hW
  refine Eq.trans ?_ (hsum _ _ (row t r) a)
  simp only [blk_z, blk_d, blk_w]

/-- The first result: the gradient of the norm's input. -/
theorem final6 (c : Dev nD) : (dats m 0 c).arrAt 6 (cfgs 0).N
    = Cert.InprojDxRefIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  have key : ∀ (r : Fin 512) (j : Fin 1024), (outsAt0 m c t.val t.isLt).1 (ix2 r j)
      = Cert.InprojDxRefIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j) := by
    intro r j
    by_cases h : t.val % 16 = 0
    · rw [outsAt0_A m c t h]; frame_out
      exact dx_at _ _ _ _ _ _ _ _ _ _ _ _ r _ j (blk_x m c t r) (blk_g m c t) (blk_o m c t r) fun a => hblk m c t r a _ _ _ _ _ rfl rfl rfl rfl rfl
    · rw [outsAt0_B m c t h]; frame_out
      exact dx_at _ _ _ _ _ _ _ _ _ _ _ _ r _ j (blk_x m c t r) (blk_g m c t) (blk_o m c t r) fun a => hblk m c t r a _ _ _ _ _ rfl rfl rfl rfl rfl
  idx_vars y
  rw [key]
  blk_point [idx t]

/-- The second result: the gradient of the norm's weight. -/
theorem final7 (c : Dev nD) : (dats m 0 c).arrAt 7 (cfgs 0).N
    = Cert.InprojDxRefIdeal.Read.val_main_v39 (F := Ideal) (m ((c : Thread nD τ).loc main_arg0)) (m ((c : Thread nD τ).loc main_arg2)) (m ((c : Thread nD τ).loc main_arg3)) := by
  refine (dats m 0 c).arrAt_eq_of_after_last 7 t0_15 (by decide +kernel) _ fun y => ?_
  blk_simp
  idx_vars y
  obtain rfl : y0 = 0 := Subsingleton.elim _ _
  rw [after0_7, Pipeline.eq_sum_fin_of_reset_step_apply_last (fun n h j => (outsAt0 m c n h).2 (ix2 0 j)) 16 (fun _ => 0) (fun t j => ∑ r : Fin 512, Cert.InprojDxRefIdeal.Read.val_main_v18 (F := Ideal) (m ((c : Thread nD τ).loc main_arg0)) (m ((c : Thread nD τ).loc main_arg2)) (m ((c : Thread nD τ).loc main_arg3)) (ix2 (row t r) j))
    (fun t h j => by
      rw [outsAt0_A m c t h]; frame_out
      refine (dg_at _ _ _ _ _ _ _ _ _ (row t) j (blk_x m c t) fun r a => hblk m c t r a _ _ _ _ _ rfl rfl rfl rfl rfl).trans ?_
      rw [zero_at])
    (fun t h j => by
      rw [outsAt0_B m c t h]; frame_out
      exact dg_at _ _ _ _ _ _ _ _ _ (row t) j (blk_x m c t) fun r a => hblk m c t r a _ _ _ _ _ rfl rfl rfl rfl rfl)
    (le_of_eq N_0) t0_15 rfl y1, zero_add]
  refine Eq.trans ?_ (ref_dg _ _ _ y1).symm
  refine Fin.sum_mul_add_congr (f := fun i => Cert.InprojDxRefIdeal.Read.val_main_v18 (F := Ideal) _ _ _ (ix2 i y1)) (fun t k hl => ?_) (by show 8192 = grid0.N * 512; rw [N_0])
  exact congrArg (fun i => Cert.InprojDxRefIdeal.Read.val_main_v18 (F := Ideal) _ _ _ (ix2 i y1)) (Fin.ext (by show 512 * t.val + k.val = t.val * 512 + k.val; omega))
end Cert.InprojDxIdeal.Block
end
-- ==== Proof.InprojDx.lean ====
module

public import proofs.«01_k».proof.Defs
public import proofs.«01_k».proof.Proof.Gen.InprojDx
public import proofs.«01_k».proof.Proof.Gen.InprojDx.Frame
public import proofs.«01_k».proof.Proof.Gen.InprojDxIdeal
public import proofs.«01_k».proof.Proof.Gen.InprojDxIdeal.Frame
public import proofs.«01_k».proof.Proof.Gen.InprojDxIdeal.Value
public import proofs.«01_k».proof.Proof.Gen.InprojDxRefIdeal
public import proofs.«01_k».proof.Proof.Gen.InprojDxRefIdeal.Run
public import proofs.«01_k».proof.Proof.Gen.InprojDxRefIdeal.Read
public import proofs.«01_k».proof.Proof.InprojDxValue
public import Idealize.ShloMosaic.Lib.Claim

@[expose] public section

set_option maxRecDepth 16384

noncomputable section

/-!
The claims of the backward pass of the input projection and its RMSNorm: the frames, and that the kernel and the reference
hold the same two gradients (`dx` and the norm weight's) on the extended reals.
-/

namespace Cert.Proof

open Idealize.ShloMosaic Idealize.SL.Sem

/-- The frame of `InprojDx`: its generated run. -/
theorem inprojDx_frame : Cert.quiescent_InprojDx := fun m ρ _ => Cert.InprojDx.Gen.frame m ρ

/-- The frame of `InprojDxIdeal`: its generated run. -/
theorem inprojDxIdeal_frame : Cert.quiescent_InprojDxIdeal := fun m ρ _ => Cert.InprojDxIdeal.Gen.frame m ρ

/-- The frame of the reference: no operation writes an argument, and the program declares no semaphore. -/
theorem inprojDxRefIdeal_frame : Cert.quiescent_InprojDxRefIdeal := fun m ρ _ =>
  (θ_run Cert.InprojDxRefIdeal.defs _ _).mono (fun r h => ⟨fun c => (h c).2.2,
      sem_eq_zero_of_no_sems (by decide) r.2⟩)
    (Cert.InprojDxRefIdeal.Value.run (F := Ideal) m ρ)

/-- No operation is rewritten, so there is nothing to preserve. -/
theorem inprojDx_preserves : Cert.preserves_InprojDx_InprojDxIdeal := trivial

/-- Kernel and reference agree: the kernel's two arrays are the reference's two by `Block.final6` and `Block.final7`. -/
theorem inprojDx_algebraic : Cert.algebraic_InprojDxIdeal_InprojDxRefIdeal := by
  pair_intro
  · run_from Cert.InprojDxIdeal.Value.run_blocks m g
  · run_from Cert.InprojDxRefIdeal.Value.run m' g'
    · exact (Cert.InprojDxRefIdeal.Read.val_main_v38_eq m' c).trans (by
        obtain ⟨h0, h1, h2, h3, h4⟩ := hagree c
        rw [h0, h1, h2, h3, h4]
        exact (Cert.InprojDxIdeal.Block.final6 m c).symm)
    · exact (Cert.InprojDxRefIdeal.Read.val_main_v39_eq _ _ _).trans (Cert.InprojDxIdeal.Block.final7 m c).symm

end Cert.Proof

end
-- ==== Proof.AttnBodyIdeal.lean ====
/- The attention backward kernel's run, for the idealised program: one grid point's body (`bodyRun`), what the three output
   blocks hold after each point (`dqAt`, `dkAt`, `dvAt`), and the frame of the whole program (`frame`). -/
module

public import proofs.«01_k».proof.Proof.Gen.AttnBwdIdeal.Frame
public import proofs.«01_k».proof.Proof.Gen.AttnBwdIdeal.Loops
public import Idealize.ShloMosaic.Lib.Exec
public import Idealize.ShloMosaic.Lib.VecWindow
public import Idealize.ShloMosaic.Lib.Claim

@[expose] public section

set_option maxRecDepth 16384

noncomputable section

namespace Cert.AttnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen

variable {F : FTy → Type} [FloatOps F]

local notation "𝕄" => MT nD τ sig Unit (Elt F) ℕ (UR sig nD τ) ℕ

/-- The dq block as the body works on it: zeroed at the first key block of a head pair, else as found. -/
def entry (i : grid0.Coords) (x : Vec F S8192x256 .f32) : Vec F S8192x256 .f32 :=
  if Scalar.cmpi .ne (Scalar.extui (Scalar.cmpi .eq (BitVec.ofNat 32 (i 1).val) 0#32) : BitVec 32) 0#32 = 1#1 then k0_pay30 (F := F) else x

/-- The condition of the zero fill: the key block is the first. -/
theorem first_iff : ∀ t : Fin cfg0.N,
    ((fun i : grid0.Coords => Scalar.cmpi .ne (Scalar.extui (Scalar.cmpi .eq (BitVec.ofNat 32 (i 1).val) 0#32) : BitVec 32) 0#32 = 1#1) (grid0.coords t)) ↔ t.val % 16 = 0 :=
  (by decide +kernel : ∀ t : Fin grid0.N, _)

/-- The zero fill, run: the dq block goes from `x` to `entry i x`. -/
theorem fill_run (c : Dev nD) (i : grid0.Coords) (arg8 : Memref sig .tc .vmem S8192x256 .f32) (harg8 : arg8.IsWhole)
    (x : Vec F S8192x256 .f32) (E : Set ℕ) {α : Type}
    (k : Prog (TpuEff nD τ sig (Elt F) Λ₀ .tc) α) (K : α → sProp 𝕄) :
    iprop((arg8.view.loc (c : Thread nD τ) ↦[arg8.view.set]{fullShare} harg8.unread x)
        ∗ ((arg8.view.loc (c : Thread nD τ) ↦[arg8.view.set]{fullShare} harg8.unread (entry i x)) -∗ wp frame (wpE (defs₀ (F := F)) Variants.none c none) E k K))
      ⊢ wp frame (wpE (defs₀ (F := F)) Variants.none c none) E
          (if k0_h1 : Scalar.cmpi .ne (Scalar.extui (Scalar.cmpi .eq (BitVec.ofNat 32 (i 1).val) 0#32) : BitVec 32) 0#32 = 1#1 then do
            let v98 : Vec F S8192x256 .f32 ← Prog.lift (.load arg8 (Rect.unit (s := S8192x256) ![0, 0] S8192x256.size inb_S8192x256_S8192x256_0_0).toLoadRect (View.loadsAt_vmem h_S8192x256))
            Prog.lift (.store arg8 (Rect.unit (s := S8192x256) ![0, 0] S8192x256.size inb_S8192x256_S8192x256_0_0) (k0_pay30 (F := F)) Finset.univ (View.stores_vmem_bits_univ h_S8192x256 rfl) (.inl rfl))
            k
          else k) K := by
  unfold entry
  split
  · iintro ⟨H6, Hk⟩
    sl_exec
    rw [harg8.eq_unread (View.read_writes_full arg8.view (harg8.unread x) inb_S8192x256_S8192x256_0_0 (k0_pay30 (F := F)) [])]
    iapply Hk
    iexact H6
  · iintro ⟨H6, Hk⟩
    iapply Hk
    iexact H6

-- the run's proof term is large: its checks pass the default budget
set_option maxHeartbeats 1000000 in
/-- One grid point's body. From whole staging buffers — the six inputs at `x0 … x5`, the dq block at `x6`, the dk and dv
    blocks at anything — it ends with the inputs as they were and each output holding the stores the run finds: those of
    the dq block over `y`, the block after the zero fill. -/
noncomputable def bodyRun (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S2x1x8192 .f32) (harg4 : arg4.IsWhole) (arg5 : Memref sig .tc .vmem S2x1x8192 .f32) (harg5 : arg5.IsWhole) (arg6 : Memref sig .tc .vmem S512x256 .bf16) (harg6 : arg6.IsWhole) (arg7 : Memref sig .tc .vmem S512x256 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x256 .f32) (harg10 : arg10.IsWhole)
    (x0 : Vec F S8192x256 .bf16) (x1 : Vec F S8192x128 .bf16) (x2 : Vec F S2x1x8192 .f32) (x3 : Vec F S2x1x8192 .f32) (x4 : Vec F S512x256 .bf16) (x5 : Vec F S512x256 .bf16) (y : Vec F S8192x256 .f32) :
    Σ' (L6 : List (View.Piece (Elt F) S8192x256 .f32)), Σ' (L7 : List (View.Piece (Elt F) S512x256 .f32)), { L8 : List (View.Piece (Elt F) S512x256 .f32) //
      ∀ (x6 : Vec F S8192x256 .f32) (_ : entry i x6 = y) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread y) L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, fun x6 hy E K => ?run⟩
  case run =>
    simp only [cc0_attn_bwd_eq_skeleton]; unfold cc0_attn_bwd_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    unfold k0_part3_skel
    rw [wp_bind]; dsimp only
    iapply (fill_run c i arg8 harg8 x6 E _ _)
    isplitl [H6]; · iexact H6
    iintro H6
    rw [hy]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    isplitl [H7]; · iexists _; iexact H7
    iexists _; iexact H8

/-! ## The blocks after each point -/

section Blocks

variable (m : (ℓ : Loc nD τ sig) → Buf (Elt F) ℓ) (ρ : Dev nD → PrngReg)

/-- The body's stores at point `t` over the staging buffers it is called with, from the dq block `y`. -/
def runAt (c : Dev nD) (t : Fin cfg0.N) (y : Vec F S8192x256 .f32) :=
  bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (iblk m c 0 t) (iblk m c 1 t) (iblk m c 2 t) (iblk m c 3 t) (iblk m c 4 t) (iblk m c 5 t) y

/-- The dq block after point `t`, from the block `y` after the zero fill. -/
def dqOf (c : Dev nD) (t : Fin cfg0.N) (y : Vec F S8192x256 .f32) : Vec F S8192x256 .f32 :=
  (win0_6.stage (cfg0.slots t 6)).view.read (Elt F) ((win0_6.stage (cfg0.slots t 6)).view.writes (Elt F) ((hstage0_6 ((cfg0.slots t 6).cast nbuf0_6)).unread y) (runAt m c t y).1)

/-- The dk block a point leaves, from the dq block `y`. -/
def dkOf (c : Dev nD) (t : Fin cfg0.N) (y : Vec F S8192x256 .f32) : Vec F S512x256 .f32 :=
  View.canon (runAt m c t y).2.1

/-- The dv block a point leaves, from the dq block `y`. -/
def dvOf (c : Dev nD) (t : Fin cfg0.N) (y : Vec F S8192x256 .f32) : Vec F S512x256 .f32 :=
  View.canon (runAt m c t y).2.2.1

/-- The dq block after point `n`; past the grid, anything. -/
def dqAt (c : Dev nD) : ℕ → Vec F S8192x256 .f32
  | 0 => if h : 0 < cfg0.N then dqOf m c ⟨0, h⟩ (entry (grid0.coords ⟨0, h⟩) (k0_pay30 (F := F))) else k0_pay30 (F := F)
  | n + 1 => if h : n + 1 < cfg0.N then dqOf m c ⟨n + 1, h⟩ (entry (grid0.coords ⟨n + 1, h⟩) (dqAt c n)) else k0_pay30 (F := F)

/-- The dq block point `t` works on: zeros at the first key block of a head pair, else what the point before left. -/
def dqIn (c : Dev nD) (t : Fin cfg0.N) : Vec F S8192x256 .f32 := entry (grid0.coords t) (dqAt m c (t.val - 1))

/-- At the first key block the block found does not matter. -/
theorem entry_first (t : Fin cfg0.N) (h : t.val % 16 = 0) (x : Vec F S8192x256 .f32) :
    entry (grid0.coords t) x = k0_pay30 (F := F) := if_pos ((first_iff t).mpr h)

/-- At the others the body works on the block found. -/
theorem entry_next (t : Fin cfg0.N) (h : ¬t.val % 16 = 0) (x : Vec F S8192x256 .f32) :
    entry (grid0.coords t) x = x := if_neg fun hc => h ((first_iff t).mp hc)

/-- One step of the dq block. -/
theorem dqAt_eq (c : Dev nD) (t : Fin cfg0.N) : dqAt m c t.val = dqOf m c t (dqIn m c t) := by
  obtain ⟨n, hn⟩ := t
  unfold dqIn
  cases n with
  | zero =>
    rw [dqAt, dif_pos hn, entry_first ⟨0, hn⟩ (Nat.zero_mod _), entry_first ⟨0, hn⟩ (Nat.zero_mod _)]
  | succ n => rw [dqAt, dif_pos hn]; rfl

/-- The two halves the body stores cover the dk block, -/
theorem dk_cover (c : Dev nD) (t : Fin cfg0.N) (y : Vec F S8192x256 .f32) (j : S512x256.Idx) :
    ∃ pc ∈ (runAt m c t y).2.1, j ∈ pc.1.set :=
  View.cover_of_tiledL (runAt m c t y).2.1 S512x128.size (by sl_kernel_rfl) j

/-- and the dv block. -/
theorem dv_cover (c : Dev nD) (t : Fin cfg0.N) (y : Vec F S8192x256 .f32) (j : S512x256.Idx) :
    ∃ pc ∈ (runAt m c t y).2.2.1, j ∈ pc.1.set :=
  View.cover_of_tiledL (runAt m c t y).2.2.1 S512x128.size (by sl_kernel_rfl) j

/-! ## The launch -/

/-- The pipeline's data on core `c`: the arrays as the region finds them; after point `t` each input's buffer holds its
    block, the dq buffer `dqAt`, the dk and dv buffers what the point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val
    | ⟨7, _⟩ => dkOf m c t (dqIn m c t)
    | ⟨8, _⟩ => dvOf m c t (dqIn m c t)
  Φ _ := Pipeline.ΦA spec0 c
  q _ := fullShare
  owed _ := 0

/-- The data's arrays are what the region finds. -/
theorem A_eq (c : Dev nD) (w : Fin cfg0.W) : (dats m 0 c).A w = V m c (Pipeline.arrRef spec0 w) := by
  dsimp only [dats]

/-- The input buffers are left as they were. -/
theorem after_in (c : Dev nD) (t : Fin cfg0.N) :
    (dats m 0 c).after 0 t = iblk m c 0 t ∧ (dats m 0 c).after 1 t = iblk m c 1 t ∧ (dats m 0 c).after 2 t = iblk m c 2 t
      ∧ (dats m 0 c).after 3 t = iblk m c 3 t ∧ (dats m 0 c).after 4 t = iblk m c 4 t ∧ (dats m 0 c).after 5 t = iblk m c 5 t := by
  dsimp only [dats]; exact ⟨rfl, rfl, rfl, rfl, rfl, rfl⟩

/-- The dq buffer after a point, -/
theorem after_dq (c : Dev nD) (t : Fin cfg0.N) : (dats m 0 c).after 6 t = dqAt m c t.val := by dsimp only [dats]
/-- the dk buffer -/
theorem after_dk (c : Dev nD) (t : Fin cfg0.N) : (dats m 0 c).after 7 t = dkOf m c t (dqIn m c t) := by dsimp only [dats]
/-- and the dv buffer. -/
theorem after_dv (c : Dev nD) (t : Fin cfg0.N) : (dats m 0 c).after 8 t = dvOf m c t (dqIn m c t) := by dsimp only [dats]

/-- The body finds the dq block `dqIn` once the zero fill is done. -/
theorem before_dq (c : Dev nD) (t : Fin cfg0.N) (d) : entry (grid0.coords t) ((dats m 0 c).before 6 t d) = dqIn m c t := by
  by_cases h : t.val % 16 = 0
  · unfold dqIn; rw [entry_first t h, entry_first t h]
  · unfold dqIn
    rw [Dat.before_out_kept _ 6 rfl t (by omega) (Bool.eq_false_iff.mpr fun hf => by
        have := (flush0_6 _).mp hf; dsimp only at this; omega) (fun _ => rfl) (fun _ _ => rfl), after_dq]

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

/-- The body takes the one to the other. -/
theorem body_triple (c : Dev nD) (t : Fin cfg0.N) :
    pre m c t ⊢ wp frame (wpE (defs₀ (F := F)) Variants.none c none) Set.univ (bodyAt0 t) (fun _ => post m c t) := by
  unfold pre post bodyAt0
  obtain ⟨a0, a1, a2, a3, a4, a5⟩ := after_in m c t
  simp only [before0_0_of m (dats m 0 c) (A_eq m c 0) (fun t => (after_in m c t).1) t,
    before0_1_of m (dats m 0 c) (A_eq m c 1) (fun t => (after_in m c t).2.1) t,
    before0_2_of m (dats m 0 c) (A_eq m c 2) (fun t => (after_in m c t).2.2.1) t,
    before0_3_of m (dats m 0 c) (A_eq m c 3) (fun t => (after_in m c t).2.2.2.1) t,
    before0_4_of m (dats m 0 c) (A_eq m c 4) (fun t => (after_in m c t).2.2.2.2.1) t,
    before0_5_of m (dats m 0 c) (A_eq m c 5) (fun t => (after_in m c t).2.2.2.2.2) t]
  rw [show (dats m 0 c).Φ t.succ = (dats m 0 c).Φ t.castSucc from rfl,
    show (dats m 0 c).owesAt () t.succ = (dats m 0 c).owesAt () t.castSucc from rfl,
    a0, a1, a2, a3, a4, a5, after_dq, after_dk, after_dv, dqAt_eq m c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt m c t (dqIn m c t)).2.2.2 _ (before_dq m c t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rfl
  isplitl [H7]
  · unfold owns; iexists _; isplitr
    swap; · iexact H7
    ipureintro; exact View.read_writes_eq_canon _ _ _ (dk_cover m c t _)
  · unfold owns; iexists _; isplitr
    swap; · iexact H8
    ipureintro; exact View.read_writes_eq_canon _ _ _ (dv_cover m c t _)

/-- So the region's body meets its obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body_triple m c t) rfl .rfl fun _ => .rfl

set_option backward.isDefEq.respectTransparency.types false in
/-- The program's run: the region's arrays end as the data says, the later host lines follow, and every semaphore ends at
    zero. -/
theorem run_quiet : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- The frame: from any memory, every execution ends with the arguments as they were and nothing signalled. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Blocks

end Cert.AttnBwdIdeal.Body

end
-- ==== Proof.AttnPay.lean ====
/- What the attention backward kernel's values are at an index, on the extended reals. -/
module

public import proofs.«01_k».proof.Proof.AttnBodyIdeal
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.AttnBwdIdeal.Block

open Cert.AttnBwdIdeal Cert.AttnBwdIdeal.Gen

/-- The weight of query row `x` on key row `r`, from the key rows, the query rows and the log-sums. -/
def sc (kk q : FVec Ideal S512x128 .bf16) (l : FVec Ideal S1x1x512 .f32) (r x : Fin 512) : EReal :=
  Ideal.exp2 ((∑ c : Fin 128, kk (ix2 r c) * q (ix2 x c)) - l (ix3 0 0 x))

/-- The gradient of the output times the values, less the row sum. -/
def gp (v d : FVec Ideal S512x128 .bf16) (t : FVec Ideal S1x1x512 .f32) (r x : Fin 512) : EReal :=
  (∑ c : Fin 128, v (ix2 r c) * d (ix2 x c)) - t (ix3 0 0 x)

/-- The weight where the key comes no later than the query, in the block of both. -/
def scm (kk q : FVec Ideal S512x128 .bf16) (l : FVec Ideal S1x1x512 .f32) (r x : Fin 512) : EReal :=
  if r ≤ x then sc kk q l r x else 0

variable (kk q v d : FVec Ideal S512x128 .bf16) (l t : FVec Ideal S1x1x512 .f32) (acc : FVec Ideal S512x128 .f32) (r x : Fin 512) (c : Fin 128)

/-! ## Past the diagonal, first head -/

theorem pay14_at : k0_pay14 (F := Ideal) kk q l (ix2 r x) = sc kk q l r x := by
  unfold sc; pointwise [k0_pay14, k0_pay13]; rfl

theorem pay15_at : k0_pay15 (F := Ideal) kk acc d q l (ix2 r c) = acc (ix2 r c) + ∑ x : Fin 512, sc kk q l r x * d (ix2 x c) := by
  unfold sc; pointwise [k0_pay15, k0_pay12, k0_pay14, k0_pay13]; rfl

theorem pay17_at : k0_pay17 (F := Ideal) kk v acc d q l t (ix2 r c)
    = acc (ix2 r c) + ∑ x : Fin 512, sc kk q l r x * gp v d t r x * q (ix2 x c) := by
  unfold sc gp; pointwise [k0_pay17, k0_pay16, k0_pay12, k0_pay14, k0_pay13]; rfl

theorem pay18_at : k0_pay18 (F := Ideal) kk v d q l t acc (ix2 x c)
    = acc (ix2 x c) + ∑ r : Fin 512, sc kk q l r x * gp v d t r x * kk (ix2 r c) := by
  unfold sc gp; pointwise [k0_pay18, k0_pay16, k0_pay12, k0_pay14, k0_pay13]; rfl

/-! ## Past the diagonal, second head -/

theorem pay3_at : k0_pay3 (F := Ideal) acc (k0_pay12 d) (k0_pay20 kk q) l (ix2 r c) = acc (ix2 r c) + ∑ x : Fin 512, sc kk q l r x * d (ix2 x c) := by
  unfold sc; pointwise [k0_pay3, k0_pay2, k0_pay12, k0_pay20, k0_pay19]; rfl

theorem pay5_at : k0_pay5 (F := Ideal) v acc (k0_pay12 d) (k0_pay19 q) (k0_pay20 kk q) l t (ix2 r c)
    = acc (ix2 r c) + ∑ x : Fin 512, sc kk q l r x * gp v d t r x * q (ix2 x c) := by
  unfold sc gp; pointwise [k0_pay5, k0_pay4, k0_pay2, k0_pay12, k0_pay20, k0_pay19]; rfl

theorem pay6_at : k0_pay6 (F := Ideal) kk v (k0_pay12 d) (k0_pay20 kk q) l t acc (ix2 x c)
    = acc (ix2 x c) + ∑ r : Fin 512, sc kk q l r x * gp v d t r x * kk (ix2 r c) := by
  unfold sc gp; pointwise [k0_pay6, k0_pay4, k0_pay2, k0_pay12, k0_pay20, k0_pay19]; rfl

/-! ## On the diagonal -/

/-- Comparing two small numbers as 32-bit words. -/
theorem sle_at (a b : ℕ) (ha : a < 2 ^ 31) (hb : b < 2 ^ 31) :
    IntOp.cmpi .sle (BitVec.ofNat 32 a) (BitVec.ofNat 32 b) = if a ≤ b then 1#1 else 0#1 := by
  have ea : (BitVec.ofNat 32 a).toInt = a := by
    rw [BitVec.toInt_eq_toNat_of_lt (by rw [BitVec.toNat_ofNat]; omega), BitVec.toNat_ofNat]; omega
  have eb : (BitVec.ofNat 32 b).toInt = b := by
    rw [BitVec.toInt_eq_toNat_of_lt (by rw [BitVec.toNat_ofNat]; omega), BitVec.toNat_ofNat]; omega
  unfold IntOp.cmpi
  show BitVec.ofBool ((BitVec.ofNat 32 a).sle (BitVec.ofNat 32 b)) = _
  unfold BitVec.sle
  rw [ea, eb]
  by_cases h : a ≤ b
  · rw [if_pos h, decide_eq_true (by exact_mod_cast h)]; rfl
  · rw [if_neg h, decide_eq_false (by exact_mod_cast h)]; rfl

/-- Choosing by that comparison. -/
theorem select_sle (r x : Fin 512) (u w : EReal) :
    Scalar.select (IntOp.cmpi .sle (BitVec.ofNat 32 r.val) (BitVec.ofNat 32 x.val)) u w = if r ≤ x then u else w := by
  rw [sle_at _ _ (by omega) (by omega)]
  unfold Scalar.select
  by_cases h : r ≤ x
  · rw [if_pos h, if_pos (show r.val ≤ x.val from h)]; rfl
  · rw [if_neg h, if_neg (show ¬r.val ≤ x.val from h)]; rfl

theorem pay38_at : k0_pay38 (F := Ideal) kk q l (ix2 r x) = scm kk q l r x := by
  unfold scm sc; pointwise [k0_pay38, k0_pay31, k0_pay37]
  exact select_sle r x _ _

theorem pay45_at : k0_pay45 (F := Ideal) Body.bodyRun.sl.r Body.bodyRun.sl.r_1 (k0_pay32 kk) q l (ix2 r x) = scm kk q l r x := by
  unfold scm sc; pointwise [k0_pay45, k0_pay32, k0_pay44, Body.bodyRun.sl.r, Body.bodyRun.sl.r_1]
  exact select_sle r x _ _

theorem pay39_at : k0_pay39 (F := Ideal) kk d q l (ix2 r c) = ∑ x : Fin 512, scm kk q l r x * d (ix2 x c) := by
  pointwise [k0_pay39, k0_pay35, k0_pay36]
  exact Finset.sum_congr rfl fun x _ => congrArg (fun a : EReal => a * d (ix2 x c)) (pay38_at kk q l r x)

theorem pay41_at : k0_pay41 (F := Ideal) (k0_pay38 kk q l) (k0_pay40 v d) t (ix2 r x) = scm kk q l r x * gp v d t r x := by
  pointwise [k0_pay41]
  refine congrArg₂ (fun a b : EReal => a * b) (pay38_at kk q l r x) ?_
  unfold gp; pointwise [k0_pay40, k0_pay33, k0_pay36]

theorem pay42_at : k0_pay42 (F := Ideal) k0_pay35 (k0_pay37 q) (k0_pay38 kk q l) (k0_pay40 v d) t (ix2 r c)
    = ∑ x : Fin 512, scm kk q l r x * gp v d t r x * q (ix2 x c) := by
  pointwise [k0_pay42, k0_pay35, k0_pay37]
  exact Finset.sum_congr rfl fun x _ => congrArg (fun a : EReal => a * q (ix2 x c)) (pay41_at kk q v d l t r x)

theorem pay43_at : k0_pay43 (F := Ideal) (k0_pay31 kk) (k0_pay38 kk q l) (k0_pay40 v d) t acc (ix2 x c)
    = acc (ix2 x c) + ∑ r : Fin 512, scm kk q l r x * gp v d t r x * kk (ix2 r c) := by
  pointwise [k0_pay43, k0_pay31]
  refine congrArg (fun a : EReal => acc (ix2 x c) + a) ?_
  exact Finset.sum_congr rfl fun r _ => congrArg (fun a : EReal => a * kk (ix2 r c)) (pay41_at kk q v d l t r x)

theorem pay46_at : k0_pay46 (F := Ideal) Body.bodyRun.sl.r Body.bodyRun.sl.r_1 (k0_pay32 kk) k0_pay35 (k0_pay36 d) q l (ix2 r c)
    = ∑ x : Fin 512, scm kk q l r x * d (ix2 x c) := by
  pointwise [k0_pay46, k0_pay35, k0_pay36]
  exact Finset.sum_congr rfl fun x _ => congrArg (fun a : EReal => a * d (ix2 x c)) (pay45_at kk q l r x)

theorem pay47_at : k0_pay47 (F := Ideal) Body.bodyRun.sl.r Body.bodyRun.sl.r_1 (k0_pay32 kk) (k0_pay34 v) (k0_pay36 d) q l t (ix2 r x)
    = scm kk q l r x * gp v d t r x := by
  pointwise [k0_pay47]
  refine congrArg₂ (fun a b : EReal => a * b) (pay45_at kk q l r x) ?_
  unfold gp; pointwise [k0_pay34, k0_pay36]

theorem pay48_at : k0_pay48 (F := Ideal) Body.bodyRun.sl.r Body.bodyRun.sl.r_1 (k0_pay32 kk) (k0_pay34 v) k0_pay35 (k0_pay36 d) q l t (ix2 r c)
    = ∑ x : Fin 512, scm kk q l r x * gp v d t r x * q (ix2 x c) := by
  pointwise [k0_pay48, k0_pay35, k0_pay44]
  exact Finset.sum_congr rfl fun x _ => congrArg (fun a : EReal => a * q (ix2 x c)) (pay47_at kk q v d l t r x)

theorem pay1_at : k0_pay1 (F := Ideal) (k0_pay32 kk)
      (k0_pay47 (F := Ideal) Body.bodyRun.sl.r Body.bodyRun.sl.r_1 (k0_pay32 kk) (k0_pay34 v) (k0_pay36 d) q l t) acc (ix2 x c)
    = acc (ix2 x c) + ∑ r : Fin 512, scm kk q l r x * gp v d t r x * kk (ix2 r c) := by
  pointwise [k0_pay1]
  refine congrArg (fun a : EReal => acc (ix2 x c) + a) ?_
  exact Finset.sum_congr rfl fun r _ => congrArg₂ (fun a b : EReal => a * b) (pay47_at kk q v d l t r x) (by pointwise [k0_pay32])

end Cert.AttnBwdIdeal.Block

end
-- ==== Proof.AttnTrip.lean ====
/- The attention backward kernel's loop over the query blocks past the diagonal, on the extended reals: what the carried
   sums and the dq block are after `k` trips. -/
module

public import proofs.«01_k».proof.Proof.AttnPay
public import Idealize.ShloMosaic.Lib.VecWindow

@[expose] public section

set_option maxRecDepth 16384

noncomputable section

open Idealize.ShloMosaic Idealize.ShloMosaic.TcCoe

namespace Cert.AttnBwdIdeal.Block

open Cert.AttnBwdIdeal Cert.AttnBwdIdeal.Gen

/-! ## Rows and columns by block -/

/-- Row `x` of query block `n`. -/
def row (n : ℕ) (x : Fin 512) : Fin 8192 := Fin.ofNat 8192 (512 * n + x.val)

theorem row_val {n : ℕ} (hn : n < 16) (x : Fin 512) : (row n x).val = 512 * n + x.val := by
  show (512 * n + x.val) % 8192 = _
  omega

/-- Column `c` of head `e` of the pair. -/
def col (e : Fin 2) (c : Fin 128) : Fin 256 := ⟨128 * e.val + c.val, by omega⟩

/-- The weight of query row `x` of head `e` on key row `r`. -/
def SC (kk : FVec Ideal S512x128 .bf16) (Q : Vec Ideal S8192x256 .bf16) (L : Vec Ideal S2x1x8192 .f32) (e : Fin 2) (r : Fin 512) (x : Fin 8192) : EReal :=
  Ideal.exp2 ((∑ c : Fin 128, kk (ix2 r c) * Q (ix2 x (col e c))) - L (ix3 e 0 x))

/-- The output's gradient times the values, less the row sum. -/
def GP (v : FVec Ideal S512x128 .bf16) (D : Vec Ideal S8192x128 .bf16) (T : Vec Ideal S2x1x8192 .f32) (e : Fin 2) (r : Fin 512) (x : Fin 8192) : EReal :=
  (∑ c : Fin 128, v (ix2 r c) * D (ix2 x c)) - T (ix3 e 0 x)

/-! ## Loads and stores at an index -/

/-- A block of rows of one head, loaded; -/
abbrev ldPair {φ : EltTy} (a : Memref sig .tc .vmem S8192x256 φ) (f : BufTy.Contents (Elt Ideal) a.view.ty) (off : Fin 2 → ℕ) (inb : ∀ a, off a + S512x128.size a ≤ S8192x256.size a) : Vec Ideal S512x128 φ :=
  a.view.readAt (Elt Ideal) (Rect.unit (s := S8192x256) off S512x128.size inb).toLoadRect f

/-- of the array both heads share; -/
abbrev ldOne {φ : EltTy} (a : Memref sig .tc .vmem S8192x128 φ) (f : BufTy.Contents (Elt Ideal) a.view.ty) (off : Fin 2 → ℕ) (inb : ∀ a, off a + S512x128.size a ≤ S8192x128.size a) : Vec Ideal S512x128 φ :=
  a.view.readAt (Elt Ideal) (Rect.unit (s := S8192x128) off S512x128.size inb).toLoadRect f

/-- of one number per row. -/
abbrev ldRow {φ : EltTy} (a : Memref sig .tc .vmem S2x1x8192 φ) (f : BufTy.Contents (Elt Ideal) a.view.ty) (off : Fin 3 → ℕ) (inb : ∀ a, off a + S1x1x512.size a ≤ S2x1x8192.size a) : Vec Ideal S1x1x512 φ :=
  a.view.readAt (Elt Ideal) (Rect.unit (s := S2x1x8192) off S1x1x512.size inb).toLoadRect f

section Windows

variable {φ : EltTy}

theorem load_pair (a : Memref sig .tc .vmem S8192x256 φ) (f : BufTy.Contents (Elt Ideal) a.view.ty) {off : Fin 2 → ℕ} (inb : ∀ a, off a + S512x128.size a ≤ S8192x256.size a)
    {n : ℕ} {e : Fin 2} (hn : n < 16) (h : off = ![512 * n, 128 * e.val]) (p : Fin 512) (q : Fin 128) :
    ldPair a f off inb (ix2 p q) = a.view.read (Elt Ideal) f (ix2 (row n p) (col e q)) := by
  subst h
  refine congrArg (a.view.read (Elt Ideal) f) (funext fun b => Fin.ext ?_)
  match b with
  | 0 => show 512 * n + 1 * p.val = (row n p).val; rw [row_val hn]; omega
  | 1 => show 128 * e.val + 1 * q.val = 128 * e.val + q.val; omega

theorem load_one (a : Memref sig .tc .vmem S8192x128 φ) (f : BufTy.Contents (Elt Ideal) a.view.ty) {off : Fin 2 → ℕ} (inb : ∀ a, off a + S512x128.size a ≤ S8192x128.size a)
    {n : ℕ} (hn : n < 16) (h : off = ![512 * n, 0]) (p : Fin 512) (q : Fin 128) :
    ldOne a f off inb (ix2 p q) = a.view.read (Elt Ideal) f (ix2 (row n p) q) := by
  subst h
  refine congrArg (a.view.read (Elt Ideal) f) (funext fun b => Fin.ext ?_)
  match b with
  | 0 => show 512 * n + 1 * p.val = (row n p).val; rw [row_val hn]; omega
  | 1 => show 0 + 1 * q.val = q.val; omega

theorem load_row (a : Memref sig .tc .vmem S2x1x8192 φ) (f : BufTy.Contents (Elt Ideal) a.view.ty) {off : Fin 3 → ℕ} (inb : ∀ a, off a + S1x1x512.size a ≤ S2x1x8192.size a)
    {n : ℕ} {e : Fin 2} (hn : n < 16) (h : off = ![e.val, 0, 512 * n]) (p : Fin 512) :
    ldRow a f off inb (ix3 0 0 p) = a.view.read (Elt Ideal) f (ix3 e 0 (row n p)) := by
  subst h
  refine congrArg (a.view.read (Elt Ideal) f) (funext fun b => Fin.ext ?_)
  match b with
  | 0 => show e.val + 1 * 0 = e.val; omega
  | 1 => rfl
  | 2 => show 512 * n + 1 * p.val = (row n p).val; rw [row_val hn]; omega

/-- A store of one block of one head, read at any index. -/
theorem store_at (a : Memref sig .tc .vmem S8192x256 φ) (f : BufTy.Contents (Elt Ideal) a.view.ty) {off : Fin 2 → ℕ} (inb : ∀ a, off a + S512x128.size a ≤ S8192x256.size a)
    {n : ℕ} {e : Fin 2} (hn : n < 16) (h : off = ![512 * n, 128 * e.val]) (w : (Rect.unit (s := S8192x256) off S512x128.size inb).shape.Idx → Elt Ideal φ)
    (L : List (View.Piece (Elt Ideal) S8192x256 φ)) {n' : ℕ} (hn' : n' < 16) (e' : Fin 2) (p : Fin 512) (q : Fin 128) :
    a.view.read (Elt Ideal) (a.view.writes (Elt Ideal) f (⟨Rect.unit (s := S8192x256) off S512x128.size inb, w⟩ :: L)) (ix2 (row n' p) (col e' q))
      = if n' = n ∧ e' = e then w (ix2 p q) else a.view.read (Elt Ideal) (a.view.writes (Elt Ideal) f L) (ix2 (row n' p) (col e' q)) := by
  rw [View.read_writes_cons_put a.view f inb w L h]
  unfold VecWindow.put
  have hr := row_val hn' p
  by_cases hc : n' = n ∧ e' = e
  · obtain ⟨rfl, rfl⟩ := hc
    rw [if_pos ⟨rfl, rfl⟩, dif_pos]
    · refine congrArg w (funext fun b => Fin.ext ?_)
      match b with
      | 0 => show (row n' p).val - 512 * n' = p.val; omega
      | 1 => show 128 * e'.val + q.val - 128 * e'.val = q.val; omega
    · intro b
      match b with
      | 0 => show 512 * n' ≤ (row n' p).val ∧ (row n' p).val < 512 * n' + 512; omega
      | 1 => show 128 * e'.val ≤ 128 * e'.val + q.val ∧ 128 * e'.val + q.val < 128 * e'.val + 128; omega
  · rw [if_neg hc, dif_neg]
    intro ha
    refine hc ?_
    have h0 : 512 * n ≤ (row n' p).val ∧ (row n' p).val < 512 * n + 512 := ha 0
    have h1 : 128 * e.val ≤ 128 * e'.val + q.val ∧ 128 * e'.val + q.val < 128 * e.val + 128 := ha 1
    exact ⟨by omega, Fin.ext (by omega)⟩

end Windows

/-! ## Where the loop's blocks are -/

theorem i1_lt (i : grid0.Coords) : (i 1).val < 16 := (i 1).isLt

theorem trips_eq (i : grid0.Coords) : (k0_t1_loop i).trips = 15 - (i 1).val := by
  have h : ∀ j : Fin 16, Scf.trips (Scalar.addi (BitVec.ofNat 32 j.val) 1#32) (Scalar.addi (Scalar.addi (BitVec.ofNat 32 j.val) 1#32)
      (Scalar.muli (Scalar.divsi (Scalar.subi (16#32) (Scalar.addi (BitVec.ofNat 32 j.val) 1#32)) 1#32) 1#32)) 1#32 = 15 - j.val := by decide +kernel
  exact h ⟨(i 1).val, i1_lt i⟩

theorem trips2_eq (i : grid0.Coords) : (k0_t2_loop i).trips = 0 := by
  have h : ∀ j : Fin 16, Scf.trips (Scalar.addi (Scalar.addi (BitVec.ofNat 32 j.val) 1#32)
      (Scalar.muli (Scalar.divsi (Scalar.subi (16#32) (Scalar.addi (BitVec.ofNat 32 j.val) 1#32)) 1#32) 1#32))
      (Scalar.addi (Scalar.addi (BitVec.ofNat 32 j.val) 1#32) (Scalar.subi (16#32) (Scalar.addi (BitVec.ofNat 32 j.val) 1#32))) 1#32 = 0 := by decide +kernel
  exact h ⟨(i 1).val, i1_lt i⟩

theorem start_eq (i : grid0.Coords) (k : Fin (k0_t1_loop i).trips) :
    (Scalar.indexCast (Scalar.muli (Scf.iv (Scalar.addi (BitVec.ofNat 32 (i 1).val) 1#32) 1#32 k.val) 512#32) : Index).toNat = 512 * ((i 1).val + 1 + k.val) := by
  have h : ∀ j : Fin 16, ∀ k : Fin 16, j.val + 1 + k.val < 16 →
      (Scalar.indexCast (Scalar.muli (Scf.iv (Scalar.addi (BitVec.ofNat 32 j.val) 1#32) 1#32 k.val) 512#32) : Index).toNat = 512 * (j.val + 1 + k.val) := by decide +kernel
  have hk := k.isLt
  have ht := trips_eq i
  have hi := i1_lt i
  exact h ⟨(i 1).val, hi⟩ ⟨k.val, by omega⟩ (by show (i 1).val + 1 + k.val < 16; omega)

theorem start0_eq (i : grid0.Coords) :
    (Scalar.indexCast (Scalar.muli (BitVec.ofNat 32 (i 1).val) 512#32) : Index).toNat = 512 * (i 1).val := by
  have h : ∀ j : Fin 16, (Scalar.indexCast (Scalar.muli (BitVec.ofNat 32 j.val) 512#32) : Index).toNat = 512 * j.val := by decide +kernel
  exact h ⟨(i 1).val, i1_lt i⟩

section Offsets

variable (i : grid0.Coords) (k : Fin (k0_t1_loop i).trips)

theorem off6_eq : k0_off6 i k = ![512 * ((i 1).val + 1 + k.val), 0] := by rw [← start_eq i k]; rfl
theorem off7_eq : k0_off7 i k = ![512 * ((i 1).val + 1 + k.val), 128 * (0 : Fin 2).val] := by rw [← start_eq i k]; rfl
theorem off8_eq : k0_off8 i k = ![(0 : Fin 2).val, 0, 512 * ((i 1).val + 1 + k.val)] := by rw [← start_eq i k]; rfl
theorem off9_eq : k0_off9 i k = ![512 * ((i 1).val + 1 + k.val), 128 * (1 : Fin 2).val] := by rw [← start_eq i k]; rfl
theorem off10_eq : k0_off10 i k = ![(1 : Fin 2).val, 0, 512 * ((i 1).val + 1 + k.val)] := by rw [← start_eq i k]; rfl
theorem off1_eq : k0_off1 i = ![512 * (i 1).val, 0] := by rw [← start0_eq i]; rfl
theorem off2_eq : k0_off2 i = ![512 * (i 1).val, 128 * (0 : Fin 2).val] := by rw [← start0_eq i]; rfl
theorem off3_eq : k0_off3 i = ![(0 : Fin 2).val, 0, 512 * (i 1).val] := by rw [← start0_eq i]; rfl
theorem off4_eq : k0_off4 i = ![512 * (i 1).val, 128 * (1 : Fin 2).val] := by rw [← start0_eq i]; rfl
theorem off5_eq : k0_off5 i = ![(1 : Fin 2).val, 0, 512 * (i 1).val] := by rw [← start0_eq i]; rfl

end Offsets

/-! ## One trip -/

/-- The four sums carried: dk and dv of the first head, dk and dv of the second. -/
abbrev V4 := FVec Ideal S512x128 .f32 × FVec Ideal S512x128 .f32 × FVec Ideal S512x128 .f32 × FVec Ideal S512x128 .f32

section Loop

variable (c : Dev nD) (i : grid0.Coords)
  (a2 : Memref sig .tc .vmem S8192x256 .bf16) (h2 : a2.IsWhole) (a3 : Memref sig .tc .vmem S8192x128 .bf16) (h3 : a3.IsWhole)
  (a4 : Memref sig .tc .vmem S2x1x8192 .f32) (h4 : a4.IsWhole) (a5 : Memref sig .tc .vmem S2x1x8192 .f32) (h5 : a5.IsWhole)
  (a6 : Memref sig .tc .vmem S512x256 .bf16) (h6 : a6.IsWhole) (a7 : Memref sig .tc .vmem S512x256 .bf16) (h7 : a7.IsWhole)
  (a8 : Memref sig .tc .vmem S8192x256 .f32) (h8 : a8.IsWhole) (a9 : Memref sig .tc .vmem S512x256 .f32) (h9 : a9.IsWhole)
  (a10 : Memref sig .tc .vmem S512x256 .f32) (h10 : a10.IsWhole)
  (v6 v8 v10 v12 : FVec Ideal S512x128 .bf16) (v85 : BitVec 32)
  (X2 : BufTy.Contents (Elt Ideal) a2.view.ty) (X3 : BufTy.Contents (Elt Ideal) a3.view.ty)
  (X4 : BufTy.Contents (Elt Ideal) a4.view.ty) (X5 : BufTy.Contents (Elt Ideal) a5.view.ty)

variable (acc : V4)

/-- What a trip yields. -/
def yieldOf (k : Fin (k0_t1_loop i).trips) (f : BufTy.Contents (Elt Ideal) a8.view.ty) : V4 :=
  tripR_k0_t1 (F := Ideal) Variants.none c none i a2 h2 a3 h3 a4 h4 a5 h5 a6 h6 a7 h7 a8 h8 a9 h9 a10 h10 v6 v8 v10 v12 v85 X2 X3 X4 X5 k acc f

/-- What a trip stores. -/
def storesOf (k : Fin (k0_t1_loop i).trips) (f : BufTy.Contents (Elt Ideal) a8.view.ty) : List (View.Piece (Elt Ideal) S8192x256 .f32) :=
  tripL_k0_t1 (F := Ideal) Variants.none c none i a2 h2 a3 h3 a4 h4 a5 h5 a6 h6 a7 h7 a8 h8 a9 h9 a10 h10 v6 v8 v10 v12 v85 X2 X3 X4 X5 k acc f

theorem yieldOf_eq (k : Fin (k0_t1_loop i).trips) (f : BufTy.Contents (Elt Ideal) a8.view.ty) :
    yieldOf c i a2 h2 a3 h3 a4 h4 a5 h5 a6 h6 a7 h7 a8 h8 a9 h9 a10 h10 v6 v8 v10 v12 v85 X2 X3 X4 X5 acc k f =
      (k0_pay17 v6 v10 acc.1 (ldOne a3 X3 (k0_off6 i k) (k0_off6_inb i k)) (ldPair a2 X2 (k0_off7 i k) (k0_off7_inb i k)) (ldRow a4 X4 (k0_off8 i k) (k0_off8_inb i k)) (ldRow a5 X5 (k0_off8 i k) (k0_off8_inb i k)),
       k0_pay15 v6 acc.2.1 (ldOne a3 X3 (k0_off6 i k) (k0_off6_inb i k)) (ldPair a2 X2 (k0_off7 i k) (k0_off7_inb i k)) (ldRow a4 X4 (k0_off8 i k) (k0_off8_inb i k)),
       k0_pay5 v12 acc.2.2.1 (k0_pay12 (ldOne a3 X3 (k0_off6 i k) (k0_off6_inb i k))) (k0_pay19 (ldPair a2 X2 (k0_off9 i k) (k0_off9_inb i k))) (k0_pay20 v8 (ldPair a2 X2 (k0_off9 i k) (k0_off9_inb i k))) (ldRow a4 X4 (k0_off10 i k) (k0_off10_inb i k)) (ldRow a5 X5 (k0_off10 i k) (k0_off10_inb i k)),
       k0_pay3 acc.2.2.2 (k0_pay12 (ldOne a3 X3 (k0_off6 i k) (k0_off6_inb i k))) (k0_pay20 v8 (ldPair a2 X2 (k0_off9 i k) (k0_off9_inb i k))) (ldRow a4 X4 (k0_off10 i k) (k0_off10_inb i k))) := by
  unfold yieldOf tripR_k0_t1 trip_k0_t1; rfl

theorem storesOf_eq (k : Fin (k0_t1_loop i).trips) (f : BufTy.Contents (Elt Ideal) a8.view.ty) :
    storesOf c i a2 h2 a3 h3 a4 h4 a5 h5 a6 h6 a7 h7 a8 h8 a9 h9 a10 h10 v6 v8 v10 v12 v85 X2 X3 X4 X5 acc k f =
      [⟨Rect.unit (s := S8192x256) (k0_off9 i k) S512x128.size (k0_off9_inb i k),
        k0_pay6 v8 v12 (k0_pay12 (ldOne a3 X3 (k0_off6 i k) (k0_off6_inb i k))) (k0_pay20 v8 (ldPair a2 X2 (k0_off9 i k) (k0_off9_inb i k))) (ldRow a4 X4 (k0_off10 i k) (k0_off10_inb i k)) (ldRow a5 X5 (k0_off10 i k) (k0_off10_inb i k)) (ldPair a8 f (k0_off9 i k) (k0_off9_inb i k))⟩,
       ⟨Rect.unit (s := S8192x256) (k0_off7 i k) S512x128.size (k0_off7_inb i k),
        k0_pay18 v6 v10 (ldOne a3 X3 (k0_off6 i k) (k0_off6_inb i k)) (ldPair a2 X2 (k0_off7 i k) (k0_off7_inb i k)) (ldRow a4 X4 (k0_off8 i k) (k0_off8_inb i k)) (ldRow a5 X5 (k0_off8 i k) (k0_off8_inb i k)) (ldPair a8 f (k0_off7 i k) (k0_off7_inb i k))⟩] := by
  unfold storesOf tripL_k0_t1 trip_k0_t1; rfl

/-! ## What a trip adds -/

theorem sc_load (kk : FVec Ideal S512x128 .bf16) {off : Fin 2 → ℕ} (inb : ∀ a, off a + S512x128.size a ≤ S8192x256.size a) {off' : Fin 3 → ℕ}
    (inb' : ∀ a, off' a + S1x1x512.size a ≤ S2x1x8192.size a) {n : ℕ} {e : Fin 2} (hn : n < 16) (h : off = ![512 * n, 128 * e.val]) (h' : off' = ![e.val, 0, 512 * n])
    (r x : Fin 512) : sc kk (ldPair a2 X2 off inb) (ldRow a4 X4 off' inb') r x = SC kk (a2.view.read (Elt Ideal) X2) (a4.view.read (Elt Ideal) X4) e r (row n x) := by
  unfold sc SC
  rw [load_row a4 X4 inb' hn h' x]
  exact congrArg (fun z : EReal => Ideal.exp2 (z - _)) (Finset.sum_congr rfl fun c _ => congrArg (fun z : EReal => kk (ix2 r c) * z) (load_pair a2 X2 inb hn h x c))

theorem gp_load (v : FVec Ideal S512x128 .bf16) {off : Fin 2 → ℕ} (inb : ∀ a, off a + S512x128.size a ≤ S8192x128.size a) {off' : Fin 3 → ℕ}
    (inb' : ∀ a, off' a + S1x1x512.size a ≤ S2x1x8192.size a) {n : ℕ} {e : Fin 2} (hn : n < 16) (h : off = ![512 * n, 0]) (h' : off' = ![e.val, 0, 512 * n])
    (r x : Fin 512) : gp v (ldOne a3 X3 off inb) (ldRow a5 X5 off' inb') r x = GP v (a3.view.read (Elt Ideal) X3) (a5.view.read (Elt Ideal) X5) e r (row n x) := by
  unfold gp GP
  rw [load_row a5 X5 inb' hn h' x]
  exact congrArg (fun z : EReal => z - _) (Finset.sum_congr rfl fun c _ => congrArg (fun z : EReal => v (ix2 r c) * z) (load_one a3 X3 inb hn h x c))

theorem yield_dk0 (k : Fin (k0_t1_loop i).trips) (f : BufTy.Contents (Elt Ideal) a8.view.ty) (r : Fin 512) (q : Fin 128) :
    (yieldOf c i a2 h2 a3 h3 a4 h4 a5 h5 a6 h6 a7 h7 a8 h8 a9 h9 a10 h10 v6 v8 v10 v12 v85 X2 X3 X4 X5 acc k f).1 (ix2 r q) = acc.1 (ix2 r q)
      + ∑ x : Fin 512, SC v6 (a2.view.read (Elt Ideal) X2) (a4.view.read (Elt Ideal) X4) 0 r (row ((i 1).val + 1 + k.val) x) * GP v10 (a3.view.read (Elt Ideal) X3) (a5.view.read (Elt Ideal) X5) 0 r (row ((i 1).val + 1 + k.val) x) * (a2.view.read (Elt Ideal) X2) (ix2 (row ((i 1).val + 1 + k.val) x) (col 0 q)) := by
  have hn := (show (i 1).val + 1 + k.val < 16 by have := k.isLt; have := trips_eq i; have := i1_lt i; omega)
  rw [yieldOf_eq]
  refine (pay17_at _ _ _ _ _ _ _ _ _).trans (congrArg (fun z : EReal => acc.1 (ix2 r q) + z) (Finset.sum_congr rfl fun x _ => ?_))
  exact congrArg₂ (fun a b : EReal => a * b) (congrArg₂ (fun a b : EReal => a * b) (sc_load a2 a4 X2 X4 v6 _ _ hn (off7_eq i k) (off8_eq i k) r x) (gp_load a3 a5 X3 X5 v10 _ _ hn (off6_eq i k) (off8_eq i k) r x)) (load_pair a2 X2 _ hn (off7_eq i k) x q)

theorem yield_dv0 (k : Fin (k0_t1_loop i).trips) (f : BufTy.Contents (Elt Ideal) a8.view.ty) (r : Fin 512) (q : Fin 128) :
    (yieldOf c i a2 h2 a3 h3 a4 h4 a5 h5 a6 h6 a7 h7 a8 h8 a9 h9 a10 h10 v6 v8 v10 v12 v85 X2 X3 X4 X5 acc k f).2.1 (ix2 r q) = acc.2.1 (ix2 r q)
      + ∑ x : Fin 512, SC v6 (a2.view.read (Elt Ideal) X2) (a4.view.read (Elt Ideal) X4) 0 r (row ((i 1).val + 1 + k.val) x) * (a3.view.read (Elt Ideal) X3) (ix2 (row ((i 1).val + 1 + k.val) x) q) := by
  have hn := (show (i 1).val + 1 + k.val < 16 by have := k.isLt; have := trips_eq i; have := i1_lt i; omega)
  rw [yieldOf_eq]
  refine (pay15_at _ _ _ _ _ _ _).trans (congrArg (fun z : EReal => acc.2.1 (ix2 r q) + z) (Finset.sum_congr rfl fun x _ => ?_))
  exact congrArg₂ (fun a b : EReal => a * b) (sc_load a2 a4 X2 X4 v6 _ _ hn (off7_eq i k) (off8_eq i k) r x) (load_one a3 X3 _ hn (off6_eq i k) x q)

theorem yield_dk1 (k : Fin (k0_t1_loop i).trips) (f : BufTy.Contents (Elt Ideal) a8.view.ty) (r : Fin 512) (q : Fin 128) :
    (yieldOf c i a2 h2 a3 h3 a4 h4 a5 h5 a6 h6 a7 h7 a8 h8 a9 h9 a10 h10 v6 v8 v10 v12 v85 X2 X3 X4 X5 acc k f).2.2.1 (ix2 r q) = acc.2.2.1 (ix2 r q)
      + ∑ x : Fin 512, SC v8 (a2.view.read (Elt Ideal) X2) (a4.view.read (Elt Ideal) X4) 1 r (row ((i 1).val + 1 + k.val) x) * GP v12 (a3.view.read (Elt Ideal) X3) (a5.view.read (Elt Ideal) X5) 1 r (row ((i 1).val + 1 + k.val) x) * (a2.view.read (Elt Ideal) X2) (ix2 (row ((i 1).val + 1 + k.val) x) (col 1 q)) := by
  have hn := (show (i 1).val + 1 + k.val < 16 by have := k.isLt; have := trips_eq i; have := i1_lt i; omega)
  rw [yieldOf_eq]
  refine (pay5_at _ _ _ _ _ _ _ _ _).trans (congrArg (fun z : EReal => acc.2.2.1 (ix2 r q) + z) (Finset.sum_congr rfl fun x _ => ?_))
  exact congrArg₂ (fun a b : EReal => a * b) (congrArg₂ (fun a b : EReal => a * b) (sc_load a2 a4 X2 X4 v8 _ _ hn (off9_eq i k) (off10_eq i k) r x) (gp_load a3 a5 X3 X5 v12 _ _ hn (off6_eq i k) (off10_eq i k) r x)) (load_pair a2 X2 _ hn (off9_eq i k) x q)

theorem yield_dv1 (k : Fin (k0_t1_loop i).trips) (f : BufTy.Contents (Elt Ideal) a8.view.ty) (r : Fin 512) (q : Fin 128) :
    (yieldOf c i a2 h2 a3 h3 a4 h4 a5 h5 a6 h6 a7 h7 a8 h8 a9 h9 a10 h10 v6 v8 v10 v12 v85 X2 X3 X4 X5 acc k f).2.2.2 (ix2 r q) = acc.2.2.2 (ix2 r q)
      + ∑ x : Fin 512, SC v8 (a2.view.read (Elt Ideal) X2) (a4.view.read (Elt Ideal) X4) 1 r (row ((i 1).val + 1 + k.val) x) * (a3.view.read (Elt Ideal) X3) (ix2 (row ((i 1).val + 1 + k.val) x) q) := by
  have hn := (show (i 1).val + 1 + k.val < 16 by have := k.isLt; have := trips_eq i; have := i1_lt i; omega)
  rw [yieldOf_eq]
  refine (pay3_at _ _ _ _ _ _ _).trans (congrArg (fun z : EReal => acc.2.2.2 (ix2 r q) + z) (Finset.sum_congr rfl fun x _ => ?_))
  exact congrArg₂ (fun a b : EReal => a * b) (sc_load a2 a4 X2 X4 v8 _ _ hn (off9_eq i k) (off10_eq i k) r x) (load_one a3 X3 _ hn (off6_eq i k) x q)

theorem store_head0 (k : Fin (k0_t1_loop i).trips) (f : BufTy.Contents (Elt Ideal) a8.view.ty) (x : Fin 512) (q : Fin 128) :
    k0_pay18 v6 v10 (ldOne a3 X3 (k0_off6 i k) (k0_off6_inb i k)) (ldPair a2 X2 (k0_off7 i k) (k0_off7_inb i k)) (ldRow a4 X4 (k0_off8 i k) (k0_off8_inb i k)) (ldRow a5 X5 (k0_off8 i k) (k0_off8_inb i k)) (ldPair a8 f (k0_off7 i k) (k0_off7_inb i k)) (ix2 x q) = a8.view.read (Elt Ideal) f (ix2 (row ((i 1).val + 1 + k.val) x) (col 0 q))
      + ∑ r : Fin 512, SC v6 (a2.view.read (Elt Ideal) X2) (a4.view.read (Elt Ideal) X4) 0 r (row ((i 1).val + 1 + k.val) x) * GP v10 (a3.view.read (Elt Ideal) X3) (a5.view.read (Elt Ideal) X5) 0 r (row ((i 1).val + 1 + k.val) x) * v6 (ix2 r q) := by
  have hn := (show (i 1).val + 1 + k.val < 16 by have := k.isLt; have := trips_eq i; have := i1_lt i; omega)
  refine (pay18_at _ _ _ _ _ _ _ _ _).trans (congrArg₂ (fun a b : EReal => a + b) (load_pair a8 f _ hn (off7_eq i k) x q) (Finset.sum_congr rfl fun r _ => ?_))
  exact congrArg (fun a : EReal => a * v6 (ix2 r q)) (congrArg₂ (fun a b : EReal => a * b) (sc_load a2 a4 X2 X4 v6 _ _ hn (off7_eq i k) (off8_eq i k) r x) (gp_load a3 a5 X3 X5 v10 _ _ hn (off6_eq i k) (off8_eq i k) r x))

theorem store_head1 (k : Fin (k0_t1_loop i).trips) (f : BufTy.Contents (Elt Ideal) a8.view.ty) (x : Fin 512) (q : Fin 128) :
    k0_pay6 v8 v12 (k0_pay12 (ldOne a3 X3 (k0_off6 i k) (k0_off6_inb i k))) (k0_pay20 v8 (ldPair a2 X2 (k0_off9 i k) (k0_off9_inb i k))) (ldRow a4 X4 (k0_off10 i k) (k0_off10_inb i k)) (ldRow a5 X5 (k0_off10 i k) (k0_off10_inb i k)) (ldPair a8 f (k0_off9 i k) (k0_off9_inb i k)) (ix2 x q) = a8.view.read (Elt Ideal) f (ix2 (row ((i 1).val + 1 + k.val) x) (col 1 q))
      + ∑ r : Fin 512, SC v8 (a2.view.read (Elt Ideal) X2) (a4.view.read (Elt Ideal) X4) 1 r (row ((i 1).val + 1 + k.val) x) * GP v12 (a3.view.read (Elt Ideal) X3) (a5.view.read (Elt Ideal) X5) 1 r (row ((i 1).val + 1 + k.val) x) * v8 (ix2 r q) := by
  have hn := (show (i 1).val + 1 + k.val < 16 by have := k.isLt; have := trips_eq i; have := i1_lt i; omega)
  refine (pay6_at _ _ _ _ _ _ _ _ _).trans (congrArg₂ (fun a b : EReal => a + b) (load_pair a8 f _ hn (off9_eq i k) x q) (Finset.sum_congr rfl fun r _ => ?_))
  exact congrArg (fun a : EReal => a * v8 (ix2 r q)) (congrArg₂ (fun a b : EReal => a * b) (sc_load a2 a4 X2 X4 v8 _ _ hn (off9_eq i k) (off10_eq i k) r x) (gp_load a3 a5 X3 X5 v12 _ _ hn (off6_eq i k) (off10_eq i k) r x))

end Loop

end Cert.AttnBwdIdeal.Block

end
-- ==== Proof.AttnLoop.lean ====
/- The attention backward kernel's loop over the query blocks past the diagonal, from start to end: the carried sums and the
   dq block after any number of trips. -/
module

public import proofs.«01_k».proof.Proof.AttnTrip

@[expose] public section

set_option maxRecDepth 16384

noncomputable section

open Idealize.ShloMosaic Idealize.ShloMosaic.TcCoe

namespace Cert.AttnBwdIdeal.Block

open Cert.AttnBwdIdeal Cert.AttnBwdIdeal.Gen

variable (c : Dev nD) (i : grid0.Coords)
  (a2 : Memref sig .tc .vmem S8192x256 .bf16) (h2 : a2.IsWhole) (a3 : Memref sig .tc .vmem S8192x128 .bf16) (h3 : a3.IsWhole)
  (a4 : Memref sig .tc .vmem S2x1x8192 .f32) (h4 : a4.IsWhole) (a5 : Memref sig .tc .vmem S2x1x8192 .f32) (h5 : a5.IsWhole)
  (a6 : Memref sig .tc .vmem S512x256 .bf16) (h6 : a6.IsWhole) (a7 : Memref sig .tc .vmem S512x256 .bf16) (h7 : a7.IsWhole)
  (a8 : Memref sig .tc .vmem S8192x256 .f32) (h8 : a8.IsWhole) (a9 : Memref sig .tc .vmem S512x256 .f32) (h9 : a9.IsWhole)
  (a10 : Memref sig .tc .vmem S512x256 .f32) (h10 : a10.IsWhole)
  (v6 v8 v10 v12 : FVec Ideal S512x128 .bf16) (v85 : BitVec 32)
  (X2 : BufTy.Contents (Elt Ideal) a2.view.ty) (X3 : BufTy.Contents (Elt Ideal) a3.view.ty)
  (X4 : BufTy.Contents (Elt Ideal) a4.view.ty) (X5 : BufTy.Contents (Elt Ideal) a5.view.ty)
  (G : BufTy.Contents (Elt Ideal) a8.view.ty) (init : V4)

/-- The state before trip `k`. -/
def stateAt (k : ℕ) : V4 × List (View.Piece (Elt Ideal) S8192x256 .f32) :=
  st_k0_t1 (F := Ideal) Variants.none c none i a2 h2 a3 h3 a4 h4 a5 h5 a6 h6 a7 h7 a8 h8 a9 h9 a10 h10 v6 v8 v10 v12 v85 X2 X3 X4 X5 G init k

/-- The dq buffer before trip `k`. -/
def bufAt (k : ℕ) : BufTy.Contents (Elt Ideal) a8.view.ty :=
  a8.view.writes (Elt Ideal) G (stateAt c i a2 h2 a3 h3 a4 h4 a5 h5 a6 h6 a7 h7 a8 h8 a9 h9 a10 h10 v6 v8 v10 v12 v85 X2 X3 X4 X5 G init k).2

theorem stateAt_zero : stateAt c i a2 h2 a3 h3 a4 h4 a5 h5 a6 h6 a7 h7 a8 h8 a9 h9 a10 h10 v6 v8 v10 v12 v85 X2 X3 X4 X5 G init 0 = (init, []) := rfl

theorem stateAt_succ (k : Fin (k0_t1_loop i).trips) : stateAt c i a2 h2 a3 h3 a4 h4 a5 h5 a6 h6 a7 h7 a8 h8 a9 h9 a10 h10 v6 v8 v10 v12 v85 X2 X3 X4 X5 G init (k.val + 1)
    = (yieldOf c i a2 h2 a3 h3 a4 h4 a5 h5 a6 h6 a7 h7 a8 h8 a9 h9 a10 h10 v6 v8 v10 v12 v85 X2 X3 X4 X5 (stateAt c i a2 h2 a3 h3 a4 h4 a5 h5 a6 h6 a7 h7 a8 h8 a9 h9 a10 h10 v6 v8 v10 v12 v85 X2 X3 X4 X5 G init k.val).1 k (bufAt c i a2 h2 a3 h3 a4 h4 a5 h5 a6 h6 a7 h7 a8 h8 a9 h9 a10 h10 v6 v8 v10 v12 v85 X2 X3 X4 X5 G init k.val),
       storesOf c i a2 h2 a3 h3 a4 h4 a5 h5 a6 h6 a7 h7 a8 h8 a9 h9 a10 h10 v6 v8 v10 v12 v85 X2 X3 X4 X5 (stateAt c i a2 h2 a3 h3 a4 h4 a5 h5 a6 h6 a7 h7 a8 h8 a9 h9 a10 h10 v6 v8 v10 v12 v85 X2 X3 X4 X5 G init k.val).1 k (bufAt c i a2 h2 a3 h3 a4 h4 a5 h5 a6 h6 a7 h7 a8 h8 a9 h9 a10 h10 v6 v8 v10 v12 v85 X2 X3 X4 X5 G init k.val) ++ (stateAt c i a2 h2 a3 h3 a4 h4 a5 h5 a6 h6 a7 h7 a8 h8 a9 h9 a10 h10 v6 v8 v10 v12 v85 X2 X3 X4 X5 G init k.val).2) :=
  st_k0_t1_succ (F := Ideal) Variants.none c none i a2 h2 a3 h3 a4 h4 a5 h5 a6 h6 a7 h7 a8 h8 a9 h9 a10 h10 v6 v8 v10 v12 v85 X2 X3 X4 X5 G init k

theorem loop_dk0 (r : Fin 512) (q : Fin 128) (k : ℕ) (hk : k ≤ (k0_t1_loop i).trips) :
    (stateAt c i a2 h2 a3 h3 a4 h4 a5 h5 a6 h6 a7 h7 a8 h8 a9 h9 a10 h10 v6 v8 v10 v12 v85 X2 X3 X4 X5 G init k).1.1 (ix2 r q) = init.1 (ix2 r q)
      + ∑ b ∈ Finset.range k, ∑ x : Fin 512, SC v6 (a2.view.read (Elt Ideal) X2) (a4.view.read (Elt Ideal) X4) 0 r (row ((i 1).val + 1 + b) x) * GP v10 (a3.view.read (Elt Ideal) X3) (a5.view.read (Elt Ideal) X5) 0 r (row ((i 1).val + 1 + b) x) * (a2.view.read (Elt Ideal) X2) (ix2 (row ((i 1).val + 1 + b) x) (col 0 q)) := by
  induction k with
  | zero => rw [stateAt_zero, Finset.sum_range_zero, add_zero]
  | succ k ih =>
    rw [stateAt_succ c i a2 h2 a3 h3 a4 h4 a5 h5 a6 h6 a7 h7 a8 h8 a9 h9 a10 h10 v6 v8 v10 v12 v85 X2 X3 X4 X5 G init ⟨k, hk⟩, Finset.sum_range_succ, ← add_assoc, ← ih (by omega)]
    exact yield_dk0 c i a2 h2 a3 h3 a4 h4 a5 h5 a6 h6 a7 h7 a8 h8 a9 h9 a10 h10 v6 v8 v10 v12 v85 X2 X3 X4 X5 _ ⟨k, hk⟩ _ r q

theorem loop_dv0 (r : Fin 512) (q : Fin 128) (k : ℕ) (hk : k ≤ (k0_t1_loop i).trips) :
    (stateAt c i a2 h2 a3 h3 a4 h4 a5 h5 a6 h6 a7 h7 a8 h8 a9 h9 a10 h10 v6 v8 v10 v12 v85 X2 X3 X4 X5 G init k).1.2.1 (ix2 r q) = init.2.1 (ix2 r q)
      + ∑ b ∈ Finset.range k, ∑ x : Fin 512, SC v6 (a2.view.read (Elt Ideal) X2) (a4.view.read (Elt Ideal) X4) 0 r (row ((i 1).val + 1 + b) x) * (a3.view.read (Elt Ideal) X3) (ix2 (row ((i 1).val + 1 + b) x) q) := by
  induction k with
  | zero => rw [stateAt_zero, Finset.sum_range_zero, add_zero]
  | succ k ih =>
    rw [stateAt_succ c i a2 h2 a3 h3 a4 h4 a5 h5 a6 h6 a7 h7 a8 h8 a9 h9 a10 h10 v6 v8 v10 v12 v85 X2 X3 X4 X5 G init ⟨k, hk⟩, Finset.sum_range_succ, ← add_assoc, ← ih (by omega)]
    exact yield_dv0 c i a2 h2 a3 h3 a4 h4 a5 h5 a6 h6 a7 h7 a8 h8 a9 h9 a10 h10 v6 v8 v10 v12 v85 X2 X3 X4 X5 _ ⟨k, hk⟩ _ r q

theorem loop_dk1 (r : Fin 512) (q : Fin 128) (k : ℕ) (hk : k ≤ (k0_t1_loop i).trips) :
    (stateAt c i a2 h2 a3 h3 a4 h4 a5 h5 a6 h6 a7 h7 a8 h8 a9 h9 a10 h10 v6 v8 v10 v12 v85 X2 X3 X4 X5 G init k).1.2.2.1 (ix2 r q) = init.2.2.1 (ix2 r q)
      + ∑ b ∈ Finset.range k, ∑ x : Fin 512, SC v8 (a2.view.read (Elt Ideal) X2) (a4.view.read (Elt Ideal) X4) 1 r (row ((i 1).val + 1 + b) x) * GP v12 (a3.view.read (Elt Ideal) X3) (a5.view.read (Elt Ideal) X5) 1 r (row ((i 1).val + 1 + b) x) * (a2.view.read (Elt Ideal) X2) (ix2 (row ((i 1).val + 1 + b) x) (col 1 q)) := by
  induction k with
  | zero => rw [stateAt_zero, Finset.sum_range_zero, add_zero]
  | succ k ih =>
    rw [stateAt_succ c i a2 h2 a3 h3 a4 h4 a5 h5 a6 h6 a7 h7 a8 h8 a9 h9 a10 h10 v6 v8 v10 v12 v85 X2 X3 X4 X5 G init ⟨k, hk⟩, Finset.sum_range_succ, ← add_assoc, ← ih (by omega)]
    exact yield_dk1 c i a2 h2 a3 h3 a4 h4 a5 h5 a6 h6 a7 h7 a8 h8 a9 h9 a10 h10 v6 v8 v10 v12 v85 X2 X3 X4 X5 _ ⟨k, hk⟩ _ r q

theorem loop_dv1 (r : Fin 512) (q : Fin 128) (k : ℕ) (hk : k ≤ (k0_t1_loop i).trips) :
    (stateAt c i a2 h2 a3 h3 a4 h4 a5 h5 a6 h6 a7 h7 a8 h8 a9 h9 a10 h10 v6 v8 v10 v12 v85 X2 X3 X4 X5 G init k).1.2.2.2 (ix2 r q) = init.2.2.2 (ix2 r q)
      + ∑ b ∈ Finset.range k, ∑ x : Fin 512, SC v8 (a2.view.read (Elt Ideal) X2) (a4.view.read (Elt Ideal) X4) 1 r (row ((i 1).val + 1 + b) x) * (a3.view.read (Elt Ideal) X3) (ix2 (row ((i 1).val + 1 + b) x) q) := by
  induction k with
  | zero => rw [stateAt_zero, Finset.sum_range_zero, add_zero]
  | succ k ih =>
    rw [stateAt_succ c i a2 h2 a3 h3 a4 h4 a5 h5 a6 h6 a7 h7 a8 h8 a9 h9 a10 h10 v6 v8 v10 v12 v85 X2 X3 X4 X5 G init ⟨k, hk⟩, Finset.sum_range_succ, ← add_assoc, ← ih (by omega)]
    exact yield_dv1 c i a2 h2 a3 h3 a4 h4 a5 h5 a6 h6 a7 h7 a8 h8 a9 h9 a10 h10 v6 v8 v10 v12 v85 X2 X3 X4 X5 _ ⟨k, hk⟩ _ r q

theorem loop_dq0 (x : Fin 512) (q : Fin 128) (m : ℕ) (hm : m < 16) (k : ℕ) (hk : k ≤ (k0_t1_loop i).trips) :
    a8.view.read (Elt Ideal) (bufAt c i a2 h2 a3 h3 a4 h4 a5 h5 a6 h6 a7 h7 a8 h8 a9 h9 a10 h10 v6 v8 v10 v12 v85 X2 X3 X4 X5 G init k) (ix2 (row m x) (col 0 q)) = a8.view.read (Elt Ideal) G (ix2 (row m x) (col 0 q))
      + (if (i 1).val + 1 ≤ m ∧ m < (i 1).val + 1 + k then ∑ r : Fin 512, SC v6 (a2.view.read (Elt Ideal) X2) (a4.view.read (Elt Ideal) X4) 0 r (row m x) * GP v10 (a3.view.read (Elt Ideal) X3) (a5.view.read (Elt Ideal) X5) 0 r (row m x) * v6 (ix2 r q) else 0) := by
  induction k with
  | zero => rw [if_neg (by omega), add_zero]; rfl
  | succ k ih =>
    have hn : (i 1).val + 1 + k < 16 := by have := trips_eq i; have := i1_lt i; omega
    show a8.view.read (Elt Ideal) (a8.view.writes (Elt Ideal) G (stateAt c i a2 h2 a3 h3 a4 h4 a5 h5 a6 h6 a7 h7 a8 h8 a9 h9 a10 h10 v6 v8 v10 v12 v85 X2 X3 X4 X5 G init (k + 1)).2) _ = _
    rw [stateAt_succ c i a2 h2 a3 h3 a4 h4 a5 h5 a6 h6 a7 h7 a8 h8 a9 h9 a10 h10 v6 v8 v10 v12 v85 X2 X3 X4 X5 G init ⟨k, hk⟩, storesOf_eq]
    dsimp only [List.cons_append, List.nil_append]
    rw [store_at a8 G _ hn (off9_eq i ⟨k, hk⟩) _ _ hm 0 x q, if_neg (by rintro ⟨_, h⟩; exact absurd h (by decide)),
      store_at a8 G _ hn (off7_eq i ⟨k, hk⟩) _ _ hm 0 x q]
    by_cases h : m = (i 1).val + 1 + k
    · rw [if_pos ⟨h, rfl⟩]
      subst h
      rw [if_pos ⟨by omega, by omega⟩]
      refine (store_head0 i a2 a3 a4 a5 a8 v6 v10 X2 X3 X4 X5 ⟨k, hk⟩ _ x q).trans ?_
      refine congrArg (fun z : EReal => z + _) ?_
      exact (ih (by omega)).trans (by rw [if_neg (by omega), add_zero])
    · rw [if_neg (fun h' => h h'.1)]
      refine (ih (by omega)).trans ?_
      by_cases h' : (i 1).val + 1 ≤ m ∧ m < (i 1).val + 1 + k
      · rw [if_pos h', if_pos (by omega)]
      · rw [if_neg h', if_neg (by omega)]

theorem loop_dq1 (x : Fin 512) (q : Fin 128) (m : ℕ) (hm : m < 16) (k : ℕ) (hk : k ≤ (k0_t1_loop i).trips) :
    a8.view.read (Elt Ideal) (bufAt c i a2 h2 a3 h3 a4 h4 a5 h5 a6 h6 a7 h7 a8 h8 a9 h9 a10 h10 v6 v8 v10 v12 v85 X2 X3 X4 X5 G init k) (ix2 (row m x) (col 1 q)) = a8.view.read (Elt Ideal) G (ix2 (row m x) (col 1 q))
      + (if (i 1).val + 1 ≤ m ∧ m < (i 1).val + 1 + k then ∑ r : Fin 512, SC v8 (a2.view.read (Elt Ideal) X2) (a4.view.read (Elt Ideal) X4) 1 r (row m x) * GP v12 (a3.view.read (Elt Ideal) X3) (a5.view.read (Elt Ideal) X5) 1 r (row m x) * v8 (ix2 r q) else 0) := by
  induction k with
  | zero => rw [if_neg (by omega), add_zero]; rfl
  | succ k ih =>
    have hn : (i 1).val + 1 + k < 16 := by have := trips_eq i; have := i1_lt i; omega
    show a8.view.read (Elt Ideal) (a8.view.writes (Elt Ideal) G (stateAt c i a2 h2 a3 h3 a4 h4 a5 h5 a6 h6 a7 h7 a8 h8 a9 h9 a10 h10 v6 v8 v10 v12 v85 X2 X3 X4 X5 G init (k + 1)).2) _ = _
    rw [stateAt_succ c i a2 h2 a3 h3 a4 h4 a5 h5 a6 h6 a7 h7 a8 h8 a9 h9 a10 h10 v6 v8 v10 v12 v85 X2 X3 X4 X5 G init ⟨k, hk⟩, storesOf_eq]
    dsimp only [List.cons_append, List.nil_append]
    rw [store_at a8 G _ hn (off9_eq i ⟨k, hk⟩) _ _ hm 1 x q,
      store_at a8 G _ hn (off7_eq i ⟨k, hk⟩) _ _ hm 1 x q, if_neg (c := _ ∧ (1 : Fin 2) = 0) (by rintro ⟨_, h⟩; exact absurd h (by decide))]
    by_cases h : m = (i 1).val + 1 + k
    · rw [if_pos ⟨h, rfl⟩]
      subst h
      rw [if_pos ⟨by omega, by omega⟩]
      refine (store_head1 i a2 a3 a4 a5 a8 v8 v12 X2 X3 X4 X5 ⟨k, hk⟩ _ x q).trans ?_
      refine congrArg (fun z : EReal => z + _) ?_
      exact (ih (by omega)).trans (by rw [if_neg (by omega), add_zero])
    · rw [if_neg (fun h' => h h'.1)]
      refine (ih (by omega)).trans ?_
      by_cases h' : (i 1).val + 1 ≤ m ∧ m < (i 1).val + 1 + k
      · rw [if_pos h', if_pos (by omega)]
      · rw [if_neg h', if_neg (by omega)]

end Cert.AttnBwdIdeal.Block

end
-- ==== Proof.AttnPoint.lean ====
/- The attention backward kernel at one grid point, on the extended reals: what the body leaves in the dq, dk and dv blocks,
   as sums over all query rows or over the key rows of the block. -/
module

public import proofs.«01_k».proof.Proof.AttnLoop

@[expose] public section

set_option maxRecDepth 16384

noncomputable section

open Idealize.ShloMosaic Idealize.ShloMosaic.TcCoe

namespace Cert.AttnBwdIdeal.Block

open Cert.AttnBwdIdeal Cert.AttnBwdIdeal.Gen

/-- Head `e` of a block of key or value rows. -/
def half (x : Vec Ideal S512x256 .bf16) (e : Fin 2) : FVec Ideal S512x128 .bf16 := fun y => x (ix2 (y 0) (col e (y 1)))

theorem half_at (x : Vec Ideal S512x256 .bf16) (e : Fin 2) (r : Fin 512) (q : Fin 128) : half x e (ix2 r q) = x (ix2 r (col e q)) := rfl

/-- The weight where the key comes no later than the query, the key block being block `j`. -/
def PM (kk : FVec Ideal S512x128 .bf16) (Q : Vec Ideal S8192x256 .bf16) (L : Vec Ideal S2x1x8192 .f32) (j : ℕ) (e : Fin 2) (r : Fin 512) (x : Fin 8192) : EReal :=
  if 512 * j + r.val ≤ x.val then SC kk Q L e r x else 0

theorem PM_before {kk Q L} {j m : ℕ} (hj : j < 16) (h : m < j) (e : Fin 2) (r x : Fin 512) : PM kk Q L j e r (row m x) = 0 := by
  unfold PM; rw [row_val (by omega), if_neg (by omega)]

theorem PM_after {kk Q L} {j m : ℕ} (hm : m < 16) (h : j < m) (e : Fin 2) (r x : Fin 512) : PM kk Q L j e r (row m x) = SC kk Q L e r (row m x) := by
  unfold PM; rw [row_val hm, if_pos (by omega)]

theorem PM_on {kk Q L} {j : ℕ} (hj : j < 16) (e : Fin 2) (r x : Fin 512) :
    PM kk Q L j e r (row j x) = if r ≤ x then SC kk Q L e r (row j x) else 0 := by
  unfold PM; rw [row_val hj]
  by_cases h : r ≤ x
  · rw [if_pos h, if_pos (by have : r.val ≤ x.val := h; omega)]
  · rw [if_neg h, if_neg (by have : ¬r.val ≤ x.val := h; omega)]

/-- A sum over all query rows whose terms vanish before block `j`: the block's own and those past it. -/
theorem sum_rows (f : Fin 8192 → EReal) (j : ℕ) (hj : j < 16) (h0 : ∀ m x, m < j → f (row m x) = 0) :
    (∑ x : Fin 512, f (row j x)) + ∑ b ∈ Finset.range (15 - j), ∑ x : Fin 512, f (row (j + 1 + b) x) = ∑ X : Fin 8192, f X := by
  have e : ∑ X : Fin 8192, f X = ∑ m : Fin 16, ∑ x : Fin 512, f (row m.val x) :=
    (Fin.sum_mul_add_congr (S := 16) (n := 512) (F := fun m x => f (row m.val x)) (fun m x hl => congrArg f (Fin.ext (by rw [row_val m.isLt]; show 512 * m.val + x.val = m.val * 512 + x.val; omega))) rfl).symm
  rw [e, Fin.sum_univ_eq_sum_range (fun m => ∑ x : Fin 512, f (row m x)) 16, show 16 = (j + 1) + (15 - j) by omega, Finset.sum_range_add,
    Finset.sum_range_succ, Finset.sum_eq_zero (s := Finset.range j) fun m hm => Finset.sum_eq_zero fun x _ => h0 m x (Finset.mem_range.mp hm), zero_add]

theorem pay31_id (kk : FVec Ideal S512x128 .bf16) : k0_pay31 (F := Ideal) kk = kk := by funext y; idx_vars y; pointwise [k0_pay31]
theorem pay32_id (kk : FVec Ideal S512x128 .bf16) : k0_pay32 (F := Ideal) kk = kk := by funext y; idx_vars y; pointwise [k0_pay32]
theorem pay33_id (kk : FVec Ideal S512x128 .bf16) : k0_pay33 (F := Ideal) kk = kk := by funext y; idx_vars y; pointwise [k0_pay33]
theorem pay34_id (kk : FVec Ideal S512x128 .bf16) : k0_pay34 (F := Ideal) kk = kk := by funext y; idx_vars y; pointwise [k0_pay34]

/-- Head `e` of a block, loaded. -/
theorem load_half (a : Memref sig .tc .vmem S512x256 .bf16) (h : a.IsWhole) (x : Vec Ideal S512x256 .bf16) (e : Fin 2)
    (inb : ∀ b, (![0, 128 * e.val] : Fin 2 → ℕ) b + S512x128.size b ≤ S512x256.size b) :
    a.view.readAt (Elt Ideal) (Rect.unit (s := S512x256) ![0, 128 * e.val] S512x128.size inb).toLoadRect (h.unread x) = half x e := by
  funext y
  refine (congrFun (View.readAt_unit a.view (h.unread x) inb rfl inb) y).trans ?_
  rw [h.read_unread]
  unfold VecWindow.window half
  refine congrArg x (funext fun b => Fin.ext ?_)
  match b with
  | 0 => show 0 + 1 * (y 0).val = (y 0).val; omega
  | 1 => show 128 * e.val + 1 * (y 1).val = 128 * e.val + (y 1).val; omega

/-- Two halves side by side, read at any index. -/
theorem canon_halves (W1 W0 : Vec Ideal S512x128 .f32) (e : Fin 2) (r : Fin 512) (q : Fin 128) :
    View.canon (Val := Elt Ideal) (s := S512x256) (e := .f32) [⟨Rect.unit (s := S512x256) ![0, 128] S512x128.size inb_S512x256_S512x128_0_128, W1⟩,
      ⟨Rect.unit (s := S512x256) ![0, 0] S512x128.size inb_S512x256_S512x128_0_0, W0⟩] (ix2 r (col e q)) = if e = 1 then W1 (ix2 r q) else W0 (ix2 r q) := by
  match e with
  | 1 =>
    rw [if_pos rfl]
    refine Eq.trans (congrArg _ (funext fun b => Fin.ext ?_)) (View.canon_cons_emb (Val := Elt Ideal) (Rect.unit (s := S512x256) ![0, 128] S512x128.size inb_S512x256_S512x128_0_128) W1 _ (ix2 r q))
    match b with
    | 0 => show r.val = 0 + 1 * r.val; omega
    | 1 => show 128 * 1 + q.val = 128 + 1 * q.val; omega
  | 0 =>
    rw [if_neg (by decide), View.canon_cons_of_not_mem]
    · refine Eq.trans (congrArg _ (funext fun b => Fin.ext ?_)) (View.canon_cons_emb (Val := Elt Ideal) (Rect.unit (s := S512x256) ![0, 0] S512x128.size inb_S512x256_S512x128_0_0) W0 _ (ix2 r q))
      match b with
      | 0 => show r.val = 0 + 1 * r.val; omega
      | 1 => show 128 * 0 + q.val = 0 + 1 * q.val; omega
    · intro hm
      have h1 : 128 ≤ 128 * 0 + q.val ∧ 128 * 0 + q.val < 128 + 128 := ((Rect.mem_set_unit (inb := inb_S512x256_S512x128_0_128)).mp hm) 1
      omega

variable (c : Dev nD) (i : grid0.Coords)
  (a2 : Memref sig .tc .vmem S8192x256 .bf16) (h2 : a2.IsWhole) (a3 : Memref sig .tc .vmem S8192x128 .bf16) (h3 : a3.IsWhole)
  (a4 : Memref sig .tc .vmem S2x1x8192 .f32) (h4 : a4.IsWhole) (a5 : Memref sig .tc .vmem S2x1x8192 .f32) (h5 : a5.IsWhole)
  (a6 : Memref sig .tc .vmem S512x256 .bf16) (h6 : a6.IsWhole) (a7 : Memref sig .tc .vmem S512x256 .bf16) (h7 : a7.IsWhole)
  (a8 : Memref sig .tc .vmem S8192x256 .f32) (h8 : a8.IsWhole) (a9 : Memref sig .tc .vmem S512x256 .f32) (h9 : a9.IsWhole)
  (a10 : Memref sig .tc .vmem S512x256 .f32) (h10 : a10.IsWhole)
  (x0 : Vec Ideal S8192x256 .bf16) (x1 : Vec Ideal S8192x128 .bf16) (x2 x3 : Vec Ideal S2x1x8192 .f32) (x4 x5 : Vec Ideal S512x256 .bf16) (y : Vec Ideal S8192x256 .f32)

/-- The carried sums as the block's own query rows leave them, from the loaded halves. -/
def init0 (K0 K1 V0 V1 : FVec Ideal S512x128 .bf16) : V4 :=
  (k0_pay42 k0_pay35 (k0_pay37 (ldPair a2 (h2.unread x0) (k0_off2 i) (k0_off2_inb i))) (k0_pay38 K0 (ldPair a2 (h2.unread x0) (k0_off2 i) (k0_off2_inb i)) (ldRow a4 (h4.unread x2) (k0_off3 i) (k0_off3_inb i))) (k0_pay40 V0 (ldOne a3 (h3.unread x1) (k0_off1 i) (k0_off1_inb i))) (ldRow a5 (h5.unread x3) (k0_off3 i) (k0_off3_inb i)), k0_pay39 K0 (ldOne a3 (h3.unread x1) (k0_off1 i) (k0_off1_inb i)) (ldPair a2 (h2.unread x0) (k0_off2 i) (k0_off2_inb i)) (ldRow a4 (h4.unread x2) (k0_off3 i) (k0_off3_inb i)),
   k0_pay48 Body.bodyRun.sl.r Body.bodyRun.sl.r_1 (k0_pay32 K1) (k0_pay34 V1) k0_pay35 (k0_pay36 (ldOne a3 (h3.unread x1) (k0_off1 i) (k0_off1_inb i))) (ldPair a2 (h2.unread x0) (k0_off4 i) (k0_off4_inb i)) (ldRow a4 (h4.unread x2) (k0_off5 i) (k0_off5_inb i)) (ldRow a5 (h5.unread x3) (k0_off5 i) (k0_off5_inb i)),
   k0_pay46 Body.bodyRun.sl.r Body.bodyRun.sl.r_1 (k0_pay32 K1) k0_pay35 (k0_pay36 (ldOne a3 (h3.unread x1) (k0_off1 i) (k0_off1_inb i))) (ldPair a2 (h2.unread x0) (k0_off4 i) (k0_off4_inb i)) (ldRow a4 (h4.unread x2) (k0_off5 i) (k0_off5_inb i)))

/-- What the body stores in the dq block for the block's own query rows. -/
def diag0 (K0 K1 V0 V1 : FVec Ideal S512x128 .bf16) : List (View.Piece (Elt Ideal) S8192x256 .f32) :=
  [⟨Rect.unit (s := S8192x256) (k0_off4 i) S512x128.size (k0_off4_inb i),
      k0_pay1 (k0_pay32 K1) (k0_pay47 Body.bodyRun.sl.r Body.bodyRun.sl.r_1 (k0_pay32 K1) (k0_pay34 V1) (k0_pay36 (ldOne a3 (h3.unread x1) (k0_off1 i) (k0_off1_inb i))) (ldPair a2 (h2.unread x0) (k0_off4 i) (k0_off4_inb i)) (ldRow a4 (h4.unread x2) (k0_off5 i) (k0_off5_inb i)) (ldRow a5 (h5.unread x3) (k0_off5 i) (k0_off5_inb i))) (ldPair a8 (h8.unread y) (k0_off4 i) (k0_off4_inb i))⟩,
   ⟨Rect.unit (s := S8192x256) (k0_off2 i) S512x128.size (k0_off2_inb i),
      k0_pay43 (k0_pay31 K0) (k0_pay38 K0 (ldPair a2 (h2.unread x0) (k0_off2 i) (k0_off2_inb i)) (ldRow a4 (h4.unread x2) (k0_off3 i) (k0_off3_inb i))) (k0_pay40 V0 (ldOne a3 (h3.unread x1) (k0_off1 i) (k0_off1_inb i))) (ldRow a5 (h5.unread x3) (k0_off3 i) (k0_off3_inb i)) (ldPair a8 (h8.unread y) (k0_off2 i) (k0_off2_inb i))⟩]

/-- The state the loop ends in. -/
def last (K0 K1 V0 V1 : FVec Ideal S512x128 .bf16) : V4 × List (View.Piece (Elt Ideal) S8192x256 .f32) :=
  stateAt c i a2 h2 a3 h3 a4 h4 a5 h5 a6 h6 a7 h7 a8 h8 a9 h9 a10 h10 (k0_pay31 K0) (k0_pay32 K1) (k0_pay33 V0) (k0_pay34 V1) (Scalar.addi (BitVec.ofNat 32 (i 1).val) 1#32) (h2.unread x0) (h3.unread x1) (h4.unread x2) (h5.unread x3)
    (a8.view.writes (Elt Ideal) (h8.unread y) (diag0 i a2 h2 a3 h3 a4 h4 a5 h5 a8 h8 x0 x1 x2 x3 y K0 K1 V0 V1)) (init0 i a2 h2 a3 h3 a4 h4 a5 h5 x0 x1 x2 x3 K0 K1 V0 V1) (k0_t1_loop i).trips

/-- The loop that never runs leaves its state. -/
theorem st2_none {v6 v8 v10 v12 : FVec Ideal S512x128 .bf16} {v90 : BitVec 32} {X2 X3 X4 X5 G} {init : V4} {n : ℕ} (hn : n = 0) :
    st_k0_t2 (F := Ideal) Variants.none c none i a2 h2 a3 h3 a4 h4 a5 h5 a6 h6 a7 h7 a8 h8 a9 h9 a10 h10 v6 v8 v10 v12 v90 X2 X3 X4 X5 G init n = (init, []) := by subst hn; rfl

section Runs

variable (K0 K1 V0 V1 : FVec Ideal S512x128 .bf16)
  (eK0 : a6.view.readAt (Elt Ideal) (Rect.unit (s := S512x256) ![0, 0] S512x128.size inb_S512x256_S512x128_0_0).toLoadRect (h6.unread x4) = K0)
  (eK1 : a6.view.readAt (Elt Ideal) (Rect.unit (s := S512x256) ![0, 128] S512x128.size inb_S512x256_S512x128_0_128).toLoadRect (h6.unread x4) = K1)
  (eV0 : a7.view.readAt (Elt Ideal) (Rect.unit (s := S512x256) ![0, 0] S512x128.size inb_S512x256_S512x128_0_0).toLoadRect (h7.unread x5) = V0)
  (eV1 : a7.view.readAt (Elt Ideal) (Rect.unit (s := S512x256) ![0, 128] S512x128.size inb_S512x256_S512x128_0_128).toLoadRect (h7.unread x5) = V1)

include eK0 eK1 eV0 eV1

theorem run_dq : (Body.bodyRun (F := Ideal) c i a2 h2 a3 h3 a4 h4 a5 h5 a6 h6 a7 h7 a8 h8 a9 h9 a10 h10 x0 x1 x2 x3 x4 x5 y).1
    = (last c i a2 h2 a3 h3 a4 h4 a5 h5 a6 h6 a7 h7 a8 h8 a9 h9 a10 h10 x0 x1 x2 x3 y K0 K1 V0 V1).2 ++ diag0 i a2 h2 a3 h3 a4 h4 a5 h5 a8 h8 x0 x1 x2 x3 y K0 K1 V0 V1 := by
  subst eK0 eK1 eV0 eV1
  unfold Body.bodyRun; dsimp only
  rw [st2_none c i _ _ _ _ _ _ _ _ _ _ _ _ _ _ _ _ _ _ (trips2_eq i)]
  rfl

theorem run_dk : (Body.bodyRun (F := Ideal) c i a2 h2 a3 h3 a4 h4 a5 h5 a6 h6 a7 h7 a8 h8 a9 h9 a10 h10 x0 x1 x2 x3 x4 x5 y).2.1
    = [⟨Rect.unit (s := S512x256) ![0, 128] S512x128.size inb_S512x256_S512x128_0_128, (last c i a2 h2 a3 h3 a4 h4 a5 h5 a6 h6 a7 h7 a8 h8 a9 h9 a10 h10 x0 x1 x2 x3 y K0 K1 V0 V1).1.2.2.1⟩,
       ⟨Rect.unit (s := S512x256) ![0, 0] S512x128.size inb_S512x256_S512x128_0_0, (last c i a2 h2 a3 h3 a4 h4 a5 h5 a6 h6 a7 h7 a8 h8 a9 h9 a10 h10 x0 x1 x2 x3 y K0 K1 V0 V1).1.1⟩] := by
  subst eK0 eK1 eV0 eV1
  unfold Body.bodyRun; dsimp only
  rw [st2_none c i _ _ _ _ _ _ _ _ _ _ _ _ _ _ _ _ _ _ (trips2_eq i)]
  rfl

theorem run_dv : (Body.bodyRun (F := Ideal) c i a2 h2 a3 h3 a4 h4 a5 h5 a6 h6 a7 h7 a8 h8 a9 h9 a10 h10 x0 x1 x2 x3 x4 x5 y).2.2.1
    = [⟨Rect.unit (s := S512x256) ![0, 128] S512x128.size inb_S512x256_S512x128_0_128, (last c i a2 h2 a3 h3 a4 h4 a5 h5 a6 h6 a7 h7 a8 h8 a9 h9 a10 h10 x0 x1 x2 x3 y K0 K1 V0 V1).1.2.2.2⟩,
       ⟨Rect.unit (s := S512x256) ![0, 0] S512x128.size inb_S512x256_S512x128_0_0, (last c i a2 h2 a3 h3 a4 h4 a5 h5 a6 h6 a7 h7 a8 h8 a9 h9 a10 h10 x0 x1 x2 x3 y K0 K1 V0 V1).1.2.1⟩] := by
  subst eK0 eK1 eV0 eV1
  unfold Body.bodyRun; dsimp only
  rw [st2_none c i _ _ _ _ _ _ _ _ _ _ _ _ _ _ _ _ _ _ (trips2_eq i)]
  rfl

end Runs

theorem q_load0 (x : Fin 512) (q : Fin 128) : (ldPair a2 (h2.unread x0) (k0_off2 i) (k0_off2_inb i)) (ix2 x q) = x0 (ix2 (row (i 1).val x) (col 0 q)) :=
  (load_pair a2 (h2.unread x0) _ (i1_lt i) (off2_eq i) x q).trans (congrFun (h2.read_unread x0) _)

theorem scm_load0 (kk : FVec Ideal S512x128 .bf16) (r x : Fin 512) : scm kk (ldPair a2 (h2.unread x0) (k0_off2 i) (k0_off2_inb i)) (ldRow a4 (h4.unread x2) (k0_off3 i) (k0_off3_inb i)) r x = PM kk x0 x2 (i 1).val 0 r (row (i 1).val x) := by
  rw [PM_on (i1_lt i)]
  unfold scm
  rw [sc_load a2 a4 (h2.unread x0) (h4.unread x2) kk _ _ (i1_lt i) (off2_eq i) (off3_eq i) r x, h2.read_unread, h4.read_unread]

theorem gp_load0 (v : FVec Ideal S512x128 .bf16) (r x : Fin 512) : gp v (ldOne a3 (h3.unread x1) (k0_off1 i) (k0_off1_inb i)) (ldRow a5 (h5.unread x3) (k0_off3 i) (k0_off3_inb i)) r x = GP v x1 x3 0 r (row (i 1).val x) := by
  rw [gp_load a3 a5 (h3.unread x1) (h5.unread x3) v _ _ (i1_lt i) (off1_eq i) (off3_eq i) r x, h3.read_unread, h5.read_unread]

theorem q_load1 (x : Fin 512) (q : Fin 128) : (ldPair a2 (h2.unread x0) (k0_off4 i) (k0_off4_inb i)) (ix2 x q) = x0 (ix2 (row (i 1).val x) (col 1 q)) :=
  (load_pair a2 (h2.unread x0) _ (i1_lt i) (off4_eq i) x q).trans (congrFun (h2.read_unread x0) _)

theorem scm_load1 (kk : FVec Ideal S512x128 .bf16) (r x : Fin 512) : scm kk (ldPair a2 (h2.unread x0) (k0_off4 i) (k0_off4_inb i)) (ldRow a4 (h4.unread x2) (k0_off5 i) (k0_off5_inb i)) r x = PM kk x0 x2 (i 1).val 1 r (row (i 1).val x) := by
  rw [PM_on (i1_lt i)]
  unfold scm
  rw [sc_load a2 a4 (h2.unread x0) (h4.unread x2) kk _ _ (i1_lt i) (off4_eq i) (off5_eq i) r x, h2.read_unread, h4.read_unread]

theorem gp_load1 (v : FVec Ideal S512x128 .bf16) (r x : Fin 512) : gp v (ldOne a3 (h3.unread x1) (k0_off1 i) (k0_off1_inb i)) (ldRow a5 (h5.unread x3) (k0_off5 i) (k0_off5_inb i)) r x = GP v x1 x3 1 r (row (i 1).val x) := by
  rw [gp_load a3 a5 (h3.unread x1) (h5.unread x3) v _ _ (i1_lt i) (off1_eq i) (off5_eq i) r x, h3.read_unread, h5.read_unread]

theorem d_load (x : Fin 512) (q : Fin 128) : (ldOne a3 (h3.unread x1) (k0_off1 i) (k0_off1_inb i)) (ix2 x q) = x1 (ix2 (row (i 1).val x) q) :=
  (load_one a3 (h3.unread x1) _ (i1_lt i) (off1_eq i) x q).trans (congrFun (h3.read_unread x1) _)

/-! ## The blocks the body leaves -/

theorem inits (K0 K1 V0 V1 : FVec Ideal S512x128 .bf16) (r : Fin 512) (q : Fin 128) :
    (init0 i a2 h2 a3 h3 a4 h4 a5 h5 x0 x1 x2 x3 K0 K1 V0 V1).1 (ix2 r q) = (∑ x : Fin 512, PM K0 x0 x2 (i 1).val 0 r (row (i 1).val x) * GP V0 x1 x3 0 r (row (i 1).val x) * x0 (ix2 (row (i 1).val x) (col 0 q)))
    ∧ (init0 i a2 h2 a3 h3 a4 h4 a5 h5 x0 x1 x2 x3 K0 K1 V0 V1).2.1 (ix2 r q) = (∑ x : Fin 512, PM K0 x0 x2 (i 1).val 0 r (row (i 1).val x) * x1 (ix2 (row (i 1).val x) q))
    ∧ (init0 i a2 h2 a3 h3 a4 h4 a5 h5 x0 x1 x2 x3 K0 K1 V0 V1).2.2.1 (ix2 r q) = (∑ x : Fin 512, PM K1 x0 x2 (i 1).val 1 r (row (i 1).val x) * GP V1 x1 x3 1 r (row (i 1).val x) * x0 (ix2 (row (i 1).val x) (col 1 q)))
    ∧ (init0 i a2 h2 a3 h3 a4 h4 a5 h5 x0 x1 x2 x3 K0 K1 V0 V1).2.2.2 (ix2 r q) = (∑ x : Fin 512, PM K1 x0 x2 (i 1).val 1 r (row (i 1).val x) * x1 (ix2 (row (i 1).val x) q)) := by
  have hn := i1_lt i
  have m0 := scm_load0 i a2 h2 a4 h4 x0 x2 K0; have m1 := scm_load1 i a2 h2 a4 h4 x0 x2 K1
  have g0 := gp_load0 i a3 h3 a5 h5 x1 x3 V0; have g1 := gp_load1 i a3 h3 a5 h5 x1 x3 V1
  refine ⟨?_, ?_, ?_, ?_⟩
  · exact (pay42_at K0 (ldPair a2 (h2.unread x0) (k0_off2 i) (k0_off2_inb i)) V0 (ldOne a3 (h3.unread x1) (k0_off1 i) (k0_off1_inb i)) (ldRow a4 (h4.unread x2) (k0_off3 i) (k0_off3_inb i)) (ldRow a5 (h5.unread x3) (k0_off3 i) (k0_off3_inb i)) r q).trans (Finset.sum_congr rfl fun x _ => congrArg₂ (fun a b : EReal => a * b) (congrArg₂ (fun a b : EReal => a * b) (m0 r x) (g0 r x)) (q_load0 i a2 h2 x0 x q))
  · exact (pay39_at K0 (ldPair a2 (h2.unread x0) (k0_off2 i) (k0_off2_inb i)) (ldOne a3 (h3.unread x1) (k0_off1 i) (k0_off1_inb i)) (ldRow a4 (h4.unread x2) (k0_off3 i) (k0_off3_inb i)) r q).trans (Finset.sum_congr rfl fun x _ => congrArg₂ (fun a b : EReal => a * b) (m0 r x) (d_load i a3 h3 x1 x q))
  · exact (pay48_at K1 (ldPair a2 (h2.unread x0) (k0_off4 i) (k0_off4_inb i)) V1 (ldOne a3 (h3.unread x1) (k0_off1 i) (k0_off1_inb i)) (ldRow a4 (h4.unread x2) (k0_off5 i) (k0_off5_inb i)) (ldRow a5 (h5.unread x3) (k0_off5 i) (k0_off5_inb i)) r q).trans (Finset.sum_congr rfl fun x _ => congrArg₂ (fun a b : EReal => a * b) (congrArg₂ (fun a b : EReal => a * b) (m1 r x) (g1 r x)) (q_load1 i a2 h2 x0 x q))
  · exact (pay46_at K1 (ldPair a2 (h2.unread x0) (k0_off4 i) (k0_off4_inb i)) (ldOne a3 (h3.unread x1) (k0_off1 i) (k0_off1_inb i)) (ldRow a4 (h4.unread x2) (k0_off5 i) (k0_off5_inb i)) r q).trans (Finset.sum_congr rfl fun x _ => congrArg₂ (fun a b : EReal => a * b) (m1 r x) (d_load i a3 h3 x1 x q))

theorem last_dk0 (K0 K1 V0 V1 : FVec Ideal S512x128 .bf16) (r : Fin 512) (q : Fin 128) :
    (last c i a2 h2 a3 h3 a4 h4 a5 h5 a6 h6 a7 h7 a8 h8 a9 h9 a10 h10 x0 x1 x2 x3 y K0 K1 V0 V1).1.1 (ix2 r q) = ∑ X : Fin 8192, PM K0 x0 x2 (i 1).val 0 r X * GP V0 x1 x3 0 r X * x0 (ix2 X (col 0 q)) := by
  have hn := i1_lt i
  refine (loop_dk0 c i a2 h2 a3 h3 a4 h4 a5 h5 a6 h6 a7 h7 a8 h8 a9 h9 a10 h10 (k0_pay31 K0) (k0_pay32 K1) (k0_pay33 V0) (k0_pay34 V1) _ (h2.unread x0) (h3.unread x1) (h4.unread x2) (h5.unread x3) _ _ r q _ le_rfl).trans ?_
  rw [(inits i a2 h2 a3 h3 a4 h4 a5 h5 x0 x1 x2 x3 K0 K1 V0 V1 r q).1, pay31_id, pay33_id, h2.read_unread, h3.read_unread, h4.read_unread, h5.read_unread, trips_eq i]
  refine Eq.trans ?_ (sum_rows (fun X => PM K0 x0 x2 (i 1).val 0 r X * GP V0 x1 x3 0 r X * x0 (ix2 X (col 0 q))) (i 1).val hn fun m x hm => by simp only [PM_before hn hm, zero_mul])
  refine congrArg (fun z : EReal => _ + z) (Finset.sum_congr rfl fun b hb => Finset.sum_congr rfl fun x _ => ?_)
  have hb' := Finset.mem_range.mp hb
  simp only [PM_after (kk := K0) (Q := x0) (L := x2) (show (i 1).val + 1 + b < 16 by omega) (show (i 1).val < (i 1).val + 1 + b by omega)]

theorem last_dv0 (K0 K1 V0 V1 : FVec Ideal S512x128 .bf16) (r : Fin 512) (q : Fin 128) :
    (last c i a2 h2 a3 h3 a4 h4 a5 h5 a6 h6 a7 h7 a8 h8 a9 h9 a10 h10 x0 x1 x2 x3 y K0 K1 V0 V1).1.2.1 (ix2 r q) = ∑ X : Fin 8192, PM K0 x0 x2 (i 1).val 0 r X * x1 (ix2 X q) := by
  have hn := i1_lt i
  refine (loop_dv0 c i a2 h2 a3 h3 a4 h4 a5 h5 a6 h6 a7 h7 a8 h8 a9 h9 a10 h10 (k0_pay31 K0) (k0_pay32 K1) (k0_pay33 V0) (k0_pay34 V1) _ (h2.unread x0) (h3.unread x1) (h4.unread x2) (h5.unread x3) _ _ r q _ le_rfl).trans ?_
  rw [(inits i a2 h2 a3 h3 a4 h4 a5 h5 x0 x1 x2 x3 K0 K1 V0 V1 r q).2.1, pay31_id, h2.read_unread, h3.read_unread, h4.read_unread, trips_eq i]
  refine Eq.trans ?_ (sum_rows (fun X => PM K0 x0 x2 (i 1).val 0 r X * x1 (ix2 X q)) (i 1).val hn fun m x hm => by simp only [PM_before hn hm, zero_mul])
  refine congrArg (fun z : EReal => _ + z) (Finset.sum_congr rfl fun b hb => Finset.sum_congr rfl fun x _ => ?_)
  have hb' := Finset.mem_range.mp hb
  simp only [PM_after (kk := K0) (Q := x0) (L := x2) (show (i 1).val + 1 + b < 16 by omega) (show (i 1).val < (i 1).val + 1 + b by omega)]

theorem last_dk1 (K0 K1 V0 V1 : FVec Ideal S512x128 .bf16) (r : Fin 512) (q : Fin 128) :
    (last c i a2 h2 a3 h3 a4 h4 a5 h5 a6 h6 a7 h7 a8 h8 a9 h9 a10 h10 x0 x1 x2 x3 y K0 K1 V0 V1).1.2.2.1 (ix2 r q) = ∑ X : Fin 8192, PM K1 x0 x2 (i 1).val 1 r X * GP V1 x1 x3 1 r X * x0 (ix2 X (col 1 q)) := by
  have hn := i1_lt i
  refine (loop_dk1 c i a2 h2 a3 h3 a4 h4 a5 h5 a6 h6 a7 h7 a8 h8 a9 h9 a10 h10 (k0_pay31 K0) (k0_pay32 K1) (k0_pay33 V0) (k0_pay34 V1) _ (h2.unread x0) (h3.unread x1) (h4.unread x2) (h5.unread x3) _ _ r q _ le_rfl).trans ?_
  rw [(inits i a2 h2 a3 h3 a4 h4 a5 h5 x0 x1 x2 x3 K0 K1 V0 V1 r q).2.2.1, pay32_id, pay34_id, h2.read_unread, h3.read_unread, h4.read_unread, h5.read_unread, trips_eq i]
  refine Eq.trans ?_ (sum_rows (fun X => PM K1 x0 x2 (i 1).val 1 r X * GP V1 x1 x3 1 r X * x0 (ix2 X (col 1 q))) (i 1).val hn fun m x hm => by simp only [PM_before hn hm, zero_mul])
  refine congrArg (fun z : EReal => _ + z) (Finset.sum_congr rfl fun b hb => Finset.sum_congr rfl fun x _ => ?_)
  have hb' := Finset.mem_range.mp hb
  simp only [PM_after (kk := K1) (Q := x0) (L := x2) (show (i 1).val + 1 + b < 16 by omega) (show (i 1).val < (i 1).val + 1 + b by omega)]

theorem last_dv1 (K0 K1 V0 V1 : FVec Ideal S512x128 .bf16) (r : Fin 512) (q : Fin 128) :
    (last c i a2 h2 a3 h3 a4 h4 a5 h5 a6 h6 a7 h7 a8 h8 a9 h9 a10 h10 x0 x1 x2 x3 y K0 K1 V0 V1).1.2.2.2 (ix2 r q) = ∑ X : Fin 8192, PM K1 x0 x2 (i 1).val 1 r X * x1 (ix2 X q) := by
  have hn := i1_lt i
  refine (loop_dv1 c i a2 h2 a3 h3 a4 h4 a5 h5 a6 h6 a7 h7 a8 h8 a9 h9 a10 h10 (k0_pay31 K0) (k0_pay32 K1) (k0_pay33 V0) (k0_pay34 V1) _ (h2.unread x0) (h3.unread x1) (h4.unread x2) (h5.unread x3) _ _ r q _ le_rfl).trans ?_
  rw [(inits i a2 h2 a3 h3 a4 h4 a5 h5 x0 x1 x2 x3 K0 K1 V0 V1 r q).2.2.2, pay32_id, h2.read_unread, h3.read_unread, h4.read_unread, trips_eq i]
  refine Eq.trans ?_ (sum_rows (fun X => PM K1 x0 x2 (i 1).val 1 r X * x1 (ix2 X q)) (i 1).val hn fun m x hm => by simp only [PM_before hn hm, zero_mul])
  refine congrArg (fun z : EReal => _ + z) (Finset.sum_congr rfl fun b hb => Finset.sum_congr rfl fun x _ => ?_)
  have hb' := Finset.mem_range.mp hb
  simp only [PM_after (kk := K1) (Q := x0) (L := x2) (show (i 1).val + 1 + b < 16 by omega) (show (i 1).val < (i 1).val + 1 + b by omega)]

theorem last_dq0 (K0 K1 V0 V1 : FVec Ideal S512x128 .bf16) (x : Fin 512) (q : Fin 128) (m : ℕ) (hm : m < 16) :
    a8.view.read (Elt Ideal) (a8.view.writes (Elt Ideal) (h8.unread y) ((last c i a2 h2 a3 h3 a4 h4 a5 h5 a6 h6 a7 h7 a8 h8 a9 h9 a10 h10 x0 x1 x2 x3 y K0 K1 V0 V1).2 ++ diag0 i a2 h2 a3 h3 a4 h4 a5 h5 a8 h8 x0 x1 x2 x3 y K0 K1 V0 V1)) (ix2 (row m x) (col 0 q))
      = y (ix2 (row m x) (col 0 q)) + ∑ r : Fin 512, PM K0 x0 x2 (i 1).val 0 r (row m x) * GP V0 x1 x3 0 r (row m x) * K0 (ix2 r q) := by
  have hn := i1_lt i
  rw [View.writes_append]
  refine (loop_dq0 c i a2 h2 a3 h3 a4 h4 a5 h5 a6 h6 a7 h7 a8 h8 a9 h9 a10 h10 (k0_pay31 K0) (k0_pay32 K1) (k0_pay33 V0) (k0_pay34 V1) _ (h2.unread x0) (h3.unread x1) (h4.unread x2) (h5.unread x3) _ _ x q m hm _ le_rfl).trans ?_
  rw [pay31_id, pay33_id, h2.read_unread, h3.read_unread, h4.read_unread, h5.read_unread, trips_eq i]
  unfold diag0
  rw [store_at a8 _ _ hn (off4_eq i) _ _ hm 0 x q, if_neg (by rintro ⟨_, h⟩; exact absurd h (by decide)), store_at a8 _ _ hn (off2_eq i) _ _ hm 0 x q]
  have hy : a8.view.read (Elt Ideal) (a8.view.writes (Elt Ideal) (h8.unread y) []) (ix2 (row m x) (col 0 q)) = y (ix2 (row m x) (col 0 q)) := congrFun (h8.read_unread y) _
  rcases lt_trichotomy m (i 1).val with h | h | h
  · rw [if_neg (by omega), if_neg (by omega), add_zero, hy, Finset.sum_eq_zero fun r _ => by rw [PM_before hn h, zero_mul, zero_mul], add_zero]
  · rw [if_pos ⟨h, rfl⟩, if_neg (by omega), add_zero]
    subst h
    refine (pay43_at K0 (ldPair a2 (h2.unread x0) (k0_off2 i) (k0_off2_inb i)) V0 (ldOne a3 (h3.unread x1) (k0_off1 i) (k0_off1_inb i)) (ldRow a4 (h4.unread x2) (k0_off3 i) (k0_off3_inb i)) (ldRow a5 (h5.unread x3) (k0_off3 i) (k0_off3_inb i)) _ x q).trans (congrArg₂ (fun a b : EReal => a + b) ((load_pair a8 _ _ hn (off2_eq i) x q).trans (congrFun (h8.read_unread y) _)) (Finset.sum_congr rfl fun r _ => ?_))
    exact congrArg (fun z : EReal => z * K0 (ix2 r q)) (congrArg₂ (fun a b : EReal => a * b) (scm_load0 i a2 h2 a4 h4 x0 x2 K0 r x) (gp_load0 i a3 h3 a5 h5 x1 x3 V0 r x))
  · rw [if_neg (by omega), if_pos (by omega), hy]
    exact congrArg (fun z : EReal => _ + z) (Finset.sum_congr rfl fun r _ => by rw [PM_after hm h])

theorem last_dq1 (K0 K1 V0 V1 : FVec Ideal S512x128 .bf16) (x : Fin 512) (q : Fin 128) (m : ℕ) (hm : m < 16) :
    a8.view.read (Elt Ideal) (a8.view.writes (Elt Ideal) (h8.unread y) ((last c i a2 h2 a3 h3 a4 h4 a5 h5 a6 h6 a7 h7 a8 h8 a9 h9 a10 h10 x0 x1 x2 x3 y K0 K1 V0 V1).2 ++ diag0 i a2 h2 a3 h3 a4 h4 a5 h5 a8 h8 x0 x1 x2 x3 y K0 K1 V0 V1)) (ix2 (row m x) (col 1 q))
      = y (ix2 (row m x) (col 1 q)) + ∑ r : Fin 512, PM K1 x0 x2 (i 1).val 1 r (row m x) * GP V1 x1 x3 1 r (row m x) * K1 (ix2 r q) := by
  have hn := i1_lt i
  rw [View.writes_append]
  refine (loop_dq1 c i a2 h2 a3 h3 a4 h4 a5 h5 a6 h6 a7 h7 a8 h8 a9 h9 a10 h10 (k0_pay31 K0) (k0_pay32 K1) (k0_pay33 V0) (k0_pay34 V1) _ (h2.unread x0) (h3.unread x1) (h4.unread x2) (h5.unread x3) _ _ x q m hm _ le_rfl).trans ?_
  rw [pay32_id, pay34_id, h2.read_unread, h3.read_unread, h4.read_unread, h5.read_unread, trips_eq i]
  unfold diag0
  rw [store_at a8 _ _ hn (off4_eq i) _ _ hm 1 x q, store_at a8 _ _ hn (off2_eq i) _ _ hm 1 x q, if_neg (c := _ ∧ (1 : Fin 2) = 0) (by rintro ⟨_, h⟩; exact absurd h (by decide))]
  have hy : a8.view.read (Elt Ideal) (a8.view.writes (Elt Ideal) (h8.unread y) []) (ix2 (row m x) (col 1 q)) = y (ix2 (row m x) (col 1 q)) := congrFun (h8.read_unread y) _
  rcases lt_trichotomy m (i 1).val with h | h | h
  · rw [if_neg (by omega), if_neg (by omega), add_zero, hy, Finset.sum_eq_zero fun r _ => by rw [PM_before hn h, zero_mul, zero_mul], add_zero]
  · rw [if_pos ⟨h, rfl⟩, if_neg (by omega), add_zero]
    subst h
    refine (pay1_at K1 (ldPair a2 (h2.unread x0) (k0_off4 i) (k0_off4_inb i)) V1 (ldOne a3 (h3.unread x1) (k0_off1 i) (k0_off1_inb i)) (ldRow a4 (h4.unread x2) (k0_off5 i) (k0_off5_inb i)) (ldRow a5 (h5.unread x3) (k0_off5 i) (k0_off5_inb i)) _ x q).trans (congrArg₂ (fun a b : EReal => a + b) ((load_pair a8 _ _ hn (off4_eq i) x q).trans (congrFun (h8.read_unread y) _)) (Finset.sum_congr rfl fun r _ => ?_))
    exact congrArg (fun z : EReal => z * K1 (ix2 r q)) (congrArg₂ (fun a b : EReal => a * b) (scm_load1 i a2 h2 a4 h4 x0 x2 K1 r x) (gp_load1 i a3 h3 a5 h5 x1 x3 V1 r x))
  · rw [if_neg (by omega), if_pos (by omega), hy]
    exact congrArg (fun z : EReal => _ + z) (Finset.sum_congr rfl fun r _ => by rw [PM_after hm h])

/-- The dk block: over the query rows, the score gradients times the queries. -/
theorem body_dk (e : Fin 2) (r : Fin 512) (q : Fin 128) :
    View.canon (Body.bodyRun (F := Ideal) c i a2 h2 a3 h3 a4 h4 a5 h5 a6 h6 a7 h7 a8 h8 a9 h9 a10 h10 x0 x1 x2 x3 x4 x5 y).2.1 (ix2 r (col e q)) = ∑ X : Fin 8192, PM (half x4 e) x0 x2 (i 1).val e r X * GP (half x5 e) x1 x3 e r X * x0 (ix2 X (col e q)) := by
  rw [run_dk c i a2 h2 a3 h3 a4 h4 a5 h5 a6 h6 a7 h7 a8 h8 a9 h9 a10 h10 x0 x1 x2 x3 x4 x5 y _ _ _ _ (load_half a6 h6 x4 0 _) (load_half a6 h6 x4 1 _) (load_half a7 h7 x5 0 _) (load_half a7 h7 x5 1 _)]
  refine (canon_halves _ _ e r q).trans ?_
  match e with
  | 1 => rw [if_pos rfl]; exact last_dk1 c i a2 h2 a3 h3 a4 h4 a5 h5 a6 h6 a7 h7 a8 h8 a9 h9 a10 h10 x0 x1 x2 x3 y _ _ _ _ r q
  | 0 => rw [if_neg (by decide)]; exact last_dk0 c i a2 h2 a3 h3 a4 h4 a5 h5 a6 h6 a7 h7 a8 h8 a9 h9 a10 h10 x0 x1 x2 x3 y _ _ _ _ r q

/-- The dv block: over the query rows, the weights times the output's gradient. -/
theorem body_dv (e : Fin 2) (r : Fin 512) (q : Fin 128) :
    View.canon (Body.bodyRun (F := Ideal) c i a2 h2 a3 h3 a4 h4 a5 h5 a6 h6 a7 h7 a8 h8 a9 h9 a10 h10 x0 x1 x2 x3 x4 x5 y).2.2.1 (ix2 r (col e q)) = ∑ X : Fin 8192, PM (half x4 e) x0 x2 (i 1).val e r X * x1 (ix2 X q) := by
  rw [run_dv c i a2 h2 a3 h3 a4 h4 a5 h5 a6 h6 a7 h7 a8 h8 a9 h9 a10 h10 x0 x1 x2 x3 x4 x5 y _ _ _ _ (load_half a6 h6 x4 0 _) (load_half a6 h6 x4 1 _) (load_half a7 h7 x5 0 _) (load_half a7 h7 x5 1 _)]
  refine (canon_halves _ _ e r q).trans ?_
  match e with
  | 1 => rw [if_pos rfl]; exact last_dv1 c i a2 h2 a3 h3 a4 h4 a5 h5 a6 h6 a7 h7 a8 h8 a9 h9 a10 h10 x0 x1 x2 x3 y _ _ _ _ r q
  | 0 => rw [if_neg (by decide)]; exact last_dv0 c i a2 h2 a3 h3 a4 h4 a5 h5 a6 h6 a7 h7 a8 h8 a9 h9 a10 h10 x0 x1 x2 x3 y _ _ _ _ r q

/-- The dq block: what it held, plus the score gradients of this key block times the keys. -/
theorem body_dq (e : Fin 2) (X : Fin 8192) (q : Fin 128) :
    a8.view.read (Elt Ideal) (a8.view.writes (Elt Ideal) (h8.unread y) (Body.bodyRun (F := Ideal) c i a2 h2 a3 h3 a4 h4 a5 h5 a6 h6 a7 h7 a8 h8 a9 h9 a10 h10 x0 x1 x2 x3 x4 x5 y).1) (ix2 X (col e q))
      = y (ix2 X (col e q)) + ∑ r : Fin 512, PM (half x4 e) x0 x2 (i 1).val e r X * GP (half x5 e) x1 x3 e r X * half x4 e (ix2 r q) := by
  rw [run_dq c i a2 h2 a3 h3 a4 h4 a5 h5 a6 h6 a7 h7 a8 h8 a9 h9 a10 h10 x0 x1 x2 x3 x4 x5 y _ _ _ _ (load_half a6 h6 x4 0 _) (load_half a6 h6 x4 1 _) (load_half a7 h7 x5 0 _) (load_half a7 h7 x5 1 _)]
  have hX : X = row (X.val / 512) ⟨X.val % 512, by omega⟩ := Fin.ext (by rw [row_val (by omega)]; show X.val = 512 * (X.val / 512) + X.val % 512; omega)
  rw [hX]
  match e with
  | 0 => exact last_dq0 c i a2 h2 a3 h3 a4 h4 a5 h5 a6 h6 a7 h7 a8 h8 a9 h9 a10 h10 x0 x1 x2 x3 y _ _ _ _ _ q _ (by omega)
  | 1 => exact last_dq1 c i a2 h2 a3 h3 a4 h4 a5 h5 a6 h6 a7 h7 a8 h8 a9 h9 a10 h10 x0 x1 x2 x3 y _ _ _ _ _ q _ (by omega)

end Cert.AttnBwdIdeal.Block

end
-- ==== Proof.AttnArr.lean ====
/- The arrays the attention backward kernel leaves, on the extended reals: the gradients of the queries, the keys and the
   values, head by head, as sums over all query rows or over all key rows. -/
module

public import proofs.«01_k».proof.Proof.AttnPoint

@[expose] public section

set_option maxRecDepth 16384

noncomputable section

open Idealize.ShloMosaic Idealize.ShloMosaic.TcCoe Idealize.SL.Sem
open Idealize.ShloMosaic.Pipeline (Dat)

namespace Cert.AttnBwdIdeal.Arr

open Cert.AttnBwdIdeal Cert.AttnBwdIdeal.Gen Cert.AttnBwdIdeal.Block

/-- Column `q` of head `H`, among the 1024 columns of the queries, keys and values. -/
def hcol (H : Fin 8) (q : Fin 128) : Fin 1024 := ⟨128 * H.val + q.val, by omega⟩

/-- Column `q` of the pair of heads that `H` is in, among the 512 columns of the output's gradient. -/
def pcol (H : Fin 8) (q : Fin 128) : Fin 512 := ⟨128 * (H.val / 2) + q.val, by omega⟩

/-- The weight of key `Y` for query `X` in head `H`, without the mask. -/
def SA (K Q : FVec Ideal S8192x1024 .bf16) (L : FVec Ideal S8x1x8192 .f32) (H : Fin 8) (X Y : Fin 8192) : EReal :=
  Ideal.exp2 ((∑ c : Fin 128, K (ix2 Y (hcol H c)) * Q (ix2 X (hcol H c))) - L (ix3 H 0 X))

/-- The weight of key `Y` for query `X` in head `H`: nothing where the key comes after the query. -/
def PA (K Q : FVec Ideal S8192x1024 .bf16) (L : FVec Ideal S8x1x8192 .f32) (H : Fin 8) (X Y : Fin 8192) : EReal :=
  if Y.val ≤ X.val then SA K Q L H X Y else 0

/-- The weight's gradient, less the row's mean of it. -/
def GA (W : FVec Ideal S8192x1024 .bf16) (D : FVec Ideal S8192x512 .bf16) (T : FVec Ideal S8x1x8192 .f32) (H : Fin 8) (X Y : Fin 8192) : EReal :=
  (∑ c : Fin 128, W (ix2 Y (hcol H c)) * D (ix2 X (pcol H c))) - T (ix3 H 0 X)

variable (m : (ℓ : Loc nD τ sig) → Buf (Elt Ideal) ℓ) (c : Dev nD)

/-- Every window's block index at every grid point. -/
theorem idx : ∀ t : Fin cfg0.N, win0_0.index t = ![0, t.val / 16] ∧ win0_1.index t = ![0, t.val / 16] ∧ win0_2.index t = ![t.val / 16, 0, 0] ∧ win0_3.index t = ![t.val / 16, 0, 0] ∧ win0_4.index t = ![t.val % 16, t.val / 16] ∧ win0_5.index t = ![t.val % 16, t.val / 16] ∧ win0_6.index t = ![0, t.val / 16] ∧ win0_7.index t = ![t.val % 16, t.val / 16] ∧ win0_8.index t = ![t.val % 16, t.val / 16] :=
  (by decide +kernel : ∀ t : Fin grid0.N, _)

/-- The key block of a grid point. -/
theorem coord : ∀ t : Fin cfg0.N, ((grid0.coords t) 1).val = t.val % 16 := (by decide +kernel : ∀ t : Fin grid0.N, _)

/-- The head that a grid point works on in half `e` of its blocks. -/
def hd (t : Fin cfg0.N) (e : Fin 2) : Fin 8 := ⟨2 * (t.val / 16) + e.val, by have := lt_of_lt_of_eq t.isLt N_0; omega⟩

/-- Row `r` of a grid point's key block, as a row of the arrays. -/
def krow (t : Fin cfg0.N) (r : Fin 512) : Fin 8192 := ⟨512 * (t.val % 16) + r.val, by omega⟩

/-- A point's block of the queries, in the array. -/
theorem rd0 (t : Fin cfg0.N) (e : Fin 2) (X : Fin 8192) (q : Fin 128) (B : FVec Ideal S8192x1024 .bf16) :
    ((cfg0.win 0).blk t).view.read (Elt Ideal) B (ix2 X (col e q)) = B (ix2 X (hcol (hd t e) q)) := by
  have e0 : ((cfg0.win 0).blk t).view.read (Elt Ideal) B (ix2 X (col e q)) = B (ix2 X ⟨256 * (t.val / 16) + (col e q).val, by have := lt_of_lt_of_eq t.isLt N_0; have := (col e q).isLt; omega⟩) := by
    blk_point [idx t]
  exact e0.trans (congrArg (fun j => B (ix2 X j)) (Fin.ext (by show 256 * (t.val / 16) + (128 * e.val + q.val) = 128 * (2 * (t.val / 16) + e.val) + q.val; omega)))

theorem blk_q (t : Fin cfg0.N) (e : Fin 2) (X : Fin 8192) (q : Fin 128) :
    iblk m c 0 t (ix2 X (col e q)) = V m c main_v44 (ix2 X (hcol (hd t e) q)) := rd0 t e X q (V m c main_v44)

/-- A point's block of the output's gradient, in the array. -/
theorem rd1 (t : Fin cfg0.N) (e : Fin 2) (X : Fin 8192) (q : Fin 128) (B : FVec Ideal S8192x512 .bf16) :
    ((cfg0.win 1).blk t).view.read (Elt Ideal) B (ix2 X q) = B (ix2 X (pcol (hd t e) q)) := by
  have e0 : ((cfg0.win 1).blk t).view.read (Elt Ideal) B (ix2 X q) = B (ix2 X ⟨128 * (t.val / 16) + q.val, by have := lt_of_lt_of_eq t.isLt N_0; omega⟩) := by
    blk_point [idx t]
  exact e0.trans (congrArg (fun j => B (ix2 X j)) (Fin.ext (by simp only [pcol, hd]; omega)))

theorem blk_d (t : Fin cfg0.N) (e : Fin 2) (X : Fin 8192) (q : Fin 128) :
    iblk m c 1 t (ix2 X q) = V m c main_v75 (ix2 X (pcol (hd t e) q)) := rd1 t e X q (V m c main_v75)

/-- A point's block of the log-sums, in the array. -/
theorem rd2 (t : Fin cfg0.N) (e : Fin 2) (X : Fin 8192) (B : FVec Ideal S8x1x8192 .f32) :
    ((cfg0.win 2).blk t).view.read (Elt Ideal) B (ix3 e 0 X) = B (ix3 (hd t e) 0 X) := by
  have e0 : ((cfg0.win 2).blk t).view.read (Elt Ideal) B (ix3 e 0 X) = B (ix3 ⟨2 * (t.val / 16) + e.val, by have := lt_of_lt_of_eq t.isLt N_0; omega⟩ 0 X) := by
    blk_point [idx t]
  exact e0

theorem blk_l (t : Fin cfg0.N) (e : Fin 2) (X : Fin 8192) :
    iblk m c 2 t (ix3 e 0 X) = V m c main_v76 (ix3 (hd t e) 0 X) := rd2 t e X (V m c main_v76)

/-- A point's block of the row sums, in the array. -/
theorem rd3 (t : Fin cfg0.N) (e : Fin 2) (X : Fin 8192) (B : FVec Ideal S8x1x8192 .f32) :
    ((cfg0.win 3).blk t).view.read (Elt Ideal) B (ix3 e 0 X) = B (ix3 (hd t e) 0 X) := by
  have e0 : ((cfg0.win 3).blk t).view.read (Elt Ideal) B (ix3 e 0 X) = B (ix3 ⟨2 * (t.val / 16) + e.val, by have := lt_of_lt_of_eq t.isLt N_0; omega⟩ 0 X) := by
    blk_point [idx t]
  exact e0

theorem blk_t (t : Fin cfg0.N) (e : Fin 2) (X : Fin 8192) :
    iblk m c 3 t (ix3 e 0 X) = V m c main_v77 (ix3 (hd t e) 0 X) := rd3 t e X (V m c main_v77)

/-- A point's block of the keys, in the array. -/
theorem rd4 (t : Fin cfg0.N) (e : Fin 2) (r : Fin 512) (q : Fin 128) (B : FVec Ideal S8192x1024 .bf16) :
    ((cfg0.win 4).blk t).view.read (Elt Ideal) B (ix2 r (col e q)) = B (ix2 (krow t r) (hcol (hd t e) q)) := by
  have e0 : ((cfg0.win 4).blk t).view.read (Elt Ideal) B (ix2 r (col e q)) = B (ix2 (krow t r) ⟨256 * (t.val / 16) + (col e q).val, by have := lt_of_lt_of_eq t.isLt N_0; have := (col e q).isLt; omega⟩) := by
    unfold krow
    blk_point [idx t]
  exact e0.trans (congrArg (fun j => B (ix2 (krow t r) j)) (Fin.ext (by show 256 * (t.val / 16) + (128 * e.val + q.val) = 128 * (2 * (t.val / 16) + e.val) + q.val; omega)))

theorem blk_k (t : Fin cfg0.N) (e : Fin 2) (r : Fin 512) (q : Fin 128) :
    iblk m c 4 t (ix2 r (col e q)) = V m c main_v47 (ix2 (krow t r) (hcol (hd t e) q)) := rd4 t e r q (V m c main_v47)

/-- A point's block of the values, in the array. -/
theorem rd5 (t : Fin cfg0.N) (e : Fin 2) (r : Fin 512) (q : Fin 128) (B : FVec Ideal S8192x1024 .bf16) :
    ((cfg0.win 5).blk t).view.read (Elt Ideal) B (ix2 r (col e q)) = B (ix2 (krow t r) (hcol (hd t e) q)) := by
  have e0 : ((cfg0.win 5).blk t).view.read (Elt Ideal) B (ix2 r (col e q)) = B (ix2 (krow t r) ⟨256 * (t.val / 16) + (col e q).val, by have := lt_of_lt_of_eq t.isLt N_0; have := (col e q).isLt; omega⟩) := by
    unfold krow
    blk_point [idx t]
  exact e0.trans (congrArg (fun j => B (ix2 (krow t r) j)) (Fin.ext (by show 256 * (t.val / 16) + (128 * e.val + q.val) = 128 * (2 * (t.val / 16) + e.val) + q.val; omega)))

theorem blk_v (t : Fin cfg0.N) (e : Fin 2) (r : Fin 512) (q : Fin 128) :
    iblk m c 5 t (ix2 r (col e q)) = V m c main_v74 (ix2 (krow t r) (hcol (hd t e) q)) := rd5 t e r q (V m c main_v74)

/-- A point's weights, in the arrays' terms. -/
theorem PM_eq (t : Fin cfg0.N) (e : Fin 2) (r : Fin 512) (X : Fin 8192) :
    PM (half (iblk m c 4 t) e) (iblk m c 0 t) (iblk m c 2 t) ((grid0.coords t) 1).val e r X
      = PA (V m c main_v47) (V m c main_v44) (V m c main_v76) (hd t e) X (krow t r) := by
  unfold PM PA
  rw [coord t]
  refine if_congr Iff.rfl ?_ rfl
  unfold SC SA
  refine congrArg Ideal.exp2 (congrArg₂ (fun a b : EReal => a - b) (Finset.sum_congr rfl fun q _ => ?_) (blk_l m c t e X))
  exact congrArg₂ (fun a b : EReal => a * b) (blk_k m c t e r q) (blk_q m c t e X q)

/-- A point's gradients of the weights, in the arrays' terms. -/
theorem GP_eq (t : Fin cfg0.N) (e : Fin 2) (r : Fin 512) (X : Fin 8192) :
    GP (half (iblk m c 5 t) e) (iblk m c 1 t) (iblk m c 3 t) e r X
      = GA (V m c main_v74) (V m c main_v75) (V m c main_v77) (hd t e) X (krow t r) := by
  unfold GP GA
  refine congrArg₂ (fun a b : EReal => a - b) (Finset.sum_congr rfl fun q _ => ?_) (blk_t m c t e X)
  exact congrArg₂ (fun a b : EReal => a * b) (blk_v m c t e r q) (blk_d m c t e X q)

/-- The gradient of the keys, before the last scaling. -/
def DK (Y : Fin 8192) (H : Fin 8) (q : Fin 128) : EReal :=
  ∑ X : Fin 8192, PA (V m c main_v47) (V m c main_v44) (V m c main_v76) H X Y * GA (V m c main_v74) (V m c main_v75) (V m c main_v77) H X Y * V m c main_v44 (ix2 X (hcol H q))

/-- The gradient of the values. -/
def DV (Y : Fin 8192) (H : Fin 8) (q : Fin 128) : EReal :=
  ∑ X : Fin 8192, PA (V m c main_v47) (V m c main_v44) (V m c main_v76) H X Y * V m c main_v75 (ix2 X (pcol H q))

/-- The gradient of the queries, before the last scaling. -/
def DQ (X : Fin 8192) (H : Fin 8) (q : Fin 128) : EReal :=
  ∑ Y : Fin 8192, PA (V m c main_v47) (V m c main_v44) (V m c main_v76) H X Y * GA (V m c main_v74) (V m c main_v75) (V m c main_v77) H X Y * V m c main_v47 (ix2 Y (hcol H q))

/-- The dk block a point leaves. -/
theorem dk_point (t : Fin cfg0.N) (y) (e : Fin 2) (r : Fin 512) (q : Fin 128) :
    Body.dkOf m c t y (ix2 r (col e q)) = DK m c (krow t r) (hd t e) q := by
  unfold Body.dkOf Body.runAt
  refine (body_dk c _ _ _ _ _ _ _ _ _ _ _ _ _ _ _ _ _ _ _ _ _ _ _ _ _ _ e r q).trans (Finset.sum_congr rfl fun X _ => ?_)
  exact congrArg₂ (fun a b : EReal => a * b) (congrArg₂ (fun a b : EReal => a * b) (PM_eq m c t e r X) (GP_eq m c t e r X)) (blk_q m c t e X q)

/-- The dv block a point leaves. -/
theorem dv_point (t : Fin cfg0.N) (y) (e : Fin 2) (r : Fin 512) (q : Fin 128) :
    Body.dvOf m c t y (ix2 r (col e q)) = DV m c (krow t r) (hd t e) q := by
  unfold Body.dvOf Body.runAt
  refine (body_dv c _ _ _ _ _ _ _ _ _ _ _ _ _ _ _ _ _ _ _ _ _ _ _ _ _ _ e r q).trans (Finset.sum_congr rfl fun X _ => ?_)
  exact congrArg₂ (fun a b : EReal => a * b) (PM_eq m c t e r X) (blk_d m c t e X q)

/-- What a point adds to the dq block. -/
theorem dq_point (t : Fin cfg0.N) (y) (e : Fin 2) (X : Fin 8192) (q : Fin 128) :
    Body.dqOf m c t y (ix2 X (col e q)) = y (ix2 X (col e q)) + ∑ r : Fin 512, PA (V m c main_v47) (V m c main_v44) (V m c main_v76) (hd t e) X (krow t r) * GA (V m c main_v74) (V m c main_v75) (V m c main_v77) (hd t e) X (krow t r) * V m c main_v47 (ix2 (krow t r) (hcol (hd t e) q)) := by
  unfold Body.dqOf Body.runAt
  refine (body_dq c _ _ _ _ _ _ _ _ _ _ _ _ _ _ _ _ _ _ _ _ _ _ _ _ _ _ e X q).trans (congrArg (fun a : EReal => _ + a) (Finset.sum_congr rfl fun r _ => ?_))
  exact congrArg₂ (fun a b : EReal => a * b) (congrArg₂ (fun a b : EReal => a * b) (PM_eq m c t e r X) (GP_eq m c t e r X)) (blk_k m c t e r q)

/-- The head of a column, -/
def headOf (j : Fin 1024) : Fin 8 := ⟨j.val / 128, by omega⟩
/-- and its place in the head. -/
def placeOf (j : Fin 1024) : Fin 128 := ⟨j.val % 128, by omega⟩

/-- The dq block at the last key block: all key rows. -/
theorem dq_last (t : Fin cfg0.N) (ht : t.val % 16 = 15) (e : Fin 2) (X : Fin 8192) (q : Fin 128) :
    Body.dqAt m c t.val (ix2 X (col e q)) = DQ m c X (hd t e) q := by
  have hz : k0_pay30 (F := Ideal) (ix2 X (col e q)) = 0 := by
    pointwise [k0_pay30]
  rw [Pipeline.eq_sum_fin_of_reset_step_of_flush (fun n _ => Body.dqAt m c n (ix2 X (col e q))) 16 0
    (fun t => ∑ r : Fin 512, PA (V m c main_v47) (V m c main_v44) (V m c main_v76) (hd t e) X (krow t r) * GA (V m c main_v74) (V m c main_v75) (V m c main_v77) (hd t e) X (krow t r) * V m c main_v47 (ix2 (krow t r) (hcol (hd t e) q)))
    (fun t h => by
      rw [Body.dqAt_eq m c t, dq_point m c t]
      unfold Body.dqIn
      rw [Body.entry_first t h, hz])
    (fun t h => by
      rw [Body.dqAt_eq m c t, dq_point m c t]
      unfold Body.dqIn
      rw [Body.entry_next t h]) t ht, zero_add]
  refine Fin.sum_mul_add_congr (f := fun Y => PA (V m c main_v47) (V m c main_v44) (V m c main_v76) (hd t e) X Y * GA (V m c main_v74) (V m c main_v75) (V m c main_v77) (hd t e) X Y * V m c main_v47 (ix2 Y (hcol (hd t e) q))) (fun s k hl => ?_) (by norm_num)
  have h1 : ∀ h, hd ⟨16 * (t.val / 16) + s.val, h⟩ e = hd t e := fun h => Fin.ext (by show 2 * ((16 * (t.val / 16) + s.val) / 16) + e.val = 2 * (t.val / 16) + e.val; omega)
  have h2 : ∀ h, krow ⟨16 * (t.val / 16) + s.val, h⟩ k = ⟨s.val * 512 + k.val, hl⟩ := fun h => Fin.ext (by show 512 * ((16 * (t.val / 16) + s.val) % 16) + k.val = s.val * 512 + k.val; omega)
  rw [h1, h2]

end Cert.AttnBwdIdeal.Arr
-- ==== Proof.AttnHost.lean ====
/- What the host computes for the attention backward kernel, on the extended reals: the masked scores, their row maxima,
   the attention's output, the log-sums and the row sums of output times gradient, and the operands the kernel reads. -/
module

public import proofs.«01_k».proof.Proof.AttnArr
public import proofs.«01_k».proof.Proof.Finite

@[expose] public section

set_option maxRecDepth 16384

noncomputable section

open Idealize.ShloMosaic Idealize.ShloMosaic.TcCoe Idealize.SL.Sem
open Idealize.ShloMosaic.StableHlo

namespace Cert.AttnBwdIdeal.HostV

open Cert.AttnBwdIdeal Cert.AttnBwdIdeal.Gen

section
variable (q k : FVec Ideal S8192x8x96 .f32) (v : FVec Ideal S8192x8x64 .f32) (d : FVec Ideal S8192x512 .f32)

/-- The logarithm of two, -/
def ln2 : FVec Ideal S_ .f32 := Host.log (constant (F := Ideal) S_ .f32 0x40000000#32)
/-- its reciprocal, -/
def log2e : FVec Ideal S_ .f32 := Host.divf (constant (F := Ideal) S_ .f32 0x3F800000#32) ln2
/-- and the queries' scale. -/
def qs : FVec Ideal S_ .f32 := mulf (constant (F := Ideal) S_ .f32 0x3DD105EC#32) log2e

/-- Which keys a query sees. -/
def mask : IVec S8192x8192 1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The masked scores. -/
def score : FVec Ideal S8x8192x8192 .f32 :=
  select (broadcastInDim S8x8192x8192 ![1, 2] bcast_S8192x8192_S8x8192x8192_1_2 mask)
    (mulf (Host.dotGeneral dot_S8192x8x96_S8192x8x96_S8x8192x8192_2_2_0_0_1_1 none q k) (broadcastInDim S8x8192x8192 ![] bcast_S_S8x8192x8192 (constant (F := Ideal) S_ .f32 0x3DD105EC#32)))
    (broadcastInDim S8x8192x8192 ![] bcast_S_S8x8192x8192 (id (constant (F := Ideal) S_ .f32 0xFF800000#32)))

/-- The rows' maxima. -/
def top : FVec Ideal S8x8192 .f32 :=
  Host.reduce FloatOps.maximumf (score q k) (constant (F := Ideal) S_ .f32 0xFF800000#32) reducesTo_S8x8192x8192_S8x8192_d2 h_S_

/-- The exponentials below a given row value, -/
def expo (t : FVec Ideal S8x8192 .f32) : FVec Ideal S8x8192x8192 .f32 :=
  Host.exp (subf (score q k) (broadcastInDim S8x8192x8192 ![0, 1, 2] bcast_S8x8192x1_S8x8192x8192_0_1_2 (broadcastInDim S8x8192x1 ![0, 1] bcast_S8x8192_S8x8192x1_0_1 t)))

/-- and their row sums. -/
def lsum (t : FVec Ideal S8x8192 .f32) : FVec Ideal S8x8192 .f32 :=
  Host.reduceAdd (expo q k t) (constant (F := Ideal) S_ .f32 0x00000000#32) reducesTo_S8x8192x8192_S8x8192_d2 h_S_

/-- The maximum, taken once more with minus infinity. -/
def top' : FVec Ideal S8x8192 .f32 :=
  maximumf (broadcastInDim S8x8192 ![] bcast_S_S8x8192 (constant (F := Ideal) S_ .f32 0xFF800000#32)) (top q k)

/-- The attention's weights, -/
def prob : FVec Ideal S8x8192x8192 .f32 :=
  Host.divf (expo q k (top' q k)) (broadcastInDim S8x8192x8192 ![0, 1, 2] bcast_S8x8192x1_S8x8192x8192_0_1_2 (broadcastInDim S8x8192x1 ![0, 1] bcast_S8x8192_S8x8192x1_0_1 (lsum q k (top' q k))))

/-- and its output. -/
def out : FVec Ideal S8192x8x64 .f32 :=
  transpose S8192x8x64 [2, 0, 1] (Host.dotGeneral (φ₁ := .f32) (φ₂ := .f32) dot_S8192x8x64_S8x8192x8192_S8x64x8192_0_2_2_1_1_0 none v (prob q k)) transposes_S8x64x8192_S8192x8x64_2_0_1

/-- The log-sums of powers of two. -/
def lse : FVec Ideal S8x8192 .f32 :=
  mulf (addf (top q k) (Host.log (lsum q k (top q k)))) (broadcastInDim S8x8192 ![] bcast_S_S8x8192 log2e)

/-- The row sums of output times gradient. -/
def delta : FVec Ideal S8x8192 .f32 :=
  transpose S8x8192 [1, 0] (Host.reduceAdd (mulf (shapeCast S8192x8x64 d shapeCasts_S8192x512_S8192x8x64) (out q k v)) (constant (F := Ideal) S_ .f32 0x00000000#32) reducesTo_S8192x8x64_S8192x8_d2 h_S_) transposes_S8192x8_S8x8192_1_0

/-- An operand of 96 columns a head, padded to 128. -/
def padded (x : FVec Ideal S8192x8x96 .f32) : FVec Ideal S8192x1024 .bf16 :=
  truncf .bf16 (shapeCast S8192x1024 (pad S8192x8x128 ![0, 0, 0] ![0, 0, 32] ![0, 0, 0] x (sitofp (F := Ideal) .f32 (constantI S_ 32 0#32)) pads_S8192x8x96_S8192x8x128_000_000_0320 h_S_) shapeCasts_S8192x8x128_S8192x1024) bitsLt_bf16_f32

/-- The queries as the kernel reads them. -/
def qOp : FVec Ideal S8192x1024 .bf16 := padded (mulf q (broadcastInDim S8192x8x96 ![] bcast_S_S8192x8x96 qs))

/-- Head 0 of the values, in its half of 128 columns. -/
def vPart0 : FVec Ideal S8192x128 .f32 := concatenate S8192x128 1 [⟨S8192x64, (shapeCast S8192x64 (extractStridedSlice S8192x1x64 ![0, 0, 0] v slices_S8192x8x64_S8192x1x64_0_0_0) shapeCasts_S8192x1x64_S8192x64)⟩, ⟨S8192x64, (broadcastInDim S8192x64 ![] bcast_S_S8192x64 (constant (F := Ideal) S_ .f32 0x00000000#32))⟩] concatenates_S8192x64_S8192x64_S8192x128_d1

/-- Head 1 of the values, in its half of 128 columns. -/
def vPart1 : FVec Ideal S8192x128 .f32 := concatenate S8192x128 1 [⟨S8192x64, (broadcastInDim S8192x64 ![] bcast_S_S8192x64 (constant (F := Ideal) S_ .f32 0x00000000#32))⟩, ⟨S8192x64, (shapeCast S8192x64 (extractStridedSlice S8192x1x64 ![0, 1, 0] v slices_S8192x8x64_S8192x1x64_0_1_0) shapeCasts_S8192x1x64_S8192x64)⟩] concatenates_S8192x64_S8192x64_S8192x128_d1

/-- Head 2 of the values, in its half of 128 columns. -/
def vPart2 : FVec Ideal S8192x128 .f32 := concatenate S8192x128 1 [⟨S8192x64, (shapeCast S8192x64 (extractStridedSlice S8192x1x64 ![0, 2, 0] v slices_S8192x8x64_S8192x1x64_0_2_0) shapeCasts_S8192x1x64_S8192x64)⟩, ⟨S8192x64, (broadcastInDim S8192x64 ![] bcast_S_S8192x64 (constant (F := Ideal) S_ .f32 0x00000000#32))⟩] concatenates_S8192x64_S8192x64_S8192x128_d1

/-- Head 3 of the values, in its half of 128 columns. -/
def vPart3 : FVec Ideal S8192x128 .f32 := concatenate S8192x128 1 [⟨S8192x64, (broadcastInDim S8192x64 ![] bcast_S_S8192x64 (constant (F := Ideal) S_ .f32 0x00000000#32))⟩, ⟨S8192x64, (shapeCast S8192x64 (extractStridedSlice S8192x1x64 ![0, 3, 0] v slices_S8192x8x64_S8192x1x64_0_3_0) shapeCasts_S8192x1x64_S8192x64)⟩] concatenates_S8192x64_S8192x64_S8192x128_d1

/-- Head 4 of the values, in its half of 128 columns. -/
def vPart4 : FVec Ideal S8192x128 .f32 := concatenate S8192x128 1 [⟨S8192x64, (shapeCast S8192x64 (extractStridedSlice S8192x1x64 ![0, 4, 0] v slices_S8192x8x64_S8192x1x64_0_4_0) shapeCasts_S8192x1x64_S8192x64)⟩, ⟨S8192x64, (broadcastInDim S8192x64 ![] bcast_S_S8192x64 (constant (F := Ideal) S_ .f32 0x00000000#32))⟩] concatenates_S8192x64_S8192x64_S8192x128_d1

/-- Head 5 of the values, in its half of 128 columns. -/
def vPart5 : FVec Ideal S8192x128 .f32 := concatenate S8192x128 1 [⟨S8192x64, (broadcastInDim S8192x64 ![] bcast_S_S8192x64 (constant (F := Ideal) S_ .f32 0x00000000#32))⟩, ⟨S8192x64, (shapeCast S8192x64 (extractStridedSlice S8192x1x64 ![0, 5, 0] v slices_S8192x8x64_S8192x1x64_0_5_0) shapeCasts_S8192x1x64_S8192x64)⟩] concatenates_S8192x64_S8192x64_S8192x128_d1

/-- Head 6 of the values, in its half of 128 columns. -/
def vPart6 : FVec Ideal S8192x128 .f32 := concatenate S8192x128 1 [⟨S8192x64, (shapeCast S8192x64 (extractStridedSlice S8192x1x64 ![0, 6, 0] v slices_S8192x8x64_S8192x1x64_0_6_0) shapeCasts_S8192x1x64_S8192x64)⟩, ⟨S8192x64, (broadcastInDim S8192x64 ![] bcast_S_S8192x64 (constant (F := Ideal) S_ .f32 0x00000000#32))⟩] concatenates_S8192x64_S8192x64_S8192x128_d1

/-- Head 7 of the values, in its half of 128 columns. -/
def vPart7 : FVec Ideal S8192x128 .f32 := concatenate S8192x128 1 [⟨S8192x64, (broadcastInDim S8192x64 ![] bcast_S_S8192x64 (constant (F := Ideal) S_ .f32 0x00000000#32))⟩, ⟨S8192x64, (shapeCast S8192x64 (extractStridedSlice S8192x1x64 ![0, 7, 0] v slices_S8192x8x64_S8192x1x64_0_7_0) shapeCasts_S8192x1x64_S8192x64)⟩] concatenates_S8192x64_S8192x64_S8192x128_d1

/-- The values as the kernel reads them. -/
def vOp : FVec Ideal S8192x1024 .bf16 :=
  truncf .bf16 (concatenate S8192x1024 1 [⟨S8192x128, vPart0 v⟩, ⟨S8192x128, vPart1 v⟩, ⟨S8192x128, vPart2 v⟩, ⟨S8192x128, vPart3 v⟩, ⟨S8192x128, vPart4 v⟩, ⟨S8192x128, vPart5 v⟩, ⟨S8192x128, vPart6 v⟩, ⟨S8192x128, vPart7 v⟩] concatenates_S8192x128_S8192x128_S8192x128_S8192x128_S8192x128_S8192x128_S8192x128_S8192x128_S8192x1024_d1 : FVec Ideal S8192x1024 .f32) bitsLt_bf16_f32

end

section
variable (m : (ℓ : Loc nD τ sig) → Buf (Elt Ideal) ℓ) (c : Dev nD)

/-- The contents of an argument. -/
abbrev argQ : FVec Ideal S8192x8x96 .f32 := m ((c : Thread nD τ).loc main_arg0)
@[inherit_doc argQ] abbrev argK : FVec Ideal S8192x8x96 .f32 := m ((c : Thread nD τ).loc main_arg1)
@[inherit_doc argQ] abbrev argV : FVec Ideal S8192x8x64 .f32 := m ((c : Thread nD τ).loc main_arg2)
@[inherit_doc argQ] abbrev argD : FVec Ideal S8192x512 .f32 := m ((c : Thread nD τ).loc main_arg3)

/-- The kernel's operand of the queries. -/
theorem V_44 : V m c main_v44 = qOp (argQ m c) := by
  unfold V V0
  simp only [hostOps0, hostOps0_1, hostOps0_2, hostOps0_3, hostOps0_4, hostOps0_5, hostOps0_6, List.flatten_cons, List.flatten_nil, List.append_nil, List.cons_append, List.nil_append, List.singleton_append]
  after_results_simp
  rfl

/-- The kernel's operand of the keys. -/
theorem V_47 : V m c main_v47 = padded (argK m c) := by
  unfold V V0
  simp only [hostOps0, hostOps0_1, hostOps0_2, hostOps0_3, hostOps0_4, hostOps0_5, hostOps0_6, List.flatten_cons, List.flatten_nil, List.append_nil, List.cons_append, List.nil_append, List.singleton_append]
  after_results_simp
  rfl

/-- The kernel's operand of the values. -/
theorem V_74 : V m c main_v74 = vOp (argV m c) := by
  unfold V V0
  simp only [hostOps0, hostOps0_1, hostOps0_2, hostOps0_3, hostOps0_4, hostOps0_5, hostOps0_6, List.flatten_cons, List.flatten_nil, List.append_nil, List.cons_append, List.nil_append, List.singleton_append]
  after_results_simp
  rfl

/-- The kernel's operand of the output's gradient. -/
theorem V_75 : V m c main_v75 = truncf (F := Ideal) .bf16 (argD m c) bitsLt_bf16_f32 := by
  unfold V V0
  simp only [hostOps0, hostOps0_1, hostOps0_2, hostOps0_3, hostOps0_4, hostOps0_5, hostOps0_6, List.flatten_cons, List.flatten_nil, List.append_nil, List.cons_append, List.nil_append, List.singleton_append]
  after_results_simp

/-- The kernel's operand of the log-sums. -/
theorem V_76 : V m c main_v76 = shapeCast S8x1x8192 (lse (argQ m c) (argK m c)) shapeCasts_S8x8192_S8x1x8192 := by
  unfold V V0
  simp only [hostOps0, hostOps0_1, hostOps0_2, hostOps0_3, hostOps0_4, hostOps0_5, hostOps0_6, List.flatten_cons, List.flatten_nil, List.append_nil, List.cons_append, List.nil_append, List.singleton_append]
  after_results_simp
  rfl

/-- The kernel's operand of the row sums. -/
theorem V_77 : V m c main_v77 = shapeCast S8x1x8192 (delta (argQ m c) (argK m c) (argV m c) (argD m c)) shapeCasts_S8x8192_S8x1x8192 := by
  unfold V V0
  simp only [hostOps0, hostOps0_1, hostOps0_2, hostOps0_3, hostOps0_4, hostOps0_5, hostOps0_6, List.flatten_cons, List.flatten_nil, List.append_nil, List.cons_append, List.nil_append, List.singleton_append]
  after_results_simp
  rfl

end

end Cert.AttnBwdIdeal.HostV
-- ==== Proof.AttnHostAt.lean ====
/- The host's values of the attention backward kernel, read at an index. -/
module

public import proofs.«01_k».proof.Proof.AttnHost

@[expose] public section

set_option maxRecDepth 16384

noncomputable section

open Idealize.ShloMosaic Idealize.ShloMosaic.TcCoe
open Idealize.ShloMosaic.StableHlo

namespace Cert.AttnBwdIdeal.HostV

open Cert.AttnBwdIdeal Cert.AttnBwdIdeal.Gen Cert.AttnBwdIdeal.Block Cert.AttnBwdIdeal.Arr

variable (q k : FVec Ideal S8192x8x96 .f32) (v : FVec Ideal S8192x8x64 .f32) (d : FVec Ideal S8192x512 .f32)

/-- The scale of the scores. -/
abbrev S0 : EReal := Ideal.ofBits FTy.f32 0x3DD105EC#32

theorem ninf : Ideal.ofBits FTy.f32 0xFF800000#32 = ⊥ := by simp [Ideal.ofBits, Ideal.ieee]

theorem sitofp_zero : FloatOps.sitofp (F := Ideal) FTy.f32 (0#32 : BitVec 32) = 0 := by
  show (((0#32 : BitVec 32).toInt : ℝ) : EReal) = 0
  norm_num

theorem ln2_at (i) : ln2 i = Ideal.log (Ideal.ofBits FTy.f32 0x40000000#32) := by
  pointwise [ln2]

theorem log2e_at (i) : log2e i = Ideal.div (Ideal.ofBits FTy.f32 0x3F800000#32) (Ideal.log (Ideal.ofBits FTy.f32 0x40000000#32)) := by
  pointwise [log2e, ln2]

theorem qs_at (i) : qs i = S0 * log2e i := by
  pointwise [qs]

theorem mask_at (X Y : Fin 8192) : mask (ix2 X Y) = if Y.val ≤ X.val then 1#1 else 0#1 := by
  pointwise [mask]
  exact sle_at Y.val X.val (by omega) (by omega)

theorem score_at (H : Fin 8) (X Y : Fin 8192) :
    score q k (ix3 H X Y) = if Y.val ≤ X.val then (∑ c : Fin 96, q (ix3 X H c) * k (ix3 Y H c)) * S0 else ⊥ := by
  pointwise [score]
  rw [mask_at]
  by_cases h : Y.val ≤ X.val
  · rw [if_pos h, if_pos h]; rfl
  · rw [if_neg h, if_neg h]; exact ninf

theorem top_at (H : Fin 8) (X : Fin 8192) : top q k (ix2 H X) = Finset.univ.fold max ⊥ fun Y : Fin 8192 => score q k (ix3 H X Y) := by
  pointwise [top]
  rw [ninf]

theorem max_at (T : FVec Ideal S8x8192 .f32) (H : Fin 8) (X : Fin 8192) : maximumf (broadcastInDim S8x8192 ![] bcast_S_S8x8192 (constant (F := Ideal) S_ .f32 0xFF800000#32)) T (ix2 H X) = max ⊥ (T (ix2 H X)) := by
  pointwise
  rw [ninf]

theorem top'_at (H : Fin 8) (X : Fin 8192) : top' q k (ix2 H X) = max ⊥ (top q k (ix2 H X)) := max_at _ H X

theorem expo_at (t : FVec Ideal S8x8192 .f32) (H : Fin 8) (X Y : Fin 8192) : expo q k t (ix3 H X Y) = Ideal.exp (score q k (ix3 H X Y) - t (ix2 H X)) := by
  pointwise [expo]
  done

theorem lsum_at (t : FVec Ideal S8x8192 .f32) (H : Fin 8) (X : Fin 8192) : lsum q k t (ix2 H X) = ∑ Y : Fin 8192, expo q k t (ix3 H X Y) := by
  pointwise [lsum]
  done

theorem prob_at (H : Fin 8) (X Y : Fin 8192) : prob q k (ix3 H X Y) = Ideal.div (expo q k (top' q k) (ix3 H X Y)) (lsum q k (top' q k) (ix2 H X)) := by
  pointwise [prob]
  done

theorem out_at (X : Fin 8192) (H : Fin 8) (a : Fin 64) : out q k v (ix3 X H a) = ∑ Y : Fin 8192, v (ix3 Y H a) * prob q k (ix3 H X Y) := by
  pointwise [out]
  done

theorem logsum_at (T L : FVec Ideal S8x8192 .f32) (E : FVec Ideal S_ .f32) (H : Fin 8) (X : Fin 8192) : mulf (addf T (Host.log L)) (broadcastInDim S8x8192 ![] bcast_S_S8x8192 E) (ix2 H X) = (T (ix2 H X) + Ideal.log (L (ix2 H X))) * E ix0 := by
  pointwise

theorem lse_at (H : Fin 8) (X : Fin 8192) : lse q k (ix2 H X) = (top q k (ix2 H X) + Ideal.log (lsum q k (top q k) (ix2 H X))) * log2e ix0 :=
  logsum_at _ _ _ H X

/-- Column `a` of head `H`, among the 512 columns of the output's gradient. -/
def ocol (H : Fin 8) (a : Fin 64) : Fin 512 := ⟨64 * H.val + a.val, by omega⟩

theorem delta_at (H : Fin 8) (X : Fin 8192) : delta q k v d (ix2 H X) = ∑ a : Fin 64, d (ix2 X (ocol H a)) * out q k v (ix3 X H a) := by
  unfold ocol
  pointwise [delta]
  exact Finset.sum_congr rfl fun a _ => congrArg (fun j => d (ix2 X j) * out q k v (ix3 X H a)) (Fin.ext (by show H.val * 64 + a.val = 64 * H.val + a.val; omega))

theorem qmul_at (X : Fin 8192) (H : Fin 8) (a : Fin 96) : mulf q (broadcastInDim S8192x8x96 ![] bcast_S_S8192x8x96 qs) (ix3 X H a) = q (ix3 X H a) * qs ix0 := by
  pointwise

theorem padded_low (x : FVec Ideal S8192x8x96 .f32) (X : Fin 8192) (H : Fin 8) (a : Fin 96) : padded x (ix2 X (hcol H ⟨a.val, by omega⟩)) = x (ix3 X H a) := by
  unfold hcol
  pointwise [padded]
  rw [dif_pos (by omega)]
  exact congrArg (fun j => x (ix3 X H j)) (Fin.ext (by show (128 * H.val + a.val) % 128 = a.val; omega))

theorem padded_high (x : FVec Ideal S8192x8x96 .f32) (X : Fin 8192) (H : Fin 8) (a : Fin 32) : padded x (ix2 X (hcol H ⟨96 + a.val, by omega⟩)) = 0 := by
  unfold hcol
  pointwise [padded]
  rw [dif_neg (by omega)]
  exact sitofp_zero

/-! Each head of the values is in its own half of its 128 columns, and the other half is zero. -/

theorem vPart0_at (Y : Fin 8192) (a : Fin 64) : vPart0 v (ix2 Y ⟨a.val, by omega⟩) = v (ix3 Y 0 a) ∧ vPart0 v (ix2 Y ⟨64 + a.val, by omega⟩) = 0 := by
  constructor <;> pointwise [vPart0]

theorem vOp0_at (Y : Fin 8192) (a : Fin 128) : vOp v (ix2 Y (hcol 0 a)) = vPart0 v (ix2 Y a) := by
  unfold hcol
  pointwise [vOp]

theorem vPart1_at (Y : Fin 8192) (a : Fin 64) : vPart1 v (ix2 Y ⟨64 + a.val, by omega⟩) = v (ix3 Y 1 a) ∧ vPart1 v (ix2 Y ⟨a.val, by omega⟩) = 0 := by
  constructor <;> pointwise [vPart1]

theorem vOp1_at (Y : Fin 8192) (a : Fin 128) : vOp v (ix2 Y (hcol 1 a)) = vPart1 v (ix2 Y a) := by
  unfold hcol
  pointwise [vOp]

theorem vPart2_at (Y : Fin 8192) (a : Fin 64) : vPart2 v (ix2 Y ⟨a.val, by omega⟩) = v (ix3 Y 2 a) ∧ vPart2 v (ix2 Y ⟨64 + a.val, by omega⟩) = 0 := by
  constructor <;> pointwise [vPart2]

theorem vOp2_at (Y : Fin 8192) (a : Fin 128) : vOp v (ix2 Y (hcol 2 a)) = vPart2 v (ix2 Y a) := by
  unfold hcol
  pointwise [vOp]
  repeat rw [dif_neg (by omega)]
  rw [dif_pos (by omega)]
  exact congrArg (fun j => vPart2 v (ix2 Y j)) (Fin.ext (by show 256 + a.val - 128 - 128 = a.val; omega))

theorem vPart3_at (Y : Fin 8192) (a : Fin 64) : vPart3 v (ix2 Y ⟨64 + a.val, by omega⟩) = v (ix3 Y 3 a) ∧ vPart3 v (ix2 Y ⟨a.val, by omega⟩) = 0 := by
  constructor <;> pointwise [vPart3]

theorem vOp3_at (Y : Fin 8192) (a : Fin 128) : vOp v (ix2 Y (hcol 3 a)) = vPart3 v (ix2 Y a) := by
  unfold hcol
  pointwise [vOp]
  repeat rw [dif_neg (by omega)]
  rw [dif_pos (by omega)]
  exact congrArg (fun j => vPart3 v (ix2 Y j)) (Fin.ext (by show 384 + a.val - 128 - 128 - 128 = a.val; omega))

theorem vPart4_at (Y : Fin 8192) (a : Fin 64) : vPart4 v (ix2 Y ⟨a.val, by omega⟩) = v (ix3 Y 4 a) ∧ vPart4 v (ix2 Y ⟨64 + a.val, by omega⟩) = 0 := by
  constructor <;> pointwise [vPart4]

theorem vOp4_at (Y : Fin 8192) (a : Fin 128) : vOp v (ix2 Y (hcol 4 a)) = vPart4 v (ix2 Y a) := by
  unfold hcol
  pointwise [vOp]
  repeat rw [dif_neg (by omega)]
  rw [dif_pos (by omega)]
  exact congrArg (fun j => vPart4 v (ix2 Y j)) (Fin.ext (by show 512 + a.val - 128 - 128 - 128 - 128 = a.val; omega))

theorem vPart5_at (Y : Fin 8192) (a : Fin 64) : vPart5 v (ix2 Y ⟨64 + a.val, by omega⟩) = v (ix3 Y 5 a) ∧ vPart5 v (ix2 Y ⟨a.val, by omega⟩) = 0 := by
  constructor <;> pointwise [vPart5]

theorem vOp5_at (Y : Fin 8192) (a : Fin 128) : vOp v (ix2 Y (hcol 5 a)) = vPart5 v (ix2 Y a) := by
  unfold hcol
  pointwise [vOp]
  repeat rw [dif_neg (by omega)]
  rw [dif_pos (by omega)]
  exact congrArg (fun j => vPart5 v (ix2 Y j)) (Fin.ext (by show 640 + a.val - 128 - 128 - 128 - 128 - 128 = a.val; omega))

theorem vPart6_at (Y : Fin 8192) (a : Fin 64) : vPart6 v (ix2 Y ⟨a.val, by omega⟩) = v (ix3 Y 6 a) ∧ vPart6 v (ix2 Y ⟨64 + a.val, by omega⟩) = 0 := by
  constructor <;> pointwise [vPart6]

theorem vOp6_at (Y : Fin 8192) (a : Fin 128) : vOp v (ix2 Y (hcol 6 a)) = vPart6 v (ix2 Y a) := by
  unfold hcol
  pointwise [vOp]
  repeat rw [dif_neg (by omega)]
  rw [dif_pos (by omega)]
  exact congrArg (fun j => vPart6 v (ix2 Y j)) (Fin.ext (by show 768 + a.val - 128 - 128 - 128 - 128 - 128 - 128 = a.val; omega))

theorem vPart7_at (Y : Fin 8192) (a : Fin 64) : vPart7 v (ix2 Y ⟨64 + a.val, by omega⟩) = v (ix3 Y 7 a) ∧ vPart7 v (ix2 Y ⟨a.val, by omega⟩) = 0 := by
  constructor <;> pointwise [vPart7]

theorem vOp7_at (Y : Fin 8192) (a : Fin 128) : vOp v (ix2 Y (hcol 7 a)) = vPart7 v (ix2 Y a) := by
  unfold hcol
  pointwise [vOp]
  repeat rw [dif_neg (by omega)]
  exact congrArg (fun j => vPart7 v (ix2 Y j)) (Fin.ext (by show 896 + a.val - 128 - 128 - 128 - 128 - 128 - 128 - 128 = a.val; omega))

end Cert.AttnBwdIdeal.HostV
-- ==== Proof.AttnFin.lean ====
/- The arrays the attention backward kernel leaves, whole. -/
module

public import proofs.«01_k».proof.Proof.AttnArr

@[expose] public section

set_option maxRecDepth 16384

noncomputable section

open Idealize.ShloMosaic Idealize.ShloMosaic.TcCoe Idealize.SL.Sem
open Idealize.ShloMosaic.Pipeline (Dat)

namespace Cert.AttnBwdIdeal.Arr

open Cert.AttnBwdIdeal Cert.AttnBwdIdeal.Gen Cert.AttnBwdIdeal.Block

variable (m : (ℓ : Loc nD τ sig) → Buf (Elt Ideal) ℓ) (c : Dev nD)

/-- The gradient of the keys, by row and column. -/
def DKa : FVec Ideal S8192x1024 .f32 := fun y => DK m c (y 0) (headOf (y 1)) (placeOf (y 1))

/-- The gradient of the values, by row and column. -/
def DVa : FVec Ideal S8192x1024 .f32 := fun y => DV m c (y 0) (headOf (y 1)) (placeOf (y 1))

/-- The gradient of the queries, by row and column. -/
def DQa : FVec Ideal S8192x1024 .f32 := fun y => DQ m c (y 0) (headOf (y 1)) (placeOf (y 1))

/-- The keys' gradient as the kernel leaves it. -/
theorem final_dk : (Body.dats m 0 c).arrAt 7 (cfgs 0).N = DKa m c := by
  refine (Body.dats m 0 c).arrAt_eq_of_covers 7 _ (by decide +kernel) fun t _ y => ?_
  blk_simp
  rw [Body.after_dk]
  have key : ∀ (r : Fin 512) (j : Fin 256), Body.dkOf m c t (Body.dqIn m c t) (ix2 r j) = DKa m c (ix2 (krow t r) ⟨256 * (t.val / 16) + j.val, by have := lt_of_lt_of_eq t.isLt N_0; omega⟩) := by
    intro r j
    have hj : j = col ⟨j.val / 128, by omega⟩ ⟨j.val % 128, by omega⟩ := Fin.ext (by show j.val = 128 * (j.val / 128) + j.val % 128; omega)
    rw [hj, dk_point, ← hj]
    refine Eq.trans (b := DK m c (krow t r) (headOf ⟨256 * (t.val / 16) + j.val, by have := lt_of_lt_of_eq t.isLt N_0; omega⟩) (placeOf ⟨256 * (t.val / 16) + j.val, by have := lt_of_lt_of_eq t.isLt N_0; omega⟩)) ?_ rfl
    exact congrArg₂ (DK m c (krow t r)) (Fin.ext (by show 2 * (t.val / 16) + j.val / 128 = (256 * (t.val / 16) + j.val) / 128; omega)) (Fin.ext (by show j.val % 128 = (256 * (t.val / 16) + j.val) % 128; omega))
  idx_vars y
  rw [key]
  generalize DKa m c = G
  unfold krow
  blk_point [idx t]

/-- The values' gradient as the kernel leaves it. -/
theorem final_dv : (Body.dats m 0 c).arrAt 8 (cfgs 0).N = DVa m c := by
  refine (Body.dats m 0 c).arrAt_eq_of_covers 8 _ (by decide +kernel) fun t _ y => ?_
  blk_simp
  rw [Body.after_dv]
  have key : ∀ (r : Fin 512) (j : Fin 256), Body.dvOf m c t (Body.dqIn m c t) (ix2 r j) = DVa m c (ix2 (krow t r) ⟨256 * (t.val / 16) + j.val, by have := lt_of_lt_of_eq t.isLt N_0; omega⟩) := by
    intro r j
    have hj : j = col ⟨j.val / 128, by omega⟩ ⟨j.val % 128, by omega⟩ := Fin.ext (by show j.val = 128 * (j.val / 128) + j.val % 128; omega)
    rw [hj, dv_point, ← hj]
    refine Eq.trans (b := DV m c (krow t r) (headOf ⟨256 * (t.val / 16) + j.val, by have := lt_of_lt_of_eq t.isLt N_0; omega⟩) (placeOf ⟨256 * (t.val / 16) + j.val, by have := lt_of_lt_of_eq t.isLt N_0; omega⟩)) ?_ rfl
    exact congrArg₂ (DV m c (krow t r)) (Fin.ext (by show 2 * (t.val / 16) + j.val / 128 = (256 * (t.val / 16) + j.val) / 128; omega)) (Fin.ext (by show j.val % 128 = (256 * (t.val / 16) + j.val) % 128; omega))
  idx_vars y
  rw [key]
  generalize DVa m c = G
  unfold krow
  blk_point [idx t]

/-- The queries' gradient as the kernel leaves it. -/
theorem final_dq : (Body.dats m 0 c).arrAt 6 (cfgs 0).N = DQa m c := by
  refine (Body.dats m 0 c).arrAt_eq_of_covers 6 _ (by decide +kernel) fun t hf y => ?_
  blk_simp
  rw [Body.after_dq]
  have key : ∀ (X : Fin 8192) (j : Fin 256), Body.dqAt m c t.val (ix2 X j) = DQa m c (ix2 X ⟨256 * (t.val / 16) + j.val, by have := lt_of_lt_of_eq t.isLt N_0; omega⟩) := by
    intro X j
    have hj : j = col ⟨j.val / 128, by omega⟩ ⟨j.val % 128, by omega⟩ := Fin.ext (by show j.val = 128 * (j.val / 128) + j.val % 128; omega)
    rw [hj, dq_last m c t ((flush0_6 t).mp hf), ← hj]
    refine Eq.trans (b := DQ m c X (headOf ⟨256 * (t.val / 16) + j.val, by have := lt_of_lt_of_eq t.isLt N_0; omega⟩) (placeOf ⟨256 * (t.val / 16) + j.val, by have := lt_of_lt_of_eq t.isLt N_0; omega⟩)) ?_ rfl
    exact congrArg₂ (DQ m c X) (Fin.ext (by show 2 * (t.val / 16) + j.val / 128 = (256 * (t.val / 16) + j.val) / 128; omega)) (Fin.ext (by show j.val % 128 = (256 * (t.val / 16) + j.val) % 128; omega))
  idx_vars y
  rw [key]
  generalize DQa m c = G
  blk_point [idx t]

end Cert.AttnBwdIdeal.Arr
-- ==== Proof.AttnTail.lean ====
/- The results of the attention backward kernel's program: the arrays the kernel leaves, scaled and cut to the heads' own
   columns. -/
module

public import proofs.«01_k».proof.Proof.AttnFin
public import proofs.«01_k».proof.Proof.AttnHost

@[expose] public section

set_option maxRecDepth 16384

noncomputable section

open Idealize.ShloMosaic Idealize.ShloMosaic.TcCoe Idealize.SL.Sem
open Idealize.ShloMosaic.StableHlo

namespace Cert.AttnBwdIdeal.Tail

open Cert.AttnBwdIdeal Cert.AttnBwdIdeal.Gen Cert.AttnBwdIdeal.Arr

/-- The queries' gradient from the kernel's array. -/
def dqOut (x : FVec Ideal S8192x1024 .f32) (l s : FVec Ideal S_ .f32) : FVec Ideal S8192x8x96 .f32 :=
  mulf (extractStridedSlice S8192x8x96 ![0, 0, 0] (shapeCast S8192x8x128 (mulf x (broadcastInDim S8192x1024 ![] bcast_S_S8192x1024 l)) shapeCasts_S8192x1024_S8192x8x128) slices_S8192x8x128_S8192x8x96_0_0_0)
    (broadcastInDim S8192x8x96 ![] bcast_S_S8192x8x96 s)

/-- The keys' gradient from the kernel's array. -/
def dkOut (x : FVec Ideal S8192x1024 .f32) (l : FVec Ideal S_ .f32) : FVec Ideal S8192x8x96 .f32 :=
  extractStridedSlice S8192x8x96 ![0, 0, 0] (shapeCast S8192x8x128 (mulf x (broadcastInDim S8192x1024 ![] bcast_S_S8192x1024 l)) shapeCasts_S8192x1024_S8192x8x128) slices_S8192x8x128_S8192x8x96_0_0_0

/-- Head 0's own columns. -/
def part0 (x : FVec Ideal S8192x1024 .f32) : FVec Ideal S8192x1x64 .f32 :=
  broadcastInDim S8192x1x64 ![0, 2] bcast_S8192x64_S8192x1x64_0_2 (shapeCast S8192x64 (extractStridedSlice S8192x1x64 ![0, 0, 0] (shapeCast S8192x8x128 x shapeCasts_S8192x1024_S8192x8x128) slices_S8192x8x128_S8192x1x64_0_0_0) shapeCasts_S8192x1x64_S8192x64)

/-- Head 1's own columns. -/
def part1 (x : FVec Ideal S8192x1024 .f32) : FVec Ideal S8192x1x64 .f32 :=
  broadcastInDim S8192x1x64 ![0, 2] bcast_S8192x64_S8192x1x64_0_2 (shapeCast S8192x64 (extractStridedSlice S8192x1x64 ![0, 1, 64] (shapeCast S8192x8x128 x shapeCasts_S8192x1024_S8192x8x128) slices_S8192x8x128_S8192x1x64_0_1_64) shapeCasts_S8192x1x64_S8192x64)

/-- Head 2's own columns. -/
def part2 (x : FVec Ideal S8192x1024 .f32) : FVec Ideal S8192x1x64 .f32 :=
  broadcastInDim S8192x1x64 ![0, 2] bcast_S8192x64_S8192x1x64_0_2 (shapeCast S8192x64 (extractStridedSlice S8192x1x64 ![0, 2, 0] (shapeCast S8192x8x128 x shapeCasts_S8192x1024_S8192x8x128) slices_S8192x8x128_S8192x1x64_0_2_0) shapeCasts_S8192x1x64_S8192x64)

/-- Head 3's own columns. -/
def part3 (x : FVec Ideal S8192x1024 .f32) : FVec Ideal S8192x1x64 .f32 :=
  broadcastInDim S8192x1x64 ![0, 2] bcast_S8192x64_S8192x1x64_0_2 (shapeCast S8192x64 (extractStridedSlice S8192x1x64 ![0, 3, 64] (shapeCast S8192x8x128 x shapeCasts_S8192x1024_S8192x8x128) slices_S8192x8x128_S8192x1x64_0_3_64) shapeCasts_S8192x1x64_S8192x64)

/-- Head 4's own columns. -/
def part4 (x : FVec Ideal S8192x1024 .f32) : FVec Ideal S8192x1x64 .f32 :=
  broadcastInDim S8192x1x64 ![0, 2] bcast_S8192x64_S8192x1x64_0_2 (shapeCast S8192x64 (extractStridedSlice S8192x1x64 ![0, 4, 0] (shapeCast S8192x8x128 x shapeCasts_S8192x1024_S8192x8x128) slices_S8192x8x128_S8192x1x64_0_4_0) shapeCasts_S8192x1x64_S8192x64)

/-- Head 5's own columns. -/
def part5 (x : FVec Ideal S8192x1024 .f32) : FVec Ideal S8192x1x64 .f32 :=
  broadcastInDim S8192x1x64 ![0, 2] bcast_S8192x64_S8192x1x64_0_2 (shapeCast S8192x64 (extractStridedSlice S8192x1x64 ![0, 5, 64] (shapeCast S8192x8x128 x shapeCasts_S8192x1024_S8192x8x128) slices_S8192x8x128_S8192x1x64_0_5_64) shapeCasts_S8192x1x64_S8192x64)

/-- Head 6's own columns. -/
def part6 (x : FVec Ideal S8192x1024 .f32) : FVec Ideal S8192x1x64 .f32 :=
  broadcastInDim S8192x1x64 ![0, 2] bcast_S8192x64_S8192x1x64_0_2 (shapeCast S8192x64 (extractStridedSlice S8192x1x64 ![0, 6, 0] (shapeCast S8192x8x128 x shapeCasts_S8192x1024_S8192x8x128) slices_S8192x8x128_S8192x1x64_0_6_0) shapeCasts_S8192x1x64_S8192x64)

/-- Head 7's own columns. -/
def part7 (x : FVec Ideal S8192x1024 .f32) : FVec Ideal S8192x1x64 .f32 :=
  broadcastInDim S8192x1x64 ![0, 2] bcast_S8192x64_S8192x1x64_0_2 (shapeCast S8192x64 (extractStridedSlice S8192x1x64 ![0, 7, 64] (shapeCast S8192x8x128 x shapeCasts_S8192x1024_S8192x8x128) slices_S8192x8x128_S8192x1x64_0_7_64) shapeCasts_S8192x1x64_S8192x64)

/-- The values' gradient from the kernel's array. -/
def dvOut (x : FVec Ideal S8192x1024 .f32) : FVec Ideal S8192x8x64 .f32 :=
  concatenate S8192x8x64 1 [⟨S8192x1x64, part0 x⟩, ⟨S8192x1x64, part1 x⟩, ⟨S8192x1x64, part2 x⟩, ⟨S8192x1x64, part3 x⟩, ⟨S8192x1x64, part4 x⟩, ⟨S8192x1x64, part5 x⟩, ⟨S8192x1x64, part6 x⟩, ⟨S8192x1x64, part7 x⟩] concatenates_S8192x1x64_S8192x1x64_S8192x1x64_S8192x1x64_S8192x1x64_S8192x1x64_S8192x1x64_S8192x1x64_S8192x8x64_d1

variable (m : (ℓ : Loc nD τ sig) → Buf (Elt Ideal) ℓ) (c : Dev nD)

/-- The valuation the region leaves. -/
abbrev W := Pipeline.withArrays (cfgs 0).spec c (V0 m c) fun w => (Body.dats m 0 c).arrAt w (cfgs 0).N

theorem inj : Function.Injective (Pipeline.arrRef spec0) := by decide

theorem W_dq : W m c (Proc.devRef .tc main_v78_0) = DQa m c :=
  (Pipeline.withArrays_arr _ inj c (V0 m c) _ 6).trans (final_dq m c)
theorem W_dk : W m c (Proc.devRef .tc main_v78_1) = DKa m c :=
  (Pipeline.withArrays_arr _ inj c (V0 m c) _ 7).trans (final_dk m c)
theorem W_dv : W m c (Proc.devRef .tc main_v78_2) = DVa m c :=
  (Pipeline.withArrays_arr _ inj c (V0 m c) _ 8).trans (final_dv m c)
theorem W_ln2 : W m c (Proc.devRef .tc main_v0) = HostV.ln2 := by
  refine (Pipeline.withArrays_of_ne _ c (V0 m c) _ main_v0 (by exact (by decide : ∀ w, Pipeline.arrRef spec0 w ≠ main_v0))).trans ?_
  unfold V0
  simp only [hostOps0, hostOps0_1, hostOps0_2, hostOps0_3, hostOps0_4, hostOps0_5, hostOps0_6, List.flatten_cons, List.flatten_nil, List.append_nil, List.cons_append, List.nil_append, List.singleton_append]
  after_results_simp
  rfl
theorem W_qs : W m c (Proc.devRef .tc main_v2) = HostV.qs := by
  refine (Pipeline.withArrays_of_ne _ c (V0 m c) _ main_v2 (by exact (by decide : ∀ w, Pipeline.arrRef spec0 w ≠ main_v2))).trans ?_
  unfold V0
  simp only [hostOps0, hostOps0_1, hostOps0_2, hostOps0_3, hostOps0_4, hostOps0_5, hostOps0_6, List.flatten_cons, List.flatten_nil, List.append_nil, List.cons_append, List.nil_append, List.singleton_append]
  after_results_simp
  rfl

theorem out_dq : Pipeline.afterTail₀ cfgs (Body.dats m) 0 (V0 m) [hostOps1] c main_v110 = dqOut (DQa m c) HostV.ln2 HostV.qs := by
  rw [← W_dq m c, ← W_ln2 m c, ← W_qs m c]
  show StableHlo.after [hostOps1].flatten (W m c) _ = _
  generalize W m c = U
  simp only [hostOps1, List.flatten_cons, List.flatten_nil, List.append_nil]
  after_results_simp
  rfl

theorem out_dk : Pipeline.afterTail₀ cfgs (Body.dats m) 0 (V0 m) [hostOps1] c main_v114 = dkOut (DKa m c) HostV.ln2 := by
  rw [← W_dk m c, ← W_ln2 m c]
  show StableHlo.after [hostOps1].flatten (W m c) _ = _
  generalize W m c = U
  simp only [hostOps1, List.flatten_cons, List.flatten_nil, List.append_nil]
  after_results_simp
  rfl

theorem out_dv : Pipeline.afterTail₀ cfgs (Body.dats m) 0 (V0 m) [hostOps1] c main_v104 = dvOut (DVa m c) := by
  rw [← W_dv m c]
  show StableHlo.after [hostOps1].flatten (W m c) _ = _
  generalize W m c = U
  simp only [hostOps1, List.flatten_cons, List.flatten_nil, List.append_nil]
  after_results_simp
  rfl

theorem dqOut_at (x : FVec Ideal S8192x1024 .f32) (l s : FVec Ideal S_ .f32) (X : Fin 8192) (H : Fin 8) (a : Fin 96) :
    dqOut x l s (ix3 X H a) = x (ix2 X (hcol H ⟨a.val, by omega⟩)) * l ix0 * s ix0 := by
  unfold hcol
  pointwise [dqOut]
  refine congrArg (fun j => x (ix2 X j) * l ix0 * s ix0) (Fin.ext ?_)
  show H.val * 128 + a.val = 128 * H.val + a.val
  omega

theorem dkOut_at (x : FVec Ideal S8192x1024 .f32) (l : FVec Ideal S_ .f32) (X : Fin 8192) (H : Fin 8) (a : Fin 96) :
    dkOut x l (ix3 X H a) = x (ix2 X (hcol H ⟨a.val, by omega⟩)) * l ix0 := by
  unfold hcol
  pointwise [dkOut]
  refine congrArg (fun j => x (ix2 X j) * l ix0) (Fin.ext ?_)
  show H.val * 128 + a.val = 128 * H.val + a.val
  omega

/-- Place `a` of head `H`'s own half of its 128 columns. -/
def own (H : Fin 8) (a : Fin 64) : Fin 128 := ⟨64 * (H.val % 2) + a.val, by omega⟩

theorem dvOut_at (x : FVec Ideal S8192x1024 .f32) (X : Fin 8192) (H : Fin 8) (a : Fin 64) :
    dvOut x (ix3 X H a) = x (ix2 X (hcol H (own H a))) := by
  fin_cases H <;> (unfold hcol own; pointwise [dvOut, part0, part1, part2, part3, part4, part5, part6, part7])

end Cert.AttnBwdIdeal.Tail
-- ==== Proof.AttnMath.lean ====
/- Causal attention and its gradients on the real numbers: the formulas both programs compute, and the steps from the
   extended reals to them. -/
module

public import proofs.«01_k».proof.Proof.Finite

@[expose] public section

noncomputable section

namespace Cert.AttnMath

open Idealize.ShloMosaic

/-- A maximum taken from minus infinity over values none of which is infinite above and one of which is real, is real. -/
theorem fold_max_coe {n : ℕ} (s : Fin n → EReal) (htop : ∀ i, s i ≠ ⊤) (i : Fin n) (hbot : s i ≠ ⊥) :
    ∃ M : ℝ, Finset.univ.fold max ⊥ s = (M : EReal) := by
  have h1 : Finset.univ.fold max ⊥ s = Finset.univ.sup s := rfl
  have h2 : Finset.univ.sup s ≠ ⊤ := ne_of_lt ((Finset.sup_lt_iff bot_lt_top).mpr fun j _ => lt_top_iff_ne_top.mpr (htop j))
  have h3 : Finset.univ.sup s ≠ ⊥ := fun e => hbot (le_bot_iff.mp (e ▸ Finset.le_sup (f := s) (Finset.mem_univ i)))
  exact ⟨(Finset.univ.sup s).toReal, by rw [h1, EReal.coe_toReal h2 h3]⟩

variable (Q K : Fin 8192 → Fin 8 → Fin 96 → ℝ) (W D : Fin 8192 → Fin 8 → Fin 64 → ℝ) (M : Fin 8 → Fin 8192 → ℝ) (s : ℝ)

/-- The score of key `Y` for query `X` in head `H`, not scaled. -/
def raw (H : Fin 8) (X Y : Fin 8192) : ℝ := ∑ c, Q X H c * K Y H c

/-- The exponential of the scaled score less the row's value; nothing where the key comes after the query. -/
def ex (H : Fin 8) (X Y : Fin 8192) : ℝ := if Y.val ≤ X.val then Real.exp (raw Q K H X Y * s - M H X) else 0

/-- The row's sum, -/
def sm (H : Fin 8) (X : Fin 8192) : ℝ := ∑ Y, ex Q K M s H X Y

/-- the weight, -/
def pr (H : Fin 8) (X Y : Fin 8192) : ℝ := ex Q K M s H X Y / sm Q K M s H X

/-- its gradient, -/
def dp (H : Fin 8) (X Y : Fin 8192) : ℝ := ∑ a, W Y H a * D X H a

/-- the row's mean of it, -/
def dl (H : Fin 8) (X : Fin 8192) : ℝ := ∑ Y, pr Q K M s H X Y * dp W D H X Y

/-- and the score's gradient. -/
def ds (H : Fin 8) (X Y : Fin 8192) : ℝ := pr Q K M s H X Y * (dp W D H X Y - dl Q K W D M s H X)

/-- The gradient of the queries, -/
def gq (X : Fin 8192) (H : Fin 8) (c : Fin 96) : ℝ := ∑ Y, ds Q K W D M s H X Y * s * K Y H c

/-- of the keys -/
def gk (Y : Fin 8192) (H : Fin 8) (c : Fin 96) : ℝ := ∑ X, ds Q K W D M s H X Y * s * Q X H c

/-- and of the values. -/
def gv (Y : Fin 8192) (H : Fin 8) (a : Fin 64) : ℝ := ∑ X, pr Q K M s H X Y * D X H a

theorem ex_nonneg (H : Fin 8) (X Y : Fin 8192) : 0 ≤ ex Q K M s H X Y := by
  unfold ex
  split
  · exact (Real.exp_pos _).le
  · exact le_refl _

/-- The row's sum is positive: the query sees itself. -/
theorem sm_pos (H : Fin 8) (X : Fin 8192) : 0 < sm Q K M s H X := by
  refine Finset.sum_pos' (fun Y _ => ex_nonneg Q K M s H X Y) ⟨X, Finset.mem_univ _, ?_⟩
  unfold ex
  rw [if_pos (le_refl _)]
  exact Real.exp_pos _

/-- The masked score's exponential. -/
theorem exp_score (H : Fin 8) (X Y : Fin 8192) :
    Ideal.exp ((if Y.val ≤ X.val then ((raw Q K H X Y * s : ℝ) : EReal) else ⊥) - (M H X : EReal)) = (ex Q K M s H X Y : EReal) := by
  unfold ex
  split
  · rw [← EReal.coe_sub]; rfl
  · rw [EReal.bot_sub]; rfl

/-- A quotient of reals by a positive one. -/
theorem div_pos_coe (a b : ℝ) (hb : 0 < b) : Ideal.div (a : EReal) (b : EReal) = ((a / b : ℝ) : EReal) := by
  rw [Ideal.div_coe hb.ne', ← EReal.coe_mul, mul_one_div]

/-- The weight by powers of two from the log-sum. -/
theorem exp2_weight (H : Fin 8) (X Y : Fin 8192) (h : Y.val ≤ X.val) :
    Ideal.exp2 (((raw Q K H X Y * (s * (1 / Real.log 2)) : ℝ) : EReal) - (((M H X + Real.log (sm Q K M s H X)) * (1 / Real.log 2) : ℝ) : EReal)) = (pr Q K M s H X Y : EReal) := by
  have h2 : Real.log 2 ≠ 0 := (Real.log_pos (by norm_num)).ne'
  rw [← EReal.coe_sub, Ideal.exp2_coe]
  refine congrArg Real.toEReal ?_
  rw [Real.rpow_eq_pow, Real.rpow_def_of_pos (by norm_num)]
  unfold pr ex
  rw [if_pos h]
  have e : Real.log 2 * (raw Q K H X Y * (s * (1 / Real.log 2)) - (M H X + Real.log (sm Q K M s H X)) * (1 / Real.log 2))
      = (raw Q K H X Y * s - M H X) - Real.log (sm Q K M s H X) := by
    field_simp
    ring
  rw [e, Real.exp_sub, Real.exp_log (sm_pos Q K M s H X)]

/-- A weight is nothing where the key comes after the query. -/
theorem pr_after (H : Fin 8) (X Y : Fin 8192) (h : ¬Y.val ≤ X.val) : pr Q K M s H X Y = 0 := by
  unfold pr ex
  rw [if_neg h, zero_div]

/-- The row sum of output times gradient is the row's mean of the weights' gradient. -/
theorem dl_eq (H : Fin 8) (X : Fin 8192) : ∑ a, D X H a * ∑ Y, W Y H a * pr Q K M s H X Y = dl Q K W D M s H X := by
  unfold dl dp
  simp only [Finset.mul_sum]
  rw [Finset.sum_comm]
  exact Finset.sum_congr rfl fun Y _ => Finset.sum_congr rfl fun a _ => by ring

/-- The softmax's gradient as differentiation writes it. -/
theorem ds_eq (H : Fin 8) (X Y : Fin 8192) :
    (dp W D H X Y / sm Q K M s H X + -∑ Z, dp W D H X Z * (1 / (sm Q K M s H X * sm Q K M s H X)) * ex Q K M s H X Z) * ex Q K M s H X Y
      = ds Q K W D M s H X Y := by
  have hl : sm Q K M s H X ≠ 0 := (sm_pos Q K M s H X).ne'
  have e : ∑ Z, dp W D H X Z * (1 / (sm Q K M s H X * sm Q K M s H X)) * ex Q K M s H X Z = dl Q K W D M s H X / sm Q K M s H X := by
    unfold dl pr
    rw [Finset.sum_div]
    exact Finset.sum_congr rfl fun Z _ => by field_simp
  rw [e]
  unfold ds pr
  field_simp
  ring

end Cert.AttnMath
-- ==== Proof.AttnKer.lean ====
/- The attention backward kernel's program computes the gradients of causal attention, on finite arguments. -/
module

public import proofs.«01_k».proof.Proof.AttnHostAt
public import proofs.«01_k».proof.Proof.AttnTail
public import proofs.«01_k».proof.Proof.AttnMath

@[expose] public section

set_option maxRecDepth 16384

noncomputable section

open Idealize.ShloMosaic Idealize.ShloMosaic.TcCoe
open Cert.AttnMath

namespace Cert.AttnBwdIdeal.Ker

open Cert.AttnBwdIdeal Cert.AttnBwdIdeal.Gen Cert.AttnBwdIdeal.Arr Cert.AttnBwdIdeal.HostV Cert.AttnBwdIdeal.Tail

/-- The scale of the scores, as a real number. -/
def s0 : ℝ := 3424635 / 33554432

theorem S0_eq : S0 = (s0 : EReal) := by
  unfold s0
  simp [Ideal.ofBits, Ideal.ieee, -EReal.coe_mul]
  norm_num

theorem two_eq : Ideal.ofBits FTy.f32 0x40000000#32 = ((2 : ℝ) : EReal) := by
  simp [Ideal.ofBits, Ideal.ieee, -EReal.coe_mul]
  norm_num

theorem one_eq : Ideal.ofBits FTy.f32 0x3F800000#32 = ((1 : ℝ) : EReal) := by
  simp [Ideal.ofBits, Ideal.ieee, -EReal.coe_mul]
  norm_num

theorem ln2_eq (i) : ln2 i = (Real.log 2 : EReal) := by
  rw [ln2_at, two_eq, Ideal.log_coe, if_neg (by norm_num)]

theorem log2e_eq (i) : log2e i = ((1 / Real.log 2 : ℝ) : EReal) := by
  rw [log2e_at, two_eq, one_eq, Ideal.log_coe, if_neg (by norm_num), div_pos_coe _ _ (Real.log_pos (by norm_num))]

theorem qs_eq (i) : qs i = ((s0 * (1 / Real.log 2) : ℝ) : EReal) := by
  rw [qs_at, S0_eq, log2e_eq, ← EReal.coe_mul]

/-- The other half of head `H`'s 128 columns. -/
def other (H : Fin 8) (a : Fin 64) : Fin 128 := ⟨64 * (1 - H.val % 2) + a.val, by omega⟩

/-- A sum over a head's 128 columns, half by half. -/
theorem sum_halves (H : Fin 8) (f : Fin 128 → EReal) : ∑ c, f c = (∑ a, f (own H a)) + ∑ a, f (other H a) := by
  have h := Fin.sum_univ_add (a := 64) (b := 64) f
  refine h.trans ?_
  rcases Nat.mod_two_eq_zero_or_one H.val with e | e
  · refine congrArg₂ (fun a b : EReal => a + b) (Finset.sum_congr rfl fun a _ => congrArg f (Fin.ext ?_)) (Finset.sum_congr rfl fun a _ => congrArg f (Fin.ext ?_))
    · show a.val = 64 * (H.val % 2) + a.val; omega
    · show 64 + a.val = 64 * (1 - H.val % 2) + a.val; omega
  · refine (add_comm _ _).trans (congrArg₂ (fun a b : EReal => a + b) (Finset.sum_congr rfl fun a _ => congrArg f (Fin.ext ?_)) (Finset.sum_congr rfl fun a _ => congrArg f (Fin.ext ?_)))
    · show 64 + a.val = 64 * (H.val % 2) + a.val; omega
    · show a.val = 64 * (1 - H.val % 2) + a.val; omega

theorem vOp_own (v : FVec Ideal S8192x8x64 .f32) (Y : Fin 8192) (H : Fin 8) (a : Fin 64) :
    vOp v (ix2 Y (hcol H (own H a))) = v (ix3 Y H a) ∧ vOp v (ix2 Y (hcol H (other H a))) = 0 := by
  match H with
  | 0 => exact ⟨(vOp0_at v Y _).trans ((congrArg (fun j => vPart0 v (ix2 Y j)) (Fin.ext (by show 64 * 0 + a.val = a.val; omega))).trans (vPart0_at v Y a).1), (vOp0_at v Y _).trans ((congrArg (fun j => vPart0 v (ix2 Y j)) (Fin.ext (by show 64 * 1 + a.val = 64 + a.val; omega))).trans (vPart0_at v Y a).2)⟩
  | 1 => exact ⟨(vOp1_at v Y _).trans ((congrArg (fun j => vPart1 v (ix2 Y j)) (Fin.ext (by show 64 * 1 + a.val = 64 + a.val; omega))).trans (vPart1_at v Y a).1), (vOp1_at v Y _).trans ((congrArg (fun j => vPart1 v (ix2 Y j)) (Fin.ext (by show 64 * 0 + a.val = a.val; omega))).trans (vPart1_at v Y a).2)⟩
  | 2 => exact ⟨(vOp2_at v Y _).trans ((congrArg (fun j => vPart2 v (ix2 Y j)) (Fin.ext (by show 64 * 0 + a.val = a.val; omega))).trans (vPart2_at v Y a).1), (vOp2_at v Y _).trans ((congrArg (fun j => vPart2 v (ix2 Y j)) (Fin.ext (by show 64 * 1 + a.val = 64 + a.val; omega))).trans (vPart2_at v Y a).2)⟩
  | 3 => exact ⟨(vOp3_at v Y _).trans ((congrArg (fun j => vPart3 v (ix2 Y j)) (Fin.ext (by show 64 * 1 + a.val = 64 + a.val; omega))).trans (vPart3_at v Y a).1), (vOp3_at v Y _).trans ((congrArg (fun j => vPart3 v (ix2 Y j)) (Fin.ext (by show 64 * 0 + a.val = a.val; omega))).trans (vPart3_at v Y a).2)⟩
  | 4 => exact ⟨(vOp4_at v Y _).trans ((congrArg (fun j => vPart4 v (ix2 Y j)) (Fin.ext (by show 64 * 0 + a.val = a.val; omega))).trans (vPart4_at v Y a).1), (vOp4_at v Y _).trans ((congrArg (fun j => vPart4 v (ix2 Y j)) (Fin.ext (by show 64 * 1 + a.val = 64 + a.val; omega))).trans (vPart4_at v Y a).2)⟩
  | 5 => exact ⟨(vOp5_at v Y _).trans ((congrArg (fun j => vPart5 v (ix2 Y j)) (Fin.ext (by show 64 * 1 + a.val = 64 + a.val; omega))).trans (vPart5_at v Y a).1), (vOp5_at v Y _).trans ((congrArg (fun j => vPart5 v (ix2 Y j)) (Fin.ext (by show 64 * 0 + a.val = a.val; omega))).trans (vPart5_at v Y a).2)⟩
  | 6 => exact ⟨(vOp6_at v Y _).trans ((congrArg (fun j => vPart6 v (ix2 Y j)) (Fin.ext (by show 64 * 0 + a.val = a.val; omega))).trans (vPart6_at v Y a).1), (vOp6_at v Y _).trans ((congrArg (fun j => vPart6 v (ix2 Y j)) (Fin.ext (by show 64 * 1 + a.val = 64 + a.val; omega))).trans (vPart6_at v Y a).2)⟩
  | 7 => exact ⟨(vOp7_at v Y _).trans ((congrArg (fun j => vPart7 v (ix2 Y j)) (Fin.ext (by show 64 * 1 + a.val = 64 + a.val; omega))).trans (vPart7_at v Y a).1), (vOp7_at v Y _).trans ((congrArg (fun j => vPart7 v (ix2 Y j)) (Fin.ext (by show 64 * 0 + a.val = a.val; omega))).trans (vPart7_at v Y a).2)⟩

/-- Head `H`'s own half of the pair's columns. -/
theorem pcol_own (H : Fin 8) (a : Fin 64) : pcol H (own H a) = ocol H a :=
  Fin.ext (by show 128 * (H.val / 2) + (64 * (H.val % 2) + a.val) = 64 * H.val + a.val; omega)

variable (q k : FVec Ideal S8192x8x96 .f32) (v : FVec Ideal S8192x8x64 .f32) (d : FVec Ideal S8192x512 .f32)
variable (Q K : Fin 8192 → Fin 8 → Fin 96 → ℝ) (W D : Fin 8192 → Fin 8 → Fin 64 → ℝ) (M : Fin 8 → Fin 8192 → ℝ)
variable (hq : ∀ X H c, q (ix3 X H c) = (Q X H c : EReal)) (hk : ∀ X H c, k (ix3 X H c) = (K X H c : EReal))
variable (hv : ∀ X H a, v (ix3 X H a) = (W X H a : EReal)) (hd : ∀ X H a, d (ix2 X (ocol H a)) = (D X H a : EReal))
variable (hM : ∀ H X, top q k (ix2 H X) = (M H X : EReal))

include hq hk in
/-- The masked score of real arguments. -/
theorem score_eq (H : Fin 8) (X Y : Fin 8192) : score q k (ix3 H X Y) = if Y.val ≤ X.val then ((raw Q K H X Y * s0 : ℝ) : EReal) else ⊥ := by
  rw [score_at]
  refine if_congr Iff.rfl ?_ rfl
  rw [S0_eq, EReal.coe_mul]
  refine congrArg (fun a : EReal => a * (s0 : EReal)) ?_
  unfold raw
  rw [← Finite.sum_coe]
  exact Finset.sum_congr rfl fun c _ => by rw [hq, hk, EReal.coe_mul]

include hq hk in
/-- The rows' maxima are real. -/
theorem top_real (H : Fin 8) (X : Fin 8192) : ∃ M : ℝ, top q k (ix2 H X) = (M : EReal) := by
  rw [top_at]
  refine fold_max_coe _ (fun Y => ?_) X ?_
  · rw [score_eq q k Q K hq hk]
    split
    · exact EReal.coe_ne_top _
    · exact bot_ne_top
  · rw [score_eq q k Q K hq hk, if_pos (le_refl _)]
    exact EReal.coe_ne_bot _

include hq hk in
theorem expo_eq (t : FVec Ideal S8x8192 .f32) (ht : ∀ H X, t (ix2 H X) = (M H X : EReal)) (H : Fin 8) (X Y : Fin 8192) : expo q k t (ix3 H X Y) = (ex Q K M s0 H X Y : EReal) := by
  rw [expo_at, score_eq q k Q K hq hk, ht]
  exact exp_score Q K M s0 H X Y

include hq hk in
theorem lsum_eq (t : FVec Ideal S8x8192 .f32) (ht : ∀ H X, t (ix2 H X) = (M H X : EReal)) (H : Fin 8) (X : Fin 8192) : lsum q k t (ix2 H X) = (sm Q K M s0 H X : EReal) := by
  rw [lsum_at]
  unfold sm
  rw [← Finite.sum_coe]
  exact Finset.sum_congr rfl fun Y _ => expo_eq q k Q K M hq hk t ht H X Y

include hM in
theorem top'_eq (H : Fin 8) (X : Fin 8192) : top' q k (ix2 H X) = (M H X : EReal) := by
  rw [top'_at, hM]
  exact max_eq_right bot_le

include hq hk hM in
/-- The weights of real arguments. -/
theorem prob_eq (H : Fin 8) (X Y : Fin 8192) : prob q k (ix3 H X Y) = (pr Q K M s0 H X Y : EReal) := by
  rw [prob_at, expo_eq q k Q K M hq hk _ (top'_eq q k M hM), lsum_eq q k Q K M hq hk _ (top'_eq q k M hM), div_pos_coe _ _ (sm_pos Q K M s0 H X)]
  rfl

include hq hk hM in
theorem lse_eq (H : Fin 8) (X : Fin 8192) : lse q k (ix2 H X) = (((M H X + Real.log (sm Q K M s0 H X)) * (1 / Real.log 2) : ℝ) : EReal) := by
  rw [lse_at, hM, lsum_eq q k Q K M hq hk _ hM, log2e_eq, Ideal.log_coe, if_neg (not_le.mpr (sm_pos Q K M s0 H X)), ← EReal.coe_add, ← EReal.coe_mul]

include hq hk hv hd hM in
theorem delta_eq (H : Fin 8) (X : Fin 8192) : delta q k v d (ix2 H X) = (dl Q K W D M s0 H X : EReal) := by
  rw [delta_at, ← dl_eq, ← Finite.sum_coe]
  refine Finset.sum_congr rfl fun a _ => ?_
  rw [hd, out_at, EReal.coe_mul, ← Finite.sum_coe]
  refine congrArg (fun b : EReal => (D X H a : EReal) * b) (Finset.sum_congr rfl fun Y _ => ?_)
  rw [hv, prob_eq q k Q K M hq hk hM, EReal.coe_mul]

/-- The scaled queries as the kernel reads them. -/
theorem qOp_low (X : Fin 8192) (H : Fin 8) (a : Fin 96) : qOp q (ix2 X (hcol H ⟨a.val, by omega⟩)) = q (ix3 X H a) * qs ix0 := by
  unfold qOp
  exact (padded_low _ X H a).trans (qmul_at q X H a)

include hq in
theorem qOp_eq (X : Fin 8192) (H : Fin 8) (a : Fin 96) : qOp q (ix2 X (hcol H ⟨a.val, by omega⟩)) = ((Q X H a * (s0 * (1 / Real.log 2)) : ℝ) : EReal) := by
  rw [qOp_low, hq, qs_eq, ← EReal.coe_mul]

include hq hk in
/-- The scaled scores as the kernel forms them. -/
theorem dot_eq (H : Fin 8) (X Y : Fin 8192) :
    ∑ c : Fin 128, padded k (ix2 Y (hcol H c)) * qOp q (ix2 X (hcol H c)) = ((raw Q K H X Y * (s0 * (1 / Real.log 2)) : ℝ) : EReal) := by
  have h := Fin.sum_univ_add (a := 96) (b := 32) fun c : Fin 128 => padded k (ix2 Y (hcol H c)) * qOp q (ix2 X (hcol H c))
  refine h.trans ?_
  have h2 : ∑ a : Fin 32, padded k (ix2 Y (hcol H (Fin.natAdd 96 a))) * qOp q (ix2 X (hcol H (Fin.natAdd 96 a))) = 0 :=
    Finset.sum_eq_zero fun a _ => (congrArg (fun b : EReal => b * _) (padded_high k Y H a)).trans (zero_mul _)
  refine (congrArg (fun b : EReal => _ + b) h2).trans ((add_zero _).trans ?_)
  unfold raw
  rw [Finset.sum_mul, ← Finite.sum_coe]
  refine Finset.sum_congr rfl fun a _ => ?_
  refine (congrArg₂ (fun a b : EReal => a * b) ((padded_low k Y H a).trans (hk Y H a)) (qOp_eq q Q hq X H a)).trans ?_
  rw [← EReal.coe_mul]
  exact congrArg Real.toEReal (by ring)

/-- A row of numbers as the kernel reads it. -/
theorem row_at (L : FVec Ideal S8x8192 .f32) (H : Fin 8) (X : Fin 8192) : shapeCast S8x1x8192 L shapeCasts_S8x8192_S8x1x8192 (ix3 H 0 X) = L (ix2 H X) := by
  pointwise

/-- The output's gradient as the kernel reads it. -/
theorem cast_at (X : Fin 8192) (j : Fin 512) : truncf (F := Ideal) .bf16 d bitsLt_bf16_f32 (ix2 X j) = d (ix2 X j) := by
  pointwise

include hq hk hM in
/-- The kernel's weights. -/
theorem PA_eq (H : Fin 8) (X Y : Fin 8192) :
    PA (padded k) (qOp q) (shapeCast S8x1x8192 (lse q k) shapeCasts_S8x8192_S8x1x8192) H X Y = (pr Q K M s0 H X Y : EReal) := by
  unfold PA
  by_cases h : Y.val ≤ X.val
  · rw [if_pos h]
    unfold SA
    rw [dot_eq q k Q K hq hk, row_at, lse_eq q k Q K M hq hk hM]
    exact exp2_weight Q K M s0 H X Y h
  · rw [if_neg h, pr_after Q K M s0 H X Y h, EReal.coe_zero]

include hq hk hv hd hM in
/-- The kernel's gradient of the weights less its mean. -/
theorem GA_eq (H : Fin 8) (X Y : Fin 8192) :
    GA (vOp v) (truncf (F := Ideal) .bf16 d bitsLt_bf16_f32) (shapeCast S8x1x8192 (delta q k v d) shapeCasts_S8x8192_S8x1x8192) H X Y
      = ((dp W D H X Y - dl Q K W D M s0 H X : ℝ) : EReal) := by
  unfold GA
  rw [row_at, delta_eq q k v d Q K W D M hq hk hv hd hM, sum_halves H, EReal.coe_sub]
  refine congrArg (fun b : EReal => b - (dl Q K W D M s0 H X : EReal)) ?_
  have h2 : ∑ a, vOp v (ix2 Y (hcol H (other H a))) * truncf (F := Ideal) .bf16 d bitsLt_bf16_f32 (ix2 X (pcol H (other H a))) = 0 :=
    Finset.sum_eq_zero fun a _ => (congrArg (fun b : EReal => b * _) (vOp_own v Y H a).2).trans (zero_mul _)
  refine (congrArg (fun b : EReal => _ + b) h2).trans ((add_zero _).trans ?_)
  unfold dp
  rw [← Finite.sum_coe]
  refine Finset.sum_congr rfl fun a _ => ?_
  rw [(vOp_own v Y H a).1, cast_at, pcol_own, hv, hd, EReal.coe_mul]

include hq hk hv hd hM in
/-- The kernel's gradient of the scores. -/
theorem DS_eq (H : Fin 8) (X Y : Fin 8192) :
    PA (padded k) (qOp q) (shapeCast S8x1x8192 (lse q k) shapeCasts_S8x8192_S8x1x8192) H X Y
      * GA (vOp v) (truncf (F := Ideal) .bf16 d bitsLt_bf16_f32) (shapeCast S8x1x8192 (delta q k v d) shapeCasts_S8x8192_S8x1x8192) H X Y
      = (ds Q K W D M s0 H X Y : EReal) := by
  rw [PA_eq q k Q K M hq hk hM, GA_eq q k v d Q K W D M hq hk hv hd hM, ← EReal.coe_mul]
  rfl

section
variable (A47 A44 A74 : FVec Ideal S8192x1024 .bf16) (A75 : FVec Ideal S8192x512 .bf16) (A76 A77 : FVec Ideal S8x1x8192 .f32)
variable (h47 : A47 = padded k) (h44 : A44 = qOp q) (h74 : A74 = vOp v) (h75 : A75 = truncf (F := Ideal) .bf16 d bitsLt_bf16_f32)
variable (h76 : A76 = shapeCast S8x1x8192 (lse q k) shapeCasts_S8x8192_S8x1x8192) (h77 : A77 = shapeCast S8x1x8192 (delta q k v d) shapeCasts_S8x8192_S8x1x8192)

theorem log_two_ne : Real.log 2 ≠ 0 := (Real.log_pos (by norm_num)).ne'

include hq hk hv hd hM h47 h44 h74 h75 h76 h77

/-- The keys' gradient. -/
theorem dk_eq (Y : Fin 8192) (H : Fin 8) (a : Fin 96) :
    (∑ X : Fin 8192, PA A47 A44 A76 H X Y * GA A74 A75 A77 H X Y * A44 (ix2 X (hcol H ⟨a.val, by omega⟩))) * ln2 ix0 = (gk Q K W D M s0 Y H a : EReal) := by
  subst h47 h44 h74 h75 h76 h77
  have e : ∀ X : Fin 8192, PA (padded k) (qOp q) (shapeCast S8x1x8192 (lse q k) shapeCasts_S8x8192_S8x1x8192) H X Y
      * GA (vOp v) (truncf (F := Ideal) .bf16 d bitsLt_bf16_f32) (shapeCast S8x1x8192 (delta q k v d) shapeCasts_S8x8192_S8x1x8192) H X Y * qOp q (ix2 X (hcol H ⟨a.val, by omega⟩))
      = ((ds Q K W D M s0 H X Y * (Q X H a * (s0 * (1 / Real.log 2))) : ℝ) : EReal) := fun X => by
    rw [DS_eq q k v d Q K W D M hq hk hv hd hM, qOp_eq q Q hq, ← EReal.coe_mul]
  rw [Finset.sum_congr rfl fun X _ => e X, Finite.sum_coe, ln2_eq, ← EReal.coe_mul]
  refine congrArg Real.toEReal ?_
  unfold gk
  rw [Finset.sum_mul]
  exact Finset.sum_congr rfl fun X _ => by have := log_two_ne; field_simp

/-- The queries' gradient. -/
theorem dq_eq (X : Fin 8192) (H : Fin 8) (a : Fin 96) :
    (∑ Y : Fin 8192, PA A47 A44 A76 H X Y * GA A74 A75 A77 H X Y * A47 (ix2 Y (hcol H ⟨a.val, by omega⟩))) * ln2 ix0 * qs ix0 = (gq Q K W D M s0 X H a : EReal) := by
  subst h47 h44 h74 h75 h76 h77
  have e : ∀ Y : Fin 8192, PA (padded k) (qOp q) (shapeCast S8x1x8192 (lse q k) shapeCasts_S8x8192_S8x1x8192) H X Y
      * GA (vOp v) (truncf (F := Ideal) .bf16 d bitsLt_bf16_f32) (shapeCast S8x1x8192 (delta q k v d) shapeCasts_S8x8192_S8x1x8192) H X Y * padded k (ix2 Y (hcol H ⟨a.val, by omega⟩))
      = ((ds Q K W D M s0 H X Y * K Y H a : ℝ) : EReal) := fun Y => by
    rw [DS_eq q k v d Q K W D M hq hk hv hd hM, padded_low, hk, ← EReal.coe_mul]
  rw [Finset.sum_congr rfl fun Y _ => e Y, Finite.sum_coe, ln2_eq, qs_eq, ← EReal.coe_mul, ← EReal.coe_mul]
  refine congrArg Real.toEReal ?_
  unfold gq
  rw [Finset.sum_mul, Finset.sum_mul]
  exact Finset.sum_congr rfl fun Y _ => by have := log_two_ne; field_simp

/-- The values' gradient. -/
theorem dv_eq (Y : Fin 8192) (H : Fin 8) (a : Fin 64) :
    (∑ X : Fin 8192, PA A47 A44 A76 H X Y * A75 (ix2 X (pcol H (own H a)))) = (gv Q K D M s0 Y H a : EReal) := by
  subst h47 h44 h74 h75 h76 h77
  unfold gv
  rw [← Finite.sum_coe]
  refine Finset.sum_congr rfl fun X _ => ?_
  rw [PA_eq q k Q K M hq hk hM, cast_at, pcol_own, hd, EReal.coe_mul]
end

end Cert.AttnBwdIdeal.Ker
-- ==== Proof.AttnRef.lean ====
/- The attention backward reference computes the gradients of causal attention, on finite arguments. -/
module

public import proofs.«01_k».proof.Proof.AttnKer
public import proofs.«01_k».proof.Proof.Gen.AttnBwdRefIdeal.Read

@[expose] public section

set_option maxRecDepth 16384

noncomputable section

open Idealize.ShloMosaic Idealize.ShloMosaic.TcCoe
open Cert.AttnMath

namespace Cert.AttnBwdRefIdeal.Ref

open Cert.AttnBwdRefIdeal Cert.AttnBwdRefIdeal.Gen Cert.AttnBwdRefIdeal.Read
open Cert.AttnBwdIdeal.HostV (score top top' expo lsum prob S0 ocol mask)
open Cert.AttnBwdIdeal.Ker (s0)

variable (q k : FVec Ideal S8192x8x96 .f32) (v : FVec Ideal S8192x8x64 .f32) (d : FVec Ideal S8192x512 .f32)

theorem mask_ref (H : Fin 8) (X Y : Fin 8192) : val_main_v9_1 (F := Ideal) (ix3 H X Y) = mask (ix2 X Y) := by
  rw [val_main_v9_1_apply]; rfl
theorem expo_ref : val_main_v30 (F := Ideal) q k = expo q k (top' q k) := rfl
theorem lsum_ref : val_main_v31 (F := Ideal) q k = lsum q k (top' q k) := rfl
theorem prob_ref : val_main_v34 (F := Ideal) q k = prob q k := rfl

/-! The reference's products and rows, read at an index. -/

theorem dot61 (y : FVec Ideal S8x8192x8192 .f32) (q : FVec Ideal S8192x8x96 .f32) (H : Fin 8) (Y : Fin 8192) (c : Fin 96) :
    Host.dotGeneral dot_S8x8192x8192_S8192x8x96_S8x8192x96_1_0_2_2_0_1 none y q (ix3 H Y c) = ∑ X : Fin 8192, y (ix3 H X Y) * q (ix3 X H c) := by
  pointwise
theorem dot63 (y : FVec Ideal S8x8192x8192 .f32) (k : FVec Ideal S8192x8x96 .f32) (H : Fin 8) (X : Fin 8192) (c : Fin 96) :
    Host.dotGeneral dot_S8x8192x8192_S8192x8x96_S8x8192x96_2_0_1_2_0_1 none y k (ix3 H X c) = ∑ Y : Fin 8192, y (ix3 H X Y) * k (ix3 Y H c) := by
  pointwise
theorem dot44 (d : FVec Ideal S8x64x8192 .f32) (y : FVec Ideal S8x8192x8192 .f32) (H : Fin 8) (a : Fin 64) (Y : Fin 8192) :
    Host.dotGeneral dot_S8x64x8192_S8x8192x8192_S8x64x8192_2_1_1_2_0_0 none d y (ix3 H a Y) = ∑ X : Fin 8192, d (ix3 H a X) * y (ix3 H X Y) := by
  pointwise
theorem dot43 (d : FVec Ideal S8x64x8192 .f32) (v : FVec Ideal S8192x8x64 .f32) (H : Fin 8) (X Y : Fin 8192) :
    Host.dotGeneral dot_S8x64x8192_S8192x8x64_S8x8192x8192_1_2_2_0_0_1 none d v (ix3 H X Y) = ∑ a : Fin 64, d (ix3 H a X) * v (ix3 Y H a) := by
  pointwise
theorem v42_at (H : Fin 8) (a : Fin 64) (X : Fin 8192) : val_main_v42 (F := Ideal) d (ix3 H a X) = d (ix2 X (ocol H a)) := by
  unfold ocol
  pointwise [val_main_v42, val_main_v41]
  exact congrArg (fun j => d (ix2 X j)) (Fin.ext (by show H.val * 64 + a.val = 64 * H.val + a.val; omega))
theorem tr_at (y : FVec Ideal S8x8192x96 .f32) (H : Fin 8) (X : Fin 8192) (c : Fin 96) :
    transpose S8192x8x96 [1, 0, 2] y transposes_S8x8192x96_S8192x8x96_1_0_2 (ix3 X H c) = y (ix3 H X c) := by
  pointwise
theorem tr'_at (y : FVec Ideal S8x64x8192 .f32) (H : Fin 8) (X : Fin 8192) (a : Fin 64) :
    transpose S8192x8x64 [2, 0, 1] y transposes_S8x64x8192_S8192x8x64_2_0_1 (ix3 X H a) = y (ix3 H a X) := by
  pointwise

/-- The reference's softmax gradient, from the weights' gradient `g`, the row sums `l` and the exponentials `e`. -/
def dsOf (g : FVec Ideal S8x8192x8192 .f32) (l : FVec Ideal S8x8192 .f32) (e : FVec Ideal S8x8192x8192 .f32) : FVec Ideal S8x8192x8192 .f32 :=
  let l1 : FVec Ideal S8x8192x1 .f32 := broadcastInDim S8x8192x1 ![0, 1] bcast_S8x8192_S8x8192x1_0_1 l
  let w : FVec Ideal S8x8192x8192 .f32 := mulf (mulf g (broadcastInDim S8x8192x8192 ![0, 1, 2] bcast_S8x8192x1_S8x8192x8192_0_1_2 (Host.divf (broadcastInDim S8x8192x1 ![] bcast_S_S8x8192x1 (constant (F := Ideal) S_ .f32 0x3F800000#32)) (mulf l1 l1)))) e
  let r : FVec Ideal S8x8192x1 .f32 := Host.negf (shapeCast S8x8192x1 (Host.reduceAdd w (constant (F := Ideal) S_ .f32 0x00000000#32) reducesTo_S8x8192x8192_S8x8192_d2 h_S_) shapeCasts_S8x8192_S8x8192x1)
  mulf (addf (Host.divf g (broadcastInDim S8x8192x8192 ![0, 1, 2] bcast_S8x8192x1_S8x8192x8192_0_1_2 l1)) (broadcastInDim S8x8192x8192 ![0, 1] bcast_S8x8192_S8x8192x8192_0_1 (Host.reduceAdd r (constant (F := Ideal) S_ .f32 0x00000000#32) reducesTo_S8x8192x1_S8x8192_d2 h_S_))) e

theorem v57_eq : val_main_v57 (F := Ideal) q k v d = dsOf (val_main_v43 (F := Ideal) v d) (lsum q k (top' q k)) (expo q k (top' q k)) := rfl

theorem dsOf_at (g : FVec Ideal S8x8192x8192 .f32) (l : FVec Ideal S8x8192 .f32) (e : FVec Ideal S8x8192x8192 .f32) (H : Fin 8) (X Y : Fin 8192) :
    dsOf g l e (ix3 H X Y) = (Ideal.div (g (ix3 H X Y)) (l (ix2 H X)) + -∑ Z : Fin 8192, g (ix3 H X Z) * Ideal.div (Ideal.ofBits FTy.f32 0x3F800000#32) (l (ix2 H X) * l (ix2 H X)) * e (ix3 H X Z)) * e (ix3 H X Y) := by
  pointwise [dsOf]
  rw [Fin.sum_univ_one]

/-- The masked softmax gradient, scaled. -/
theorem v60_at (H : Fin 8) (X Y : Fin 8192) :
    val_main_v60 (F := Ideal) q k v d (ix3 H X Y) = (if Y.val ≤ X.val then val_main_v57 (F := Ideal) q k v d (ix3 H X Y) else 0) * S0 := by
  rw [val_main_v60_apply, val_main_v58_apply, val_main_v59_apply, val_main_call1_v0_apply, mask_ref, Cert.AttnBwdIdeal.HostV.mask_at]
  by_cases h : Y.val ≤ X.val
  · rw [if_pos h, if_pos h]; rfl
  · rw [if_neg h, if_neg h]
    refine congrArg (fun b : EReal => b * S0) ?_
    show Ideal.ofBits FTy.f32 0x00000000#32 = 0
    simp [Ideal.ofBits, Ideal.ieee]

variable (Q K : Fin 8192 → Fin 8 → Fin 96 → ℝ) (W D : Fin 8192 → Fin 8 → Fin 64 → ℝ) (M : Fin 8 → Fin 8192 → ℝ)
variable (hq : ∀ X H c, q (ix3 X H c) = (Q X H c : EReal)) (hk : ∀ X H c, k (ix3 X H c) = (K X H c : EReal))
variable (hv : ∀ X H a, v (ix3 X H a) = (W X H a : EReal)) (hd : ∀ X H a, d (ix2 X (ocol H a)) = (D X H a : EReal))
variable (hM : ∀ H X, top q k (ix2 H X) = (M H X : EReal))

include hv hd in
theorem v43_eq (H : Fin 8) (X Y : Fin 8192) : val_main_v43 (F := Ideal) v d (ix3 H X Y) = (dp W D H X Y : EReal) := by
  refine (dot43 (val_main_v42 (F := Ideal) d) v H X Y).trans ?_
  unfold dp
  rw [← Finite.sum_coe]
  refine Finset.sum_congr rfl fun a _ => ?_
  rw [v42_at, hv, hd, mul_comm, EReal.coe_mul]

include hq hk hv hd hM in
theorem v57_at (H : Fin 8) (X Y : Fin 8192) : val_main_v57 (F := Ideal) q k v d (ix3 H X Y) = (ds Q K W D M s0 H X Y : EReal) := by
  have hl := sm_pos Q K M s0 H X
  rw [v57_eq, dsOf_at, Cert.AttnBwdIdeal.Ker.lsum_eq q k Q K M hq hk _ (Cert.AttnBwdIdeal.Ker.top'_eq q k M hM), Cert.AttnBwdIdeal.Ker.expo_eq q k Q K M hq hk _ (Cert.AttnBwdIdeal.Ker.top'_eq q k M hM),
    v43_eq v d W D hv hd, Cert.AttnBwdIdeal.Ker.one_eq, ← EReal.coe_mul, div_pos_coe _ _ hl, div_pos_coe _ _ (mul_pos hl hl)]
  have e : ∀ Z : Fin 8192, val_main_v43 (F := Ideal) v d (ix3 H X Z) * ((1 / (sm Q K M s0 H X * sm Q K M s0 H X) : ℝ) : EReal) * expo q k (top' q k) (ix3 H X Z)
      = ((dp W D H X Z * (1 / (sm Q K M s0 H X * sm Q K M s0 H X)) * ex Q K M s0 H X Z : ℝ) : EReal) := fun Z => by
    rw [v43_eq v d W D hv hd, Cert.AttnBwdIdeal.Ker.expo_eq q k Q K M hq hk _ (Cert.AttnBwdIdeal.Ker.top'_eq q k M hM), ← EReal.coe_mul, ← EReal.coe_mul]
  rw [Finset.sum_congr rfl fun Z _ => e Z, Finite.sum_coe, ← EReal.coe_neg, ← EReal.coe_add, ← EReal.coe_mul]
  exact congrArg Real.toEReal (ds_eq Q K W D M s0 H X Y)

include hq hk hv hd hM in
theorem v60_eq (H : Fin 8) (X Y : Fin 8192) : val_main_v60 (F := Ideal) q k v d (ix3 H X Y) = ((ds Q K W D M s0 H X Y * s0 : ℝ) : EReal) := by
  rw [v60_at, v57_at q k v d Q K W D M hq hk hv hd hM, Cert.AttnBwdIdeal.Ker.S0_eq, EReal.coe_mul]
  refine congrArg (fun b : EReal => b * (s0 : EReal)) ?_
  by_cases h : Y.val ≤ X.val
  · rw [if_pos h]
  · rw [if_neg h]
    unfold ds
    rw [pr_after Q K M s0 H X Y h, zero_mul, EReal.coe_zero]

include hq hk hv hd hM in
/-- The queries' gradient. -/
theorem dq_ref (X : Fin 8192) (H : Fin 8) (c : Fin 96) : val_main_v64 (F := Ideal) q k v d (ix3 X H c) = (gq Q K W D M s0 X H c : EReal) := by
  refine (tr_at (val_main_v63 (F := Ideal) q k v d) H X c).trans ((dot63 (val_main_v60 (F := Ideal) q k v d) k H X c).trans ?_)
  unfold gq
  rw [← Finite.sum_coe]
  exact Finset.sum_congr rfl fun Y _ => by rw [v60_eq q k v d Q K W D M hq hk hv hd hM, hk, ← EReal.coe_mul]

include hq hk hv hd hM in
/-- The keys' gradient. -/
theorem dk_ref (Y : Fin 8192) (H : Fin 8) (c : Fin 96) : val_main_v62 (F := Ideal) q k v d (ix3 Y H c) = (gk Q K W D M s0 Y H c : EReal) := by
  refine (tr_at (val_main_v61 (F := Ideal) q k v d) H Y c).trans ((dot61 (val_main_v60 (F := Ideal) q k v d) q H Y c).trans ?_)
  unfold gk
  rw [← Finite.sum_coe]
  exact Finset.sum_congr rfl fun X _ => by rw [v60_eq q k v d Q K W D M hq hk hv hd hM, hq, ← EReal.coe_mul]

include hq hk hd hM in
/-- The values' gradient. -/
theorem dv_ref (Y : Fin 8192) (H : Fin 8) (a : Fin 64) : val_main_v45 (F := Ideal) q k d (ix3 Y H a) = (gv Q K D M s0 Y H a : EReal) := by
  refine (tr'_at (val_main_v44 (F := Ideal) q k d) H Y a).trans ((dot44 (val_main_v42 (F := Ideal) d) (val_main_v34 (F := Ideal) q k) H a Y).trans ?_)
  unfold gv
  rw [← Finite.sum_coe]
  exact Finset.sum_congr rfl fun X _ => by
    rw [v42_at, hd, prob_ref, Cert.AttnBwdIdeal.Ker.prob_eq q k Q K M hq hk hM, mul_comm, EReal.coe_mul]

end Cert.AttnBwdRefIdeal.Ref
-- ==== Proof.AttnValue.lean ====
/- The attention backward kernel and its reference hold the same gradients, on finite arguments. -/
module

public import proofs.«01_k».proof.Defs
public import proofs.«01_k».proof.Proof.Gen.Pre_finite_attn
public import proofs.«01_k».proof.Proof.Gen.AttnBwd
public import proofs.«01_k».proof.Proof.AttnRef

@[expose] public section

set_option maxRecDepth 16384

noncomputable section

open Idealize.ShloMosaic Idealize.ShloMosaic.TcCoe Idealize.SL.Sem
open Cert.AttnMath

namespace Cert.AttnBwdIdeal.Ker

open Cert.AttnBwdIdeal Cert.AttnBwdIdeal.Gen Cert.AttnBwdIdeal.Arr Cert.AttnBwdIdeal.HostV Cert.AttnBwdIdeal.Tail

/-- A finite array of three axes is one of reals. -/
theorem reals3 {a b n : Nat} (x : Fin a → Fin b → Fin n → EReal) (h : ∀ i j l, Finite.Fin' (x i j l)) :
    ∃ R : Fin a → Fin b → Fin n → ℝ, ∀ i j l, x i j l = (R i j l : EReal) :=
  ⟨fun i j l => (h i j l).choose, fun i j l => (h i j l).choose_spec⟩

theorem head_hcol (H : Fin 8) (p : Fin 128) : headOf (hcol H p) = H :=
  Fin.ext (by show (128 * H.val + p.val) / 128 = H.val; omega)

theorem place_hcol (H : Fin 8) (p : Fin 128) : placeOf (hcol H p) = p :=
  Fin.ext (by show (128 * H.val + p.val) % 128 = p.val; omega)

variable (m : (ℓ : Loc nD τ sig) → Buf (Elt Ideal) ℓ)

/-- The array holds, at a head's column, that head's gradient at that place. -/
theorem DQa_at (c : Dev nD) (X : Fin 8192) (H : Fin 8) (p : Fin 128) : DQa m c (ix2 X (hcol H p)) = DQ m c X H p := by
  show DQ m c X (headOf (hcol H p)) (placeOf (hcol H p)) = _
  rw [head_hcol, place_hcol]
theorem DKa_at (c : Dev nD) (X : Fin 8192) (H : Fin 8) (p : Fin 128) : DKa m c (ix2 X (hcol H p)) = DK m c X H p := by
  show DK m c X (headOf (hcol H p)) (placeOf (hcol H p)) = _
  rw [head_hcol, place_hcol]
theorem DVa_at (c : Dev nD) (X : Fin 8192) (H : Fin 8) (p : Fin 128) : DVa m c (ix2 X (hcol H p)) = DV m c X H p := by
  show DV m c X (headOf (hcol H p)) (placeOf (hcol H p)) = _
  rw [head_hcol, place_hcol]

/-- Every argument is finite under the precondition. -/
theorem finite_of_pre (h : Cert.Pre_AttnBwdIdeal_finite_attn m) (c : Dev nD) :
    (∀ i, Finite.Fin' (argQ m c i)) ∧ (∀ i, Finite.Fin' (argK m c i)) ∧ (∀ i, Finite.Fin' (argV m c i)) ∧ (∀ i, Finite.Fin' (argD m c i)) := by
  obtain ⟨h0, h1, h2, h3⟩ := h c
  simp only [Cert.Pre_finite_attn.fn] at h0 h1 h2 h3
  exact ⟨fun i => Finite.of_mask (congrFun h0 i), fun i => Finite.of_mask (congrFun h1 i), fun i => Finite.of_mask (congrFun h2 i),
    fun i => Finite.of_mask (congrFun h3 i)⟩

/-- The finite arguments as real numbers, with the rows' maxima. -/
theorem reals (h : Cert.Pre_AttnBwdIdeal_finite_attn m) (c : Dev nD) :
    ∃ (Q K : Fin 8192 → Fin 8 → Fin 96 → ℝ) (W D : Fin 8192 → Fin 8 → Fin 64 → ℝ) (M : Fin 8 → Fin 8192 → ℝ),
      (∀ X H a, argQ m c (ix3 X H a) = (Q X H a : EReal)) ∧ (∀ X H a, argK m c (ix3 X H a) = (K X H a : EReal))
      ∧ (∀ X H a, argV m c (ix3 X H a) = (W X H a : EReal)) ∧ (∀ X H a, argD m c (ix2 X (ocol H a)) = (D X H a : EReal))
      ∧ ∀ H X, top (argQ m c) (argK m c) (ix2 H X) = (M H X : EReal) := by
  obtain ⟨h0, h1, h2, h3⟩ := finite_of_pre m h c
  obtain ⟨Q, hQ⟩ := reals3 (fun X H a => argQ m c (ix3 X H a)) fun X H a => h0 _
  obtain ⟨K, hK⟩ := reals3 (fun X H a => argK m c (ix3 X H a)) fun X H a => h1 _
  obtain ⟨W, hW⟩ := reals3 (fun X H a => argV m c (ix3 X H a)) fun X H a => h2 _
  obtain ⟨D, hD⟩ := reals3 (fun X H a => argD m c (ix2 X (ocol H a))) fun X H a => h3 _
  exact ⟨Q, K, W, D, fun H X => (top_real _ _ Q K hQ hK H X).choose, hQ, hK, hW, hD, fun H X => (top_real _ _ Q K hQ hK H X).choose_spec⟩

/-- Two arrays of three axes that agree at every index are equal. -/
theorem ext3 {a b n : Nat} (x y : FVec Ideal ⟨3, ![a, b, n]⟩ .f32) (h : ∀ i j l, x (ix3 i j l) = y (ix3 i j l)) : x = y := by
  funext i
  have e : i = ix3 (i 0) (i 1) (i 2) := by
    funext r
    match r with
    | 0 => rfl
    | 1 => rfl
    | 2 => rfl
  rw [e]
  exact h _ _ _

/-- The queries' gradient. -/
theorem value_dq (h : Cert.Pre_AttnBwdIdeal_finite_attn m) (c : Dev nD) :
    Cert.AttnBwdRefIdeal.Read.val_main_v64 (F := Ideal) (argQ m c) (argK m c) (argV m c) (argD m c) = dqOut (DQa m c) ln2 qs := by
  obtain ⟨Q, K, W, D, M, hQ, hK, hW, hD, hM⟩ := reals m h c
  refine ext3 _ _ fun X H a => ?_
  refine (Cert.AttnBwdRefIdeal.Ref.dq_ref _ _ _ _ Q K W D M hQ hK hW hD hM X H a).trans (Eq.symm ?_)
  rw [dqOut_at, DQa_at]
  exact dq_eq _ _ _ _ Q K W D M hQ hK hW hD hM _ _ _ _ _ _ (V_47 m c) (V_44 m c) (V_74 m c) (V_75 m c) (V_76 m c) (V_77 m c) X H a

/-- The keys' gradient. -/
theorem value_dk (h : Cert.Pre_AttnBwdIdeal_finite_attn m) (c : Dev nD) :
    Cert.AttnBwdRefIdeal.Read.val_main_v62 (F := Ideal) (argQ m c) (argK m c) (argV m c) (argD m c) = dkOut (DKa m c) ln2 := by
  obtain ⟨Q, K, W, D, M, hQ, hK, hW, hD, hM⟩ := reals m h c
  refine ext3 _ _ fun X H a => ?_
  refine (Cert.AttnBwdRefIdeal.Ref.dk_ref _ _ _ _ Q K W D M hQ hK hW hD hM X H a).trans (Eq.symm ?_)
  rw [dkOut_at, DKa_at]
  exact dk_eq _ _ _ _ Q K W D M hQ hK hW hD hM _ _ _ _ _ _ (V_47 m c) (V_44 m c) (V_74 m c) (V_75 m c) (V_76 m c) (V_77 m c) X H a

/-- The values' gradient. -/
theorem value_dv (h : Cert.Pre_AttnBwdIdeal_finite_attn m) (c : Dev nD) :
    Cert.AttnBwdRefIdeal.Read.val_main_v45 (F := Ideal) (argQ m c) (argK m c) (argD m c) = dvOut (DVa m c) := by
  obtain ⟨Q, K, W, D, M, hQ, hK, hW, hD, hM⟩ := reals m h c
  refine ext3 _ _ fun X H a => ?_
  refine (Cert.AttnBwdRefIdeal.Ref.dv_ref _ _ _ Q K D M hQ hK hD hM X H a).trans (Eq.symm ?_)
  rw [dvOut_at, DVa_at]
  exact dv_eq _ _ _ _ Q K W D M hQ hK hW hD hM _ _ _ _ _ _ (V_47 m c) (V_44 m c) (V_74 m c) (V_75 m c) (V_76 m c) (V_77 m c) X H a

variable (ρ : Dev nD → PrngReg)

/-- The run with its three results named. -/
theorem run_values : θ_run (defs (F := Ideal)) (onTc (τ := τ) (main (F := Ideal))) ⟨m, fun _ => 0, ρ⟩ (fun r => ∀ c : Dev nD,
    r.2.mem ((c.tc : Thread nD τ).loc main_v110) = dqOut (DQa m c) ln2 qs
    ∧ r.2.mem ((c.tc : Thread nD τ).loc main_v114) = dkOut (DKa m c) ln2
    ∧ r.2.mem ((c.tc : Thread nD τ).loc main_v104) = dvOut (DVa m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h.1.1 c).2 main_v110 (by decide)).trans (out_dq m c), ((h.1.1 c).2 main_v114 (by decide)).trans (out_dk m c),
      ((h.1.1 c).2 main_v104 (by decide)).trans (out_dv m c), h.2.1 c⟩)
    (θ_run_and (Body.run_quiet m ρ) (Body.frame m ρ))

end Cert.AttnBwdIdeal.Ker
-- ==== Proof.AttnBwd.lean ====
module

public import proofs.«01_k».proof.Defs
public import proofs.«01_k».proof.Proof.Gen.AttnBwd
public import proofs.«01_k».proof.Proof.Gen.AttnBwdIdeal
public import proofs.«01_k».proof.Proof.Gen.AttnBwdRefIdeal
public import proofs.«01_k».proof.Proof.Gen.AttnBwdRefIdeal.Run
public import proofs.«01_k».proof.Proof.AttnBodyIdeal
public import proofs.«01_k».proof.Proof.AttnValue
public import Idealize.ShloMosaic.Lib.Claim

@[expose] public section

set_option maxRecDepth 16384

noncomputable section

/-!
The claims of the attention's backward pass: the frames, and that the kernel and the reference hold the same gradients of
the queries, the keys and the values on the extended reals where the arrays are finite.
-/

namespace Cert.Proof

open Idealize.ShloMosaic Idealize.ShloMosaic.Tactic Idealize.SL.Sem

/-- The frame of `AttnBwdIdeal`: the run of `AttnBodyIdeal`. -/
theorem attnBwdIdeal_frame : Cert.quiescent_AttnBwdIdeal := fun m ρ _ => Cert.AttnBwdIdeal.Body.frame m ρ

/-- The frame of `AttnBwd`: its text is that of `AttnBwdIdeal`, whose run holds for the floats of the machine as well. -/
theorem attnBwd_frame : Cert.quiescent_AttnBwd := fun m ρ _ =>
  Eq.mp (by sl_kernel_rfl) (Cert.AttnBwdIdeal.Body.frame (F := Bits) m ρ)

/-- The frame of the reference: no operation writes an argument, and the program declares no semaphore. -/
theorem attnBwdRefIdeal_frame : Cert.quiescent_AttnBwdRefIdeal := fun m ρ _ =>
  (θ_run Cert.AttnBwdRefIdeal.defs _ _).mono (fun r h => ⟨fun c => (h c).2.2.2,
      sem_eq_zero_of_no_sems (by decide) r.2⟩)
    (Cert.AttnBwdRefIdeal.Value.run (F := Ideal) m ρ)

/-- No operation is rewritten, so there is nothing to preserve. -/
theorem attnBwd_preserves : Cert.preserves_AttnBwd_AttnBwdIdeal := trivial

/-- The frames again under the precondition, which they do not need. -/
theorem attnBwdIdeal_frame_pre : Cert.quiescent_AttnBwdIdeal_pre_finite_attn := fun m ρ _ => Cert.AttnBwdIdeal.Body.frame m ρ

theorem attnBwdRefIdeal_frame_pre : Cert.quiescent_AttnBwdRefIdeal_pre_finite_attn := fun m ρ _ => attnBwdRefIdeal_frame m ρ trivial

set_option maxHeartbeats 2000000 in
/-- Kernel and reference agree: both hold the gradients of causal attention. -/
theorem attnBwd_algebraic : Cert.algebraic_AttnBwdIdeal_AttnBwdRefIdeal_pre_finite_attn := by
  pair_intro
  · exact Cert.AttnBwdIdeal.Ker.run_values m g
  · refine (θ_run Cert.AttnBwdRefIdeal.defs _ _).mono (fun r h c => ?_) (Cert.AttnBwdRefIdeal.Value.run (F := Ideal) m' g')
    obtain ⟨e0, e1, e2, e3⟩ := hagree c
    refine ⟨(h c).1.trans ((Cert.AttnBwdRefIdeal.Read.val_main_v64_eq m' c).trans ?_), (h c).2.1.trans ((Cert.AttnBwdRefIdeal.Read.val_main_v62_eq m' c).trans ?_),
      (h c).2.2.1.trans ((Cert.AttnBwdRefIdeal.Read.val_main_v45_eq m' c).trans ?_), (h c).2.2.2⟩
    · rw [e0, e1, e2, e3]
      exact Cert.AttnBwdIdeal.Ker.value_dq m hpre c
    · rw [e0, e1, e2, e3]
      exact Cert.AttnBwdIdeal.Ker.value_dk m hpre c
    · rw [e0, e1, e3]
      exact Cert.AttnBwdIdeal.Ker.value_dv m hpre c

end Cert.Proof

end
-- ==== Proof.AttnFwdBody.lean ====
/- The attention forward kernel's run, for the idealised program: one grid point's body (`bodyRun`), from any contents of the
   scratch block the weights go through. -/
module

public import proofs.«01_k».proof.Proof.Gen.AttnFwdIdeal.Frame
public import proofs.«01_k».proof.Proof.Gen.AttnFwdIdeal.Loops
public import Idealize.ShloMosaic.Lib.Exec
public import Idealize.ShloMosaic.Lib.VecWindow
public import Idealize.ShloMosaic.Lib.Claim

@[expose] public section

set_option maxRecDepth 16384

noncomputable section

namespace Cert.AttnFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnFwdIdeal.Gen

variable {F : FTy → Type} [FloatOps F] [Named F]

local notation "𝕄" => MT nD τ sig Unit (Elt F) ℕ (UR sig nD τ) ℕ

-- the run's proof term is large: its checks pass the default budget
set_option maxHeartbeats 4000000 in
/-- One grid point's body. From whole staging buffers — the queries, keys and values at `x0`, `x1`, `x2`, the two outputs at
    anything — and the scratch block at `G`, it ends with the inputs as they were, the scratch at some contents, and each
    output holding the stores the run finds. -/
noncomputable def bodyRun (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x128 .f32) (harg5 : arg5.IsWhole) (arg6 : Memref sig .tc .vmem S2x1x512 .f32) (harg6 : arg6.IsWhole) (arg7 : Memref sig .tc .vmem S2x512x512 .bf16) (harg7 : arg7.IsWhole)
    (x0 : Vec F S512x256 .bf16) (x1 : Vec F S8192x256 .bf16) (x2 : Vec F S8192x256 .bf16) :
    Σ' (L5 : BufTy.Contents (Elt F) arg7.view.ty → List (View.Piece (Elt F) S512x128 .f32)), { L6 : BufTy.Contents (Elt F) arg7.view.ty → List (View.Piece (Elt F) S2x1x512 .f32) //
      ∀ (G : BufTy.Contents (Elt F) arg7.view.ty) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (arg7.view.loc (c : Thread nD τ) ↦[arg7.view.set]{fullShare} G)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f (L5 G))
                ∗ (∃ f, arg6.view.loc (c : Thread nD τ) ↦[arg6.view.set]{fullShare} arg6.view.writes (Elt F) f (L6 G))
                ∗ (∃ f, arg7.view.loc (c : Thread nD τ) ↦[arg7.view.set]{fullShare} f)) -∗ K ⟨⟩))
          ⊢ wp frame (wpE (defs₀ (F := F)) Variants.none c none) E (cc0_attn_fwd i arg2 harg2 arg3 harg3 arg4 harg4 arg5 harg5 arg6 harg6 arg7 harg7) K } := by
  refine ⟨?_, ?_, fun G E K => ?run⟩
  case run =>
    simp only [cc0_attn_fwd_eq_skeleton]; unfold cc0_attn_fwd_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%d3, %f3, -, H3⟩, ⟨%d4, %f4, -, H4⟩, H5, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.AttnFwdIdeal.Body

end
-- ==== Proof.AttnFwdStep.lean ====
/- The attention forward kernel's block step for one head, written once: the new row maximum, the rescaling, the weights in
   eight chunks of 64 keys, their sum and the weighted values. The loop's trip and the diagonal block after it are this step
   (`trip_eq`, `bodyRun_fst`, `bodyRun_snd`), so what a grid point leaves does not depend on what the scratch block held. -/
module

public import proofs.«01_k».proof.Proof.AttnFwdBody

@[expose] public section

set_option maxRecDepth 200000

noncomputable section

namespace Cert.AttnFwdIdeal.Body

open Idealize.ShloMosaic Idealize.ShloMosaic.TcCoe Idealize.SL.Sem
open Cert.AttnFwdIdeal.Gen

variable {F : FTy → Type} [FloatOps F] [Named F]

/-- The key chunks of a block of scores. -/
def slices (S : FVec F S512x512 .f32) : Fin 8 → FVec F S64x512 .f32 :=
  ![extractStridedSlice S64x512 ![0, 0] S slices_S512x512_o0_0_S64x512,
    extractStridedSlice S64x512 ![64, 0] S slices_S512x512_o64_0_S64x512,
    extractStridedSlice S64x512 ![128, 0] S slices_S512x512_o128_0_S64x512,
    extractStridedSlice S64x512 ![192, 0] S slices_S512x512_o192_0_S64x512,
    extractStridedSlice S64x512 ![256, 0] S slices_S512x512_o256_0_S64x512,
    extractStridedSlice S64x512 ![320, 0] S slices_S512x512_o320_0_S64x512,
    extractStridedSlice S64x512 ![384, 0] S slices_S512x512_o384_0_S64x512,
    extractStridedSlice S64x512 ![448, 0] S slices_S512x512_o448_0_S64x512]

/-- One chunk masked: key `off + r` is seen by query `x` if it is no later. -/
def maskAt (off : BitVec 32) (b : FVec F S64x512 .f32) : FVec F S64x512 .f32 :=
  select (cmpi .sle (addi (iota .tc S64x512 32 [0] iota_S64x512_d0_w32) (broadcast S64x512 off)) (iota .tc S64x512 32 [1] iota_S64x512_d1_w32)) b
    (broadcast S64x512 (Named.named κ "mask" (φ := .f32) 0xF149F2CA#32))

/-- The masked chunks of the diagonal block. -/
def masked (S : FVec F S512x512 .f32) : Fin 8 → FVec F S64x512 .f32 :=
  ![maskAt 0#32 (slices S 0), maskAt 64#32 (slices S 1), maskAt 128#32 (slices S 2), maskAt 192#32 (slices S 3), maskAt 256#32 (slices S 4), maskAt 320#32 (slices S 5), maskAt 384#32 (slices S 6), maskAt 448#32 (slices S 7)]

/-- The maximum of a chunk over its eight groups of eight keys. -/
def redMax (b : FVec F S64x512 .f32) : FVec F S8x512 .f32 :=
  multiReduction .maximumf [0] S8x512 (shapeCast S8x8x512 b shapeCasts_S64x512_S8x8x512) 0xFF800000#32 reduces_S8x8x512_S8x512 (.inl rfl) rfl

/-- The sum of a chunk over its eight groups of eight keys. -/
def redAdd (b : FVec F S64x512 .f32) : FVec F S8x512 .f32 :=
  multiReduction .add [0] S8x512 (shapeCast S8x8x512 b shapeCasts_S64x512_S8x8x512) 0x00000000#32 reduces_S8x8x512_S8x512 (.inl rfl) rfl

/-- The maximum of the chunks, by key modulo eight. -/
def max8 (B : Fin 8 → FVec F S64x512 .f32) : FVec F S8x512 .f32 :=
  (maximumf (maximumf (maximumf (maximumf (maximumf (maximumf (maximumf (maximumf (broadcast S8x512 (Named.named κ "mask" (φ := .f32) 0xF149F2CA#32)) (redMax (B 0))) (redMax (B 1))) (redMax (B 2))) (redMax (B 3))) (redMax (B 4))) (redMax (B 5))) (redMax (B 6))) (redMax (B 7)))

/-- The new row maximum, from the old one. -/
def mNew (B : Fin 8 → FVec F S64x512 .f32) (m : FVec F S1x512 .f32) : FVec F S1x512 .f32 :=
  maximumf m (shapeCast S1x512 (multiReduction .maximumf [0] S512 (max8 B) 0xFF800000#32 reduces_S8x512_S512 (.inl rfl) rfl) shapeCasts_S512_S1x512)

/-- The factor the earlier sums are rescaled by. -/
def alpha (B : Fin 8 → FVec F S64x512 .f32) (m : FVec F S1x512 .f32) : FVec F S1x512 .f32 := exp2 (subf m (mNew B m))

/-- The weights of a chunk at the row maximum `mn`. -/
def weights (b : FVec F S64x512 .f32) (mn : FVec F S1x512 .f32) : FVec F S64x512 .f32 :=
  exp2 (subf b (broadcastTo S64x512 mn broadcasts_S1x512_S64x512))

/-- The sum of the weights, by key modulo eight. -/
def sum8 (B : Fin 8 → FVec F S64x512 .f32) (mn : FVec F S1x512 .f32) : FVec F S8x512 .f32 :=
  (addf (addf (addf (addf (addf (addf (addf (addf (broadcast S8x512 (Scalar.ofBits .f32 0x00000000#32)) (redAdd (weights (B 0) mn))) (redAdd (weights (B 1) mn))) (redAdd (weights (B 2) mn))) (redAdd (weights (B 3) mn))) (redAdd (weights (B 4) mn))) (redAdd (weights (B 5) mn))) (redAdd (weights (B 6) mn))) (redAdd (weights (B 7) mn)))

/-- The new sum of weights. -/
def lNew (B : Fin 8 → FVec F S64x512 .f32) (m l : FVec F S1x512 .f32) : FVec F S1x512 .f32 :=
  addf (mulf (alpha B m) l) (shapeCast S1x512 (multiReduction .add [0] S512 (sum8 B (mNew B m)) 0x00000000#32 reduces_S8x512_S512 (.inl rfl) rfl) shapeCasts_S512_S1x512)

/-- A chunk of weights as it is stored. -/
def stored (b : FVec F S64x512 .f32) (mn : FVec F S1x512 .f32) : FVec F S1x64x512 .bf16 :=
  shapeCast S1x64x512 (truncf .bf16 (weights b mn) bitsLt_bf16_f32) shapeCasts_S64x512_S1x64x512

/-- The stores of the weights of the first head, -/
def pieces0 (B : Fin 8 → FVec F S64x512 .f32) (mn : FVec F S1x512 .f32) : List (View.Piece (Elt F) S2x512x512 .bf16) :=
  [⟨Rect.unit ![0, 448, 0] S1x64x512.size inb_S2x512x512_S1x64x512_0_448_0, stored (B 7) mn⟩,
   ⟨Rect.unit ![0, 384, 0] S1x64x512.size inb_S2x512x512_S1x64x512_0_384_0, stored (B 6) mn⟩,
   ⟨Rect.unit ![0, 320, 0] S1x64x512.size inb_S2x512x512_S1x64x512_0_320_0, stored (B 5) mn⟩,
   ⟨Rect.unit ![0, 256, 0] S1x64x512.size inb_S2x512x512_S1x64x512_0_256_0, stored (B 4) mn⟩,
   ⟨Rect.unit ![0, 192, 0] S1x64x512.size inb_S2x512x512_S1x64x512_0_192_0, stored (B 3) mn⟩,
   ⟨Rect.unit ![0, 128, 0] S1x64x512.size inb_S2x512x512_S1x64x512_0_128_0, stored (B 2) mn⟩,
   ⟨Rect.unit ![0, 64, 0] S1x64x512.size inb_S2x512x512_S1x64x512_0_64_0, stored (B 1) mn⟩,
   ⟨Rect.unit ![0, 0, 0] S1x64x512.size inb_S2x512x512_S1x64x512_0_0_0, stored (B 0) mn⟩]

/-- and of the second. -/
def pieces1 (B : Fin 8 → FVec F S64x512 .f32) (mn : FVec F S1x512 .f32) : List (View.Piece (Elt F) S2x512x512 .bf16) :=
  [⟨Rect.unit ![1, 448, 0] S1x64x512.size inb_S2x512x512_S1x64x512_1_448_0, stored (B 7) mn⟩,
   ⟨Rect.unit ![1, 384, 0] S1x64x512.size inb_S2x512x512_S1x64x512_1_384_0, stored (B 6) mn⟩,
   ⟨Rect.unit ![1, 320, 0] S1x64x512.size inb_S2x512x512_S1x64x512_1_320_0, stored (B 5) mn⟩,
   ⟨Rect.unit ![1, 256, 0] S1x64x512.size inb_S2x512x512_S1x64x512_1_256_0, stored (B 4) mn⟩,
   ⟨Rect.unit ![1, 192, 0] S1x64x512.size inb_S2x512x512_S1x64x512_1_192_0, stored (B 3) mn⟩,
   ⟨Rect.unit ![1, 128, 0] S1x64x512.size inb_S2x512x512_S1x64x512_1_128_0, stored (B 2) mn⟩,
   ⟨Rect.unit ![1, 64, 0] S1x64x512.size inb_S2x512x512_S1x64x512_1_64_0, stored (B 1) mn⟩,
   ⟨Rect.unit ![1, 0, 0] S1x64x512.size inb_S2x512x512_S1x64x512_1_0_0, stored (B 0) mn⟩]

/-- The weights of the first head read back, -/
def table0 (a : Memref sig .tc .vmem S2x512x512 .bf16) (B : Fin 8 → FVec F S64x512 .f32) (mn : FVec F S1x512 .f32) : Vec F S1x512x512 .bf16 :=
  a.view.readCov (pieces0 B mn) (Rect.unit (s := S2x512x512) ![0, 0, 0] S1x512x512.size inb_S2x512x512_S1x512x512_0_0_0).toLoadRect

/-- and of the second. -/
def table1 (a : Memref sig .tc .vmem S2x512x512 .bf16) (B B' : Fin 8 → FVec F S64x512 .f32) (mn mn' : FVec F S1x512 .f32) : Vec F S1x512x512 .bf16 :=
  a.view.readCov (pieces1 B' mn' ++ pieces0 B mn) (Rect.unit (s := S2x512x512) ![1, 0, 0] S1x512x512.size inb_S2x512x512_S1x512x512_1_0_0).toLoadRect

/-- The scores of a block of keys against the queries. -/
def scores (q k : Vec F S512x128 .bf16) : FVec F S512x512 .f32 :=
  matmul dot_S512x128_S512x128_S512x512_1_1_0_0_n_n none (shapeCast S512x128 k shapeCasts_S512x128_S512x128) (shapeCast S512x128 q shapeCasts_S512x128_S512x128 : FVec F S512x128 .bf16) (constant S512x512 .f32 0x00000000#32)

/-- The new weighted values. -/
def accNew (al : FVec F S1x512 .f32) (acc : FVec F S128x512 .f32) (v : Vec F S512x128 .bf16) (p : Vec F S1x512x512 .bf16) : FVec F S128x512 .f32 :=
  addf (mulf (broadcastTo S128x512 al broadcasts_S1x512_S128x512) acc)
    (matmul dot_S512x128_S512x512_S128x512_0_0_1_1_n_n none (shapeCast S512x128 v shapeCasts_S512x128_S512x128 : FVec F S512x128 .bf16) (shapeCast S512x512 p shapeCasts_S1x512x512_S512x512) (constant S128x512 .f32 0x00000000#32))

/-- What is carried from block to block: row maximum, sum of weights and weighted values of each head. -/
abbrev Carry (F : FTy → Type) : Type := FVec F S1x512 .f32 × FVec F S1x512 .f32 × FVec F S128x512 .f32 × FVec F S1x512 .f32 × FVec F S1x512 .f32 × FVec F S128x512 .f32

/-- The step of one block for both heads, from the chunks of scores and the values. -/
def step (a : Memref sig .tc .vmem S2x512x512 .bf16) (B B' : Fin 8 → FVec F S64x512 .f32) (v v' : Vec F S512x128 .bf16) (s : Carry F) : Carry F :=
  (mNew B s.1, lNew B s.1 s.2.1, accNew (alpha B s.1) s.2.2.1 v (table0 a B (mNew B s.1)),
   mNew B' s.2.2.2.1, lNew B' s.2.2.2.1 s.2.2.2.2.1, accNew (alpha B' s.2.2.2.1) s.2.2.2.2.2 v' (table1 a B B' (mNew B s.1) (mNew B' s.2.2.2.1)))

/-- The carry before the first block. -/
def start : Carry F := (k0_pay132, k0_pay133, k0_pay134, k0_pay132, k0_pay133, k0_pay134)

/-- The output block: each head's weighted values over its sum of weights. -/
def outT (s : Carry F) : FVec F S512x128 .f32 :=
  transpose S512x128 [1, 0] (addf (addf (broadcast S128x512 (Scalar.ofBits .f32 0x00000000#32)) (divf s.2.2.1 (broadcastTo S128x512 s.2.1 broadcasts_S1x512_S128x512)))
    (divf s.2.2.2.2.2 (broadcastTo S128x512 s.2.2.2.2.1 broadcasts_S1x512_S128x512))) transposes_S128x512_p1_0_S512x128

/-- A head's row of logarithms, from its row maximum and sum of weights. -/
def lseT (m l : FVec F S1x512 .f32) : FVec F S1x1x512 .f32 :=
  shapeCast S1x1x512 (addf m (divf (log l) (log (broadcast S1x512 (Scalar.ofBits .f32 0x40000000#32))))) shapeCasts_S1x512_S1x1x512

section Run

variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x128 .f32) (harg5 : arg5.IsWhole) (arg6 : Memref sig .tc .vmem S2x1x512 .f32) (harg6 : arg6.IsWhole) (arg7 : Memref sig .tc .vmem S2x512x512 .bf16) (harg7 : arg7.IsWhole)

/-- Rows `512 k …` of the keys or values of the first head, -/
def rows0 (a : Memref sig .tc .vmem S8192x256 .bf16) (X : BufTy.Contents (Elt F) a.view.ty) (k : Fin (k0_t1_loop i).trips) : Vec F S512x128 .bf16 :=
  View.readAt (Elt F) a.view (Rect.unit (s := S8192x256) (k0_off1 i k) S512x128.size (k0_off1_inb i k)).toLoadRect X
/-- and of the second. -/
def rows1 (a : Memref sig .tc .vmem S8192x256 .bf16) (X : BufTy.Contents (Elt F) a.view.ty) (k : Fin (k0_t1_loop i).trips) : Vec F S512x128 .bf16 :=
  View.readAt (Elt F) a.view (Rect.unit (s := S8192x256) (k0_off2 i k) S512x128.size (k0_off2_inb i k)).toLoadRect X

/-- One trip of the loop is the step. -/
theorem trip_eq (v2 v4 : Vec F S512x128 .bf16) (X3 : BufTy.Contents (Elt F) arg3.view.ty) (X4 : BufTy.Contents (Elt F) arg4.view.ty)
    (k : Fin (k0_t1_loop i).trips) (s : Carry F) (f : BufTy.Contents (Elt F) arg7.view.ty) :
    tripR_k0_t1 (F := F) Variants.none c none i arg2 harg2 arg3 harg3 arg4 harg4 arg5 harg5 arg6 harg6 arg7 harg7 v2 v4 X3 X4 k s f
      = step arg7 (slices (scores v2 (rows0 i arg3 X3 k))) (slices (scores v4 (rows1 i arg3 X3 k))) (rows0 i arg4 X4 k) (rows1 i arg4 X4 k) s := by
  unfold tripR_k0_t1 trip_k0_t1
  rfl

/-- The queries of the first head, -/
def q0 (x0 : Vec F S512x256 .bf16) : Vec F S512x128 .bf16 :=
  View.readAt (Elt F) arg2.view (Rect.unit (s := S512x256) ![0, 0] S512x128.size inb_S512x256_S512x128_0_0).toLoadRect (harg2.unread x0)
/-- and of the second. -/
def q1 (x0 : Vec F S512x256 .bf16) : Vec F S512x128 .bf16 :=
  View.readAt (Elt F) arg2.view (Rect.unit (s := S512x256) ![0, 128] S512x128.size inb_S512x256_S512x128_0_128).toLoadRect (harg2.unread x0)

/-- The diagonal rows of the keys or values of the first head, -/
def diag0 (a : Memref sig .tc .vmem S8192x256 .bf16) (X : BufTy.Contents (Elt F) a.view.ty) : Vec F S512x128 .bf16 :=
  View.readAt (Elt F) a.view (Rect.unit (s := S8192x256) (k0_off5 i) S512x128.size (k0_off5_inb i)).toLoadRect X
/-- and of the second. -/
def diag1 (a : Memref sig .tc .vmem S8192x256 .bf16) (X : BufTy.Contents (Elt F) a.view.ty) : Vec F S512x128 .bf16 :=
  View.readAt (Elt F) a.view (Rect.unit (s := S8192x256) (k0_off6 i) S512x128.size (k0_off6_inb i)).toLoadRect X

variable (x0 : Vec F S512x256 .bf16) (x1 x2 : Vec F S8192x256 .bf16)

/-- The carry after the first `k` blocks. -/
def carryAt : ℕ → Carry F
  | 0 => start
  | k + 1 => if h : k < (k0_t1_loop i).trips then
      step arg7 (slices (scores (q0 arg2 harg2 x0) (rows0 i arg3 (harg3.unread x1) ⟨k, h⟩))) (slices (scores (q1 arg2 harg2 x0) (rows1 i arg3 (harg3.unread x1) ⟨k, h⟩)))
        (rows0 i arg4 (harg4.unread x2) ⟨k, h⟩) (rows1 i arg4 (harg4.unread x2) ⟨k, h⟩) (carryAt k)
    else carryAt k

/-- The loop's state carries it, whatever the scratch held. -/
theorem state_eq (G : BufTy.Contents (Elt F) arg7.view.ty) : ∀ k, k ≤ (k0_t1_loop i).trips →
    (st_k0_t1 (F := F) Variants.none c none i arg2 harg2 arg3 harg3 arg4 harg4 arg5 harg5 arg6 harg6 arg7 harg7 (q0 arg2 harg2 x0) (q1 arg2 harg2 x0) (harg3.unread x1) (harg4.unread x2) G start k).1
      = carryAt i arg2 harg2 arg3 harg3 arg4 harg4 arg7 x0 x1 x2 k
  | 0, _ => by rw [carryAt]; exact st_k0_t1_zero ..
  | k + 1, h => by
    have hk : k < (k0_t1_loop i).trips := h
    have := st_k0_t1_succ (F := F) Variants.none c none i arg2 harg2 arg3 harg3 arg4 harg4 arg5 harg5 arg6 harg6 arg7 harg7 (q0 arg2 harg2 x0) (q1 arg2 harg2 x0) (harg3.unread x1) (harg4.unread x2) G start ⟨k, hk⟩
    rw [this, carryAt, dif_pos hk]
    dsimp only
    rw [trip_eq, state_eq G k (le_of_lt hk)]

/-- The second loop runs no trip. -/
theorem none_left : ∀ i : grid0.Coords, (k0_t2_loop i).trips = 0 := by decide +kernel

/-- The carry after the diagonal block. -/
def last : Carry F :=
  step arg7 (masked (scores (q0 arg2 harg2 x0) (diag0 i arg3 (harg3.unread x1)))) (masked (scores (q1 arg2 harg2 x0) (diag1 i arg3 (harg3.unread x1))))
    (diag0 i arg4 (harg4.unread x2)) (diag1 i arg4 (harg4.unread x2)) (carryAt i arg2 harg2 arg3 harg3 arg4 harg4 arg7 x0 x1 x2 (k0_t1_loop i).trips)

/-- The store of the output block, from the last carry, -/
def outPieces (s : Carry F) : List (View.Piece (Elt F) S512x128 .f32) :=
  [⟨Rect.unit ![0, 0] ![512, 128] inb_S512x128_S512x128_0_0, outT s⟩]
/-- and of the rows of logarithms. -/
def lsePieces (s : Carry F) : List (View.Piece (Elt F) S2x1x512 .f32) :=
  [⟨Rect.unit ![1, 0, 0] ![1, 1, 512] inb_S2x1x512_S1x1x512_1_0_0, lseT s.2.2.2.1 s.2.2.2.2.1⟩,
   ⟨Rect.unit ![0, 0, 0] ![1, 1, 512] inb_S2x1x512_S1x1x512_0_0_0, lseT s.1 s.2.1⟩]

variable (G : BufTy.Contents (Elt F) arg7.view.ty)

/-- The carry the run finds before the diagonal block. -/
def found : Carry F :=
  (bodyRun.sl.r c i arg2 harg2 arg3 harg3 arg4 harg4 arg5 harg5 arg6 harg6 arg7 harg7 x0 x1 x2 G, bodyRun.sl.r_1 c i arg2 harg2 arg3 harg3 arg4 harg4 arg5 harg5 arg6 harg6 arg7 harg7 x0 x1 x2 G, bodyRun.sl.r_2 c i arg2 harg2 arg3 harg3 arg4 harg4 arg5 harg5 arg6 harg6 arg7 harg7 x0 x1 x2 G, bodyRun.sl.r_3 c i arg2 harg2 arg3 harg3 arg4 harg4 arg5 harg5 arg6 harg6 arg7 harg7 x0 x1 x2 G, bodyRun.sl.r_4 c i arg2 harg2 arg3 harg3 arg4 harg4 arg5 harg5 arg6 harg6 arg7 harg7 x0 x1 x2 G, bodyRun.sl.r_5 c i arg2 harg2 arg3 harg3 arg4 harg4 arg5 harg5 arg6 harg6 arg7 harg7 x0 x1 x2 G)

/-- The second loop leaves the carry as it is. -/
theorem second_eq (v2 v4 : Vec F S512x128 .bf16) (w : BitVec 32) (X3 : BufTy.Contents (Elt F) arg3.view.ty) (X4 : BufTy.Contents (Elt F) arg4.view.ty) (s : Carry F) :
    (st_k0_t2 (F := F) Variants.none c none i arg2 harg2 arg3 harg3 arg4 harg4 arg5 harg5 arg6 harg6 arg7 harg7 v2 v4 w X3 X4 G s (k0_t2_loop i).trips).1 = s := by
  rw [none_left i]; exact st_k0_t2_zero ..

/-- It is the carry of the blocks before. -/
theorem found_eq : found c i arg2 harg2 arg3 harg3 arg4 harg4 arg5 harg5 arg6 harg6 arg7 harg7 x0 x1 x2 G = carryAt i arg2 harg2 arg3 harg3 arg4 harg4 arg7 x0 x1 x2 (k0_t1_loop i).trips := by
  have h1 := state_eq c i arg2 harg2 arg3 harg3 arg4 harg4 arg5 harg5 arg6 harg6 arg7 harg7 x0 x1 x2 G _ le_rfl
  have h2 := second_eq (F := F) c i arg2 harg2 arg3 harg3 arg4 harg4 arg5 harg5 arg6 harg6 arg7 harg7
  unfold found bodyRun.sl.r bodyRun.sl.r_1 bodyRun.sl.r_2 bodyRun.sl.r_3 bodyRun.sl.r_4 bodyRun.sl.r_5
  rw [← h1]
  unfold q0 q1 start
  unfold Scf.Loop.trips at h2 ⊢
  simp only [h2]

/-- Two lists of stores agree if the stored blocks do. -/
theorem cons_piece {r : Rect S2x512x512} {w w' : r.shape.Idx → Elt F .bf16} {L L' : List (View.Piece (Elt F) S2x512x512 .bf16)} (h : w = w') (hl : L = L') :
    (⟨r, w⟩ :: L : List (View.Piece (Elt F) S2x512x512 .bf16)) = ⟨r, w'⟩ :: L' := by rw [h, hl]

/-- Under stores that cover an index, the earlier stores do not show. -/
theorem canon_first (L L' : List (View.Piece (Elt F) S2x512x512 .bf16)) (y : S2x512x512.Idx) (h : ∃ p ∈ L, y ∈ p.1.set) :
    View.canon (L ++ L') y = View.canon L y := by
  induction L with
  | nil => obtain ⟨p, hp, _⟩ := h; exact absurd hp List.not_mem_nil
  | cons p L ih =>
    by_cases hy : y ∈ p.1.set
    · obtain ⟨x, rfl⟩ := p.1.exists_idx_of_mem hy
      exact (View.canon_cons_emb p.1 p.2 (L ++ L') x).trans (View.canon_cons_emb p.1 p.2 L x).symm
    · rw [List.cons_append, View.canon_cons_of_not_mem p (L ++ L') hy, View.canon_cons_of_not_mem p L hy]
      refine ih ?_
      obtain ⟨q, hq, hyq⟩ := h
      rcases List.mem_cons.mp hq with rfl | hq
      · exact absurd hyq hy
      · exact ⟨q, hq, hyq⟩

/-- The stores of the first head cover its plane of the scratch block, -/
theorem cover0 (B : Fin 8 → FVec F S64x512 .f32) (mn : FVec F S1x512 .f32) (y : S2x512x512.Idx) (h : (y 0).val = 0) :
    ∃ p ∈ pieces0 B mn, y ∈ p.1.set := by
  have h1 : (y 1).val < 512 := (y 1).isLt
  have h2 : (y 2).val < 512 := (y 2).isLt
  rcases (show 0 ≤ (y 1).val ∧ (y 1).val < 64 ∨ 64 ≤ (y 1).val ∧ (y 1).val < 128 ∨ 128 ≤ (y 1).val ∧ (y 1).val < 192 ∨ 192 ≤ (y 1).val ∧ (y 1).val < 256 ∨ 256 ≤ (y 1).val ∧ (y 1).val < 320 ∨ 320 ≤ (y 1).val ∧ (y 1).val < 384 ∨ 384 ≤ (y 1).val ∧ (y 1).val < 448 ∨ 448 ≤ (y 1).val ∧ (y 1).val < 512 by omega) with h1|h1|h1|h1|h1|h1|h1|h1
  · exact ⟨_, List.mem_of_getElem? (i := 7) rfl, (Rect.mem_set_unit (inb := inb_S2x512x512_S1x64x512_0_0_0)).mpr fun a => match a with
      | ⟨0, _⟩ => ⟨(by omega : 0 ≤ (y 0).val), (by omega : (y 0).val < 0 + 1)⟩
      | ⟨1, _⟩ => ⟨h1.1, h1.2⟩
      | ⟨2, _⟩ => ⟨Nat.zero_le _, (by omega : (y 2).val < 0 + 512)⟩⟩
  · exact ⟨_, List.mem_of_getElem? (i := 6) rfl, (Rect.mem_set_unit (inb := inb_S2x512x512_S1x64x512_0_64_0)).mpr fun a => match a with
      | ⟨0, _⟩ => ⟨(by omega : 0 ≤ (y 0).val), (by omega : (y 0).val < 0 + 1)⟩
      | ⟨1, _⟩ => ⟨h1.1, h1.2⟩
      | ⟨2, _⟩ => ⟨Nat.zero_le _, (by omega : (y 2).val < 0 + 512)⟩⟩
  · exact ⟨_, List.mem_of_getElem? (i := 5) rfl, (Rect.mem_set_unit (inb := inb_S2x512x512_S1x64x512_0_128_0)).mpr fun a => match a with
      | ⟨0, _⟩ => ⟨(by omega : 0 ≤ (y 0).val), (by omega : (y 0).val < 0 + 1)⟩
      | ⟨1, _⟩ => ⟨h1.1, h1.2⟩
      | ⟨2, _⟩ => ⟨Nat.zero_le _, (by omega : (y 2).val < 0 + 512)⟩⟩
  · exact ⟨_, List.mem_of_getElem? (i := 4) rfl, (Rect.mem_set_unit (inb := inb_S2x512x512_S1x64x512_0_192_0)).mpr fun a => match a with
      | ⟨0, _⟩ => ⟨(by omega : 0 ≤ (y 0).val), (by omega : (y 0).val < 0 + 1)⟩
      | ⟨1, _⟩ => ⟨h1.1, h1.2⟩
      | ⟨2, _⟩ => ⟨Nat.zero_le _, (by omega : (y 2).val < 0 + 512)⟩⟩
  · exact ⟨_, List.mem_of_getElem? (i := 3) rfl, (Rect.mem_set_unit (inb := inb_S2x512x512_S1x64x512_0_256_0)).mpr fun a => match a with
      | ⟨0, _⟩ => ⟨(by omega : 0 ≤ (y 0).val), (by omega : (y 0).val < 0 + 1)⟩
      | ⟨1, _⟩ => ⟨h1.1, h1.2⟩
      | ⟨2, _⟩ => ⟨Nat.zero_le _, (by omega : (y 2).val < 0 + 512)⟩⟩
  · exact ⟨_, List.mem_of_getElem? (i := 2) rfl, (Rect.mem_set_unit (inb := inb_S2x512x512_S1x64x512_0_320_0)).mpr fun a => match a with
      | ⟨0, _⟩ => ⟨(by omega : 0 ≤ (y 0).val), (by omega : (y 0).val < 0 + 1)⟩
      | ⟨1, _⟩ => ⟨h1.1, h1.2⟩
      | ⟨2, _⟩ => ⟨Nat.zero_le _, (by omega : (y 2).val < 0 + 512)⟩⟩
  · exact ⟨_, List.mem_of_getElem? (i := 1) rfl, (Rect.mem_set_unit (inb := inb_S2x512x512_S1x64x512_0_384_0)).mpr fun a => match a with
      | ⟨0, _⟩ => ⟨(by omega : 0 ≤ (y 0).val), (by omega : (y 0).val < 0 + 1)⟩
      | ⟨1, _⟩ => ⟨h1.1, h1.2⟩
      | ⟨2, _⟩ => ⟨Nat.zero_le _, (by omega : (y 2).val < 0 + 512)⟩⟩
  · exact ⟨_, List.mem_of_getElem? (i := 0) rfl, (Rect.mem_set_unit (inb := inb_S2x512x512_S1x64x512_0_448_0)).mpr fun a => match a with
      | ⟨0, _⟩ => ⟨(by omega : 0 ≤ (y 0).val), (by omega : (y 0).val < 0 + 1)⟩
      | ⟨1, _⟩ => ⟨h1.1, h1.2⟩
      | ⟨2, _⟩ => ⟨Nat.zero_le _, (by omega : (y 2).val < 0 + 512)⟩⟩

/-- and those of the second its own. -/
theorem cover1 (B : Fin 8 → FVec F S64x512 .f32) (mn : FVec F S1x512 .f32) (y : S2x512x512.Idx) (h : (y 0).val = 1) :
    ∃ p ∈ pieces1 B mn, y ∈ p.1.set := by
  have h1 : (y 1).val < 512 := (y 1).isLt
  have h2 : (y 2).val < 512 := (y 2).isLt
  rcases (show 0 ≤ (y 1).val ∧ (y 1).val < 64 ∨ 64 ≤ (y 1).val ∧ (y 1).val < 128 ∨ 128 ≤ (y 1).val ∧ (y 1).val < 192 ∨ 192 ≤ (y 1).val ∧ (y 1).val < 256 ∨ 256 ≤ (y 1).val ∧ (y 1).val < 320 ∨ 320 ≤ (y 1).val ∧ (y 1).val < 384 ∨ 384 ≤ (y 1).val ∧ (y 1).val < 448 ∨ 448 ≤ (y 1).val ∧ (y 1).val < 512 by omega) with h1|h1|h1|h1|h1|h1|h1|h1
  · exact ⟨_, List.mem_of_getElem? (i := 7) rfl, (Rect.mem_set_unit (inb := inb_S2x512x512_S1x64x512_1_0_0)).mpr fun a => match a with
      | ⟨0, _⟩ => ⟨(by omega : 1 ≤ (y 0).val), (by omega : (y 0).val < 1 + 1)⟩
      | ⟨1, _⟩ => ⟨h1.1, h1.2⟩
      | ⟨2, _⟩ => ⟨Nat.zero_le _, (by omega : (y 2).val < 0 + 512)⟩⟩
  · exact ⟨_, List.mem_of_getElem? (i := 6) rfl, (Rect.mem_set_unit (inb := inb_S2x512x512_S1x64x512_1_64_0)).mpr fun a => match a with
      | ⟨0, _⟩ => ⟨(by omega : 1 ≤ (y 0).val), (by omega : (y 0).val < 1 + 1)⟩
      | ⟨1, _⟩ => ⟨h1.1, h1.2⟩
      | ⟨2, _⟩ => ⟨Nat.zero_le _, (by omega : (y 2).val < 0 + 512)⟩⟩
  · exact ⟨_, List.mem_of_getElem? (i := 5) rfl, (Rect.mem_set_unit (inb := inb_S2x512x512_S1x64x512_1_128_0)).mpr fun a => match a with
      | ⟨0, _⟩ => ⟨(by omega : 1 ≤ (y 0).val), (by omega : (y 0).val < 1 + 1)⟩
      | ⟨1, _⟩ => ⟨h1.1, h1.2⟩
      | ⟨2, _⟩ => ⟨Nat.zero_le _, (by omega : (y 2).val < 0 + 512)⟩⟩
  · exact ⟨_, List.mem_of_getElem? (i := 4) rfl, (Rect.mem_set_unit (inb := inb_S2x512x512_S1x64x512_1_192_0)).mpr fun a => match a with
      | ⟨0, _⟩ => ⟨(by omega : 1 ≤ (y 0).val), (by omega : (y 0).val < 1 + 1)⟩
      | ⟨1, _⟩ => ⟨h1.1, h1.2⟩
      | ⟨2, _⟩ => ⟨Nat.zero_le _, (by omega : (y 2).val < 0 + 512)⟩⟩
  · exact ⟨_, List.mem_of_getElem? (i := 3) rfl, (Rect.mem_set_unit (inb := inb_S2x512x512_S1x64x512_1_256_0)).mpr fun a => match a with
      | ⟨0, _⟩ => ⟨(by omega : 1 ≤ (y 0).val), (by omega : (y 0).val < 1 + 1)⟩
      | ⟨1, _⟩ => ⟨h1.1, h1.2⟩
      | ⟨2, _⟩ => ⟨Nat.zero_le _, (by omega : (y 2).val < 0 + 512)⟩⟩
  · exact ⟨_, List.mem_of_getElem? (i := 2) rfl, (Rect.mem_set_unit (inb := inb_S2x512x512_S1x64x512_1_320_0)).mpr fun a => match a with
      | ⟨0, _⟩ => ⟨(by omega : 1 ≤ (y 0).val), (by omega : (y 0).val < 1 + 1)⟩
      | ⟨1, _⟩ => ⟨h1.1, h1.2⟩
      | ⟨2, _⟩ => ⟨Nat.zero_le _, (by omega : (y 2).val < 0 + 512)⟩⟩
  · exact ⟨_, List.mem_of_getElem? (i := 1) rfl, (Rect.mem_set_unit (inb := inb_S2x512x512_S1x64x512_1_384_0)).mpr fun a => match a with
      | ⟨0, _⟩ => ⟨(by omega : 1 ≤ (y 0).val), (by omega : (y 0).val < 1 + 1)⟩
      | ⟨1, _⟩ => ⟨h1.1, h1.2⟩
      | ⟨2, _⟩ => ⟨Nat.zero_le _, (by omega : (y 2).val < 0 + 512)⟩⟩
  · exact ⟨_, List.mem_of_getElem? (i := 0) rfl, (Rect.mem_set_unit (inb := inb_S2x512x512_S1x64x512_1_448_0)).mpr fun a => match a with
      | ⟨0, _⟩ => ⟨(by omega : 1 ≤ (y 0).val), (by omega : (y 0).val < 1 + 1)⟩
      | ⟨1, _⟩ => ⟨h1.1, h1.2⟩
      | ⟨2, _⟩ => ⟨Nat.zero_le _, (by omega : (y 2).val < 0 + 512)⟩⟩

/-- What is read back of the first head's plane depends on its own stores alone, -/
theorem read0_eq (a : Memref sig .tc .vmem S2x512x512 .bf16) (B : Fin 8 → FVec F S64x512 .f32) (mn : FVec F S1x512 .f32) (L' : List (View.Piece (Elt F) S2x512x512 .bf16)) :
    a.view.readCov (pieces0 B mn ++ L') (Rect.unit (s := S2x512x512) ![0, 0, 0] S1x512x512.size inb_S2x512x512_S1x512x512_0_0_0).toLoadRect = table0 a B mn := by
  unfold table0
  rw [View.readCov_eq_canon', View.readCov_eq_canon']
  funext j
  exact canon_first _ _ _ (cover0 B mn _ (by show 0 + 1 * (j 0).val = 0; have h : (j 0).val < 1 := (j 0).isLt; omega))

/-- and of the second's likewise. -/
theorem read1_eq (a : Memref sig .tc .vmem S2x512x512 .bf16) (B B' : Fin 8 → FVec F S64x512 .f32) (mn mn' : FVec F S1x512 .f32) (L' : List (View.Piece (Elt F) S2x512x512 .bf16)) :
    a.view.readCov (pieces1 B' mn' ++ (pieces0 B mn ++ L')) (Rect.unit (s := S2x512x512) ![1, 0, 0] S1x512x512.size inb_S2x512x512_S1x512x512_1_0_0).toLoadRect = table1 a B B' mn mn' := by
  unfold table1
  rw [View.readCov_eq_canon', View.readCov_eq_canon']
  funext j
  have hc := cover1 B' mn' ((Rect.unit (s := S2x512x512) ![1, 0, 0] S1x512x512.size inb_S2x512x512_S1x512x512_1_0_0).toLoadRect.idx j) (by show 1 + 1 * (j 0).val = 1; have h : (j 0).val < 1 := (j 0).isLt; omega)
  exact (canon_first _ _ _ hc).trans (canon_first _ _ _ hc).symm

/-- The row maximum of the first head after the diagonal block, -/
theorem top0_eq : bodyRun.sl.r_20 c i arg2 harg2 arg3 harg3 arg4 harg4 arg5 harg5 arg6 harg6 arg7 harg7 x0 x1 x2 G = (mNew (masked (scores (q0 arg2 harg2 x0) (diag0 i arg3 (harg3.unread x1)))) (found c i arg2 harg2 arg3 harg3 arg4 harg4 arg5 harg5 arg6 harg6 arg7 harg7 x0 x1 x2 G).1) := rfl
/-- and of the second. -/
theorem top1_eq : bodyRun.sl.r_37 c i arg2 harg2 arg3 harg3 arg4 harg4 arg5 harg5 arg6 harg6 arg7 harg7 x0 x1 x2 G = (mNew (masked (scores (q1 arg2 harg2 x0) (diag1 i arg3 (harg3.unread x1)))) (found c i arg2 harg2 arg3 harg3 arg4 harg4 arg5 harg5 arg6 harg6 arg7 harg7 x0 x1 x2 G).2.2.2.1) := rfl

/-- The stores of the first head's weights, over the loop's, -/
theorem stores0_eq : ∃ L', bodyRun.sl.H5_8 c i arg2 harg2 arg3 harg3 arg4 harg4 arg5 harg5 arg6 harg6 arg7 harg7 x0 x1 x2 G = pieces0 (masked (scores (q0 arg2 harg2 x0) (diag0 i arg3 (harg3.unread x1)))) (mNew (masked (scores (q0 arg2 harg2 x0) (diag0 i arg3 (harg3.unread x1)))) (found c i arg2 harg2 arg3 harg3 arg4 harg4 arg5 harg5 arg6 harg6 arg7 harg7 x0 x1 x2 G).1) ++ L' := ⟨_, cons_piece rfl (cons_piece rfl (cons_piece rfl (cons_piece rfl (cons_piece rfl (cons_piece rfl (cons_piece rfl (cons_piece rfl rfl)))))))⟩
/-- and then the second's. -/
theorem stores1_eq : ∃ L', bodyRun.sl.H5_16 c i arg2 harg2 arg3 harg3 arg4 harg4 arg5 harg5 arg6 harg6 arg7 harg7 x0 x1 x2 G = pieces1 (masked (scores (q1 arg2 harg2 x0) (diag1 i arg3 (harg3.unread x1)))) (mNew (masked (scores (q1 arg2 harg2 x0) (diag1 i arg3 (harg3.unread x1)))) (found c i arg2 harg2 arg3 harg3 arg4 harg4 arg5 harg5 arg6 harg6 arg7 harg7 x0 x1 x2 G).2.2.2.1) ++ (pieces0 (masked (scores (q0 arg2 harg2 x0) (diag0 i arg3 (harg3.unread x1)))) (mNew (masked (scores (q0 arg2 harg2 x0) (diag0 i arg3 (harg3.unread x1)))) (found c i arg2 harg2 arg3 harg3 arg4 harg4 arg5 harg5 arg6 harg6 arg7 harg7 x0 x1 x2 G).1) ++ L') := by
  obtain ⟨L', h⟩ := stores0_eq c i arg2 harg2 arg3 harg3 arg4 harg4 arg5 harg5 arg6 harg6 arg7 harg7 x0 x1 x2 G
  exact ⟨L', cons_piece rfl (cons_piece rfl (cons_piece rfl (cons_piece rfl (cons_piece rfl (cons_piece rfl (cons_piece rfl (cons_piece rfl (h))))))))⟩

/-- The first head's weights as the run reads them back, -/
theorem back0_eq : bodyRun.sl.v190 c i arg2 harg2 arg3 harg3 arg4 harg4 arg5 harg5 arg6 harg6 arg7 harg7 x0 x1 x2 G = table0 arg7 (masked (scores (q0 arg2 harg2 x0) (diag0 i arg3 (harg3.unread x1)))) (mNew (masked (scores (q0 arg2 harg2 x0) (diag0 i arg3 (harg3.unread x1)))) (found c i arg2 harg2 arg3 harg3 arg4 harg4 arg5 harg5 arg6 harg6 arg7 harg7 x0 x1 x2 G).1) := by
  obtain ⟨L', h⟩ := stores0_eq c i arg2 harg2 arg3 harg3 arg4 harg4 arg5 harg5 arg6 harg6 arg7 harg7 x0 x1 x2 G
  unfold bodyRun.sl.v190
  rw [h]; exact read0_eq ..
/-- and the second's. -/
theorem back1_eq : bodyRun.sl.v362 c i arg2 harg2 arg3 harg3 arg4 harg4 arg5 harg5 arg6 harg6 arg7 harg7 x0 x1 x2 G = table1 arg7 (masked (scores (q0 arg2 harg2 x0) (diag0 i arg3 (harg3.unread x1)))) (masked (scores (q1 arg2 harg2 x0) (diag1 i arg3 (harg3.unread x1)))) (mNew (masked (scores (q0 arg2 harg2 x0) (diag0 i arg3 (harg3.unread x1)))) (found c i arg2 harg2 arg3 harg3 arg4 harg4 arg5 harg5 arg6 harg6 arg7 harg7 x0 x1 x2 G).1) (mNew (masked (scores (q1 arg2 harg2 x0) (diag1 i arg3 (harg3.unread x1)))) (found c i arg2 harg2 arg3 harg3 arg4 harg4 arg5 harg5 arg6 harg6 arg7 harg7 x0 x1 x2 G).2.2.2.1) := by
  obtain ⟨L', h⟩ := stores1_eq c i arg2 harg2 arg3 harg3 arg4 harg4 arg5 harg5 arg6 harg6 arg7 harg7 x0 x1 x2 G
  unfold bodyRun.sl.v362
  rw [h]; exact read1_eq ..

/-- The sums of weights after the diagonal block -/
theorem sums_eq : bodyRun.sl.r_25 c i arg2 harg2 arg3 harg3 arg4 harg4 arg5 harg5 arg6 harg6 arg7 harg7 x0 x1 x2 G = lNew (masked (scores (q0 arg2 harg2 x0) (diag0 i arg3 (harg3.unread x1)))) (found c i arg2 harg2 arg3 harg3 arg4 harg4 arg5 harg5 arg6 harg6 arg7 harg7 x0 x1 x2 G).1 (found c i arg2 harg2 arg3 harg3 arg4 harg4 arg5 harg5 arg6 harg6 arg7 harg7 x0 x1 x2 G).2.1 ∧ bodyRun.sl.r_44 c i arg2 harg2 arg3 harg3 arg4 harg4 arg5 harg5 arg6 harg6 arg7 harg7 x0 x1 x2 G = lNew (masked (scores (q1 arg2 harg2 x0) (diag1 i arg3 (harg3.unread x1)))) (found c i arg2 harg2 arg3 harg3 arg4 harg4 arg5 harg5 arg6 harg6 arg7 harg7 x0 x1 x2 G).2.2.2.1 (found c i arg2 harg2 arg3 harg3 arg4 harg4 arg5 harg5 arg6 harg6 arg7 harg7 x0 x1 x2 G).2.2.2.2.1 :=
  ⟨rfl, rfl⟩

/-- and the rescaling factors. -/
theorem alphas_eq : bodyRun.sl.r_21 c i arg2 harg2 arg3 harg3 arg4 harg4 arg5 harg5 arg6 harg6 arg7 harg7 x0 x1 x2 G = alpha (masked (scores (q0 arg2 harg2 x0) (diag0 i arg3 (harg3.unread x1)))) (found c i arg2 harg2 arg3 harg3 arg4 harg4 arg5 harg5 arg6 harg6 arg7 harg7 x0 x1 x2 G).1 ∧ bodyRun.sl.r_38 c i arg2 harg2 arg3 harg3 arg4 harg4 arg5 harg5 arg6 harg6 arg7 harg7 x0 x1 x2 G = alpha (masked (scores (q1 arg2 harg2 x0) (diag1 i arg3 (harg3.unread x1)))) (found c i arg2 harg2 arg3 harg3 arg4 harg4 arg5 harg5 arg6 harg6 arg7 harg7 x0 x1 x2 G).2.2.2.1 := ⟨rfl, rfl⟩

/-- The first head's weighted values, -/
theorem acc0_eq : bodyRun.sl.r_24 c i arg2 harg2 arg3 harg3 arg4 harg4 arg5 harg5 arg6 harg6 arg7 harg7 x0 x1 x2 G = accNew (alpha (masked (scores (q0 arg2 harg2 x0) (diag0 i arg3 (harg3.unread x1)))) (found c i arg2 harg2 arg3 harg3 arg4 harg4 arg5 harg5 arg6 harg6 arg7 harg7 x0 x1 x2 G).1) (found c i arg2 harg2 arg3 harg3 arg4 harg4 arg5 harg5 arg6 harg6 arg7 harg7 x0 x1 x2 G).2.2.1 (diag0 i arg4 (harg4.unread x2)) (table0 arg7 (masked (scores (q0 arg2 harg2 x0) (diag0 i arg3 (harg3.unread x1)))) (mNew (masked (scores (q0 arg2 harg2 x0) (diag0 i arg3 (harg3.unread x1)))) (found c i arg2 harg2 arg3 harg3 arg4 harg4 arg5 harg5 arg6 harg6 arg7 harg7 x0 x1 x2 G).1)) := by
  unfold bodyRun.sl.r_24
  rw [back0_eq, (alphas_eq c i arg2 harg2 arg3 harg3 arg4 harg4 arg5 harg5 arg6 harg6 arg7 harg7 x0 x1 x2 G).1]
  rfl
/-- and the second's. -/
theorem acc1_eq : bodyRun.sl.r_43 c i arg2 harg2 arg3 harg3 arg4 harg4 arg5 harg5 arg6 harg6 arg7 harg7 x0 x1 x2 G = accNew (alpha (masked (scores (q1 arg2 harg2 x0) (diag1 i arg3 (harg3.unread x1)))) (found c i arg2 harg2 arg3 harg3 arg4 harg4 arg5 harg5 arg6 harg6 arg7 harg7 x0 x1 x2 G).2.2.2.1) (found c i arg2 harg2 arg3 harg3 arg4 harg4 arg5 harg5 arg6 harg6 arg7 harg7 x0 x1 x2 G).2.2.2.2.2 (diag1 i arg4 (harg4.unread x2)) (table1 arg7 (masked (scores (q0 arg2 harg2 x0) (diag0 i arg3 (harg3.unread x1)))) (masked (scores (q1 arg2 harg2 x0) (diag1 i arg3 (harg3.unread x1)))) (mNew (masked (scores (q0 arg2 harg2 x0) (diag0 i arg3 (harg3.unread x1)))) (found c i arg2 harg2 arg3 harg3 arg4 harg4 arg5 harg5 arg6 harg6 arg7 harg7 x0 x1 x2 G).1) (mNew (masked (scores (q1 arg2 harg2 x0) (diag1 i arg3 (harg3.unread x1)))) (found c i arg2 harg2 arg3 harg3 arg4 harg4 arg5 harg5 arg6 harg6 arg7 harg7 x0 x1 x2 G).2.2.2.1)) := by
  unfold bodyRun.sl.r_43
  rw [back1_eq, (alphas_eq c i arg2 harg2 arg3 harg3 arg4 harg4 arg5 harg5 arg6 harg6 arg7 harg7 x0 x1 x2 G).2]
  rfl

/-- What the run stores into the output block: the output of the last carry. -/
theorem bodyRun_fst :
    (bodyRun (F := F) c i arg2 harg2 arg3 harg3 arg4 harg4 arg5 harg5 arg6 harg6 arg7 harg7 x0 x1 x2).1 G = outPieces (last i arg2 harg2 arg3 harg3 arg4 harg4 arg7 x0 x1 x2) := by
  unfold last
  rw [← found_eq c i arg2 harg2 arg3 harg3 arg4 harg4 arg5 harg5 arg6 harg6 arg7 harg7 x0 x1 x2 G]
  unfold bodyRun
  dsimp only
  unfold bodyRun.sl.r_45
  rw [acc0_eq, acc1_eq, (sums_eq c i arg2 harg2 arg3 harg3 arg4 harg4 arg5 harg5 arg6 harg6 arg7 harg7 x0 x1 x2 G).1, (sums_eq c i arg2 harg2 arg3 harg3 arg4 harg4 arg5 harg5 arg6 harg6 arg7 harg7 x0 x1 x2 G).2]
  rfl

/-- What it stores into the rows of logarithms. -/
theorem bodyRun_snd :
    (bodyRun (F := F) c i arg2 harg2 arg3 harg3 arg4 harg4 arg5 harg5 arg6 harg6 arg7 harg7 x0 x1 x2).2.1 G = lsePieces (last i arg2 harg2 arg3 harg3 arg4 harg4 arg7 x0 x1 x2) := by
  unfold last
  rw [← found_eq c i arg2 harg2 arg3 harg3 arg4 harg4 arg5 harg5 arg6 harg6 arg7 harg7 x0 x1 x2 G]
  rfl

end Run

end Cert.AttnFwdIdeal.Body

end
-- ==== Proof.AttnFwdFrame.lean ====
/- The attention forward kernel's run over the grid, for the idealised program: what the output blocks hold after each point
   (`oAt`, `lseAt`), and the frame of the whole program (`frame`). -/
module

public import proofs.«01_k».proof.Proof.AttnFwdStep
public import Idealize.ShloMosaic.Lib.Exec
public import Idealize.ShloMosaic.Lib.VecWindow
public import Idealize.ShloMosaic.Lib.Claim

@[expose] public section

set_option maxRecDepth 16384

noncomputable section

namespace Cert.AttnFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnFwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The carry after point `t`'s blocks. -/
def lastAt (c : Dev nD) (t : Fin cfg0.N) : Carry F :=
  last (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (iblk m c 0 t) (iblk m c 1 t) (iblk m c 2 t)

/-- The output block a point leaves, -/
def oAt (c : Dev nD) (t : Fin cfg0.N) : Vec F S512x128 .f32 := View.canon (outPieces (lastAt m c t))
/-- and the rows of logarithms. -/
def lseAt (c : Dev nD) (t : Fin cfg0.N) : Vec F S2x1x512 .f32 := View.canon (lsePieces (lastAt m c t))

/-- The store covers the output block, -/
theorem out_cover (s : Carry F) (j : S512x128.Idx) : ∃ pc ∈ outPieces s, j ∈ pc.1.set :=
  View.cover_of_tiledL (outPieces s) S512x128.size (by sl_kernel_rfl) j
/-- and the two stores the rows of logarithms. -/
theorem lse_cover (s : Carry F) (j : S2x1x512.Idx) : ∃ pc ∈ lsePieces s, j ∈ pc.1.set :=
  View.cover_of_tiledL (lsePieces s) S1x1x512.size (by sl_kernel_rfl) j

/-- The pipeline's data on core `c`: the arrays as the region finds them; after point `t` each input's buffer holds its
    block, the output buffers what the point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oAt m c t
    | ⟨4, _⟩ => lseAt m c t
  Φ _ := Pipeline.ΦA spec0 c
  q _ := fullShare
  owed _ := 0

/-- The data's arrays are what the region finds. -/
theorem A_eq (c : Dev nD) (w : Fin cfg0.W) : (dats m 0 c).A w = V m c (Pipeline.arrRef spec0 w) := by
  dsimp only [dats]

/-- The input buffers are left as they were. -/
theorem after_in (c : Dev nD) (t : Fin cfg0.N) :
    (dats m 0 c).after 0 t = iblk m c 0 t ∧ (dats m 0 c).after 1 t = iblk m c 1 t ∧ (dats m 0 c).after 2 t = iblk m c 2 t := by
  dsimp only [dats]; exact ⟨rfl, rfl, rfl⟩

/-- The output buffer after a point -/
theorem after_o (c : Dev nD) (t : Fin cfg0.N) : (dats m 0 c).after 3 t = oAt m c t := by dsimp only [dats]
/-- and the buffer of logarithms. -/
theorem after_lse (c : Dev nD) (t : Fin cfg0.N) : (dats m 0 c).after 4 t = lseAt m c t := by dsimp only [dats]

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

/-- The body takes the one to the other. -/
theorem body_triple (c : Dev nD) (t : Fin cfg0.N) :
    pre m c t ⊢ wp frame (wpE (defs₀ (F := F)) Variants.none c none) Set.univ (bodyAt0 t) (fun _ => post m c t) := by
  unfold pre post bodyAt0
  obtain ⟨a0, a1, a2⟩ := after_in m c t
  simp only [before0_0_of m (dats m 0 c) (A_eq m c 0) (fun t => (after_in m c t).1) t,
    before0_1_of m (dats m 0 c) (A_eq m c 1) (fun t => (after_in m c t).2.1) t,
    before0_2_of m (dats m 0 c) (A_eq m c 2) (fun t => (after_in m c t).2.2) t]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    a0, a1, a2, after_o, after_lse]
  unfold Pipeline.ΦA; rw [scopedRest0_eq]
  iintro ⟨⟨⟨%G, HG⟩, Hr⟩, Ho, ⟨%d0, H0⟩, ⟨%d1, H1⟩, ⟨%d2, H2⟩, ⟨%d3, H3⟩, ⟨%d4, H4⟩⟩
  have hrun := (bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole cc0_scratch0) (Memref.isWhole_whole _) (iblk m c 0 t) (iblk m c 1 t) (iblk m c 2 t)).2.2 G Set.univ
  rw [bodyRun_fst, bodyRun_snd] at hrun
  rw [show (Memref.whole cc0_scratch0 : Memref sig .tc .vmem S2x512x512 .bf16).view.set = Finset.univ from View.set_whole cc0_scratch0] at hrun
  iapply (hrun _)
  isplitl [H0]; · iexact H0
  isplitl [H1]; · iexact H1
  isplitl [H2]; · iexact H2
  isplitl [H3]; · iexists _; iexact H3
  isplitl [H4]; · iexists _; iexact H4
  isplitl [HG]; · iexact HG
  iintro ⟨H0, H1, H2, ⟨%e3, H3⟩, ⟨%e4, H4⟩, ⟨%e5, H5⟩⟩
  isplitl [H5 Hr]
  · isplitl [H5]
    · iexists _; iexact H5
    · iexact Hr
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_eq_canon _ _ _ (out_cover _)
  · unfold owns; iexists _; isplitr
    swap; · iexact H4
    ipureintro; exact View.read_writes_eq_canon _ _ _ (lse_cover _)

/-- So the region's body meets its obligation at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body_triple m c t) rfl .rfl fun _ => .rfl

set_option backward.isDefEq.respectTransparency.types false in
/-- The program's run: the region's arrays end as the data says, the later host lines follow, and every semaphore ends at
    zero. -/
theorem run_quiet : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- The frame: from any memory, every execution ends with the arguments as they were and nothing signalled. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.AttnFwdIdeal.Body

end
-- ==== Proof.AttnFwdPoint.lean ====
/- The attention forward kernel's block step read at one query, on the extended reals: the new row maximum is a real number
   whatever it is, and the sums are carried from block to block in terms of it. -/
module

public import proofs.«01_k».proof.Proof.AttnFwdFrame
public import proofs.«01_k».proof.Proof.AttnTrip
public import proofs.«01_k».proof.Proof.AttnMath
public import Idealize.ShloMosaic.Lib.Pipeline.ValueKit
public import Idealize.ShloMosaic.Lib.Pipeline.ReadBack
public import Idealize.ShloMosaic.Lib.Pointwise

@[expose] public section

set_option maxRecDepth 200000

noncomputable section

namespace Cert.AttnFwdIdeal.Body

open Idealize.ShloMosaic Idealize.ShloMosaic.TcCoe Idealize.SL.Sem
open Cert.AttnFwdIdeal.Gen

/-- The bits of minus infinity. -/
theorem neg_inf : Ideal.ofBits FTy.f32 0xFF800000#32 = ⊥ := by
  simp [Ideal.ofBits, Ideal.ieee]

/-- The mask stands for minus infinity. -/
theorem mask_eq : (Named.named (F := Ideal) κ "mask" (φ := .f32) 0xF149F2CA#32) = (⊥ : EReal) := rfl

theorem redMax_at (b : FVec Ideal S64x512 .f32) (j : Fin 8) (x : Fin 512) :
    redMax b (ix2 j x) = Finset.univ.fold max ⊥ fun g : Fin 8 => b (ix2 ⟨g.val * 8 + j.val, by omega⟩ x) := by
  pointwise [redMax]
  rw [neg_inf]

theorem redAdd_at (b : FVec Ideal S64x512 .f32) (j : Fin 8) (x : Fin 512) :
    redAdd b (ix2 j x) = ∑ g : Fin 8, b (ix2 ⟨g.val * 8 + j.val, by omega⟩ x) := by
  pointwise [redAdd]

theorem max8_at (B : Fin 8 → FVec Ideal S64x512 .f32) (j : Fin 8) (x : Fin 512) :
    max8 B (ix2 j x) = max (max (max (max (max (max (max (max ⊥ (redMax (B 0) (ix2 j x))) (redMax (B 1) (ix2 j x))) (redMax (B 2) (ix2 j x))) (redMax (B 3) (ix2 j x))) (redMax (B 4) (ix2 j x))) (redMax (B 5) (ix2 j x))) (redMax (B 6) (ix2 j x))) (redMax (B 7) (ix2 j x)) := by
  pointwise [max8]
  rw [mask_eq]

theorem sum8_at (B : Fin 8 → FVec Ideal S64x512 .f32) (mn : FVec Ideal S1x512 .f32) (j : Fin 8) (x : Fin 512) :
    sum8 B mn (ix2 j x) = redAdd (weights (B 0) mn) (ix2 j x) + redAdd (weights (B 1) mn) (ix2 j x) + redAdd (weights (B 2) mn) (ix2 j x) + redAdd (weights (B 3) mn) (ix2 j x)
      + redAdd (weights (B 4) mn) (ix2 j x) + redAdd (weights (B 5) mn) (ix2 j x) + redAdd (weights (B 6) mn) (ix2 j x) + redAdd (weights (B 7) mn) (ix2 j x) := by
  pointwise [sum8]

theorem mNew_at (B : Fin 8 → FVec Ideal S64x512 .f32) (m : FVec Ideal S1x512 .f32) (x : Fin 512) :
    mNew B m (ix2 0 x) = max (m (ix2 0 x)) (Finset.univ.fold max ⊥ fun j : Fin 8 => max8 B (ix2 j x)) := by
  pointwise [mNew]
  rw [neg_inf]

theorem weights_at (b : FVec Ideal S64x512 .f32) (mn : FVec Ideal S1x512 .f32) (i : Fin 64) (x : Fin 512) :
    weights b mn (ix2 i x) = Ideal.exp2 (b (ix2 i x) - mn (ix2 0 x)) := by
  pointwise [weights]; rfl

theorem alpha_at (B : Fin 8 → FVec Ideal S64x512 .f32) (m : FVec Ideal S1x512 .f32) (x : Fin 512) :
    alpha B m (ix2 0 x) = Ideal.exp2 (m (ix2 0 x) - mNew B m (ix2 0 x)) := by
  pointwise [alpha]; rfl

theorem stored_at (b : FVec Ideal S64x512 .f32) (mn : FVec Ideal S1x512 .f32) (i : Fin 64) (x : Fin 512) :
    stored b mn (ix3 0 i x) = weights b mn (ix2 i x) := by
  pointwise [stored]

theorem lNew_at (B : Fin 8 → FVec Ideal S64x512 .f32) (m l : FVec Ideal S1x512 .f32) (x : Fin 512) :
    lNew B m l (ix2 0 x) = alpha B m (ix2 0 x) * l (ix2 0 x) + ∑ j : Fin 8, sum8 B (mNew B m) (ix2 j x) := by
  pointwise [lNew]

theorem accNew_at (al : FVec Ideal S1x512 .f32) (acc : FVec Ideal S128x512 .f32) (v : Vec Ideal S512x128 .bf16) (p : Vec Ideal S1x512x512 .bf16) (a : Fin 128) (x : Fin 512) :
    accNew al acc v p (ix2 a x) = al (ix2 0 x) * acc (ix2 a x) + ∑ y : Fin 512, v (ix2 y a) * p (ix3 0 y x) := by
  pointwise [accNew]

theorem scores_at (q k : Vec Ideal S512x128 .bf16) (y x : Fin 512) :
    scores q k (ix2 y x) = ∑ c : Fin 128, k (ix2 y c) * q (ix2 x c) := by
  pointwise [scores]

theorem outT_at (s : Carry Ideal) (a : Fin 128) (x : Fin 512) :
    outT s (ix2 x a) = Ideal.div (s.2.2.1 (ix2 a x)) (s.2.1 (ix2 0 x)) + Ideal.div (s.2.2.2.2.2 (ix2 a x)) (s.2.2.2.2.1 (ix2 0 x)) := by
  pointwise [outT]

theorem lseT_at (m l : FVec Ideal S1x512 .f32) (x : Fin 512) :
    lseT m l (ix3 0 0 x) = m (ix2 0 x) + Ideal.div (Ideal.log (l (ix2 0 x))) (Ideal.log (Ideal.ofBits .f32 0x40000000#32)) := by
  pointwise [lseT]

theorem maskAt_at (n : ℕ) (hn : n < 512) (b : FVec Ideal S64x512 .f32) (i : Fin 64) (x : Fin 512) :
    maskAt (BitVec.ofNat 32 n) b (ix2 i x) = if n + i.val ≤ x.val then b (ix2 i x) else ⊥ := by
  pointwise [maskAt]
  have e : IntOp.addi (BitVec.ofNat 32 i.val) (BitVec.ofNat 32 n) = BitVec.ofNat 32 (n + i.val) := by
    rw [Nat.add_comm]; exact (BitVec.ofNat_add ..).symm
  rw [e, Cert.AttnBwdIdeal.Block.sle_at _ _ (by omega) (by omega), mask_eq]
  unfold Scalar.select
  by_cases h : n + i.val ≤ x.val
  · rw [if_pos h, if_pos h]; rfl
  · rw [if_neg h, if_neg h]; rfl

theorem start_m (x : Fin 512) : (k0_pay132 : FVec Ideal S1x512 .f32) (ix2 0 x) = ⊥ := by
  pointwise [k0_pay132]
  rw [mask_eq]

theorem start_l (x : Fin 512) : (k0_pay133 : FVec Ideal S1x512 .f32) (ix2 0 x) = 0 := by
  pointwise [k0_pay133]

theorem start_acc (a : Fin 128) (x : Fin 512) : (k0_pay134 : FVec Ideal S128x512 .f32) (ix2 a x) = 0 := by
  pointwise [k0_pay134]

/-- Key `i` of chunk `r`. -/
def chunk (r : Fin 8) (i : Fin 64) : Fin 512 := ⟨64 * r.val + i.val, by omega⟩

theorem slices_at (S : FVec Ideal S512x512 .f32) (r : Fin 8) (i : Fin 64) (x : Fin 512) :
    slices S r (ix2 i x) = S (ix2 (chunk r i) x) := by
  match r with
  | 0 => exact congrArg S (funext fun b => Fin.ext (by match b with | 0 => (show 0 + i.val = 64 * 0 + i.val; omega) | 1 => (show 0 + x.val = x.val; omega)))
  | 1 => exact congrArg S (funext fun b => Fin.ext (by match b with | 0 => (show 64 + i.val = 64 * 1 + i.val; omega) | 1 => (show 0 + x.val = x.val; omega)))
  | 2 => exact congrArg S (funext fun b => Fin.ext (by match b with | 0 => (show 128 + i.val = 64 * 2 + i.val; omega) | 1 => (show 0 + x.val = x.val; omega)))
  | 3 => exact congrArg S (funext fun b => Fin.ext (by match b with | 0 => (show 192 + i.val = 64 * 3 + i.val; omega) | 1 => (show 0 + x.val = x.val; omega)))
  | 4 => exact congrArg S (funext fun b => Fin.ext (by match b with | 0 => (show 256 + i.val = 64 * 4 + i.val; omega) | 1 => (show 0 + x.val = x.val; omega)))
  | 5 => exact congrArg S (funext fun b => Fin.ext (by match b with | 0 => (show 320 + i.val = 64 * 5 + i.val; omega) | 1 => (show 0 + x.val = x.val; omega)))
  | 6 => exact congrArg S (funext fun b => Fin.ext (by match b with | 0 => (show 384 + i.val = 64 * 6 + i.val; omega) | 1 => (show 0 + x.val = x.val; omega)))
  | 7 => exact congrArg S (funext fun b => Fin.ext (by match b with | 0 => (show 448 + i.val = 64 * 7 + i.val; omega) | 1 => (show 0 + x.val = x.val; omega)))

theorem masked_at (S : FVec Ideal S512x512 .f32) (r : Fin 8) (i : Fin 64) (x : Fin 512) :
    masked S r (ix2 i x) = if (chunk r i).val ≤ x.val then S (ix2 (chunk r i) x) else ⊥ := by
  rw [← slices_at S r i x]
  match r with
  | 0 => exact maskAt_at 0 (by omega) (slices S 0) i x
  | 1 => exact maskAt_at 64 (by omega) (slices S 1) i x
  | 2 => exact maskAt_at 128 (by omega) (slices S 2) i x
  | 3 => exact maskAt_at 192 (by omega) (slices S 3) i x
  | 4 => exact maskAt_at 256 (by omega) (slices S 4) i x
  | 5 => exact maskAt_at 320 (by omega) (slices S 5) i x
  | 6 => exact maskAt_at 384 (by omega) (slices S 6) i x
  | 7 => exact maskAt_at 448 (by omega) (slices S 7) i x

/-- A sum over pairs. -/
theorem sum_pairs (m n : ℕ) (f : Fin (m * n) → EReal) : ∑ y, f y = ∑ a : Fin m, ∑ b : Fin n, f (finProdFinEquiv (a, b)) :=
  (Equiv.sum_comp finProdFinEquiv f).symm.trans (Fintype.sum_prod_type _)

/-- The sum over a chunk, eight groups of eight. -/
theorem sum_groups (f : Fin 64 → EReal) : ∑ j : Fin 8, ∑ g : Fin 8, f ⟨g.val * 8 + j.val, by omega⟩ = ∑ i, f i := by
  rw [Finset.sum_comm]
  refine ((sum_pairs 8 8 f).trans (Finset.sum_congr rfl fun g _ => Finset.sum_congr rfl fun j _ => congrArg f (Fin.ext ?_))).symm
  show j.val + 8 * g.val = g.val * 8 + j.val
  omega

/-- The sum over a block, eight chunks. -/
theorem sum_chunks (f : Fin 512 → EReal) : ∑ r : Fin 8, ∑ i : Fin 64, f (chunk r i) = ∑ y, f y := by
  refine ((sum_pairs 8 64 f).trans (Finset.sum_congr rfl fun r _ => Finset.sum_congr rfl fun i _ => congrArg f (Fin.ext ?_))).symm
  show i.val + 64 * r.val = 64 * r.val + i.val
  omega

section Step

variable (B : Fin 8 → FVec Ideal S64x512 .f32) (x : Fin 512) (e : Fin 512 → EReal)
variable (hB : ∀ r i, B r (ix2 i x) = e (chunk r i))

include hB in
/-- The sum of a block's weights. -/
theorem sum8_total (mn : FVec Ideal S1x512 .f32) : ∑ j : Fin 8, sum8 B mn (ix2 j x) = ∑ y, Ideal.exp2 (e y - mn (ix2 0 x)) := by
  have h : ∀ r : Fin 8, ∑ j : Fin 8, redAdd (weights (B r) mn) (ix2 j x) = ∑ i : Fin 64, Ideal.exp2 (e (chunk r i) - mn (ix2 0 x)) := fun r => by
    refine (Finset.sum_congr rfl fun j _ => redAdd_at _ j x).trans ((sum_groups fun i => weights (B r) mn (ix2 i x)).trans (Finset.sum_congr rfl fun i _ => ?_))
    rw [weights_at, hB]
  refine Eq.trans ?_ ((Fin.sum_univ_eight _).symm.trans (sum_chunks fun y => Ideal.exp2 (e y - mn (ix2 0 x))))
  rw [← h 0, ← h 1, ← h 2, ← h 3, ← h 4, ← h 5, ← h 6, ← h 7,
    ← Finset.sum_add_distrib, ← Finset.sum_add_distrib, ← Finset.sum_add_distrib, ← Finset.sum_add_distrib, ← Finset.sum_add_distrib, ← Finset.sum_add_distrib, ← Finset.sum_add_distrib]
  exact Finset.sum_congr rfl fun j _ => sum8_at B mn j x

include hB in
/-- The new row maximum is real: a score is, and none is infinite above. -/
theorem mNew_real (m : FVec Ideal S1x512 .f32) (hm : m (ix2 0 x) ≠ ⊤) (htop : ∀ y, e y ≠ ⊤) (y : Fin 512) (hy : e y ≠ ⊥) :
    ∃ M : ℝ, mNew B m (ix2 0 x) = (M : EReal) := by
  have hr : ∀ (r : Fin 8) (j : Fin 8), redMax (B r) (ix2 j x) = Finset.univ.sup fun g : Fin 8 => e (chunk r ⟨g.val * 8 + j.val, by omega⟩) := fun r j =>
    (redMax_at (B r) j x).trans (congrArg (fun f : Fin 8 → EReal => Finset.univ.fold max ⊥ f) (funext fun g => hB r _))
  have hlt : ∀ r j, redMax (B r) (ix2 j x) < ⊤ := fun r j => by
    rw [hr]; exact (Finset.sup_lt_iff bot_lt_top).mpr fun g _ => lt_top_iff_ne_top.mpr (htop _)
  have h1 : mNew B m (ix2 0 x) < ⊤ := by
    rw [mNew_at]
    refine max_lt (lt_top_iff_ne_top.mpr hm) ?_
    show Finset.univ.sup (fun j : Fin 8 => max8 B (ix2 j x)) < ⊤
    refine (Finset.sup_lt_iff bot_lt_top).mpr fun j _ => ?_
    rw [max8_at]
    exact max_lt (max_lt (max_lt (max_lt (max_lt (max_lt (max_lt (max_lt bot_lt_top (hlt 0 j)) (hlt 1 j)) (hlt 2 j)) (hlt 3 j)) (hlt 4 j)) (hlt 5 j)) (hlt 6 j)) (hlt 7 j)
  have hj : ∀ (r j : Fin 8), redMax (B r) (ix2 j x) ≤ max8 B (ix2 j x) := fun r j => by
    rw [max8_at]
    match r with
    | 0 => simp only [le_max_iff, le_refl, true_or, or_true]
    | 1 => simp only [le_max_iff, le_refl, true_or, or_true]
    | 2 => simp only [le_max_iff, le_refl, true_or, or_true]
    | 3 => simp only [le_max_iff, le_refl, true_or, or_true]
    | 4 => simp only [le_max_iff, le_refl, true_or, or_true]
    | 5 => simp only [le_max_iff, le_refl, true_or, or_true]
    | 6 => simp only [le_max_iff, le_refl, true_or, or_true]
    | 7 => simp only [le_max_iff, le_refl, true_or, or_true]
  have h2 : mNew B m (ix2 0 x) ≠ ⊥ := fun h => by
    rw [mNew_at] at h
    have h' : Finset.univ.sup (fun j : Fin 8 => max8 B (ix2 j x)) = ⊥ := (max_eq_bot.mp h).2
    let r : Fin 8 := ⟨y.val / 64, by omega⟩
    let j : Fin 8 := ⟨y.val % 8, by omega⟩
    let g : Fin 8 := ⟨y.val % 64 / 8, by omega⟩
    have e1 : max8 B (ix2 j x) = ⊥ := le_bot_iff.mp (h' ▸ Finset.le_sup (f := fun j : Fin 8 => max8 B (ix2 j x)) (Finset.mem_univ j))
    have e2 : redMax (B r) (ix2 j x) = ⊥ := le_bot_iff.mp (e1 ▸ hj r j)
    rw [hr] at e2
    have e3 := le_bot_iff.mp (e2 ▸ Finset.le_sup (f := fun g : Fin 8 => e (chunk r ⟨g.val * 8 + j.val, by omega⟩)) (Finset.mem_univ g))
    exact hy ((congrArg e (Fin.ext (by show y.val = 64 * (y.val / 64) + (y.val % 64 / 8 * 8 + y.val % 8); omega))).trans e3)
  exact ⟨_, (EReal.coe_toReal h1.ne h2).symm⟩

/-- What the stores of a plane hold. -/
def plane (mn : FVec Ideal S1x512 .f32) (y : S2x512x512.Idx) : EReal :=
  weights (B ⟨(y 1).val / 64, by have h : (y 1).val < 512 := (y 1).isLt; omega⟩) mn (ix2 ⟨(y 1).val % 64, by omega⟩ ⟨(y 2).val, (y 2).isLt⟩)

theorem plane_at (mn : FVec Ideal S1x512 .f32) (y : S2x512x512.Idx) (r : Fin 8) (i : Fin 64) (z : Fin 512) (h1 : (y 1).val = 64 * r.val + i.val) (h2 : (y 2).val = z.val) :
    plane B mn y = weights (B r) mn (ix2 i z) := by
  unfold plane
  have e1 : (⟨(y 1).val / 64, by have h : (y 1).val < 512 := (y 1).isLt; omega⟩ : Fin 8) = r := Fin.ext (by show (y 1).val / 64 = r.val; omega)
  have e2 : (⟨(y 1).val % 64, by omega⟩ : Fin 64) = i := Fin.ext (by show (y 1).val % 64 = i.val; omega)
  have e3 : (⟨(y 2).val, (y 2).isLt⟩ : Fin 512) = z := Fin.ext h2
  rw [e1, e2, e3]

/-- A stored chunk is its part of the plane. -/
theorem stored_plane (mn : FVec Ideal S1x512 .f32) (r : Fin 8) (b n : ℕ) (hn : n = 64 * r.val) (inb : ∀ a, (![b, n, 0] : Fin 3 → ℕ) a + S1x64x512.size a ≤ S2x512x512.size a)
    (z : S1x64x512.Idx) : stored (B r) mn z = plane B mn ((Rect.unit (s := S2x512x512) ![b, n, 0] S1x64x512.size inb).emb z) := by
  have h0 : (z 0).val < 1 := (z 0).isLt
  have h1 : (z 1).val < 64 := (z 1).isLt
  have h2 : (z 2).val < 512 := (z 2).isLt
  have ez : z = ix3 0 ⟨(z 1).val, h1⟩ ⟨(z 2).val, h2⟩ := funext fun a => Fin.ext (by
    match a with
    | 0 => show (z 0).val = 0; omega
    | 1 => rfl
    | 2 => rfl)
  refine ((congrArg (stored (B r) mn) ez).trans (stored_at _ _ _ _)).trans (plane_at B mn _ r _ _ ?_ ?_).symm
  · show n + 1 * (z 1).val = 64 * r.val + (z 1).val; omega
  · show 0 + 1 * (z 2).val = (z 2).val; omega

theorem pieces0_plane (mn : FVec Ideal S1x512 .f32) : ∀ p ∈ pieces0 B mn, ∀ z, p.2 z = plane B mn (p.1.emb z) := by
  unfold pieces0
  simp only [List.forall_mem_cons, List.not_mem_nil, false_imp_iff, implies_true, and_true]
  exact ⟨stored_plane B mn 7 0 448 rfl _, stored_plane B mn 6 0 384 rfl _, stored_plane B mn 5 0 320 rfl _, stored_plane B mn 4 0 256 rfl _,
    stored_plane B mn 3 0 192 rfl _, stored_plane B mn 2 0 128 rfl _, stored_plane B mn 1 0 64 rfl _, stored_plane B mn 0 0 0 rfl _⟩

theorem pieces1_plane (mn : FVec Ideal S1x512 .f32) : ∀ p ∈ pieces1 B mn, ∀ z, p.2 z = plane B mn (p.1.emb z) := by
  unfold pieces1
  simp only [List.forall_mem_cons, List.not_mem_nil, false_imp_iff, implies_true, and_true]
  exact ⟨stored_plane B mn 7 1 448 rfl _, stored_plane B mn 6 1 384 rfl _, stored_plane B mn 5 1 320 rfl _, stored_plane B mn 4 1 256 rfl _,
    stored_plane B mn 3 1 192 rfl _, stored_plane B mn 2 1 128 rfl _, stored_plane B mn 1 1 64 rfl _, stored_plane B mn 0 1 0 rfl _⟩

include hB in
/-- The first head's weights read back, -/
theorem table0_at (a : Memref sig .tc .vmem S2x512x512 .bf16) (mn : FVec Ideal S1x512 .f32) (y : Fin 512) :
    table0 a B mn (ix3 0 y x) = Ideal.exp2 (e y - mn (ix2 0 x)) := by
  unfold table0
  rw [View.readCov_eq_canon']
  have hc := cover0 B mn ((Rect.unit (s := S2x512x512) ![0, 0, 0] S1x512x512.size inb_S2x512x512_S1x512x512_0_0_0).toLoadRect.idx (ix3 0 y x)) (by show 0 + 1 * 0 = 0; omega)
  have h := View.canon_append_of_pieces (plane B mn) [] (pieces0 B mn) (pieces0_plane B mn) _ hc
  rw [List.append_nil] at h
  refine h.trans ((plane_at B mn _ ⟨y.val / 64, by omega⟩ ⟨y.val % 64, by omega⟩ x ?_ ?_).trans ?_)
  · show 0 + 1 * y.val = 64 * (y.val / 64) + y.val % 64; omega
  · show 0 + 1 * x.val = x.val; omega
  · rw [weights_at, hB]
    exact congrArg (fun z => Ideal.exp2 (e z - mn (ix2 0 x))) (Fin.ext (by show 64 * (y.val / 64) + y.val % 64 = y.val; omega))

include hB in
/-- and the second's. -/
theorem table1_at (a : Memref sig .tc .vmem S2x512x512 .bf16) (B0 : Fin 8 → FVec Ideal S64x512 .f32) (m0 mn : FVec Ideal S1x512 .f32) (y : Fin 512) :
    table1 a B0 B m0 mn (ix3 0 y x) = Ideal.exp2 (e y - mn (ix2 0 x)) := by
  unfold table1
  rw [View.readCov_eq_canon']
  have hc := cover1 B mn ((Rect.unit (s := S2x512x512) ![1, 0, 0] S1x512x512.size inb_S2x512x512_S1x512x512_1_0_0).toLoadRect.idx (ix3 0 y x)) (by show 1 + 1 * 0 = 1; omega)
  have h := View.canon_append_of_pieces (plane B mn) (pieces0 B0 m0) (pieces1 B mn) (pieces1_plane B mn) _ hc
  refine h.trans ((plane_at B mn _ ⟨y.val / 64, by omega⟩ ⟨y.val % 64, by omega⟩ x ?_ ?_).trans ?_)
  · show 0 + 1 * y.val = 64 * (y.val / 64) + y.val % 64; omega
  · show 0 + 1 * x.val = x.val; omega
  · rw [weights_at, hB]
    exact congrArg (fun z => Ideal.exp2 (e z - mn (ix2 0 x))) (Fin.ext (by show 64 * (y.val / 64) + y.val % 64 = y.val; omega))

end Step

/-- A weight by a power of two, nothing after the query. -/
def pw (s : ℕ → ℝ) (X : ℕ) (M : ℝ) (y : ℕ) : ℝ := if y ≤ X then Real.rpow 2 (s y - M) else 0

/-- What the first `n` keys leave for one query: the sums of the weights, and of the weighted values, at some real number. -/
def Sums (s : ℕ → ℝ) (w : ℕ → Fin 128 → EReal) (X n : ℕ) (m l : EReal) (acc : Fin 128 → EReal) : Prop :=
  ∃ M : ℝ, (m = (M : EReal) ∨ n = 0 ∧ m = ⊥) ∧ l = ((∑ y ∈ Finset.range n, pw s X M y : ℝ) : EReal)
    ∧ ∀ a, acc a = ∑ y ∈ Finset.range n, w y a * (pw s X M y : EReal)

theorem pw_rescale (s : ℕ → ℝ) (X : ℕ) (M M' : ℝ) (y : ℕ) : Real.rpow 2 (M - M') * pw s X M y = pw s X M' y := by
  unfold pw
  split
  · simp only [Real.rpow_eq_pow]
    rw [← Real.rpow_add (by norm_num)]
    exact congrArg (fun z : ℝ => (2 : ℝ) ^ z) (by ring)
  · rw [mul_zero]

theorem pw_at (s : ℕ → ℝ) (X : ℕ) (M : ℝ) (y : ℕ) (e : EReal) (h : e = if y ≤ X then (s y : EReal) else ⊥) : Ideal.exp2 (e - (M : EReal)) = (pw s X M y : EReal) := by
  subst h
  unfold pw
  split
  · rw [← EReal.coe_sub]; rfl
  · rw [EReal.bot_sub]; rfl

/-- A real number that is not negative goes into a sum. -/
theorem mul_sum_coe {ι : Type} (c : ℝ) (hc : 0 ≤ c) (S : Finset ι) (f : ι → EReal) : (c : EReal) * ∑ i ∈ S, f i = ∑ i ∈ S, (c : EReal) * f i := by
  induction S using Finset.cons_induction with
  | empty => rw [Finset.sum_empty, Finset.sum_empty, mul_zero]
  | cons a S h ih =>
    rw [Finset.sum_cons, Finset.sum_cons, EReal.left_distrib_of_nonneg_of_ne_top (EReal.coe_nonneg.mpr hc) (EReal.coe_ne_top c), ih]

theorem sum_range_coe (n : ℕ) (f : ℕ → ℝ) : ∑ y ∈ Finset.range n, (f y : EReal) = ((∑ y ∈ Finset.range n, f y : ℝ) : EReal) := by
  rw [Finset.sum_range, Finset.sum_range, Finite.sum_coe]

/-- The step on the sums. -/
theorem Sums.next {s : ℕ → ℝ} {w : ℕ → Fin 128 → EReal} {X n : ℕ} {m l : EReal} {acc : Fin 128 → EReal} (h : Sums s w X n m l acc) (M' : ℝ)
    (e : Fin 512 → EReal) (he : ∀ y, e y = if n + y.val ≤ X then (s (n + y.val) : EReal) else ⊥)
    (v : Fin 512 → Fin 128 → EReal) (hv : ∀ y a, v y a = w (n + y.val) a) (m' l' : EReal) (acc' : Fin 128 → EReal)
    (hm : m' = (M' : EReal)) (hl : l' = Ideal.exp2 (m - M') * l + ∑ y, Ideal.exp2 (e y - M'))
    (ha : ∀ a, acc' a = Ideal.exp2 (m - M') * acc a + ∑ y, v y a * Ideal.exp2 (e y - M')) : Sums s w X (n + 512) m' l' acc' := by
  obtain ⟨M, h1, h2, h3⟩ := h
  have key : ∀ (u : ℕ → EReal) (z : EReal), z = ∑ y ∈ Finset.range n, u y * (pw s X M y : EReal) →
      Ideal.exp2 (m - M') * z = ∑ y ∈ Finset.range n, u y * (pw s X M' y : EReal) := fun u z hz => by
    rcases h1 with h1 | ⟨h1, _⟩
    · rw [h1, hz, ← EReal.coe_sub, Ideal.exp2_coe, mul_sum_coe (Real.rpow 2 (M - M')) (Real.rpow_nonneg (by norm_num) _)]
      refine Finset.sum_congr rfl fun y _ => ?_
      rw [mul_left_comm, ← EReal.coe_mul, pw_rescale]
    · subst h1
      rw [hz, Finset.range_zero, Finset.sum_empty, Finset.sum_empty, mul_zero]
  refine ⟨M', .inl hm, ?_, fun a => ?_⟩
  · rw [hl, Finset.sum_range_add, EReal.coe_add]
    refine congrArg₂ (fun a b : EReal => a + b) ?_ ?_
    · refine (key (fun _ => 1) l (by simpa only [one_mul, sum_range_coe] using h2)).trans ?_
      simp only [one_mul, sum_range_coe]
    · rw [Finset.sum_range, ← Finite.sum_coe]
      exact Finset.sum_congr rfl fun y _ => pw_at s X M' _ _ (he y)
  · rw [ha, Finset.sum_range_add]
    refine congrArg₂ (fun a b : EReal => a + b) (key (fun y => w y a) _ (h3 a)) ?_
    rw [Finset.sum_range]
    exact Finset.sum_congr rfl fun y _ => by rw [hv, pw_at s X M' _ _ (he y)]

theorem Sums.not_top {s : ℕ → ℝ} {w : ℕ → Fin 128 → EReal} {X n : ℕ} {m l : EReal} {acc : Fin 128 → EReal} (h : Sums s w X n m l acc) : m ≠ ⊤ := by
  obtain ⟨M, h | ⟨_, h⟩, _⟩ := h <;> rw [h]
  · exact EReal.coe_ne_top _
  · exact bot_ne_top

/-- The sums of both heads. -/
def Both (s s' : ℕ → ℝ) (w w' : ℕ → Fin 128 → EReal) (X n : ℕ) (x : Fin 512) (t : Carry Ideal) : Prop :=
  Sums s w X n (t.1 (ix2 0 x)) (t.2.1 (ix2 0 x)) (fun a => t.2.2.1 (ix2 a x))
    ∧ Sums s' w' X n (t.2.2.2.1 (ix2 0 x)) (t.2.2.2.2.1 (ix2 0 x)) (fun a => t.2.2.2.2.2 (ix2 a x))

theorem both_start (s s' : ℕ → ℝ) (w w' : ℕ → Fin 128 → EReal) (X : ℕ) (x : Fin 512) : Both s s' w w' X 0 x start := by
  have h : ∀ (s : ℕ → ℝ) (w : ℕ → Fin 128 → EReal), Sums s w X 0 ((k0_pay132 : FVec Ideal S1x512 .f32) (ix2 0 x)) ((k0_pay133 : FVec Ideal S1x512 .f32) (ix2 0 x))
      (fun a => (k0_pay134 : FVec Ideal S128x512 .f32) (ix2 a x)) := fun s w =>
    ⟨0, .inr ⟨rfl, start_m x⟩, by rw [start_l, Finset.range_zero, Finset.sum_empty, EReal.coe_zero],
      fun a => by show (k0_pay134 : FVec Ideal S128x512 .f32) (ix2 a x) = _; rw [start_acc, Finset.range_zero, Finset.sum_empty]⟩
  exact ⟨h s w, h s' w'⟩

/-- The step of one block on the sums of both heads. -/
theorem both_step (s s' : ℕ → ℝ) (w w' : ℕ → Fin 128 → EReal) (X n : ℕ) (hX : n ≤ X) (x : Fin 512) (t : Carry Ideal) (h : Both s s' w w' X n x t)
    (a : Memref sig .tc .vmem S2x512x512 .bf16) (B B' : Fin 8 → FVec Ideal S64x512 .f32) (v v' : Vec Ideal S512x128 .bf16)
    (hB : ∀ r i, B r (ix2 i x) = if n + (chunk r i).val ≤ X then (s (n + (chunk r i).val) : EReal) else ⊥)
    (hB' : ∀ r i, B' r (ix2 i x) = if n + (chunk r i).val ≤ X then (s' (n + (chunk r i).val) : EReal) else ⊥)
    (hv : ∀ y c, v (ix2 y c) = w (n + y.val) c) (hv' : ∀ y c, v' (ix2 y c) = w' (n + y.val) c) :
    Both s s' w w' X (n + 512) x (step a B B' v v' t) := by
  have top : ∀ (s : ℕ → ℝ) (y : Fin 512), (if n + y.val ≤ X then (s (n + y.val) : EReal) else ⊥) ≠ ⊤ := fun s y => by
    split
    · exact EReal.coe_ne_top _
    · exact bot_ne_top
  have bot : ∀ s : ℕ → ℝ, (if n + (0 : Fin 512).val ≤ X then (s (n + (0 : Fin 512).val) : EReal) else ⊥) ≠ ⊥ := fun s => by
    have h0 : n + (0 : Fin 512).val ≤ X := hX
    rw [if_pos h0]; exact EReal.coe_ne_bot _
  obtain ⟨M, hM⟩ := mNew_real B x (fun y => if n + y.val ≤ X then (s (n + y.val) : EReal) else ⊥) hB t.1 h.1.not_top (top s) 0 (bot s)
  obtain ⟨M', hM'⟩ := mNew_real B' x (fun y => if n + y.val ≤ X then (s' (n + y.val) : EReal) else ⊥) hB' t.2.2.2.1 h.2.not_top (top s') 0 (bot s')
  refine ⟨h.1.next M (fun y => if n + y.val ≤ X then (s (n + y.val) : EReal) else ⊥) (fun _ => rfl) (fun y c => v (ix2 y c)) hv _ _ _ hM ?_ fun c => ?_, h.2.next M' (fun y => if n + y.val ≤ X then (s' (n + y.val) : EReal) else ⊥) (fun _ => rfl) (fun y c => v' (ix2 y c)) hv' _ _ _ hM' ?_ fun c => ?_⟩
  · show lNew B t.1 t.2.1 (ix2 0 x) = _
    rw [lNew_at, sum8_total B x (fun y => if n + y.val ≤ X then (s (n + y.val) : EReal) else ⊥) hB, alpha_at, hM]
  · show accNew (alpha B t.1) t.2.2.1 v (table0 a B (mNew B t.1)) (ix2 c x) = _
    rw [accNew_at, alpha_at, hM]
    refine congrArg (fun b : EReal => _ + b) (Finset.sum_congr rfl fun y _ => ?_)
    rw [table0_at B x (fun y => if n + y.val ≤ X then (s (n + y.val) : EReal) else ⊥) hB, hM]
  · show lNew B' t.2.2.2.1 t.2.2.2.2.1 (ix2 0 x) = _
    rw [lNew_at, sum8_total B' x (fun y => if n + y.val ≤ X then (s' (n + y.val) : EReal) else ⊥) hB', alpha_at, hM']
  · show accNew (alpha B' t.2.2.2.1) t.2.2.2.2.2 v' (table1 a B B' (mNew B t.1) (mNew B' t.2.2.2.1)) (ix2 c x) = _
    rw [accNew_at, alpha_at, hM']
    refine congrArg (fun b : EReal => _ + b) (Finset.sum_congr rfl fun y _ => ?_)
    rw [table1_at B' x (fun y => if n + y.val ≤ X then (s' (n + y.val) : EReal) else ⊥) hB', hM']

end Cert.AttnFwdIdeal.Body

end
-- ==== Proof.AttnFwdSum.lean ====
/- The attention forward kernel's carry over all key blocks up to the diagonal, on the extended reals: for one query, the
   softmax's weighted sum of the values and its log-sum. -/
module

public import proofs.«01_k».proof.Proof.AttnFwdPoint
public import proofs.«01_k».proof.Proof.AttnKer

@[expose] public section

set_option maxRecDepth 16384

noncomputable section

open Idealize.ShloMosaic Idealize.ShloMosaic.TcCoe Idealize.SL.Sem
open Cert.AttnMath

namespace Cert.AttnFwdIdeal.Body

open Cert.AttnFwdIdeal.Gen
open Cert.AttnBwdIdeal.Block (row row_val col)
open Cert.AttnBwdIdeal.Ker (s0 two_eq)

/-! ## The row's value does not matter -/

section Shift

variable (Q K : Fin 8192 → Fin 8 → Fin 96 → ℝ) (M M' : Fin 8 → Fin 8192 → ℝ) (s : ℝ) (H : Fin 8) (X : Fin 8192)

theorem ex_shift (Y : Fin 8192) : ex Q K M s H X Y = ex Q K M' s H X Y * Real.exp (M' H X - M H X) := by
  unfold ex
  split
  · rw [← Real.exp_add]
    exact congrArg Real.exp (by ring)
  · rw [zero_mul]

theorem sm_shift : sm Q K M s H X = sm Q K M' s H X * Real.exp (M' H X - M H X) := by
  unfold sm
  rw [Finset.sum_mul]
  exact Finset.sum_congr rfl fun Y _ => ex_shift Q K M M' s H X Y

/-- The weights are the same whatever number is taken from a row's scores, -/
theorem pr_shift (Y : Fin 8192) : pr Q K M s H X Y = pr Q K M' s H X Y := by
  unfold pr
  rw [ex_shift Q K M M', sm_shift Q K M M', mul_div_mul_right _ _ (Real.exp_pos _).ne']

/-- and so is the log-sum. -/
theorem log_shift : M H X + Real.log (sm Q K M s H X) = M' H X + Real.log (sm Q K M' s H X) := by
  rw [sm_shift Q K M M', Real.log_mul (sm_pos Q K M' s H X).ne' (Real.exp_pos _).ne', Real.log_exp]
  ring

/-- The kernel's weight, a power of two. -/
theorem pw_ex (z : ℕ → ℝ) (hz : ∀ Y : Fin 8192, z Y.val = raw Q K H X Y * (s * (1 / Real.log 2))) (μ : ℝ) (Y : Fin 8192) :
    pw z X.val μ Y.val = ex Q K (fun _ _ => μ * Real.log 2) s H X Y := by
  have h2 : Real.log 2 ≠ 0 := (Real.log_pos (by norm_num)).ne'
  unfold pw ex
  refine if_congr Iff.rfl ?_ rfl
  rw [hz, Real.rpow_eq_pow, Real.rpow_def_of_pos (by norm_num)]
  exact congrArg Real.exp (by field_simp)

/-- The keys after the query add nothing, -/
theorem sum_upto (z : ℕ → ℝ) (f : ℕ → EReal) (μ : ℝ) (n : ℕ) (hn : X.val < n) (h8 : n ≤ 8192) :
    ∑ y ∈ Finset.range n, f y * (pw z X.val μ y : EReal) = ∑ Y : Fin 8192, f Y.val * (pw z X.val μ Y.val : EReal) := by
  rw [← Finset.sum_range fun y => f y * (pw z X.val μ y : EReal)]
  refine Finset.sum_subset (Finset.range_mono h8) fun y _ hy => ?_
  have hy' : ¬ y < n := fun h => hy (Finset.mem_range.mpr h)
  unfold pw
  rw [if_neg (by omega), EReal.coe_zero, mul_zero]

/-- so the weights add up to the whole row's sum. -/
theorem sum_pw (z : ℕ → ℝ) (hz : ∀ Y : Fin 8192, z Y.val = raw Q K H X Y * (s * (1 / Real.log 2))) (μ : ℝ) (n : ℕ) (hn : X.val < n) (h8 : n ≤ 8192) :
    ((∑ y ∈ Finset.range n, pw z X.val μ y : ℝ) : EReal) = (sm Q K (fun _ _ => μ * Real.log 2) s H X : EReal) := by
  have e := sum_upto X z (fun _ => 1) μ n hn h8
  simp only [one_mul] at e
  rw [← sum_range_coe, e, Finite.sum_coe]
  exact congrArg Real.toEReal (Finset.sum_congr rfl fun Y _ => pw_ex Q K s H X z hz μ Y)

variable (z : ℕ → ℝ) (hz : ∀ Y : Fin 8192, z Y.val = raw Q K H X Y * (s * (1 / Real.log 2)))
variable (w : ℕ → Fin 128 → EReal) (n : ℕ) (hn : X.val < n) (h8 : n ≤ 8192) (m l : EReal) (acc : Fin 128 → EReal)
variable (h : Sums z w X.val n m l acc)

include hz hn h8 h in
/-- The quotient of the sums is the softmax's weighted sum. -/
theorem sums_out (a : Fin 128) : Ideal.div (acc a) l = ∑ Y : Fin 8192, w Y.val a * (pr Q K M s H X Y : EReal) := by
  obtain ⟨μ, _, hl, ha⟩ := h
  have hp := sm_pos Q K (fun _ _ => μ * Real.log 2) s H X
  rw [hl, ha, sum_pw Q K s H X z hz μ n hn h8, Ideal.div_coe hp.ne', sum_upto X z (fun y => w y a) μ n hn h8, mul_comm, mul_sum_coe _ (one_div_pos.mpr hp).le]
  refine Finset.sum_congr rfl fun Y _ => ?_
  rw [pw_ex Q K s H X z hz μ Y, pr_shift Q K M (fun _ _ => μ * Real.log 2), mul_left_comm, ← EReal.coe_mul]
  refine congrArg (fun b : ℝ => w Y.val a * (b : EReal)) ?_
  unfold pr
  rw [one_div, mul_comm, div_eq_mul_inv]

include hz hn h8 h in
/-- The maximum and the sum give the log-sum. -/
theorem sums_lse : m + Ideal.div (Ideal.log l) (Ideal.log (Ideal.ofBits .f32 0x40000000#32)) = (((M H X + Real.log (sm Q K M s H X)) * (1 / Real.log 2) : ℝ) : EReal) := by
  obtain ⟨μ, hm, hl, _⟩ := h
  have h2 : 0 < Real.log 2 := Real.log_pos (by norm_num)
  have hm' : m = (μ : EReal) := hm.resolve_right fun e => by omega
  rw [hm', hl, sum_pw Q K s H X z hz μ n hn h8, two_eq, Ideal.log_coe, if_neg (not_le.mpr (sm_pos Q K _ s H X)), Ideal.log_coe, if_neg (by norm_num), div_pos_coe _ _ h2, ← EReal.coe_add,
    log_shift Q K M (fun _ _ => μ * Real.log 2)]
  exact congrArg Real.toEReal (by field_simp)

end Shift

/-! ## Loads at an index -/

theorem trips_eq (i : grid0.Coords) : (k0_t1_loop i).trips = (i 1).val := by
  have h : ∀ j : Fin 16, Scf.trips (0#32) (Scalar.addi 0#32 (Scalar.muli (Scalar.divsi (Scalar.subi (BitVec.ofNat 32 j.val) 0#32) 1#32) 1#32)) 1#32 = j.val := by decide +kernel
  exact h ⟨(i 1).val, (i 1).isLt⟩

theorem start_eq (n : ℕ) (hn : n < 16) : (Scalar.indexCast (Scalar.muli (Scf.iv 0#32 1#32 n) 512#32) : Index).toNat = 512 * n := by
  have h : ∀ j : Fin 16, (Scalar.indexCast (Scalar.muli (Scf.iv 0#32 1#32 j.val) 512#32) : Index).toNat = 512 * j.val := by decide +kernel
  exact h ⟨n, hn⟩

theorem start0_eq (n : ℕ) (hn : n < 16) : (Scalar.indexCast (Scalar.muli (BitVec.ofNat 32 n) 512#32) : Index).toNat = 512 * n := by
  have h : ∀ j : Fin 16, (Scalar.indexCast (Scalar.muli (BitVec.ofNat 32 j.val) 512#32) : Index).toNat = 512 * j.val := by decide +kernel
  exact h ⟨n, hn⟩

/-- A block of rows of one head, loaded from a whole buffer. -/
theorem load_rows (a : Memref sig .tc .vmem S8192x256 .bf16) (ha : a.IsWhole) (x : Vec Ideal S8192x256 .bf16) {off : Fin 2 → ℕ} (inb : ∀ b, off b + S512x128.size b ≤ S8192x256.size b)
    {n : ℕ} {e : Fin 2} (hn : n < 16) (h : off = ![512 * n, 128 * e.val]) (p : Fin 512) (q : Fin 128) :
    View.readAt (Elt Ideal) a.view (Rect.unit (s := S8192x256) off S512x128.size inb).toLoadRect (ha.unread x) (ix2 p q) = x (ix2 (Fin.ofNat 8192 (512 * n + p.val)) (col e q)) := by
  subst h
  rw [View.readAt_apply, ha.read_unread]
  refine congrArg x (funext fun b => Fin.ext ?_)
  match b with
  | 0 => show 512 * n + 1 * p.val = (row n p).val; rw [row_val hn]; omega
  | 1 => show 128 * e.val + 1 * q.val = 128 * e.val + q.val; omega

section Blocks

variable (i : grid0.Coords) (arg2 : Memref sig .tc .vmem S512x256 .bf16) (harg2 : arg2.IsWhole) (arg3 : Memref sig .tc .vmem S8192x256 .bf16) (harg3 : arg3.IsWhole)
variable (arg4 : Memref sig .tc .vmem S8192x256 .bf16) (harg4 : arg4.IsWhole) (arg7 : Memref sig .tc .vmem S2x512x512 .bf16)
variable (x0 : Vec Ideal S512x256 .bf16) (x1 x2 : Vec Ideal S8192x256 .bf16)

theorem rows0_at (k : Fin (k0_t1_loop i).trips) (p : Fin 512) (q : Fin 128) :
    rows0 i arg3 (harg3.unread x1) k (ix2 p q) = x1 (ix2 (Fin.ofNat 8192 (512 * k.val + p.val)) (col 0 q)) := by
  have hk : k.val < 16 := by have := k.isLt; have := trips_eq i; have hi : (i 1).val < 16 := (i 1).isLt; omega
  exact load_rows arg3 harg3 x1 _ hk (by rw [← start_eq k.val hk]; rfl) p q

theorem rows1_at (k : Fin (k0_t1_loop i).trips) (p : Fin 512) (q : Fin 128) :
    rows1 i arg3 (harg3.unread x1) k (ix2 p q) = x1 (ix2 (Fin.ofNat 8192 (512 * k.val + p.val)) (col 1 q)) := by
  have hk : k.val < 16 := by have := k.isLt; have := trips_eq i; have hi : (i 1).val < 16 := (i 1).isLt; omega
  exact load_rows arg3 harg3 x1 _ hk (by rw [← start_eq k.val hk]; rfl) p q

theorem diag0_at (p : Fin 512) (q : Fin 128) :
    diag0 i arg3 (harg3.unread x1) (ix2 p q) = x1 (ix2 (Fin.ofNat 8192 (512 * (i 1).val + p.val)) (col 0 q)) :=
  load_rows arg3 harg3 x1 _ (i 1).isLt (by rw [← start0_eq (i 1).val (i 1).isLt]; rfl) p q

theorem diag1_at (p : Fin 512) (q : Fin 128) :
    diag1 i arg3 (harg3.unread x1) (ix2 p q) = x1 (ix2 (Fin.ofNat 8192 (512 * (i 1).val + p.val)) (col 1 q)) :=
  load_rows arg3 harg3 x1 _ (i 1).isLt (by rw [← start0_eq (i 1).val (i 1).isLt]; rfl) p q

theorem q0_at (p : Fin 512) (q : Fin 128) : q0 arg2 harg2 x0 (ix2 p q) = x0 (ix2 p (col 0 q)) := by
  unfold q0
  rw [View.readAt_apply, harg2.read_unread]
  refine congrArg x0 (funext fun b => Fin.ext ?_)
  match b with
  | 0 => show 0 + 1 * p.val = p.val; omega
  | 1 => show 0 + 1 * q.val = 128 * 0 + q.val; omega

theorem q1_at (p : Fin 512) (q : Fin 128) : q1 arg2 harg2 x0 (ix2 p q) = x0 (ix2 p (col 1 q)) := by
  unfold q1
  rw [View.readAt_apply, harg2.read_unread]
  refine congrArg x0 (funext fun b => Fin.ext ?_)
  match b with
  | 0 => show 0 + 1 * p.val = p.val; omega
  | 1 => show 128 + 1 * q.val = 128 * 1 + q.val; omega

/-! ## The carry over the blocks -/

variable (x : Fin 512) (s s' : ℕ → ℝ) (w w' : ℕ → Fin 128 → EReal)
variable (hs : ∀ y, ∑ c : Fin 128, x1 (ix2 (Fin.ofNat 8192 y) (col 0 c)) * x0 (ix2 x (col 0 c)) = (s y : EReal))
variable (hs' : ∀ y, ∑ c : Fin 128, x1 (ix2 (Fin.ofNat 8192 y) (col 1 c)) * x0 (ix2 x (col 1 c)) = (s' y : EReal))
variable (hw : ∀ y a, x2 (ix2 (Fin.ofNat 8192 y) (col 0 a)) = w y a) (hw' : ∀ y a, x2 (ix2 (Fin.ofNat 8192 y) (col 1 a)) = w' y a)

include hs hs' hw hw' in
/-- After the first `k` blocks, all before the query. -/
theorem carry_both : ∀ k, k ≤ (i 1).val → Both s s' w w' (512 * (i 1).val + x.val) (512 * k) x (carryAt i arg2 harg2 arg3 harg3 arg4 harg4 arg7 x0 x1 x2 k)
  | 0, _ => by rw [carryAt]; exact both_start ..
  | k + 1, h => by
    have hk : k < (k0_t1_loop i).trips := by rw [trips_eq]; exact h
    rw [carryAt, dif_pos hk]
    refine both_step s s' w w' _ (512 * k) (by omega) x _ (carry_both k (by omega)) arg7 _ _ _ _ (fun r j => ?_) (fun r j => ?_) (fun y c => ?_) (fun y c => ?_)
    · rw [slices_at, scores_at, if_pos (by have := (chunk r j).isLt; omega), ← hs]
      exact Finset.sum_congr rfl fun c _ => by rw [rows0_at, q0_at]
    · rw [slices_at, scores_at, if_pos (by have := (chunk r j).isLt; omega), ← hs']
      exact Finset.sum_congr rfl fun c _ => by rw [rows1_at, q1_at]
    · rw [rows0_at, ← hw]
    · rw [rows1_at, ← hw']

include hs hs' hw hw' in
/-- After the diagonal block. -/
theorem last_both : Both s s' w w' (512 * (i 1).val + x.val) (512 * (i 1).val + 512) x (last i arg2 harg2 arg3 harg3 arg4 harg4 arg7 x0 x1 x2) := by
  unfold last
  rw [trips_eq]
  refine both_step s s' w w' _ (512 * (i 1).val) (by omega) x _ (carry_both i arg2 harg2 arg3 harg3 arg4 harg4 arg7 x0 x1 x2 x s s' w w' hs hs' hw hw' _ (le_refl _)) arg7 _ _ _ _
    (fun r j => ?_) (fun r j => ?_) (fun y c => ?_) (fun y c => ?_)
  · rw [masked_at, scores_at]
    refine if_congr (by omega) ?_ rfl
    rw [← hs]
    exact Finset.sum_congr rfl fun c _ => by rw [diag0_at, q0_at]
  · rw [masked_at, scores_at]
    refine if_congr (by omega) ?_ rfl
    rw [← hs']
    exact Finset.sum_congr rfl fun c _ => by rw [diag1_at, q1_at]
  · rw [diag0_at, ← hw]
  · rw [diag1_at, ← hw']

end Blocks

end Cert.AttnFwdIdeal.Body
-- ==== Proof.AttnFwdArr.lean ====
/- The arrays the attention forward kernel leaves for real arguments, on the extended reals: the softmax's weighted sums of
   the values, and the log-sums, row by row. -/
module

public import proofs.«01_k».proof.Proof.AttnFwdSum

@[expose] public section

set_option maxRecDepth 16384

noncomputable section

open Idealize.ShloMosaic Idealize.ShloMosaic.TcCoe Idealize.SL.Sem
open Idealize.ShloMosaic.StableHlo
open Idealize.ShloMosaic.Pipeline (Dat)
open Cert.AttnMath

namespace Cert.AttnFwdIdeal.Body

open Cert.AttnFwdIdeal.Gen
open Cert.AttnBwdIdeal.Block (row row_val col)
open Cert.AttnBwdIdeal.Arr (hcol)
open Cert.AttnBwdIdeal.HostV (qOp padded vOp)
open Cert.AttnBwdIdeal.Tail (own)
open Cert.AttnBwdIdeal.Ker (s0 dot_eq vOp_own other)

variable (m : (ℓ : Loc nD τ sig) → Buf (Elt Ideal) ℓ) (c : Dev nD)

/-- The queries, the keys and the values. -/
abbrev argQ : FVec Ideal S8192x8x96 .f32 := m ((c : Thread nD τ).loc main_arg0)
abbrev argK : FVec Ideal S8192x8x96 .f32 := m ((c : Thread nD τ).loc main_arg1)
abbrev argV : FVec Ideal S8192x8x64 .f32 := m ((c : Thread nD τ).loc main_arg2)

/-! ## The operands, as the kernel finds them -/

theorem V_q : V m c main_v7 = qOp (argQ m c) := by
  unfold V V0
  simp only [hostOps0, hostOps0_1, hostOps0_2, hostOps0_3, hostOps0_4, List.flatten_cons, List.flatten_nil, List.append_nil, List.cons_append, List.nil_append, List.singleton_append]
  after_results_simp
  rfl

theorem V_k : V m c main_v10 = padded (argK m c) := by
  unfold V V0
  simp only [hostOps0, hostOps0_1, hostOps0_2, hostOps0_3, hostOps0_4, List.flatten_cons, List.flatten_nil, List.append_nil, List.cons_append, List.nil_append, List.singleton_append]
  after_results_simp
  rfl

theorem V_v : V m c main_v37 = vOp (argV m c) := by
  unfold V V0
  simp only [hostOps0, hostOps0_1, hostOps0_2, hostOps0_3, hostOps0_4, List.flatten_cons, List.flatten_nil, List.append_nil, List.cons_append, List.nil_append, List.singleton_append]
  after_results_simp
  rfl

/-! ## Blocks -/

/-- Every window's block index at every grid point. -/
theorem idx : ∀ t : Fin cfg0.N, win0_0.index t = ![t.val % 16, t.val / 16] ∧ win0_1.index t = ![0, t.val / 16] ∧ win0_2.index t = ![0, t.val / 16] ∧ win0_3.index t = ![t.val % 16, t.val / 16] ∧ win0_4.index t = ![t.val / 16, 0, t.val % 16] :=
  (by decide +kernel : ∀ t : Fin grid0.N, _)

/-- The query block of a grid point. -/
theorem coord : ∀ t : Fin cfg0.N, ((grid0.coords t) 1).val = t.val % 16 := (by decide +kernel : ∀ t : Fin grid0.N, _)

/-- The head that a grid point works on in half `e` of its blocks. -/
def hd (t : Fin cfg0.N) (e : Fin 2) : Fin 8 := ⟨2 * (t.val / 16) + e.val, by have := lt_of_lt_of_eq t.isLt N_0; omega⟩

/-- Row `x` of a grid point's query block, as a row of the arrays. -/
def qrow (t : Fin cfg0.N) (x : Fin 512) : Fin 8192 := ⟨512 * (t.val % 16) + x.val, by omega⟩

/-- A point's block of the queries, in the array. -/
theorem rd0 (t : Fin cfg0.N) (e : Fin 2) (r : Fin 512) (q : Fin 128) (B : FVec Ideal S8192x1024 .bf16) :
    ((cfg0.win 0).blk t).view.read (Elt Ideal) B (ix2 r (col e q)) = B (ix2 (qrow t r) (hcol (hd t e) q)) := by
  have e0 : ((cfg0.win 0).blk t).view.read (Elt Ideal) B (ix2 r (col e q)) = B (ix2 (qrow t r) ⟨256 * (t.val / 16) + (col e q).val, by have := lt_of_lt_of_eq t.isLt N_0; have := (col e q).isLt; omega⟩) := by
    unfold qrow
    blk_point [idx t]
  exact e0.trans (congrArg (fun j => B (ix2 (qrow t r) j)) (Fin.ext (by show 256 * (t.val / 16) + (128 * e.val + q.val) = 128 * (2 * (t.val / 16) + e.val) + q.val; omega)))

theorem blk_q (t : Fin cfg0.N) (e : Fin 2) (r : Fin 512) (q : Fin 128) :
    iblk m c 0 t (ix2 r (col e q)) = qOp (argQ m c) (ix2 (qrow t r) (hcol (hd t e) q)) :=
  (rd0 t e r q (V m c main_v7)).trans (congrFun (V_q m c) _)

/-- A point's block of the keys, in the array. -/
theorem rd1 (t : Fin cfg0.N) (e : Fin 2) (X : Fin 8192) (q : Fin 128) (B : FVec Ideal S8192x1024 .bf16) :
    ((cfg0.win 1).blk t).view.read (Elt Ideal) B (ix2 X (col e q)) = B (ix2 X (hcol (hd t e) q)) := by
  have e0 : ((cfg0.win 1).blk t).view.read (Elt Ideal) B (ix2 X (col e q)) = B (ix2 X ⟨256 * (t.val / 16) + (col e q).val, by have := lt_of_lt_of_eq t.isLt N_0; have := (col e q).isLt; omega⟩) := by
    blk_point [idx t]
  exact e0.trans (congrArg (fun j => B (ix2 X j)) (Fin.ext (by show 256 * (t.val / 16) + (128 * e.val + q.val) = 128 * (2 * (t.val / 16) + e.val) + q.val; omega)))

theorem blk_k (t : Fin cfg0.N) (e : Fin 2) (X : Fin 8192) (q : Fin 128) :
    iblk m c 1 t (ix2 X (col e q)) = padded (argK m c) (ix2 X (hcol (hd t e) q)) :=
  (rd1 t e X q (V m c main_v10)).trans (congrFun (V_k m c) _)

/-- A point's block of the values, in the array. -/
theorem rd2 (t : Fin cfg0.N) (e : Fin 2) (X : Fin 8192) (q : Fin 128) (B : FVec Ideal S8192x1024 .bf16) :
    ((cfg0.win 2).blk t).view.read (Elt Ideal) B (ix2 X (col e q)) = B (ix2 X (hcol (hd t e) q)) := by
  have e0 : ((cfg0.win 2).blk t).view.read (Elt Ideal) B (ix2 X (col e q)) = B (ix2 X ⟨256 * (t.val / 16) + (col e q).val, by have := lt_of_lt_of_eq t.isLt N_0; have := (col e q).isLt; omega⟩) := by
    blk_point [idx t]
  exact e0.trans (congrArg (fun j => B (ix2 X j)) (Fin.ext (by show 256 * (t.val / 16) + (128 * e.val + q.val) = 128 * (2 * (t.val / 16) + e.val) + q.val; omega)))

theorem blk_v (t : Fin cfg0.N) (e : Fin 2) (X : Fin 8192) (q : Fin 128) :
    iblk m c 2 t (ix2 X (col e q)) = vOp (argV m c) (ix2 X (hcol (hd t e) q)) :=
  (rd2 t e X q (V m c main_v37)).trans (congrFun (V_v m c) _)

/-! ## One point -/

variable (Q K : Fin 8192 → Fin 8 → Fin 96 → ℝ) (M : Fin 8 → Fin 8192 → ℝ)
variable (hq : ∀ X H a, argQ m c (ix3 X H a) = (Q X H a : EReal)) (hk : ∀ X H a, argK m c (ix3 X H a) = (K X H a : EReal))

/-- The scaled scores of a query, -/
def sc (H : Fin 8) (X : Fin 8192) (y : ℕ) : ℝ := raw Q K H X (Fin.ofNat 8192 y) * (s0 * (1 / Real.log 2))
/-- and the values, by the key's number. -/
def vl (H : Fin 8) (y : ℕ) (a : Fin 128) : EReal := vOp (argV m c) (ix2 (Fin.ofNat 8192 y) (hcol H a))

theorem ofNat_val (Y : Fin 8192) : Fin.ofNat 8192 Y.val = Y := Fin.ext (Nat.mod_eq_of_lt Y.isLt)

theorem sc_val (H : Fin 8) (X Y : Fin 8192) : sc Q K H X Y.val = raw Q K H X Y * (s0 * (1 / Real.log 2)) := by
  unfold sc; rw [ofNat_val]

/-- A point's blocks of the queries, the keys and the values. -/
abbrev qBlk (t : Fin cfg0.N) : Vec Ideal S512x256 .bf16 := iblk m c 0 t
@[inherit_doc qBlk] abbrev kBlk (t : Fin cfg0.N) : Vec Ideal S8192x256 .bf16 := iblk m c 1 t
@[inherit_doc qBlk] abbrev vBlk (t : Fin cfg0.N) : Vec Ideal S8192x256 .bf16 := iblk m c 2 t

/-- The carry of a point whose blocks are `x0`, `x1` and `x2`. -/
abbrev lastOf (t : Fin cfg0.N) (x0 : Vec Ideal S512x256 .bf16) (x1 x2 : Vec Ideal S8192x256 .bf16) : Carry Ideal :=
  last (F := Ideal) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (Memref.whole cc0_scratch0) x0 x1 x2

theorem lastOf_both (t : Fin cfg0.N) (x0 : Vec Ideal S512x256 .bf16) (x1 x2 : Vec Ideal S8192x256 .bf16) (x : Fin 512) (s : Fin 2 → ℕ → ℝ) (w : Fin 2 → ℕ → Fin 128 → EReal)
    (hs : ∀ e y, ∑ a : Fin 128, x1 (ix2 (Fin.ofNat 8192 y) (col e a)) * x0 (ix2 x (col e a)) = (s e y : EReal))
    (hw : ∀ e y a, x2 (ix2 (Fin.ofNat 8192 y) (col e a)) = w e y a) :
    Both (s 0) (s 1) (w 0) (w 1) (qrow t x).val (512 * (t.val % 16) + 512) x (lastOf t x0 x1 x2) := by
  show Both _ _ _ _ (512 * (t.val % 16) + x.val) _ x _
  rw [← coord t]
  exact last_both _ _ _ _ _ _ _ _ x0 x1 x2 x (s 0) (s 1) (w 0) (w 1) (hs 0) (hs 1) (hw 0) (hw 1)

include hq hk in
/-- What the carry of a point is at one query. -/
theorem point_both (t : Fin cfg0.N) (x : Fin 512) :
    Both (sc Q K (hd t 0) (qrow t x)) (sc Q K (hd t 1) (qrow t x)) (vl m c (hd t 0)) (vl m c (hd t 1)) (qrow t x).val (512 * (t.val % 16) + 512) x (lastAt m c t) := by
  have key : ∀ e (y : ℕ), ∑ a : Fin 128, kBlk m c t (ix2 (Fin.ofNat 8192 y) (col e a)) * qBlk m c t (ix2 x (col e a)) = (sc Q K (hd t e) (qrow t x) y : EReal) := by
    intro e y
    refine Eq.trans ?_ (dot_eq (argQ m c) (argK m c) Q K hq hk (hd t e) (qrow t x) (Fin.ofNat 8192 y))
    exact Finset.sum_congr rfl fun a _ => congrArg₂ (fun a b : EReal => a * b) (blk_k m c t e _ a) (blk_q m c t e x a)
  have val : ∀ e (y : ℕ) a, vBlk m c t (ix2 (Fin.ofNat 8192 y) (col e a)) = vl m c (hd t e) y a := fun e y a => blk_v m c t e _ a
  exact lastOf_both t (qBlk m c t) (kBlk m c t) (vBlk m c t) x (fun e => sc Q K (hd t e) (qrow t x)) (fun e => vl m c (hd t e)) key val

/-- The softmax's weighted sum of the values, on the 512 columns of the output, -/
def OutA : FVec Ideal S8192x512 .f32 := fun y =>
  ∑ Y : Fin 8192, argV m c (ix3 Y ⟨(y 1).val / 64, by have : (y 1).val < 512 := (y 1).isLt; omega⟩ ⟨(y 1).val % 64, by omega⟩)
    * (pr Q K M s0 ⟨(y 1).val / 64, by have : (y 1).val < 512 := (y 1).isLt; omega⟩ (y 0) Y : EReal)

/-- and the log-sums to base two. -/
def LseA : FVec Ideal S8x1x8192 .f32 := fun y =>
  (((M (y 0) (y 2) + Real.log (sm Q K M s0 (y 0) (y 2))) * (1 / Real.log 2) : ℝ) : EReal)

theorem canon_out (s : Carry Ideal) : View.canon (outPieces s) = outT s := by
  funext j
  have h := View.canon_append_of_pieces (outT s) [] (outPieces s) ?_ j (out_cover s j)
  · rwa [List.append_nil] at h
  · unfold outPieces
    simp only [List.forall_mem_cons, List.not_mem_nil, false_imp_iff, implies_true, and_true]
    intro y
    refine congrArg (outT s) (funext fun b => Fin.ext ?_)
    match b with
    | 0 => show (y 0).val = 0 + 1 * (y 0).val; omega
    | 1 => show (y 1).val = 0 + 1 * (y 1).val; omega

/-- The two stores of the log-sums, as one block. -/
def rowsOf (s : Carry Ideal) : FVec Ideal S2x1x512 .f32 := fun y =>
  if (y 0).val = 0 then lseT s.1 s.2.1 (ix3 0 0 (y 2)) else lseT s.2.2.2.1 s.2.2.2.2.1 (ix3 0 0 (y 2))

theorem row_index (y : S1x1x512.Idx) (x : Fin 512) (h : (y 2).val = x.val) : y = ix3 0 0 x := by
  have h0 : (y 0).val < 1 := (y 0).isLt
  have h1 : (y 1).val < 1 := (y 1).isLt
  funext b
  match b with
  | 0 => exact Fin.ext (by show (y 0).val = 0; omega)
  | 1 => exact Fin.ext (by show (y 1).val = 0; omega)
  | 2 => exact Fin.ext h

theorem canon_lse (s : Carry Ideal) : View.canon (lsePieces s) = rowsOf s := by
  funext j
  have h := View.canon_append_of_pieces (rowsOf s) [] (lsePieces s) ?_ j (lse_cover s j)
  · rwa [List.append_nil] at h
  · unfold lsePieces
    simp only [List.forall_mem_cons, List.not_mem_nil, false_imp_iff, implies_true, and_true]
    refine ⟨fun y => ?_, fun y => ?_⟩
    · show lseT s.2.2.2.1 s.2.2.2.2.1 y = _
      unfold rowsOf
      rw [if_neg (by show ¬ 1 + 1 * (y 0).val = 0; omega)]
      exact congrArg (lseT s.2.2.2.1 s.2.2.2.2.1) (row_index y _ (by show (y 2).val = 0 + 1 * (y 2).val; omega))
    · show lseT s.1 s.2.1 y = _
      unfold rowsOf
      rw [if_pos (by have : (y 0).val < 1 := (y 0).isLt; show 0 + 1 * (y 0).val = 0; omega)]
      exact congrArg (lseT s.1 s.2.1) (row_index y _ (by show (y 2).val = 0 + 1 * (y 2).val; omega))

include hq hk in
theorem o_point (t : Fin cfg0.N) (x : Fin 512) (a : Fin 128) :
    oAt m c t (ix2 x a) = OutA m c Q K M (ix2 (qrow t x) ⟨128 * (t.val / 16) + a.val, by have := lt_of_lt_of_eq t.isLt N_0; omega⟩) := by
  unfold oAt
  have hb := point_both m c Q K hq hk t x
  have hx : (qrow t x).val < 512 * (t.val % 16) + 512 := by show 512 * (t.val % 16) + x.val < _; omega
  rw [canon_out, outT_at,
    sums_out Q K M s0 (hd t 0) (qrow t x) _ (sc_val Q K (hd t 0) (qrow t x)) _ _ hx (by omega) _ _ _ hb.1 a,
    sums_out Q K M s0 (hd t 1) (qrow t x) _ (sc_val Q K (hd t 1) (qrow t x)) _ _ hx (by omega) _ _ _ hb.2 a]
  have ht := lt_of_lt_of_eq t.isLt N_0
  have zero : ∀ e : Fin 2, a.val / 64 ≠ e.val → ∑ Y : Fin 8192, vl m c (hd t e) Y.val a * (pr Q K M s0 (hd t e) (qrow t x) Y : EReal) = 0 := fun e he =>
    Finset.sum_eq_zero fun Y _ => by
      have ea : a = other (hd t e) ⟨a.val % 64, by omega⟩ := Fin.ext (by show a.val = 64 * (1 - (2 * (t.val / 16) + e.val) % 2) + a.val % 64; omega)
      unfold vl
      rw [ea, (vOp_own (argV m c) _ (hd t e) _).2, zero_mul]
  have one : ∀ e : Fin 2, a.val / 64 = e.val → ∑ Y : Fin 8192, vl m c (hd t e) Y.val a * (pr Q K M s0 (hd t e) (qrow t x) Y : EReal)
      = OutA m c Q K M (ix2 (qrow t x) ⟨128 * (t.val / 16) + a.val, by omega⟩) := fun e he => by
    have eH : (⟨(128 * (t.val / 16) + a.val) / 64, by omega⟩ : Fin 8) = hd t e := Fin.ext (by show (128 * (t.val / 16) + a.val) / 64 = 2 * (t.val / 16) + e.val; omega)
    have eb : (⟨(128 * (t.val / 16) + a.val) % 64, by omega⟩ : Fin 64) = ⟨a.val % 64, by omega⟩ := Fin.ext (by show (128 * (t.val / 16) + a.val) % 64 = a.val % 64; omega)
    have ea : a = own (hd t e) ⟨a.val % 64, by omega⟩ := Fin.ext (by show a.val = 64 * ((2 * (t.val / 16) + e.val) % 2) + a.val % 64; omega)
    refine Finset.sum_congr rfl fun Y _ => ?_
    show _ = argV m c (ix3 Y ⟨(128 * (t.val / 16) + a.val) / 64, _⟩ ⟨(128 * (t.val / 16) + a.val) % 64, _⟩) * (pr Q K M s0 ⟨(128 * (t.val / 16) + a.val) / 64, _⟩ (qrow t x) Y : EReal)
    rw [eH, eb, ← (vOp_own (argV m c) Y (hd t e) ⟨a.val % 64, by omega⟩).1, ← ea]
    unfold vl
    rw [ofNat_val]
  rcases (by omega : a.val / 64 = 0 ∨ a.val / 64 = 1) with h | h
  · rw [zero 1 (by rw [h]; decide), add_zero]
    exact one 0 h
  · rw [zero 0 (by rw [h]; decide), zero_add]
    exact one 1 h

include hq hk in
theorem lse_point (t : Fin cfg0.N) (e : Fin 2) (x : Fin 512) :
    lseAt m c t (ix3 e 0 x) = LseA Q K M (ix3 (hd t e) 0 (qrow t x)) := by
  unfold lseAt
  have hb := point_both m c Q K hq hk t x
  have hx : (qrow t x).val < 512 * (t.val % 16) + 512 := by show 512 * (t.val % 16) + x.val < _; omega
  rw [canon_lse]
  match e with
  | 0 => exact (lseT_at _ _ x).trans (sums_lse Q K M s0 (hd t 0) (qrow t x) _ (sc_val Q K (hd t 0) (qrow t x)) _ _ hx (by omega) _ _ _ hb.1)
  | 1 => exact (lseT_at _ _ x).trans (sums_lse Q K M s0 (hd t 1) (qrow t x) _ (sc_val Q K (hd t 1) (qrow t x)) _ _ hx (by omega) _ _ _ hb.2)

include hq hk in
/-- The output as the kernel leaves it. -/
theorem final_o : (dats m 0 c).arrAt 3 (cfgs 0).N = OutA m c Q K M := by
  refine (dats m 0 c).arrAt_eq_of_covers 3 _ (by decide +kernel) fun t _ y => ?_
  blk_simp
  rw [after_o]
  have key := fun (r : Fin 512) (j : Fin 128) => o_point m c Q K M hq hk t r j
  idx_vars y
  rw [key]
  generalize OutA m c Q K M = G
  unfold qrow
  blk_point [idx t]

include hq hk in
/-- The log-sums as the kernel leaves them. -/
theorem final_lse : (dats m 0 c).arrAt 4 (cfgs 0).N = LseA Q K M := by
  refine (dats m 0 c).arrAt_eq_of_covers 4 _ (by decide +kernel) fun t _ y => ?_
  blk_simp
  rw [after_lse]
  have key := fun (e : Fin 2) (x : Fin 512) => lse_point m c Q K M hq hk t e x
  have key' : ∀ (e : Fin 2) (z : Fin 1) (x : Fin 512), lseAt m c t (ix3 e z x) = LseA Q K M (ix3 (hd t e) 0 (qrow t x)) := fun e z x => by
    rw [Subsingleton.elim z 0]; exact key e x
  idx_vars y
  rw [key']
  generalize LseA Q K M = G
  unfold hd qrow
  blk_point [idx t]

/-! ## The results -/

/-- The log-sums from the kernel's rows. -/
def lseOut (x : FVec Ideal S8x1x8192 .f32) (l : FVec Ideal S_ .f32) : FVec Ideal S8x8192 .f32 :=
  mulf (shapeCast S8x8192 x shapeCasts_S8x1x8192_S8x8192) (broadcastInDim S8x8192 ![] bcast_S_S8x8192 l)

theorem lseOut_at (x : FVec Ideal S8x1x8192 .f32) (l : FVec Ideal S_ .f32) (H : Fin 8) (X : Fin 8192) :
    lseOut x l (ix2 H X) = x (ix3 H 0 X) * l ix0 := by
  pointwise [lseOut]

/-- The valuation the region leaves. -/
abbrev Wv := Pipeline.withArrays (cfgs 0).spec c (V0 m c) fun w => (dats m 0 c).arrAt w (cfgs 0).N

theorem inj : Function.Injective (Pipeline.arrRef spec0) := by decide

include hq hk in
theorem W_lse : Wv m c (Proc.devRef .tc main_v38_1) = LseA Q K M :=
  (Pipeline.withArrays_arr _ inj c (V0 m c) _ 4).trans (final_lse m c Q K M hq hk)

theorem W_ln2 : Wv m c (Proc.devRef .tc main_v0) = Cert.AttnBwdIdeal.HostV.ln2 := by
  refine (Pipeline.withArrays_of_ne _ c (V0 m c) _ main_v0 (by exact (by decide : ∀ w, Pipeline.arrRef spec0 w ≠ main_v0))).trans ?_
  unfold V0
  simp only [hostOps0, hostOps0_1, hostOps0_2, hostOps0_3, hostOps0_4, List.flatten_cons, List.flatten_nil, List.append_nil, List.cons_append, List.nil_append, List.singleton_append]
  after_results_simp
  rfl

include hq hk in
theorem out_lse : Pipeline.afterTail₀ cfgs (dats m) 0 (V0 m) [hostOps1] c main_v41 = lseOut (LseA Q K M) Cert.AttnBwdIdeal.HostV.ln2 := by
  rw [← W_lse m c Q K M hq hk, ← W_ln2 m c]
  show StableHlo.after [hostOps1].flatten (Wv m c) _ = _
  generalize Wv m c = U
  simp only [hostOps1, List.flatten_cons, List.flatten_nil, List.append_nil]
  after_results_simp
  rfl

end Cert.AttnFwdIdeal.Body
-- ==== Proof.AttnFwdValue.lean ====
/- The attention forward kernel and its reference hold the same output and the same log-sums, where the queries and the keys are finite. -/
module

public import proofs.«01_k».proof.Defs
public import proofs.«01_k».proof.Proof.Gen.Pre_finite_qk
public import proofs.«01_k».proof.Proof.Gen.AttnFwd
public import proofs.«01_k».proof.Proof.Gen.AttnFwdRefIdeal.Read
public import proofs.«01_k».proof.Proof.AttnFwdArr
public import proofs.«01_k».proof.Proof.AttnValue

@[expose] public section

set_option maxRecDepth 16384

noncomputable section

open Idealize.ShloMosaic Idealize.ShloMosaic.TcCoe Idealize.SL.Sem
open Cert.AttnMath

namespace Cert.AttnFwdRefIdeal.Ref

open Cert.AttnFwdRefIdeal Cert.AttnFwdRefIdeal.Gen Cert.AttnFwdRefIdeal.Read
open Cert.AttnBwdIdeal.HostV (top top' expo lsum prob out out_at ocol)
open Cert.AttnBwdIdeal.Ker (s0 lsum_eq prob_eq)

variable (q k : FVec Ideal S8192x8x96 .f32) (v : FVec Ideal S8192x8x64 .f32)

theorem top_ref : val_main_v10 (F := Ideal) q k = top q k := rfl
theorem lsum_ref : val_main_v39 (F := Ideal) q k = lsum q k (top q k) := rfl
theorem out_ref : val_main_v33 (F := Ideal) q k v = out q k v := rfl

/-- The heads side by side. -/
theorem flat_at (y : FVec Ideal S8192x8x64 .f32) (X : Fin 8192) (H : Fin 8) (a : Fin 64) :
    shapeCast S8192x512 y shapeCasts_S8192x8x64_S8192x512 (ix2 X (ocol H a)) = y (ix3 X H a) := by
  unfold ocol
  pointwise

theorem sum_log_at (T L : FVec Ideal S8x8192 .f32) (H : Fin 8) (X : Fin 8192) : addf T (Host.log L) (ix2 H X) = T (ix2 H X) + Ideal.log (L (ix2 H X)) := by
  pointwise

variable (Q K : Fin 8192 → Fin 8 → Fin 96 → ℝ) (M : Fin 8 → Fin 8192 → ℝ)
variable (hq : ∀ X H c, q (ix3 X H c) = (Q X H c : EReal)) (hk : ∀ X H c, k (ix3 X H c) = (K X H c : EReal))
variable (hM : ∀ H X, top q k (ix2 H X) = (M H X : EReal))

include hq hk hM in
/-- The output. -/
theorem o_ref (X : Fin 8192) (H : Fin 8) (a : Fin 64) :
    val_main_v34 (F := Ideal) q k v (ix2 X (ocol H a)) = ∑ Y : Fin 8192, v (ix3 Y H a) * (pr Q K M s0 H X Y : EReal) := by
  refine (flat_at (val_main_v33 (F := Ideal) q k v) X H a).trans ?_
  rw [out_ref, out_at]
  exact Finset.sum_congr rfl fun Y _ => by rw [prob_eq q k Q K M hq hk hM]

include hq hk hM in
/-- The log-sums. -/
theorem lse_ref (H : Fin 8) (X : Fin 8192) :
    val_main_v41 (F := Ideal) q k (ix2 H X) = ((M H X + Real.log (sm Q K M s0 H X) : ℝ) : EReal) := by
  refine (sum_log_at (val_main_v10 (F := Ideal) q k) (val_main_v39 (F := Ideal) q k) H X).trans ?_
  rw [top_ref, lsum_ref, hM, lsum_eq q k Q K M hq hk _ hM, Ideal.log_coe, if_neg (not_le.mpr (sm_pos Q K M s0 H X)), ← EReal.coe_add]

end Cert.AttnFwdRefIdeal.Ref

namespace Cert.AttnFwdIdeal.Body

open Cert.AttnFwdIdeal.Gen
open Cert.AttnBwdIdeal.HostV (top ocol)
open Cert.AttnBwdIdeal.Ker (s0 reals3 top_real ln2_eq)

variable (m : (ℓ : Loc nD τ sig) → Buf (Elt Ideal) ℓ) (ρ : Dev nD → PrngReg)

/-- The queries and the keys are finite under the precondition. -/
theorem finite_of_pre (h : Cert.Pre_AttnFwdIdeal_finite_qk m) (c : Dev nD) :
    (∀ i, Finite.Fin' (argQ m c i)) ∧ (∀ i, Finite.Fin' (argK m c i)) := by
  obtain ⟨h0, h1⟩ := h c
  simp only [Cert.Pre_finite_qk.fn] at h0 h1
  exact ⟨fun i => Finite.of_mask (congrFun h0 i), fun i => Finite.of_mask (congrFun h1 i)⟩

/-- The queries and the keys as real numbers, with the rows' maxima. -/
theorem reals (h : Cert.Pre_AttnFwdIdeal_finite_qk m) (c : Dev nD) :
    ∃ (Q K : Fin 8192 → Fin 8 → Fin 96 → ℝ) (M : Fin 8 → Fin 8192 → ℝ),
      (∀ X H a, argQ m c (ix3 X H a) = (Q X H a : EReal)) ∧ (∀ X H a, argK m c (ix3 X H a) = (K X H a : EReal))
      ∧ ∀ H X, top (argQ m c) (argK m c) (ix2 H X) = (M H X : EReal) := by
  obtain ⟨h0, h1⟩ := finite_of_pre m h c
  obtain ⟨Q, hQ⟩ := reals3 (fun X H a => argQ m c (ix3 X H a)) fun X H a => h0 _
  obtain ⟨K, hK⟩ := reals3 (fun X H a => argK m c (ix3 X H a)) fun X H a => h1 _
  exact ⟨Q, K, fun H X => (top_real _ _ Q K hQ hK H X).choose, hQ, hK, fun H X => (top_real _ _ Q K hQ hK H X).choose_spec⟩

/-- The output the kernel leaves is the reference's. -/
theorem value_o (h : Cert.Pre_AttnFwdIdeal_finite_qk m) (c : Dev nD) :
    (dats m 0 c).arrAt 3 (cfgs 0).N = Cert.AttnFwdRefIdeal.Read.val_main_v34 (F := Ideal) (argQ m c) (argK m c) (argV m c) := by
  obtain ⟨Q, K, M, hQ, hK, hM⟩ := reals m h c
  rw [final_o m c Q K M hQ hK]
  funext y
  have hy : (y 1).val < 512 := (y 1).isLt
  have e : y = ix2 (y 0) (ocol ⟨(y 1).val / 64, by omega⟩ ⟨(y 1).val % 64, by omega⟩) := by
    funext b
    match b with
    | 0 => rfl
    | 1 => exact Fin.ext (by show (y 1).val = 64 * ((y 1).val / 64) + (y 1).val % 64; omega)
  refine Eq.trans ?_ (congrArg (Cert.AttnFwdRefIdeal.Read.val_main_v34 (F := Ideal) (argQ m c) (argK m c) (argV m c)) e.symm)
  exact (Cert.AttnFwdRefIdeal.Ref.o_ref _ _ _ Q K M hQ hK hM (y 0) ⟨(y 1).val / 64, by omega⟩ ⟨(y 1).val % 64, by omega⟩).symm

/-- The log-sums the kernel's program leaves are the reference's. -/
theorem value_lse (h : Cert.Pre_AttnFwdIdeal_finite_qk m) (c : Dev nD) :
    Pipeline.afterTail₀ cfgs (dats m) 0 (V0 m) [hostOps1] c main_v41 = Cert.AttnFwdRefIdeal.Read.val_main_v41 (F := Ideal) (argQ m c) (argK m c) := by
  obtain ⟨Q, K, M, hQ, hK, hM⟩ := reals m h c
  rw [out_lse m c Q K M hQ hK]
  funext y
  have e : y = ix2 (y 0) (y 1) := by
    funext b
    match b with
    | 0 => rfl
    | 1 => rfl
  rw [e]
  refine Eq.trans ?_ (Cert.AttnFwdRefIdeal.Ref.lse_ref _ _ Q K M hQ hK hM (y 0) (y 1)).symm
  refine (lseOut_at _ _ (y 0) (y 1)).trans ?_
  rw [ln2_eq]
  show (((M (y 0) (y 1) + Real.log (sm Q K M s0 (y 0) (y 1))) * (1 / Real.log 2) : ℝ) : EReal) * (Real.log 2 : EReal) = _
  rw [← EReal.coe_mul]
  have h2 : Real.log 2 ≠ 0 := (Real.log_pos (by norm_num)).ne'
  exact congrArg Real.toEReal (by field_simp)

/-- The run with its two results named. -/
theorem run_values (h : Cert.Pre_AttnFwdIdeal_finite_qk m) : θ_run (defs (F := Ideal)) (onTc (τ := τ) (main (F := Ideal))) ⟨m, fun _ => 0, ρ⟩ (fun r => ∀ c : Dev nD,
    r.2.mem ((c.tc : Thread nD τ).loc main_v38_0) = Cert.AttnFwdRefIdeal.Read.val_main_v34 (F := Ideal) (argQ m c) (argK m c) (argV m c)
    ∧ r.2.mem ((c.tc : Thread nD τ).loc main_v41) = Cert.AttnFwdRefIdeal.Read.val_main_v41 (F := Ideal) (argQ m c) (argK m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r hr c => ⟨((hr.1.1 c).1 3).trans (value_o m h c), ((hr.1.1 c).2 main_v41 (by decide)).trans (value_lse m h c), hr.2.1 c⟩)
    (θ_run_and (run_quiet m ρ) (frame m ρ))

end Cert.AttnFwdIdeal.Body

end
-- ==== Proof.AttnFwd.lean ====
module

public import proofs.«01_k».proof.Defs
public import proofs.«01_k».proof.Proof.Gen.AttnFwd
public import proofs.«01_k».proof.Proof.Gen.AttnFwdIdeal
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.AttnFwdFrame
public import proofs.«01_k».proof.Proof.AttnFwdValue
public import Idealize.ShloMosaic.Lib.Claim

@[expose] public section

set_option maxRecDepth 16384

noncomputable section

/-!
The claims of the attention's forward pass: the frames, and that the kernel and the reference hold the same output and the
same log-sums on the extended reals where the queries and the keys are finite.
-/

namespace Cert.Proof

open Idealize.ShloMosaic Idealize.ShloMosaic.Tactic Idealize.SL.Sem

/-- The frame of `AttnFwdIdeal`: the run of `AttnFwdFrame`. -/
theorem attnFwdIdeal_frame : Cert.quiescent_AttnFwdIdeal := fun m ρ _ => Cert.AttnFwdIdeal.Body.frame m ρ

/-- A named constant read as the bits it was written with. -/
abbrev plainNames : Named Bits := ⟨fun _ _ {φ} b => Scalar.ofBits φ b⟩

/-- The frame of `AttnFwd`: its text is that of `AttnFwdIdeal` with the named mask read as its bits, and the run of
    `AttnFwdFrame` holds whatever the names stand for. -/
theorem attnFwd_frame : Cert.quiescent_AttnFwd := fun m ρ _ =>
  Eq.mp (by sl_kernel_rfl) (@Cert.AttnFwdIdeal.Body.frame Bits _ plainNames m ρ)

/-- The frame of the reference: no operation writes an argument, and the program declares no semaphore. -/
theorem attnFwdRefIdeal_frame : Cert.quiescent_AttnFwdRefIdeal := fun m ρ _ =>
  (θ_run Cert.AttnFwdRefIdeal.defs _ _).mono (fun r h => ⟨fun c => (h c).2.2,
      sem_eq_zero_of_no_sems (by decide) r.2⟩)
    (Cert.AttnFwdRefIdeal.Value.run (F := Ideal) m ρ)

/-- The mask −1e30 stands for −∞. -/
theorem attnFwd_preserves : Cert.preserves_AttnFwd_AttnFwdIdeal :=
  IdealRules.named_const.statement _ _ _ _ _ rfl

/-- The frames again under the precondition, which they do not need. -/
theorem attnFwdIdeal_frame_pre : Cert.quiescent_AttnFwdIdeal_pre_finite_qk := fun m ρ _ => Cert.AttnFwdIdeal.Body.frame m ρ

theorem attnFwdRefIdeal_frame_pre : Cert.quiescent_AttnFwdRefIdeal_pre_finite_qk := fun m ρ _ => attnFwdRefIdeal_frame m ρ trivial

set_option maxHeartbeats 2000000 in
/-- Kernel and reference agree: both hold the output of causal attention and the log-sums of its rows. -/
theorem attnFwd_algebraic : Cert.algebraic_AttnFwdIdeal_AttnFwdRefIdeal_pre_finite_qk := by
  pair_intro
  · exact Cert.AttnFwdIdeal.Body.run_values m g hpre
  · refine (θ_run Cert.AttnFwdRefIdeal.defs _ _).mono (fun r h c => ?_) (Cert.AttnFwdRefIdeal.Value.run (F := Ideal) m' g')
    obtain ⟨e0, e1, e2⟩ := hagree c
    refine ⟨(h c).1.trans ((Cert.AttnFwdRefIdeal.Read.val_main_v34_eq m' c).trans ?_), (h c).2.1.trans ((Cert.AttnFwdRefIdeal.Read.val_main_v41_eq _ _).trans ?_), (h c).2.2⟩
    · rw [e0, e1, e2]
    · rw [e0, e1]

end Cert.Proof

end
-- ==== Proof.OutFwdValue.lean ====
module

public import proofs.«01_k».proof.Defs
public import proofs.«01_k».proof.Proof.Gen.OutFwdIdeal.Value
public import proofs.«01_k».proof.Proof.Gen.OutFwdRefIdeal.Read
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutFwdIdeal.Block

open Cert.OutFwdIdeal Cert.OutFwdIdeal.Gen
open Idealize.ShloMosaic.StableHlo

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![t.val, 0] :=
  (by decide +kernel : ∀ t : Fin grid0.N, _)

/-- Row `r` of grid point `t`'s block, as a row of the arrays. -/
abbrev row (t : Fin cfg0.N) (r : Fin 512) : Fin 8192 := ⟨512 * t.val + r, by have := lt_of_lt_of_eq t.isLt N_0; omega⟩

theorem blk_x (c : Dev nD) (t : Fin cfg0.N) (r : Fin 512) (k : Fin 1024) :
    iblk m c 0 t (ix2 r k) = m ((c : Thread nD τ).loc main_arg0) (ix2 (row t r) k) := by
  blk_point [iblk, V, idx t]

theorem blk_o (c : Dev nD) (t : Fin cfg0.N) (r : Fin 512) (k : Fin 512) :
    iblk m c 1 t (ix2 r k) = m ((c : Thread nD τ).loc main_arg1) (ix2 (row t r) k) := by
  blk_point [iblk, V, idx t]

/-- The gate's 512 columns, padded to the 3200 columns of the projection. -/
def zpad (Z : FVec Ideal S8192x512 .f32) : FVec Ideal S8192x3200 .bf16 :=
  truncf (F := Ideal) .bf16 (pad S8192x3200 ![0, 0] ![0, 2688] ![0, 0] Z (sitofp .f32 (constantI S_ 32 0#32)) pads_S8192x512_S8192x3200_000_026880 h_S_) bitsLt_bf16_f32

theorem zpad_low (Z : FVec Ideal S8192x512 .f32) (i : Fin 8192) (k : Fin 512) : zpad Z (ix2 i ⟨k, by omega⟩) = Z (ix2 i k) := by
  pointwise [zpad]

theorem V_z (c : Dev nD) : V m c main_v1 = zpad (m ((c : Thread nD τ).loc main_arg2)) := by
  unfold V
  simp only [hostOps0, hostOps0_1, hostOps0_2, List.flatten_cons, List.flatten_nil, List.append_nil, List.cons_append, List.nil_append, List.singleton_append]
  after_results_simp
  rfl

theorem blk_z (c : Dev nD) (t : Fin cfg0.N) (r : Fin 512) (k : Fin 512) :
    X0_2 m c t (ix2 r k) = m ((c : Thread nD τ).loc main_arg2) (ix2 (row t r) k) := by
  have e : X0_2 m c t (ix2 r k) = V m c main_v1 (ix2 (row t r) ⟨k, by omega⟩) := by
    unfold X0_2 Pipeline.Window.fill
    rw [dif_pos (moved0_2 t _)]
    blk_point [iblk, idx t]
  exact e.trans ((congrFun (V_z m c) _).trans (zpad_low _ _ k))

theorem blk_yc (c : Dev nD) (t : Fin cfg0.N) (r : Fin 512) (k : Fin 256) :
    iblk m c 3 t (ix2 r k) = m ((c : Thread nD τ).loc main_arg3) (ix2 (row t r) k) := by
  have e : iblk m c 3 t (ix2 r k) = V m c main_v2 (ix2 (row t r) k) := by blk_point [iblk, idx t]
  rw [e]
  unfold V
  simp only [hostOps0, hostOps0_1, hostOps0_2, List.flatten_cons, List.flatten_nil, List.append_nil, List.cons_append, List.nil_append, List.singleton_append]
  after_results_simp
  pointwise

theorem blk_ys (c : Dev nD) (t : Fin cfg0.N) (r : Fin 512) (k : Fin 256) :
    iblk m c 4 t (ix2 r k) = m ((c : Thread nD τ).loc main_arg4) (ix2 (row t r) k) := by
  have e : iblk m c 4 t (ix2 r k) = V m c main_v3 (ix2 (row t r) k) := by blk_point [iblk, idx t]
  rw [e]
  unfold V
  simp only [hostOps0, hostOps0_1, hostOps0_2, List.flatten_cons, List.flatten_nil, List.append_nil, List.cons_append, List.nil_append, List.singleton_append]
  after_results_simp
  pointwise

theorem blk_g (c : Dev nD) (t : Fin cfg0.N) (k : Fin 512) :
    iblk m c 5 t (ix2 0 k) = m ((c : Thread nD τ).loc main_arg5) (ix1 k) := by
  have e : iblk m c 5 t (ix2 0 k) = V m c main_v4 (ix2 0 k) := by blk_point [iblk, idx t]
  rw [e]
  unfold V
  simp only [hostOps0, hostOps0_1, hostOps0_2, List.flatten_cons, List.flatten_nil, List.append_nil, List.cons_append, List.nil_append, List.singleton_append]
  after_results_simp
  pointwise

theorem blk_w (c : Dev nD) (t : Fin cfg0.N) (a : Fin 1024) (k : Fin 1024) :
    iblk m c 6 t (ix2 a k) = m ((c : Thread nD τ).loc main_arg6) (ix2 a k) := by
  have e : iblk m c 6 t (ix2 a k) = V m c main_v5 (ix2 a k) := by blk_point [iblk, idx t]
  rw [e]
  unfold V
  simp only [hostOps0, hostOps0_1, hostOps0_2, List.flatten_cons, List.flatten_nil, List.append_nil, List.cons_append, List.nil_append, List.singleton_append]
  after_results_simp
  pointwise

/-- A sum over the 1024 columns by its three parts. -/
theorem sum_parts (f : Fin 1024 → EReal) : ∑ x : Fin 1024, f x
    = (∑ x : Fin 256, f ⟨x, by omega⟩) + (∑ x : Fin 512, f ⟨256 + x, by omega⟩) + ∑ x : Fin 256, f ⟨768 + x, by omega⟩ := by
  have h1 := Fin.sum_univ_add (a := 256) (b := 768) f
  have h2 := Fin.sum_univ_add (a := 512) (b := 256) fun x : Fin 768 => f (Fin.natAdd 256 x)
  rw [show (∑ x : Fin 1024, f x) = _ from h1, show (∑ x : Fin 768, f (Fin.natAdd 256 x)) = _ from h2, ← add_assoc]
  rfl

theorem cat_low (O Z : FVec Ideal S8192x512 .f32) (YC YS : FVec Ideal S8192x256 .f32) (G : FVec Ideal S512 .f32) (i : Fin 8192) (x : Fin 256) :
    Cert.OutFwdRefIdeal.Read.val_main_v15 (F := Ideal) O Z YC YS G (ix2 i ⟨x, by omega⟩) = YC (ix2 i x) := by
  pointwise [Cert.OutFwdRefIdeal.Read.val_main_v15]

theorem cat_mid (O Z : FVec Ideal S8192x512 .f32) (YC YS : FVec Ideal S8192x256 .f32) (G : FVec Ideal S512 .f32) (i : Fin 8192) (x : Fin 512) :
    Cert.OutFwdRefIdeal.Read.val_main_v15 (F := Ideal) O Z YC YS G (ix2 i ⟨256 + x, by omega⟩) = Cert.OutFwdRefIdeal.Read.val_main_v14 (F := Ideal) O Z G (ix2 i x) := by
  pointwise [Cert.OutFwdRefIdeal.Read.val_main_v15]
  try rw [dif_neg (by omega), dif_pos (by omega)]
  try (congr 2; apply Fin.ext; show 256 + x.val - 256 = x.val; omega)

theorem cat_high (O Z : FVec Ideal S8192x512 .f32) (YC YS : FVec Ideal S8192x256 .f32) (G : FVec Ideal S512 .f32) (i : Fin 8192) (x : Fin 256) :
    Cert.OutFwdRefIdeal.Read.val_main_v15 (F := Ideal) O Z YC YS G (ix2 i ⟨768 + x, by omega⟩) = YS (ix2 i x) := by
  pointwise [Cert.OutFwdRefIdeal.Read.val_main_v15]
  rw [dif_neg (by omega), dif_neg (by omega)]
  congr 2; apply Fin.ext; show 768 + x.val - 256 - 512 = x.val; omega

/-- One element of the layer's output, from what the block reads. -/
theorem out_at (X : FVec Ideal S8192x1024 .f32) (O Z : FVec Ideal S8192x512 .f32) (YC YS : FVec Ideal S8192x256 .f32) (G : FVec Ideal S512 .f32)
    (W : FVec Ideal S1024x1024 .f32)
    (v3 : Vec Ideal S512x512 .f32) (v4 : Vec Ideal S512x512 .bf16) (v7 : Vec Ideal S1x512 .f32) (v25 : Vec Ideal S512x1024 .f32)
    (v26 v36 : Vec Ideal S512x256 .bf16) (v28 v38 : Vec Ideal S256x1024 .bf16) (v32 : Vec Ideal S512x1024 .bf16)
    (r : Fin 512) (i : Fin 8192) (j : Fin 1024) (h3 : ∀ k, v3 (ix2 r k) = O (ix2 i k)) (h4 : ∀ k, v4 (ix2 r k) = Z (ix2 i k))
    (h7 : ∀ k, v7 (ix2 0 k) = G (ix1 k)) (h25 : ∀ k, v25 (ix2 r k) = X (ix2 i k))
    (h26 : ∀ k, v26 (ix2 r k) = YC (ix2 i k)) (h36 : ∀ k, v36 (ix2 r k) = YS (ix2 i k))
    (h28 : ∀ k, v28 (ix2 k j) = W (ix2 ⟨k, by omega⟩ j)) (h32 : ∀ k, v32 (ix2 k j) = W (ix2 ⟨256 + k, by omega⟩ j))
    (h38 : ∀ k, v38 (ix2 k j) = W (ix2 ⟨768 + k, by omega⟩ j)) :
    k0_pay1 (F := Ideal) (k0_pay2 v3 v4 v7 v25 v26 v28 v32) (k0_pay3 v36) v38 (ix2 r j) = Cert.OutFwdRefIdeal.Read.val_main_v17 (F := Ideal) X O Z YC YS G W (ix2 i j) := by
  pointwise [k0_pay1, k0_pay2, k0_pay3, Cert.OutFwdRefIdeal.Read.val_main_v17, Cert.OutFwdRefIdeal.Read.val_main_v16]
  rw [sum_parts]
  simp only [cat_low, cat_mid, cat_high]
  pointwise [Cert.OutFwdRefIdeal.Read.val_main_call0_v0, Cert.OutFwdRefIdeal.Read.val_main_call0_v1,
    Cert.OutFwdRefIdeal.Read.val_main_call0_cst, Cert.OutFwdRefIdeal.Read.val_main_call0_v2,
    Cert.OutFwdRefIdeal.Read.val_main_call0_v3, Cert.OutFwdRefIdeal.Read.val_main_call0_cst_0,
    Cert.OutFwdRefIdeal.Read.val_main_call0_v4, Cert.OutFwdRefIdeal.Read.val_main_call0_v5,
    Cert.OutFwdRefIdeal.Read.val_main_v0, Cert.OutFwdRefIdeal.Read.val_main_v1,
    Cert.OutFwdRefIdeal.Read.val_main_v2, Cert.OutFwdRefIdeal.Read.val_main_cst,
    Cert.OutFwdRefIdeal.Read.val_main_v3, Cert.OutFwdRefIdeal.Read.val_main_v4,
    Cert.OutFwdRefIdeal.Read.val_main_cst_0, Cert.OutFwdRefIdeal.Read.val_main_v5,
    Cert.OutFwdRefIdeal.Read.val_main_v6, Cert.OutFwdRefIdeal.Read.val_main_cst_1,
    Cert.OutFwdRefIdeal.Read.val_main_v7, Cert.OutFwdRefIdeal.Read.val_main_v8,
    Cert.OutFwdRefIdeal.Read.val_main_v9, Cert.OutFwdRefIdeal.Read.val_main_v10,
    Cert.OutFwdRefIdeal.Read.val_main_v11, Cert.OutFwdRefIdeal.Read.val_main_v12,
    Cert.OutFwdRefIdeal.Read.val_main_v13, Cert.OutFwdRefIdeal.Read.val_main_v14]
  simp only [h3, h4, h7, h25, h26, h36, h28, h32, h38, add_assoc, Ideal.logistic]

/-- The result: the layer's output. -/
theorem final7 (c : Dev nD) : (dats m 0 c).arrAt 7 (cfgs 0).N = Cert.OutFwdRefIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  have key : ∀ (r : Fin 512) (j : Fin 1024), outsAt0 m c t (ix2 r j)
      = Cert.OutFwdRefIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t r) j) := by
    intro r j
    unfold outsAt0
    frame_out
    refine out_at _ _ _ _ _ _ _ _ _ _ _ _ _ _ _ _ r _ j (blk_o m c t r) (blk_z m c t r) (blk_g m c t) (blk_x m c t r)
      (blk_yc m c t r) (blk_ys m c t r) (fun k => ?_) (fun k => ?_) fun k => ?_
    all_goals
      pointwise
      exact blk_w m c t _ j
  idx_vars y
  rw [key]
  blk_point [idx t]
end Cert.OutFwdIdeal.Block
end
-- ==== Proof.OutFwd.lean ====
module

public import proofs.«01_k».proof.Defs
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.OutFwdValue
public import Idealize.ShloMosaic.Lib.Claim

@[expose] public section

set_option maxRecDepth 16384

noncomputable section

/-!
The claims of the output projection alone: the frames, and that the kernel and the reference hold the same layer output on the
extended reals.
-/

namespace Cert.Proof

open Idealize.ShloMosaic Idealize.SL.Sem

/-- The frame of `OutFwd`: its generated run. -/
theorem outFwd_frame : Cert.quiescent_OutFwd := fun m ρ _ => Cert.OutFwd.Gen.frame m ρ

/-- The frame of `OutFwdIdeal`: its generated run. -/
theorem outFwdIdeal_frame : Cert.quiescent_OutFwdIdeal := fun m ρ _ => Cert.OutFwdIdeal.Gen.frame m ρ

/-- The frame of the reference: no operation writes an argument, and the program declares no semaphore. -/
theorem outFwdRefIdeal_frame : Cert.quiescent_OutFwdRefIdeal := fun m ρ _ =>
  (θ_run Cert.OutFwdRefIdeal.defs _ _).mono (fun r h => ⟨fun c => (h c).2,
      sem_eq_zero_of_no_sems (by decide) r.2⟩)
    (Cert.OutFwdRefIdeal.Value.run (F := Ideal) m ρ)

/-- No operation is rewritten, so there is nothing to preserve. -/
theorem outFwd_preserves : Cert.preserves_OutFwd_OutFwdIdeal := trivial

/-- Kernel and reference agree: the kernel's array is the reference's by `Block.final7`. -/
theorem outFwd_algebraic : Cert.algebraic_OutFwdIdeal_OutFwdRefIdeal := by
  pair_intro
  · run_from Cert.OutFwdIdeal.Value.run_blocks m g
  · run_from Cert.OutFwdRefIdeal.Value.run m' g'
    refine (Cert.OutFwdRefIdeal.Read.val_main_v17_eq _ _ _ _ _ _ _).trans ?_
    obtain ⟨h0, h1, h2, h3, h4, h5, h6⟩ := hagree c
    rw [h1, h2, h3, h4, h5]
    exact (Cert.OutFwdIdeal.Block.final7 m c).symm

end Cert.Proof

end
-- ==== Proof.InprojFwdValue.lean ====
module

public import proofs.«01_k».proof.Defs
public import proofs.«01_k».proof.Proof.InprojDxHost
public import proofs.«01_k».proof.Proof.Gen.InprojFwdIdeal.Value
public import proofs.«01_k».proof.Proof.Gen.InprojFwdRefIdeal.Read
public import Idealize.ShloMosaic.Lib.Pipeline.ValueKit
public import Idealize.ShloMosaic.Lib.Pointwise

@[expose] public section

set_option maxRecDepth 16384

noncomputable section

/-!
The value of the input projection's forward kernel: the normed input, and its product with the weight whose columns the host
reordered (`wpad`, as for the backward kernel).
-/

open Idealize.ShloMosaic Idealize.ShloMosaic.TcCoe Idealize.SL.Sem
open Idealize.ShloMosaic.Pipeline (Dat)

namespace Cert.InprojFwdIdeal.Block

open Cert.InprojFwdIdeal Cert.InprojFwdIdeal.Gen
open Idealize.ShloMosaic.StableHlo
open Cert.InprojDxIdeal.Block (shards wpad wpad_gate wpad_low wpad_mid wpad_high)

variable (m : (ℓ : Loc nD τ sig) → Buf (Elt Ideal) ℓ)

theorem wpad_gap (W : FVec Ideal S1024x3104 .f32) (a : Fin 1024) (k : Fin 3200) (h : 2304 ≤ k.val ∧ k.val < 2368 ∨ 2400 ≤ k.val ∧ k.val < 2432) :
    wpad (shards W) (ix2 a k) = 0 := by
  pointwise [wpad]
  split_ifs <;> first | (exfalso; omega) | rfl

theorem V_w (c : Dev nD) : V m c main_v32 = wpad (shards (m ((c : Thread nD τ).loc main_arg2))) := by
  unfold V
  after_results_simp
  rfl

theorem V_g (c : Dev nD) : V m c main_v10 = shapeCast S1x1024 (m ((c : Thread nD τ).loc main_arg1) : FVec Ideal S1024 .f32) shapeCasts_S1024_S1x1024 := by
  unfold V
  after_results_simp
  rfl

/-- Every window's block index at every grid point. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- Row `r` of grid point `t`'s block, as a row of the arrays. -/
abbrev row (t : Fin cfg0.N) (r : Fin 512) : Fin 8192 := ⟨512 * t.val + r, by have := lt_of_lt_of_eq t.isLt N_0; omega⟩

theorem blk_x (c : Dev nD) (t : Fin cfg0.N) (r : Fin 512) (k : Fin 1024) :
    iblk m c 0 t (ix2 r k) = m ((c : Thread nD τ).loc main_arg0) (ix2 (row t r) k) := by
  blk_point [iblk, V, idx t]

theorem blk_g (c : Dev nD) (t : Fin cfg0.N) (k : Fin 1024) :
    iblk m c 1 t (ix2 0 k) = m ((c : Thread nD τ).loc main_arg1) (ix1 k) := by
  have e : iblk m c 1 t (ix2 0 k) = V m c main_v10 (ix2 0 k) := by blk_point [iblk, idx t]
  refine e.trans ((congrFun (V_g m c) _).trans ?_)
  pointwise

theorem blk_w (c : Dev nD) (t : Fin cfg0.N) (a : Fin 1024) (k : Fin 3200) :
    iblk m c 2 t (ix2 a k) = wpad (shards (m ((c : Thread nD τ).loc main_arg2))) (ix2 a k) := by
  have e : iblk m c 2 t (ix2 a k) = V m c main_v32 (ix2 a k) := by blk_point [iblk, idx t]
  exact e.trans (congrFun (V_w m c) _)

/-- The reference's normed input, as its projection reads it and as it returns it. -/
theorem ref_h (X : FVec Ideal S8192x1024 .f32) (G : FVec Ideal S1024 .f32) :
    Cert.InprojFwdRefIdeal.Read.val_main_v12 (F := Ideal) X G = Cert.InprojFwdRefIdeal.Read.val_main_v35 (F := Ideal) X G := rfl

/-- One element of the normed input. -/
theorem h_at (v0 : Vec Ideal S512x1024 .f32) (v1 : Vec Ideal S1x1024 .f32) (X : FVec Ideal S8192x1024 .f32) (G : FVec Ideal S1024 .f32)
    (r : Fin 512) (i : Fin 8192) (j : Fin 1024) (hx : ∀ k, v0 (ix2 r k) = X (ix2 i k)) (hg : ∀ k, v1 (ix2 0 k) = G (ix1 k)) :
    k0_pay3 (F := Ideal) v0 v1 (ix2 r j) = Cert.InprojFwdRefIdeal.Read.val_main_v35 (F := Ideal) X G (ix2 i j) := by
  pointwise [k0_pay3, Cert.InprojFwdRefIdeal.Read.val_main_v22, Cert.InprojFwdRefIdeal.Read.val_main_v23, Cert.InprojFwdRefIdeal.Read.val_main_v24, Cert.InprojFwdRefIdeal.Read.val_main_v25, Cert.InprojFwdRefIdeal.Read.val_main_v26, Cert.InprojFwdRefIdeal.Read.val_main_v27, Cert.InprojFwdRefIdeal.Read.val_main_v28, Cert.InprojFwdRefIdeal.Read.val_main_v29, Cert.InprojFwdRefIdeal.Read.val_main_v30, Cert.InprojFwdRefIdeal.Read.val_main_v31, Cert.InprojFwdRefIdeal.Read.val_main_v32, Cert.InprojFwdRefIdeal.Read.val_main_v33, Cert.InprojFwdRefIdeal.Read.val_main_v34, Cert.InprojFwdRefIdeal.Read.val_main_v35, Cert.InprojFwdRefIdeal.Read.val_main_cst_4, Cert.InprojFwdRefIdeal.Read.val_main_cst_5, Cert.InprojFwdRefIdeal.Read.val_main_cst_6]
  simp only [hx, hg]

/-- The reference's projection before its columns are reordered. -/
theorem proj_at (X : FVec Ideal S8192x1024 .f32) (G : FVec Ideal S1024 .f32) (W : FVec Ideal S1024x3104 .f32) (i : Fin 8192) (k : Fin 3104) :
    Cert.InprojFwdRefIdeal.Read.val_main_v13 (F := Ideal) X G W (ix2 i k) = ∑ a : Fin 1024, Cert.InprojFwdRefIdeal.Read.val_main_v35 (F := Ideal) X G (ix2 i a) * W (ix2 a k) := by
  rw [← ref_h]
  have e : ∀ H : FVec Ideal S8192x1024 .bf16, H = Cert.InprojFwdRefIdeal.Read.val_main_v12 (F := Ideal) X G →
      Cert.InprojFwdRefIdeal.Read.val_main_v13 (F := Ideal) X G W (ix2 i k) = ∑ a : Fin 1024, H (ix2 i a) * W (ix2 a k) := by
    intro H hH
    unfold Cert.InprojFwdRefIdeal.Read.val_main_v13
    rw [← hH]
    pointwise
  exact e _ rfl

/-- The reference's projection is the product with the reordered weight. -/
theorem ref_at (X : FVec Ideal S8192x1024 .f32) (G : FVec Ideal S1024 .f32) (W : FVec Ideal S1024x3104 .f32) (i : Fin 8192) (k : Fin 3200) :
    Cert.InprojFwdRefIdeal.Read.val_main_v21 (F := Ideal) X G W (ix2 i k)
      = ∑ a : Fin 1024, Cert.InprojFwdRefIdeal.Read.val_main_v35 (F := Ideal) X G (ix2 i a) * wpad (shards W) (ix2 a k) := by
  have e : ∀ P : FVec Ideal Cert.InprojFwdRefIdeal.S8192x3104 .f32, P = Cert.InprojFwdRefIdeal.Read.val_main_v13 (F := Ideal) X G W →
      Cert.InprojFwdRefIdeal.Read.val_main_v21 (F := Ideal) X G W (ix2 i k) = if h : k.val < 512 then P (ix2 i ⟨1824 + k, by omega⟩)
        else if h : k.val < 2304 then P (ix2 i ⟨k - 512, by omega⟩) else if h : k.val < 2368 then 0
        else if h : k.val < 2400 then P (ix2 i ⟨k - 576, by omega⟩) else if h : k.val < 2432 then 0
        else P (ix2 i ⟨k - 96, by omega⟩) := by
    intro P hP
    unfold Cert.InprojFwdRefIdeal.Read.val_main_v21 Cert.InprojFwdRefIdeal.Read.val_main_v20 Cert.InprojFwdRefIdeal.Read.val_main_v14 Cert.InprojFwdRefIdeal.Read.val_main_v15 Cert.InprojFwdRefIdeal.Read.val_main_v17 Cert.InprojFwdRefIdeal.Read.val_main_v19
    rw [← hP]
    split_ifs with h1 h2 h3 h4 h5 <;>
    · pointwise [Cert.InprojFwdRefIdeal.Read.val_main_v16, Cert.InprojFwdRefIdeal.Read.val_main_v18, Cert.InprojFwdRefIdeal.Read.val_main_cst_2, Cert.InprojFwdRefIdeal.Read.val_main_cst_3]
      split_ifs <;> first | (exfalso; omega) | rfl | (refine congrArg P (congrArg (ix2 i) (Fin.ext ?_)); simp; try omega)
  rw [e _ rfl]
  split_ifs with h1 h2 h3 h4 h5
  · rw [proj_at]; exact Finset.sum_congr rfl fun a _ => by rw [wpad_gate W a k h1]
  · rw [proj_at]; exact Finset.sum_congr rfl fun a _ => by rw [wpad_low W a k (by omega) h2]
  · exact (Finset.sum_eq_zero fun a _ => by rw [wpad_gap W a k (by omega), mul_zero]).symm
  · rw [proj_at]; exact Finset.sum_congr rfl fun a _ => by rw [wpad_mid W a k (by omega) h4]
  · exact (Finset.sum_eq_zero fun a _ => by rw [wpad_gap W a k (by omega), mul_zero]).symm
  · rw [proj_at]; exact Finset.sum_congr rfl fun a _ => by rw [wpad_high W a k (by omega)]

/-- A block of the projection, from the blocks it reads: its five column blocks together. -/
theorem out_at (x0 : Vec Ideal S512x1024 .f32) (x1 : Vec Ideal S1x1024 .f32) (x2 : Vec Ideal S1024x3200 .bf16) (r : Fin 512) (k : Fin 3200) :
    out0_3 (F := Ideal) x0 x1 x2 (ix2 r k) = ∑ a : Fin 1024, k0_pay3 (F := Ideal) x0 x1 (ix2 r a) * x2 (ix2 a k) := by
  have e0 : View.ld x0 r0_0 = x0 := View.ld_unit_lit _ _ (by decide)
  have e1 : View.ld x1 r0_1 = x1 := View.ld_unit_lit _ _ (by decide)
  have e : ∀ H : FVec Ideal S512x1024 .bf16, H = k0_pay3 (F := Ideal) x0 x1 →
      out0_3 (F := Ideal) x0 x1 x2 (ix2 r k) = ∑ a : Fin 1024, H (ix2 r a) * x2 (ix2 a k) := by
    intro H hH
    unfold_out out0_3
    rw [e0, e1]
    unfold k0_pay4 k0_pay5 k0_pay6 k0_pay1 k0_pay2
    rw [← hH]
    refine View.canon_apply_of_pieces (Val := Elt Ideal) (fun y => ∑ a : Fin 1024, H (ix2 (y 0) a) * x2 (ix2 a (y 1))) _ ?_ (ix2 r k) (cover0_3 _ _ _ _ _ _)
    intro pc hpc
    simp only [List.mem_cons, List.not_mem_nil, or_false] at hpc
    rcases hpc with rfl | rfl | rfl | rfl | rfl <;>
    · intro x
      idx_vars x
      pointwise
      refine Finset.sum_congr rfl fun a _ => congrArg₂ (· * ·) (congrArg H (congrArg (fun q => ix2 q a) (Fin.ext ?_))) (congrArg x2 (congrArg (ix2 a) (Fin.ext ?_)))
      · exact (show x0.val = 0 + 1 * x0.val by omega)
      · first
          | exact (show 2560 + x1.val = 2560 + 1 * x1.val by omega)
          | exact (show 1920 + x1.val = 1920 + 1 * x1.val by omega)
          | exact (show 1280 + x1.val = 1280 + 1 * x1.val by omega)
          | exact (show 640 + x1.val = 640 + 1 * x1.val by omega)
          | exact (show x1.val = 0 + 1 * x1.val by omega)
  exact e _ rfl

/-- The first result: the projection. -/
theorem final3 (c : Dev nD) : (dats m 0 c).arrAt 3 (cfgs 0).N
    = Cert.InprojFwdRefIdeal.Read.val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have key : ∀ (r : Fin 512) (j : Fin 3200), out0_3 (F := Ideal) (iblk m c 0 t) (iblk m c 1 t) (iblk m c 2 t) (ix2 r j)
      = Cert.InprojFwdRefIdeal.Read.val_main_v21 (F := Ideal) (m ((c : Thread nD τ).loc main_arg0)) (m ((c : Thread nD τ).loc main_arg1)) (m ((c : Thread nD τ).loc main_arg2)) (ix2 (row t r) j) := by
    intro r j
    refine (out_at _ _ _ r j).trans (Eq.trans ?_ (ref_at _ _ _ _ _).symm)
    exact Finset.sum_congr rfl fun a _ => congrArg₂ (· * ·) (h_at _ _ _ _ r _ a (blk_x m c t r) (blk_g m c t)) (blk_w m c t a j)
  idx_vars y
  rw [key]
  blk_point [idx t]

/-- The second result: the normed input. -/
theorem final4 (c : Dev nD) : (dats m 0 c).arrAt 4 (cfgs 0).N
    = Cert.InprojFwdRefIdeal.Read.val_main_v35 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  have key : ∀ (r : Fin 512) (j : Fin 1024), out0_4 (F := Ideal) (iblk m c 0 t) (iblk m c 1 t) (iblk m c 2 t) (ix2 r j)
      = Cert.InprojFwdRefIdeal.Read.val_main_v35 (F := Ideal) (m ((c : Thread nD τ).loc main_arg0)) (m ((c : Thread nD τ).loc main_arg1)) (ix2 (row t r) j) := by
    intro r j
    unfold_out out0_4
    frame_out
    exact h_at _ _ _ _ r _ j (blk_x m c t r) (blk_g m c t)
  idx_vars y
  rw [key]
  blk_point [idx t]

end Cert.InprojFwdIdeal.Block
end
-- ==== Proof.InprojFwd.lean ====
module

public import proofs.«01_k».proof.Defs
public import proofs.«01_k».proof.Proof.Gen.InprojFwd
public import proofs.«01_k».proof.Proof.Gen.InprojFwd.Frame
public import proofs.«01_k».proof.Proof.Gen.InprojFwdIdeal
public import proofs.«01_k».proof.Proof.Gen.InprojFwdIdeal.Frame
public import proofs.«01_k».proof.Proof.Gen.InprojFwdIdeal.Value
public import proofs.«01_k».proof.Proof.Gen.InprojFwdRefIdeal
public import proofs.«01_k».proof.Proof.Gen.InprojFwdRefIdeal.Run
public import proofs.«01_k».proof.Proof.Gen.InprojFwdRefIdeal.Read
public import proofs.«01_k».proof.Proof.InprojFwdValue
public import Idealize.ShloMosaic.Lib.Claim

@[expose] public section

set_option maxRecDepth 16384

noncomputable section

/-!
The claims of the input projection's forward pass: the frames, and that the kernel and the reference hold the same projection
and the same normed input on the extended reals.
-/

namespace Cert.Proof

open Idealize.ShloMosaic Idealize.SL.Sem

/-- The frame of `InprojFwd`: its generated run. -/
theorem inprojFwd_frame : Cert.quiescent_InprojFwd := fun m ρ _ => Cert.InprojFwd.Gen.frame m ρ

/-- The frame of `InprojFwdIdeal`: its generated run. -/
theorem inprojFwdIdeal_frame : Cert.quiescent_InprojFwdIdeal := fun m ρ _ => Cert.InprojFwdIdeal.Gen.frame m ρ

/-- The frame of the reference: no operation writes an argument, and the program declares no semaphore. -/
theorem inprojFwdRefIdeal_frame : Cert.quiescent_InprojFwdRefIdeal := fun m ρ _ =>
  (θ_run Cert.InprojFwdRefIdeal.defs _ _).mono (fun r h => ⟨fun c => (h c).2.2,
      sem_eq_zero_of_no_sems (by decide) r.2⟩)
    (Cert.InprojFwdRefIdeal.Value.run (F := Ideal) m ρ)

/-- No operation is rewritten, so there is nothing to preserve. -/
theorem inprojFwd_preserves : Cert.preserves_InprojFwd_InprojFwdIdeal := trivial

/-- Kernel and reference agree: the kernel's two arrays are the reference's two by `Block.final3` and `Block.final4`. -/
theorem inprojFwd_algebraic : Cert.algebraic_InprojFwdIdeal_InprojFwdRefIdeal := by
  pair_intro
  · run_from Cert.InprojFwdIdeal.Value.run_blocks m g
  · run_from Cert.InprojFwdRefIdeal.Value.run m' g'
    · exact (Cert.InprojFwdRefIdeal.Read.val_main_v21_eq m' c).trans (by
        obtain ⟨h0, h1, h2⟩ := hagree c
        rw [h0, h1, h2]
        exact (Cert.InprojFwdIdeal.Block.final3 m c).symm)
    · exact (Cert.InprojFwdRefIdeal.Read.val_main_v35_eq _ _).trans (Cert.InprojFwdIdeal.Block.final4 m c).symm

end Cert.Proof

end
-- ==== Proof.lean ====
module

public import proofs.«01_k».proof.Defs
public import proofs.«01_k».proof.Proof.Gen.Pre_finite
public import proofs.«01_k».proof.Proof.Gen.Pre_finite_attn
public import proofs.«01_k».proof.Proof.Gen.Pre_finite_qk
public import proofs.«01_k».proof.Proof.OutLoss
public import proofs.«01_k».proof.Proof.OutBwd
public import proofs.«01_k».proof.Proof.InprojDx
public import proofs.«01_k».proof.Proof.AttnBwd
public import proofs.«01_k».proof.Proof.AttnFwd
public import proofs.«01_k».proof.Proof.OutFwd
public import proofs.«01_k».proof.Proof.InprojFwd
public import Idealize.ShloMosaic.Adequacy
public import Idealize.ShloMosaic.Init

@[expose] public section

noncomputable section

namespace Cert.Proof

/-- Everything claimed, put together from the modules of the single calls. -/
theorem claim : Cert.Claim :=
  ⟨Cert.OutLoss.Gen.facts, Cert.OutLossIdeal.Gen.facts, Cert.OutLossRefIdeal.Gen.facts, Cert.OutBwd.Gen.facts, Cert.OutBwdIdeal.Gen.facts, Cert.OutBwdRefIdeal.Gen.facts, Cert.InprojDx.Gen.facts, Cert.InprojDxIdeal.Gen.facts, Cert.InprojDxRefIdeal.Gen.facts, Cert.AttnBwd.Gen.facts, Cert.AttnBwdIdeal.Gen.facts, Cert.AttnBwdRefIdeal.Gen.facts, Cert.AttnFwd.Gen.facts, Cert.AttnFwdIdeal.Gen.facts, Cert.AttnFwdRefIdeal.Gen.facts, Cert.OutFwd.Gen.facts, Cert.OutFwdIdeal.Gen.facts, Cert.OutFwdRefIdeal.Gen.facts, Cert.InprojFwd.Gen.facts, Cert.InprojFwdIdeal.Gen.facts, Cert.InprojFwdRefIdeal.Gen.facts, Cert.Pre_finite.Gen.facts, Cert.Pre_finite_attn.Gen.facts, Cert.Pre_finite_qk.Gen.facts,
   outLoss_frame, outLossIdeal_frame, outLossRefIdeal_frame, outBwd_frame, outBwdIdeal_frame, outBwdIdeal_frame_pre, outBwdRefIdeal_frame, outBwdRefIdeal_frame_pre, inprojDx_frame, inprojDxIdeal_frame, inprojDxRefIdeal_frame, attnBwd_frame, attnBwdIdeal_frame, attnBwdIdeal_frame_pre, attnBwdRefIdeal_frame, attnBwdRefIdeal_frame_pre, attnFwd_frame, attnFwdIdeal_frame, attnFwdIdeal_frame_pre, attnFwdRefIdeal_frame, attnFwdRefIdeal_frame_pre, outFwd_frame, outFwdIdeal_frame, outFwdRefIdeal_frame, inprojFwd_frame, inprojFwdIdeal_frame, inprojFwdRefIdeal_frame,
   outLoss_preserves, outLoss_algebraic, outBwd_preserves, outBwd_algebraic, inprojDx_preserves, inprojDx_algebraic, attnBwd_preserves, attnBwd_algebraic, attnFwd_preserves, attnFwd_algebraic, outFwd_preserves, outFwd_algebraic, inprojFwd_preserves, inprojFwd_algebraic⟩

end Cert.Proof

end
